-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_BackOut (m : (ℓ : Loc Cert.BackOut.nD Cert.BackOut.τ Cert.BackOut.sig) → Buf (Elt Bits) ℓ) : Prop :=
  True

def Pre_BackOutIdeal (m : (ℓ : Loc Cert.BackOutIdeal.nD Cert.BackOutIdeal.τ Cert.BackOutIdeal.sig) → Buf (Elt Ideal) ℓ) : Prop :=
  True

def Pre_BackOutIdeal_finite_back_out [hPre_finite_back_out : Cert.Pre_finite_back_out.Facts] (m : (ℓ : Loc Cert.BackOutIdeal.nD Cert.BackOutIdeal.τ Cert.BackOutIdeal.sig) → Buf (Elt Ideal) ℓ) : Prop :=
  ∀ c : Dev Cert.BackOutIdeal.nD,
    (Cert.Pre_finite_back_out.fn (F := Ideal) (m ((c.tc : Thread Cert.BackOutIdeal.nD Cert.BackOutIdeal.τ).loc Cert.BackOutIdeal.main_arg0)) (m ((c.tc : Thread Cert.BackOutIdeal.nD Cert.BackOutIdeal.τ).loc Cert.BackOutIdeal.main_arg1)) (m ((c.tc : Thread Cert.BackOutIdeal.nD Cert.BackOutIdeal.τ).loc Cert.BackOutIdeal.main_arg2)) (m ((c.tc : Thread Cert.BackOutIdeal.nD Cert.BackOutIdeal.τ).loc Cert.BackOutIdeal.main_arg3))).1 = (fun _ => 1#1)
    ∧ (Cert.Pre_finite_back_out.fn (F := Ideal) (m ((c.tc : Thread Cert.BackOutIdeal.nD Cert.BackOutIdeal.τ).loc Cert.BackOutIdeal.main_arg0)) (m ((c.tc : Thread Cert.BackOutIdeal.nD Cert.BackOutIdeal.τ).loc Cert.BackOutIdeal.main_arg1)) (m ((c.tc : Thread Cert.BackOutIdeal.nD Cert.BackOutIdeal.τ).loc Cert.BackOutIdeal.main_arg2)) (m ((c.tc : Thread Cert.BackOutIdeal.nD Cert.BackOutIdeal.τ).loc Cert.BackOutIdeal.main_arg3))).2.1 = (fun _ => 1#1)
    ∧ (Cert.Pre_finite_back_out.fn (F := Ideal) (m ((c.tc : Thread Cert.BackOutIdeal.nD Cert.BackOutIdeal.τ).loc Cert.BackOutIdeal.main_arg0)) (m ((c.tc : Thread Cert.BackOutIdeal.nD Cert.BackOutIdeal.τ).loc Cert.BackOutIdeal.main_arg1)) (m ((c.tc : Thread Cert.BackOutIdeal.nD Cert.BackOutIdeal.τ).loc Cert.BackOutIdeal.main_arg2)) (m ((c.tc : Thread Cert.BackOutIdeal.nD Cert.BackOutIdeal.τ).loc Cert.BackOutIdeal.main_arg3))).2.2.1 = (fun _ => 1#1)
    ∧ (Cert.Pre_finite_back_out.fn (F := Ideal) (m ((c.tc : Thread Cert.BackOutIdeal.nD Cert.BackOutIdeal.τ).loc Cert.BackOutIdeal.main_arg0)) (m ((c.tc : Thread Cert.BackOutIdeal.nD Cert.BackOutIdeal.τ).loc Cert.BackOutIdeal.main_arg1)) (m ((c.tc : Thread Cert.BackOutIdeal.nD Cert.BackOutIdeal.τ).loc Cert.BackOutIdeal.main_arg2)) (m ((c.tc : Thread Cert.BackOutIdeal.nD Cert.BackOutIdeal.τ).loc Cert.BackOutIdeal.main_arg3))).2.2.2 = (fun _ => 1#1)

def Pre_BackOutRefIdeal (m : (ℓ : Loc Cert.BackOutRefIdeal.nD Cert.BackOutRefIdeal.τ Cert.BackOutRefIdeal.sig) → Buf (Elt Ideal) ℓ) : Prop :=
  True

def Pre_BackOutRefIdeal_finite_back_out [hPre_finite_back_out : Cert.Pre_finite_back_out.Facts] (m : (ℓ : Loc Cert.BackOutRefIdeal.nD Cert.BackOutRefIdeal.τ Cert.BackOutRefIdeal.sig) → Buf (Elt Ideal) ℓ) : Prop :=
  ∀ c : Dev Cert.BackOutRefIdeal.nD,
    (Cert.Pre_finite_back_out.fn (F := Ideal) (m ((c.tc : Thread Cert.BackOutRefIdeal.nD Cert.BackOutRefIdeal.τ).loc Cert.BackOutRefIdeal.main_arg0)) (m ((c.tc : Thread Cert.BackOutRefIdeal.nD Cert.BackOutRefIdeal.τ).loc Cert.BackOutRefIdeal.main_arg1)) (m ((c.tc : Thread Cert.BackOutRefIdeal.nD Cert.BackOutRefIdeal.τ).loc Cert.BackOutRefIdeal.main_arg2)) (m ((c.tc : Thread Cert.BackOutRefIdeal.nD Cert.BackOutRefIdeal.τ).loc Cert.BackOutRefIdeal.main_arg3))).1 = (fun _ => 1#1)
    ∧ (Cert.Pre_finite_back_out.fn (F := Ideal) (m ((c.tc : Thread Cert.BackOutRefIdeal.nD Cert.BackOutRefIdeal.τ).loc Cert.BackOutRefIdeal.main_arg0)) (m ((c.tc : Thread Cert.BackOutRefIdeal.nD Cert.BackOutRefIdeal.τ).loc Cert.BackOutRefIdeal.main_arg1)) (m ((c.tc : Thread Cert.BackOutRefIdeal.nD Cert.BackOutRefIdeal.τ).loc Cert.BackOutRefIdeal.main_arg2)) (m ((c.tc : Thread Cert.BackOutRefIdeal.nD Cert.BackOutRefIdeal.τ).loc Cert.BackOutRefIdeal.main_arg3))).2.1 = (fun _ => 1#1)
    ∧ (Cert.Pre_finite_back_out.fn (F := Ideal) (m ((c.tc : Thread Cert.BackOutRefIdeal.nD Cert.BackOutRefIdeal.τ).loc Cert.BackOutRefIdeal.main_arg0)) (m ((c.tc : Thread Cert.BackOutRefIdeal.nD Cert.BackOutRefIdeal.τ).loc Cert.BackOutRefIdeal.main_arg1)) (m ((c.tc : Thread Cert.BackOutRefIdeal.nD Cert.BackOutRefIdeal.τ).loc Cert.BackOutRefIdeal.main_arg2)) (m ((c.tc : Thread Cert.BackOutRefIdeal.nD Cert.BackOutRefIdeal.τ).loc Cert.BackOutRefIdeal.main_arg3))).2.2.1 = (fun _ => 1#1)
    ∧ (Cert.Pre_finite_back_out.fn (F := Ideal) (m ((c.tc : Thread Cert.BackOutRefIdeal.nD Cert.BackOutRefIdeal.τ).loc Cert.BackOutRefIdeal.main_arg0)) (m ((c.tc : Thread Cert.BackOutRefIdeal.nD Cert.BackOutRefIdeal.τ).loc Cert.BackOutRefIdeal.main_arg1)) (m ((c.tc : Thread Cert.BackOutRefIdeal.nD Cert.BackOutRefIdeal.τ).loc Cert.BackOutRefIdeal.main_arg2)) (m ((c.tc : Thread Cert.BackOutRefIdeal.nD Cert.BackOutRefIdeal.τ).loc Cert.BackOutRefIdeal.main_arg3))).2.2.2 = (fun _ => 1#1)

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInRefIdeal (m : (ℓ : Loc Cert.BackInRefIdeal.nD Cert.BackInRefIdeal.τ Cert.BackInRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def Pre_AdamConf (m : (ℓ : Loc Cert.AdamConf.nD Cert.AdamConf.τ Cert.AdamConf.sig) → Buf (Elt Bits) ℓ) : Prop :=
  True

def Pre_AdamConfIdeal (m : (ℓ : Loc Cert.AdamConfIdeal.nD Cert.AdamConfIdeal.τ Cert.AdamConfIdeal.sig) → Buf (Elt Ideal) ℓ) : Prop :=
  True

def Pre_AdamConfRefIdeal (m : (ℓ : Loc Cert.AdamConfRefIdeal.nD Cert.AdamConfRefIdeal.τ Cert.AdamConfRefIdeal.sig) → Buf (Elt Ideal) ℓ) : Prop :=
  True

def Pre_AdamShort (m : (ℓ : Loc Cert.AdamShort.nD Cert.AdamShort.τ Cert.AdamShort.sig) → Buf (Elt Bits) ℓ) : Prop :=
  True

def Pre_AdamShortIdeal (m : (ℓ : Loc Cert.AdamShortIdeal.nD Cert.AdamShortIdeal.τ Cert.AdamShortIdeal.sig) → Buf (Elt Ideal) ℓ) : Prop :=
  True

def Pre_AdamShortRefIdeal (m : (ℓ : Loc Cert.AdamShortRefIdeal.nD Cert.AdamShortRefIdeal.τ Cert.AdamShortRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumBig (m : (ℓ : Loc Cert.SumBig.nD Cert.SumBig.τ Cert.SumBig.sig) → Buf (Elt Bits) ℓ) : Prop :=
  True

def Pre_SumBigIdeal (m : (ℓ : Loc Cert.SumBigIdeal.nD Cert.SumBigIdeal.τ Cert.SumBigIdeal.sig) → Buf (Elt Ideal) ℓ) : Prop :=
  True

def Pre_SumBigRefIdeal (m : (ℓ : Loc Cert.SumBigRefIdeal.nD Cert.SumBigRefIdeal.τ Cert.SumBigRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_BackOut [hBackOut : Cert.BackOut.Facts] : Prop :=
  ∀ (m : (ℓ : Loc Cert.BackOut.nD Cert.BackOut.τ Cert.BackOut.sig) → Buf (Elt Bits) ℓ) (g : Dev Cert.BackOut.nD → PrngReg), Pre_BackOut m →
    θ_run (Cert.BackOut.defs (F := Bits)) (onTc (τ := Cert.BackOut.τ) (Cert.BackOut.main (F := Bits))) ⟨m, fun _ => 0, g⟩ (fun r => (∀ c : Dev Cert.BackOut.nD,
      r.2.mem ((c.tc : Thread Cert.BackOut.nD Cert.BackOut.τ).loc Cert.BackOut.main_arg0) = m ((c.tc : Thread Cert.BackOut.nD Cert.BackOut.τ).loc Cert.BackOut.main_arg0)
      ∧ r.2.mem ((c.tc : Thread Cert.BackOut.nD Cert.BackOut.τ).loc Cert.BackOut.main_arg1) = m ((c.tc : Thread Cert.BackOut.nD Cert.BackOut.τ).loc Cert.BackOut.main_arg1)
      ∧ r.2.mem ((c.tc : Thread Cert.BackOut.nD Cert.BackOut.τ).loc Cert.BackOut.main_arg2) = m ((c.tc : Thread Cert.BackOut.nD Cert.BackOut.τ).loc Cert.BackOut.main_arg2)
      ∧ r.2.mem ((c.tc : Thread Cert.BackOut.nD Cert.BackOut.τ).loc Cert.BackOut.main_arg3) = m ((c.tc : Thread Cert.BackOut.nD Cert.BackOut.τ).loc Cert.BackOut.main_arg3))
      ∧ r.2.sem = fun _ => 0)

def quiescent_BackOutIdeal [hBackOutIdeal : Cert.BackOutIdeal.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
      ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1)
      ∧ r.2.mem ((c.tc : Thread Cert.BackOutIdeal.nD Cert.BackOutIdeal.τ).loc Cert.BackOutIdeal.main_arg2) = m ((c.tc : Thread Cert.BackOutIdeal.nD Cert.BackOutIdeal.τ).loc Cert.BackOutIdeal.main_arg2)
      ∧ r.2.mem ((c.tc : Thread Cert.BackOutIdeal.nD Cert.BackOutIdeal.τ).loc Cert.BackOutIdeal.main_arg3) = m ((c.tc : Thread Cert.BackOutIdeal.nD Cert.BackOutIdeal.τ).loc Cert.BackOutIdeal.main_arg3))
      ∧ r.2.sem = fun _ => 0)

def quiescent_BackOutIdeal_pre_finite_back_out [hBackOutIdeal : Cert.BackOutIdeal.Facts] [hPre_finite_back_out : Cert.Pre_finite_back_out.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal_finite_back_out m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
      ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1)
      ∧ r.2.mem ((c.tc : Thread Cert.BackOutIdeal.nD Cert.BackOutIdeal.τ).loc Cert.BackOutIdeal.main_arg2) = m ((c.tc : Thread Cert.BackOutIdeal.nD Cert.BackOutIdeal.τ).loc Cert.BackOutIdeal.main_arg2)
      ∧ r.2.mem ((c.tc : Thread Cert.BackOutIdeal.nD Cert.BackOutIdeal.τ).loc Cert.BackOutIdeal.main_arg3) = m ((c.tc : Thread Cert.BackOutIdeal.nD Cert.BackOutIdeal.τ).loc Cert.BackOutIdeal.main_arg3))
      ∧ r.2.sem = fun _ => 0)

def quiescent_BackOutRefIdeal [hBackOutRefIdeal : Cert.BackOutRefIdeal.Facts] : Prop :=
  ∀ (m : (ℓ : Loc Cert.BackOutRefIdeal.nD Cert.BackOutRefIdeal.τ Cert.BackOutRefIdeal.sig) → Buf (Elt Ideal) ℓ) (g : Dev Cert.BackOutRefIdeal.nD → PrngReg), Pre_BackOutRefIdeal m →
    θ_run (Cert.BackOutRefIdeal.defs (F := Ideal)) (onTc (τ := Cert.BackOutRefIdeal.τ) (Cert.BackOutRefIdeal.main (F := Ideal))) ⟨m, fun _ => 0, g⟩ (fun r => (∀ c : Dev Cert.BackOutRefIdeal.nD,
      r.2.mem ((c.tc : Thread Cert.BackOutRefIdeal.nD Cert.BackOutRefIdeal.τ).loc Cert.BackOutRefIdeal.main_arg0) = m ((c.tc : Thread Cert.BackOutRefIdeal.nD Cert.BackOutRefIdeal.τ).loc Cert.BackOutRefIdeal.main_arg0)
      ∧ r.2.mem ((c.tc : Thread Cert.BackOutRefIdeal.nD Cert.BackOutRefIdeal.τ).loc Cert.BackOutRefIdeal.main_arg1) = m ((c.tc : Thread Cert.BackOutRefIdeal.nD Cert.BackOutRefIdeal.τ).loc Cert.BackOutRefIdeal.main_arg1)
      ∧ r.2.mem ((c.tc : Thread Cert.BackOutRefIdeal.nD Cert.BackOutRefIdeal.τ).loc Cert.BackOutRefIdeal.main_arg2) = m ((c.tc : Thread Cert.BackOutRefIdeal.nD Cert.BackOutRefIdeal.τ).loc Cert.BackOutRefIdeal.main_arg2)
      ∧ r.2.mem ((c.tc : Thread Cert.BackOutRefIdeal.nD Cert.BackOutRefIdeal.τ).loc Cert.BackOutRefIdeal.main_arg3) = m ((c.tc : Thread Cert.BackOutRefIdeal.nD Cert.BackOutRefIdeal.τ).loc Cert.BackOutRefIdeal.main_arg3))
      ∧ r.2.sem = fun _ => 0)

def quiescent_BackOutRefIdeal_pre_finite_back_out [hBackOutRefIdeal : Cert.BackOutRefIdeal.Facts] [hPre_finite_back_out : Cert.Pre_finite_back_out.Facts] : Prop :=
  ∀ (m : (ℓ : Loc Cert.BackOutRefIdeal.nD Cert.BackOutRefIdeal.τ Cert.BackOutRefIdeal.sig) → Buf (Elt Ideal) ℓ) (g : Dev Cert.BackOutRefIdeal.nD → PrngReg), Pre_BackOutRefIdeal_finite_back_out m →
    θ_run (Cert.BackOutRefIdeal.defs (F := Ideal)) (onTc (τ := Cert.BackOutRefIdeal.τ) (Cert.BackOutRefIdeal.main (F := Ideal))) ⟨m, fun _ => 0, g⟩ (fun r => (∀ c : Dev Cert.BackOutRefIdeal.nD,
      r.2.mem ((c.tc : Thread Cert.BackOutRefIdeal.nD Cert.BackOutRefIdeal.τ).loc Cert.BackOutRefIdeal.main_arg0) = m ((c.tc : Thread Cert.BackOutRefIdeal.nD Cert.BackOutRefIdeal.τ).loc Cert.BackOutRefIdeal.main_arg0)
      ∧ r.2.mem ((c.tc : Thread Cert.BackOutRefIdeal.nD Cert.BackOutRefIdeal.τ).loc Cert.BackOutRefIdeal.main_arg1) = m ((c.tc : Thread Cert.BackOutRefIdeal.nD Cert.BackOutRefIdeal.τ).loc Cert.BackOutRefIdeal.main_arg1)
      ∧ r.2.mem ((c.tc : Thread Cert.BackOutRefIdeal.nD Cert.BackOutRefIdeal.τ).loc Cert.BackOutRefIdeal.main_arg2) = m ((c.tc : Thread Cert.BackOutRefIdeal.nD Cert.BackOutRefIdeal.τ).loc Cert.BackOutRefIdeal.main_arg2)
      ∧ r.2.mem ((c.tc : Thread Cert.BackOutRefIdeal.nD Cert.BackOutRefIdeal.τ).loc Cert.BackOutRefIdeal.main_arg3) = m ((c.tc : Thread Cert.BackOutRefIdeal.nD Cert.BackOutRefIdeal.τ).loc Cert.BackOutRefIdeal.main_arg3))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1)
      ∧ r.2.mem ((c.tc : Thread Cert.BackIn.nD Cert.BackIn.τ).loc Cert.BackIn.main_arg2) = m ((c.tc : Thread Cert.BackIn.nD Cert.BackIn.τ).loc Cert.BackIn.main_arg2))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
      ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2))
      ∧ r.2.sem = fun _ => 0)

def quiescent_BackInRefIdeal [hBackInRefIdeal : Cert.BackInRefIdeal.Facts] : Prop :=
  ∀ (m : (ℓ : Loc Cert.BackInRefIdeal.nD Cert.BackInRefIdeal.τ Cert.BackInRefIdeal.sig) → Buf (Elt Ideal) ℓ) (g : Dev Cert.BackInRefIdeal.nD → PrngReg), Pre_BackInRefIdeal m →
    θ_run (Cert.BackInRefIdeal.defs (F := Ideal)) (onTc (τ := Cert.BackInRefIdeal.τ) (Cert.BackInRefIdeal.main (F := Ideal))) ⟨m, fun _ => 0, g⟩ (fun r => (∀ c : Dev Cert.BackInRefIdeal.nD,
      r.2.mem ((c.tc : Thread Cert.BackInRefIdeal.nD Cert.BackInRefIdeal.τ).loc Cert.BackInRefIdeal.main_arg0) = m ((c.tc : Thread Cert.BackInRefIdeal.nD Cert.BackInRefIdeal.τ).loc Cert.BackInRefIdeal.main_arg0)
      ∧ r.2.mem ((c.tc : Thread Cert.BackInRefIdeal.nD Cert.BackInRefIdeal.τ).loc Cert.BackInRefIdeal.main_arg1) = m ((c.tc : Thread Cert.BackInRefIdeal.nD Cert.BackInRefIdeal.τ).loc Cert.BackInRefIdeal.main_arg1)
      ∧ r.2.mem ((c.tc : Thread Cert.BackInRefIdeal.nD Cert.BackInRefIdeal.τ).loc Cert.BackInRefIdeal.main_arg2) = m ((c.tc : Thread Cert.BackInRefIdeal.nD Cert.BackInRefIdeal.τ).loc Cert.BackInRefIdeal.main_arg2))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1)
      ∧ r.2.mem ((c.tc : Thread Cert.WgradInRefIdeal.nD Cert.WgradInRefIdeal.τ).loc Cert.WgradInRefIdeal.main_arg2) = m ((c.tc : Thread Cert.WgradInRefIdeal.nD Cert.WgradInRefIdeal.τ).loc Cert.WgradInRefIdeal.main_arg2))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1)
      ∧ r.2.mem ((c.tc : Thread Cert.WgradOut.nD Cert.WgradOut.τ).loc Cert.WgradOut.main_arg2) = m ((c.tc : Thread Cert.WgradOut.nD Cert.WgradOut.τ).loc Cert.WgradOut.main_arg2))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
      ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1)
      ∧ r.2.mem ((c.tc : Thread Cert.WgradOutRefIdeal.nD Cert.WgradOutRefIdeal.τ).loc Cert.WgradOutRefIdeal.main_arg2) = m ((c.tc : Thread Cert.WgradOutRefIdeal.nD Cert.WgradOutRefIdeal.τ).loc Cert.WgradOutRefIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0)

def quiescent_AdamConf [hAdamConf : Cert.AdamConf.Facts] : Prop :=
  ∀ (m : (ℓ : Loc Cert.AdamConf.nD Cert.AdamConf.τ Cert.AdamConf.sig) → Buf (Elt Bits) ℓ) (g : Dev Cert.AdamConf.nD → PrngReg), Pre_AdamConf m →
    θ_run (Cert.AdamConf.defs (F := Bits)) (onTc (τ := Cert.AdamConf.τ) (Cert.AdamConf.main (F := Bits))) ⟨m, fun _ => 0, g⟩ (fun r => (∀ c : Dev Cert.AdamConf.nD,
      r.2.mem ((c.tc : Thread Cert.AdamConf.nD Cert.AdamConf.τ).loc Cert.AdamConf.main_arg0) = m ((c.tc : Thread Cert.AdamConf.nD Cert.AdamConf.τ).loc Cert.AdamConf.main_arg0)
      ∧ r.2.mem ((c.tc : Thread Cert.AdamConf.nD Cert.AdamConf.τ).loc Cert.AdamConf.main_arg1) = m ((c.tc : Thread Cert.AdamConf.nD Cert.AdamConf.τ).loc Cert.AdamConf.main_arg1)
      ∧ r.2.mem ((c.tc : Thread Cert.AdamConf.nD Cert.AdamConf.τ).loc Cert.AdamConf.main_arg2) = m ((c.tc : Thread Cert.AdamConf.nD Cert.AdamConf.τ).loc Cert.AdamConf.main_arg2)
      ∧ r.2.mem ((c.tc : Thread Cert.AdamConf.nD Cert.AdamConf.τ).loc Cert.AdamConf.main_arg3) = m ((c.tc : Thread Cert.AdamConf.nD Cert.AdamConf.τ).loc Cert.AdamConf.main_arg3))
      ∧ r.2.sem = fun _ => 0)

def quiescent_AdamConfIdeal [hAdamConfIdeal : Cert.AdamConfIdeal.Facts] : Prop :=
  ∀ (m : (ℓ : Loc Cert.AdamConfIdeal.nD Cert.AdamConfIdeal.τ Cert.AdamConfIdeal.sig) → Buf (Elt Ideal) ℓ) (g : Dev Cert.AdamConfIdeal.nD → PrngReg), Pre_AdamConfIdeal m →
    θ_run (Cert.AdamConfIdeal.defs (F := Ideal)) (onTc (τ := Cert.AdamConfIdeal.τ) (Cert.AdamConfIdeal.main (F := Ideal))) ⟨m, fun _ => 0, g⟩ (fun r => (∀ c : Dev Cert.AdamConfIdeal.nD,
      r.2.mem ((c.tc : Thread Cert.AdamConfIdeal.nD Cert.AdamConfIdeal.τ).loc Cert.AdamConfIdeal.main_arg0) = m ((c.tc : Thread Cert.AdamConfIdeal.nD Cert.AdamConfIdeal.τ).loc Cert.AdamConfIdeal.main_arg0)
      ∧ r.2.mem ((c.tc : Thread Cert.AdamConfIdeal.nD Cert.AdamConfIdeal.τ).loc Cert.AdamConfIdeal.main_arg1) = m ((c.tc : Thread Cert.AdamConfIdeal.nD Cert.AdamConfIdeal.τ).loc Cert.AdamConfIdeal.main_arg1)
      ∧ r.2.mem ((c.tc : Thread Cert.AdamConfIdeal.nD Cert.AdamConfIdeal.τ).loc Cert.AdamConfIdeal.main_arg2) = m ((c.tc : Thread Cert.AdamConfIdeal.nD Cert.AdamConfIdeal.τ).loc Cert.AdamConfIdeal.main_arg2)
      ∧ r.2.mem ((c.tc : Thread Cert.AdamConfIdeal.nD Cert.AdamConfIdeal.τ).loc Cert.AdamConfIdeal.main_arg3) = m ((c.tc : Thread Cert.AdamConfIdeal.nD Cert.AdamConfIdeal.τ).loc Cert.AdamConfIdeal.main_arg3))
      ∧ r.2.sem = fun _ => 0)

def quiescent_AdamConfRefIdeal [hAdamConfRefIdeal : Cert.AdamConfRefIdeal.Facts] : Prop :=
  ∀ (m : (ℓ : Loc Cert.AdamConfRefIdeal.nD Cert.AdamConfRefIdeal.τ Cert.AdamConfRefIdeal.sig) → Buf (Elt Ideal) ℓ) (g : Dev Cert.AdamConfRefIdeal.nD → PrngReg), Pre_AdamConfRefIdeal m →
    θ_run (Cert.AdamConfRefIdeal.defs (F := Ideal)) (onTc (τ := Cert.AdamConfRefIdeal.τ) (Cert.AdamConfRefIdeal.main (F := Ideal))) ⟨m, fun _ => 0, g⟩ (fun r => (∀ c : Dev Cert.AdamConfRefIdeal.nD,
      r.2.mem ((c.tc : Thread Cert.AdamConfRefIdeal.nD Cert.AdamConfRefIdeal.τ).loc Cert.AdamConfRefIdeal.main_arg0) = m ((c.tc : Thread Cert.AdamConfRefIdeal.nD Cert.AdamConfRefIdeal.τ).loc Cert.AdamConfRefIdeal.main_arg0)
      ∧ r.2.mem ((c.tc : Thread Cert.AdamConfRefIdeal.nD Cert.AdamConfRefIdeal.τ).loc Cert.AdamConfRefIdeal.main_arg1) = m ((c.tc : Thread Cert.AdamConfRefIdeal.nD Cert.AdamConfRefIdeal.τ).loc Cert.AdamConfRefIdeal.main_arg1)
      ∧ r.2.mem ((c.tc : Thread Cert.AdamConfRefIdeal.nD Cert.AdamConfRefIdeal.τ).loc Cert.AdamConfRefIdeal.main_arg2) = m ((c.tc : Thread Cert.AdamConfRefIdeal.nD Cert.AdamConfRefIdeal.τ).loc Cert.AdamConfRefIdeal.main_arg2)
      ∧ r.2.mem ((c.tc : Thread Cert.AdamConfRefIdeal.nD Cert.AdamConfRefIdeal.τ).loc Cert.AdamConfRefIdeal.main_arg3) = m ((c.tc : Thread Cert.AdamConfRefIdeal.nD Cert.AdamConfRefIdeal.τ).loc Cert.AdamConfRefIdeal.main_arg3))
      ∧ r.2.sem = fun _ => 0)

def quiescent_AdamShort [hAdamShort : Cert.AdamShort.Facts] : Prop :=
  ∀ (m : (ℓ : Loc Cert.AdamShort.nD Cert.AdamShort.τ Cert.AdamShort.sig) → Buf (Elt Bits) ℓ) (g : Dev Cert.AdamShort.nD → PrngReg), Pre_AdamShort m →
    θ_run (Cert.AdamShort.defs (F := Bits)) (onTc (τ := Cert.AdamShort.τ) (Cert.AdamShort.main (F := Bits))) ⟨m, fun _ => 0, g⟩ (fun r => (∀ c : Dev Cert.AdamShort.nD,
      r.2.mem ((c.tc : Thread Cert.AdamShort.nD Cert.AdamShort.τ).loc Cert.AdamShort.main_arg0) = m ((c.tc : Thread Cert.AdamShort.nD Cert.AdamShort.τ).loc Cert.AdamShort.main_arg0)
      ∧ r.2.mem ((c.tc : Thread Cert.AdamShort.nD Cert.AdamShort.τ).loc Cert.AdamShort.main_arg1) = m ((c.tc : Thread Cert.AdamShort.nD Cert.AdamShort.τ).loc Cert.AdamShort.main_arg1)
      ∧ r.2.mem ((c.tc : Thread Cert.AdamShort.nD Cert.AdamShort.τ).loc Cert.AdamShort.main_arg2) = m ((c.tc : Thread Cert.AdamShort.nD Cert.AdamShort.τ).loc Cert.AdamShort.main_arg2)
      ∧ r.2.mem ((c.tc : Thread Cert.AdamShort.nD Cert.AdamShort.τ).loc Cert.AdamShort.main_arg3) = m ((c.tc : Thread Cert.AdamShort.nD Cert.AdamShort.τ).loc Cert.AdamShort.main_arg3))
      ∧ r.2.sem = fun _ => 0)

def quiescent_AdamShortIdeal [hAdamShortIdeal : Cert.AdamShortIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg), Pre_AdamShortIdeal m →
    θ_run (Cert.AdamShortIdeal.defs (F := Ideal)) (onTc (τ := Cert.AdamShortIdeal.τ) (Cert.AdamShortIdeal.main (F := Ideal))) ⟨m, fun _ => 0, g⟩ (fun r => (∀ c : Dev Cert.AdamShortIdeal.nD,
      r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
      ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
      ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
      ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ r.2.sem = fun _ => 0)

def quiescent_AdamShortRefIdeal [hAdamShortRefIdeal : Cert.AdamShortRefIdeal.Facts] : Prop :=
  ∀ (m : (ℓ : Loc Cert.AdamShortRefIdeal.nD Cert.AdamShortRefIdeal.τ Cert.AdamShortRefIdeal.sig) → Buf (Elt Ideal) ℓ) (g : Dev Cert.AdamShortRefIdeal.nD → PrngReg), Pre_AdamShortRefIdeal m →
    θ_run (Cert.AdamShortRefIdeal.defs (F := Ideal)) (onTc (τ := Cert.AdamShortRefIdeal.τ) (Cert.AdamShortRefIdeal.main (F := Ideal))) ⟨m, fun _ => 0, g⟩ (fun r => (∀ c : Dev Cert.AdamShortRefIdeal.nD,
      r.2.mem ((c.tc : Thread Cert.AdamShortRefIdeal.nD Cert.AdamShortRefIdeal.τ).loc Cert.AdamShortRefIdeal.main_arg0) = m ((c.tc : Thread Cert.AdamShortRefIdeal.nD Cert.AdamShortRefIdeal.τ).loc Cert.AdamShortRefIdeal.main_arg0)
      ∧ r.2.mem ((c.tc : Thread Cert.AdamShortRefIdeal.nD Cert.AdamShortRefIdeal.τ).loc Cert.AdamShortRefIdeal.main_arg1) = m ((c.tc : Thread Cert.AdamShortRefIdeal.nD Cert.AdamShortRefIdeal.τ).loc Cert.AdamShortRefIdeal.main_arg1)
      ∧ r.2.mem ((c.tc : Thread Cert.AdamShortRefIdeal.nD Cert.AdamShortRefIdeal.τ).loc Cert.AdamShortRefIdeal.main_arg2) = m ((c.tc : Thread Cert.AdamShortRefIdeal.nD Cert.AdamShortRefIdeal.τ).loc Cert.AdamShortRefIdeal.main_arg2)
      ∧ r.2.mem ((c.tc : Thread Cert.AdamShortRefIdeal.nD Cert.AdamShortRefIdeal.τ).loc Cert.AdamShortRefIdeal.main_arg3) = m ((c.tc : Thread Cert.AdamShortRefIdeal.nD Cert.AdamShortRefIdeal.τ).loc Cert.AdamShortRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_SumBig [hSumBig : Cert.SumBig.Facts] : Prop :=
  ∀ (m : (ℓ : Loc Cert.SumBig.nD Cert.SumBig.τ Cert.SumBig.sig) → Buf (Elt Bits) ℓ) (g : Dev Cert.SumBig.nD → PrngReg), Pre_SumBig m →
    θ_run (Cert.SumBig.defs (F := Bits)) (onTc (τ := Cert.SumBig.τ) (Cert.SumBig.main (F := Bits))) ⟨m, fun _ => 0, g⟩ (fun r => (∀ c : Dev Cert.SumBig.nD,
      r.2.mem ((c.tc : Thread Cert.SumBig.nD Cert.SumBig.τ).loc Cert.SumBig.main_arg0) = m ((c.tc : Thread Cert.SumBig.nD Cert.SumBig.τ).loc Cert.SumBig.main_arg0)
      ∧ r.2.mem ((c.tc : Thread Cert.SumBig.nD Cert.SumBig.τ).loc Cert.SumBig.main_arg1) = m ((c.tc : Thread Cert.SumBig.nD Cert.SumBig.τ).loc Cert.SumBig.main_arg1))
      ∧ r.2.sem = fun _ => 0)

def quiescent_SumBigIdeal [hSumBigIdeal : Cert.SumBigIdeal.Facts] : Prop :=
  ∀ (m : (ℓ : Loc Cert.SumBigIdeal.nD Cert.SumBigIdeal.τ Cert.SumBigIdeal.sig) → Buf (Elt Ideal) ℓ) (g : Dev Cert.SumBigIdeal.nD → PrngReg), Pre_SumBigIdeal m →
    θ_run (Cert.SumBigIdeal.defs (F := Ideal)) (onTc (τ := Cert.SumBigIdeal.τ) (Cert.SumBigIdeal.main (F := Ideal))) ⟨m, fun _ => 0, g⟩ (fun r => (∀ c : Dev Cert.SumBigIdeal.nD,
      r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0)
      ∧ r.2.mem ((c.tc : Thread Cert.SumBigIdeal.nD Cert.SumBigIdeal.τ).loc Cert.SumBigIdeal.main_arg1) = m ((c.tc : Thread Cert.SumBigIdeal.nD Cert.SumBigIdeal.τ).loc Cert.SumBigIdeal.main_arg1))
      ∧ r.2.sem = fun _ => 0)

def quiescent_SumBigRefIdeal [hSumBigRefIdeal : Cert.SumBigRefIdeal.Facts] : Prop :=
  ∀ (m : (ℓ : Loc Cert.SumBigRefIdeal.nD Cert.SumBigRefIdeal.τ Cert.SumBigRefIdeal.sig) → Buf (Elt Ideal) ℓ) (g : Dev Cert.SumBigRefIdeal.nD → PrngReg), Pre_SumBigRefIdeal m →
    θ_run (Cert.SumBigRefIdeal.defs (F := Ideal)) (onTc (τ := Cert.SumBigRefIdeal.τ) (Cert.SumBigRefIdeal.main (F := Ideal))) ⟨m, fun _ => 0, g⟩ (fun r => (∀ c : Dev Cert.SumBigRefIdeal.nD,
      r.2.mem ((c.tc : Thread Cert.SumBigRefIdeal.nD Cert.SumBigRefIdeal.τ).loc Cert.SumBigRefIdeal.main_arg0) = m ((c.tc : Thread Cert.SumBigRefIdeal.nD Cert.SumBigRefIdeal.τ).loc Cert.SumBigRefIdeal.main_arg0)
      ∧ r.2.mem ((c.tc : Thread Cert.SumBigRefIdeal.nD Cert.SumBigRefIdeal.τ).loc Cert.SumBigRefIdeal.main_arg1) = m ((c.tc : Thread Cert.SumBigRefIdeal.nD Cert.SumBigRefIdeal.τ).loc Cert.SumBigRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v2_0)) (v1 : (c : Dev Cert.WgradIdeal.nD) → Buf (Elt Ideal) ((c.tc : Thread Cert.WgradIdeal.nD Cert.WgradIdeal.τ).loc Cert.WgradIdeal.main_v2_1)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2_0) = v0 c
          ∧ r.2.mem ((c.tc : Thread Cert.WgradIdeal.nD Cert.WgradIdeal.τ).loc Cert.WgradIdeal.main_v2_1) = v1 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v4) = v0 c
          ∧ r.2.mem ((c.tc : Thread Cert.WgradRefIdeal.nD Cert.WgradRefIdeal.τ).loc Cert.WgradRefIdeal.main_v6) = v1 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_v8) = v2 c
          ∧ r.2.mem ((c.tc : Thread Cert.UpRefIdeal.nD Cert.UpRefIdeal.τ).loc Cert.UpRefIdeal.main_v11) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v27) = v0 c
          ∧ r.2.mem ((c.tc : Thread Cert.DownRefIdeal.nD Cert.DownRefIdeal.τ).loc Cert.DownRefIdeal.main_v23) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v2_0)) (v1 : (c : Dev Cert.InIdeal.nD) → Buf (Elt Ideal) ((c.tc : Thread Cert.InIdeal.nD Cert.InIdeal.τ).loc Cert.InIdeal.main_v2_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2_0) = v0 c
          ∧ r.2.mem ((c.tc : Thread Cert.InIdeal.nD Cert.InIdeal.τ).loc Cert.InIdeal.main_v2_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_v6) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_v21) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_BackOut_BackOutIdeal : Prop :=
  True

def algebraic_BackOutIdeal_BackOutRefIdeal_pre_finite_back_out [hBackOutIdeal : Cert.BackOutIdeal.Facts] [hBackOutRefIdeal : Cert.BackOutRefIdeal.Facts] [hPre_finite_back_out : Cert.Pre_finite_back_out.Facts] : Prop :=
  ∀ (m : (ℓ : Loc Cert.BackOutIdeal.nD Cert.BackOutIdeal.τ Cert.BackOutIdeal.sig) → Buf (Elt Ideal) ℓ) (g : Dev Cert.BackOutIdeal.nD → PrngReg)
    (m' : (ℓ : Loc Cert.BackOutRefIdeal.nD Cert.BackOutRefIdeal.τ Cert.BackOutRefIdeal.sig) → Buf (Elt Ideal) ℓ) (g' : Dev Cert.BackOutRefIdeal.nD → PrngReg), Pre_BackOutIdeal_finite_back_out m →
    (∀ c : Dev Cert.BackOutIdeal.nD,
      m' ((c.tc : Thread Cert.BackOutRefIdeal.nD Cert.BackOutRefIdeal.τ).loc Cert.BackOutRefIdeal.main_arg0) = m ((c.tc : Thread Cert.BackOutIdeal.nD Cert.BackOutIdeal.τ).loc Cert.BackOutIdeal.main_arg0)
      ∧ m' ((c.tc : Thread Cert.BackOutRefIdeal.nD Cert.BackOutRefIdeal.τ).loc Cert.BackOutRefIdeal.main_arg1) = m ((c.tc : Thread Cert.BackOutIdeal.nD Cert.BackOutIdeal.τ).loc Cert.BackOutIdeal.main_arg1)
      ∧ m' ((c.tc : Thread Cert.BackOutRefIdeal.nD Cert.BackOutRefIdeal.τ).loc Cert.BackOutRefIdeal.main_arg2) = m ((c.tc : Thread Cert.BackOutIdeal.nD Cert.BackOutIdeal.τ).loc Cert.BackOutIdeal.main_arg2)
      ∧ m' ((c.tc : Thread Cert.BackOutRefIdeal.nD Cert.BackOutRefIdeal.τ).loc Cert.BackOutRefIdeal.main_arg3) = m ((c.tc : Thread Cert.BackOutIdeal.nD Cert.BackOutIdeal.τ).loc Cert.BackOutIdeal.main_arg3)) →
    ∃ (v0 : (c : Dev Cert.BackOutIdeal.nD) → Buf (Elt Ideal) ((c.tc : Thread Cert.BackOutIdeal.nD Cert.BackOutIdeal.τ).loc Cert.BackOutIdeal.main_v19_0)) (v1 : (c : Dev Cert.BackOutIdeal.nD) → Buf (Elt Ideal) ((c.tc : Thread Cert.BackOutIdeal.nD Cert.BackOutIdeal.τ).loc Cert.BackOutIdeal.main_v19_1)) (v2 : (c : Dev Cert.BackOutIdeal.nD) → Buf (Elt Ideal) ((c.tc : Thread Cert.BackOutIdeal.nD Cert.BackOutIdeal.τ).loc Cert.BackOutIdeal.main_v19_2)) (v3 : (c : Dev Cert.BackOutIdeal.nD) → Buf (Elt Ideal) ((c.tc : Thread Cert.BackOutIdeal.nD Cert.BackOutIdeal.τ).loc Cert.BackOutIdeal.main_v19_3)) (v4 : (c : Dev Cert.BackOutIdeal.nD) → Buf (Elt Ideal) ((c.tc : Thread Cert.BackOutIdeal.nD Cert.BackOutIdeal.τ).loc Cert.BackOutIdeal.main_v19_4)),
      θ_run (Cert.BackOutIdeal.defs (F := Ideal)) (onTc (τ := Cert.BackOutIdeal.τ) (Cert.BackOutIdeal.main (F := Ideal))) ⟨m, fun _ => 0, g⟩ (fun r => ∀ c : Dev Cert.BackOutIdeal.nD,
          r.2.mem ((c.tc : Thread Cert.BackOutIdeal.nD Cert.BackOutIdeal.τ).loc Cert.BackOutIdeal.main_v19_0) = v0 c
          ∧ r.2.mem ((c.tc : Thread Cert.BackOutIdeal.nD Cert.BackOutIdeal.τ).loc Cert.BackOutIdeal.main_v19_1) = v1 c
          ∧ r.2.mem ((c.tc : Thread Cert.BackOutIdeal.nD Cert.BackOutIdeal.τ).loc Cert.BackOutIdeal.main_v19_2) = v2 c
          ∧ r.2.mem ((c.tc : Thread Cert.BackOutIdeal.nD Cert.BackOutIdeal.τ).loc Cert.BackOutIdeal.main_v19_3) = v3 c
          ∧ r.2.mem ((c.tc : Thread Cert.BackOutIdeal.nD Cert.BackOutIdeal.τ).loc Cert.BackOutIdeal.main_v19_4) = v4 c
          ∧ r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
          ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1)
          ∧ r.2.mem ((c.tc : Thread Cert.BackOutIdeal.nD Cert.BackOutIdeal.τ).loc Cert.BackOutIdeal.main_arg2) = m ((c.tc : Thread Cert.BackOutIdeal.nD Cert.BackOutIdeal.τ).loc Cert.BackOutIdeal.main_arg2)
          ∧ r.2.mem ((c.tc : Thread Cert.BackOutIdeal.nD Cert.BackOutIdeal.τ).loc Cert.BackOutIdeal.main_arg3) = m ((c.tc : Thread Cert.BackOutIdeal.nD Cert.BackOutIdeal.τ).loc Cert.BackOutIdeal.main_arg3))
      ∧ θ_run (Cert.BackOutRefIdeal.defs (F := Ideal)) (onTc (τ := Cert.BackOutRefIdeal.τ) (Cert.BackOutRefIdeal.main (F := Ideal))) ⟨m', fun _ => 0, g'⟩ (fun r => ∀ c : Dev Cert.BackOutRefIdeal.nD,
          r.2.mem ((c.tc : Thread Cert.BackOutRefIdeal.nD Cert.BackOutRefIdeal.τ).loc Cert.BackOutRefIdeal.main_v59) = v0 c
          ∧ r.2.mem ((c.tc : Thread Cert.BackOutRefIdeal.nD Cert.BackOutRefIdeal.τ).loc Cert.BackOutRefIdeal.main_v63) = v1 c
          ∧ r.2.mem ((c.tc : Thread Cert.BackOutRefIdeal.nD Cert.BackOutRefIdeal.τ).loc Cert.BackOutRefIdeal.main_v64) = v2 c
          ∧ r.2.mem ((c.tc : Thread Cert.BackOutRefIdeal.nD Cert.BackOutRefIdeal.τ).loc Cert.BackOutRefIdeal.main_v33) = v3 c
          ∧ r.2.mem ((c.tc : Thread Cert.BackOutRefIdeal.nD Cert.BackOutRefIdeal.τ).loc Cert.BackOutRefIdeal.main_v30) = v4 c
          ∧ r.2.mem ((c.tc : Thread Cert.BackOutRefIdeal.nD Cert.BackOutRefIdeal.τ).loc Cert.BackOutRefIdeal.main_arg0) = m' ((c.tc : Thread Cert.BackOutRefIdeal.nD Cert.BackOutRefIdeal.τ).loc Cert.BackOutRefIdeal.main_arg0)
          ∧ r.2.mem ((c.tc : Thread Cert.BackOutRefIdeal.nD Cert.BackOutRefIdeal.τ).loc Cert.BackOutRefIdeal.main_arg1) = m' ((c.tc : Thread Cert.BackOutRefIdeal.nD Cert.BackOutRefIdeal.τ).loc Cert.BackOutRefIdeal.main_arg1)
          ∧ r.2.mem ((c.tc : Thread Cert.BackOutRefIdeal.nD Cert.BackOutRefIdeal.τ).loc Cert.BackOutRefIdeal.main_arg2) = m' ((c.tc : Thread Cert.BackOutRefIdeal.nD Cert.BackOutRefIdeal.τ).loc Cert.BackOutRefIdeal.main_arg2)
          ∧ r.2.mem ((c.tc : Thread Cert.BackOutRefIdeal.nD Cert.BackOutRefIdeal.τ).loc Cert.BackOutRefIdeal.main_arg3) = m' ((c.tc : Thread Cert.BackOutRefIdeal.nD Cert.BackOutRefIdeal.τ).loc Cert.BackOutRefIdeal.main_arg3))

def preserves_BackIn_BackInIdeal : Prop :=
  True

def algebraic_BackInIdeal_BackInRefIdeal [hBackInIdeal : Cert.BackInIdeal.Facts] [hBackInRefIdeal : Cert.BackInRefIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInRefIdeal.nD Cert.BackInRefIdeal.τ Cert.BackInRefIdeal.sig) → Buf (Elt Ideal) ℓ) (g' : Dev Cert.BackInRefIdeal.nD → PrngReg), Pre_BackInIdeal m →
    (∀ c : Dev Cert.BackInIdeal.nD,
      m' ((c.tc : Thread Cert.BackInRefIdeal.nD Cert.BackInRefIdeal.τ).loc Cert.BackInRefIdeal.main_arg0) = m ((c.tc : Thread Cert.BackInIdeal.nD Cert.BackInIdeal.τ).loc Cert.BackInIdeal.main_arg0)
      ∧ m' ((c.tc : Thread Cert.BackInRefIdeal.nD Cert.BackInRefIdeal.τ).loc Cert.BackInRefIdeal.main_arg1) = m ((c.tc : Thread Cert.BackInIdeal.nD Cert.BackInIdeal.τ).loc Cert.BackInIdeal.main_arg1)
      ∧ m' ((c.tc : Thread Cert.BackInRefIdeal.nD Cert.BackInRefIdeal.τ).loc Cert.BackInRefIdeal.main_arg2) = m ((c.tc : Thread Cert.BackInIdeal.nD Cert.BackInIdeal.τ).loc Cert.BackInIdeal.main_arg2)) →
    ∃ (v0 : (c : Dev Cert.BackInIdeal.nD) → Buf (Elt Ideal) ((c.tc : Thread Cert.BackInIdeal.nD Cert.BackInIdeal.τ).loc Cert.BackInIdeal.main_v3)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v3) = v0 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
          ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2))
      ∧ θ_run (Cert.BackInRefIdeal.defs (F := Ideal)) (onTc (τ := Cert.BackInRefIdeal.τ) (Cert.BackInRefIdeal.main (F := Ideal))) ⟨m', fun _ => 0, g'⟩ (fun r => ∀ c : Dev Cert.BackInRefIdeal.nD,
          r.2.mem ((c.tc : Thread Cert.BackInRefIdeal.nD Cert.BackInRefIdeal.τ).loc Cert.BackInRefIdeal.main_v7) = v0 c
          ∧ r.2.mem ((c.tc : Thread Cert.BackInRefIdeal.nD Cert.BackInRefIdeal.τ).loc Cert.BackInRefIdeal.main_arg0) = m' ((c.tc : Thread Cert.BackInRefIdeal.nD Cert.BackInRefIdeal.τ).loc Cert.BackInRefIdeal.main_arg0)
          ∧ r.2.mem ((c.tc : Thread Cert.BackInRefIdeal.nD Cert.BackInRefIdeal.τ).loc Cert.BackInRefIdeal.main_arg1) = m' ((c.tc : Thread Cert.BackInRefIdeal.nD Cert.BackInRefIdeal.τ).loc Cert.BackInRefIdeal.main_arg1)
          ∧ r.2.mem ((c.tc : Thread Cert.BackInRefIdeal.nD Cert.BackInRefIdeal.τ).loc Cert.BackInRefIdeal.main_arg2) = m' ((c.tc : Thread Cert.BackInRefIdeal.nD Cert.BackInRefIdeal.τ).loc Cert.BackInRefIdeal.main_arg2))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)) →
    ∃ (v0 : (c : Dev Cert.WgradInIdeal.nD) → Buf (Elt Ideal) ((c.tc : Thread Cert.WgradInIdeal.nD Cert.WgradInIdeal.τ).loc Cert.WgradInIdeal.main_v2_0)) (v1 : (c : Dev Cert.WgradInIdeal.nD) → Buf (Elt Ideal) ((c.tc : Thread Cert.WgradInIdeal.nD Cert.WgradInIdeal.τ).loc Cert.WgradInIdeal.main_v2_1)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v2_0) = v0 c
          ∧ r.2.mem ((c.tc : Thread Cert.WgradInIdeal.nD Cert.WgradInIdeal.τ).loc Cert.WgradInIdeal.main_v2_1) = v1 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v4) = v0 c
          ∧ r.2.mem ((c.tc : Thread Cert.WgradInRefIdeal.nD Cert.WgradInRefIdeal.τ).loc Cert.WgradInRefIdeal.main_v6) = v1 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)
      ∧ m' ((c.tc : Thread Cert.WgradOutRefIdeal.nD Cert.WgradOutRefIdeal.τ).loc Cert.WgradOutRefIdeal.main_arg2) = m ((c.tc : Thread Cert.WgradOutIdeal.nD Cert.WgradOutIdeal.τ).loc Cert.WgradOutIdeal.main_arg2)) →
    ∃ (v0 : (c : Dev Cert.WgradOutIdeal.nD) → Buf (Elt Ideal) ((c.tc : Thread Cert.WgradOutIdeal.nD Cert.WgradOutIdeal.τ).loc Cert.WgradOutIdeal.main_v2_0)) (v1 : (c : Dev Cert.WgradOutIdeal.nD) → Buf (Elt Ideal) ((c.tc : Thread Cert.WgradOutIdeal.nD Cert.WgradOutIdeal.τ).loc Cert.WgradOutIdeal.main_v2_1)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v2_0) = v0 c
          ∧ r.2.mem ((c.tc : Thread Cert.WgradOutIdeal.nD Cert.WgradOutIdeal.τ).loc Cert.WgradOutIdeal.main_v2_1) = v1 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
          ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v3) = v0 c
          ∧ r.2.mem ((c.tc : Thread Cert.WgradOutRefIdeal.nD Cert.WgradOutRefIdeal.τ).loc Cert.WgradOutRefIdeal.main_v5) = v1 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1)
          ∧ r.2.mem ((c.tc : Thread Cert.WgradOutRefIdeal.nD Cert.WgradOutRefIdeal.τ).loc Cert.WgradOutRefIdeal.main_arg2) = m' ((c.tc : Thread Cert.WgradOutRefIdeal.nD Cert.WgradOutRefIdeal.τ).loc Cert.WgradOutRefIdeal.main_arg2))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v24) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v26) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamScale_AdamScaleIdeal : Prop :=
  True

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_v23) = v0 c
          ∧ r.2.mem ((c.tc : Thread Cert.AdamScaleRefIdeal.nD Cert.AdamScaleRefIdeal.τ).loc Cert.AdamScaleRefIdeal.main_v4) = v1 c
          ∧ r.2.mem ((c.tc : Thread Cert.AdamScaleRefIdeal.nD Cert.AdamScaleRefIdeal.τ).loc Cert.AdamScaleRefIdeal.main_v10) = v2 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3))

def preserves_AdamConf_AdamConfIdeal : Prop :=
  True

def algebraic_AdamConfIdeal_AdamConfRefIdeal [hAdamConfIdeal : Cert.AdamConfIdeal.Facts] [hAdamConfRefIdeal : Cert.AdamConfRefIdeal.Facts] : Prop :=
  ∀ (m : (ℓ : Loc Cert.AdamConfIdeal.nD Cert.AdamConfIdeal.τ Cert.AdamConfIdeal.sig) → Buf (Elt Ideal) ℓ) (g : Dev Cert.AdamConfIdeal.nD → PrngReg)
    (m' : (ℓ : Loc Cert.AdamConfRefIdeal.nD Cert.AdamConfRefIdeal.τ Cert.AdamConfRefIdeal.sig) → Buf (Elt Ideal) ℓ) (g' : Dev Cert.AdamConfRefIdeal.nD → PrngReg), Pre_AdamConfIdeal m →
    (∀ c : Dev Cert.AdamConfIdeal.nD,
      m' ((c.tc : Thread Cert.AdamConfRefIdeal.nD Cert.AdamConfRefIdeal.τ).loc Cert.AdamConfRefIdeal.main_arg0) = m ((c.tc : Thread Cert.AdamConfIdeal.nD Cert.AdamConfIdeal.τ).loc Cert.AdamConfIdeal.main_arg0)
      ∧ m' ((c.tc : Thread Cert.AdamConfRefIdeal.nD Cert.AdamConfRefIdeal.τ).loc Cert.AdamConfRefIdeal.main_arg1) = m ((c.tc : Thread Cert.AdamConfIdeal.nD Cert.AdamConfIdeal.τ).loc Cert.AdamConfIdeal.main_arg1)
      ∧ m' ((c.tc : Thread Cert.AdamConfRefIdeal.nD Cert.AdamConfRefIdeal.τ).loc Cert.AdamConfRefIdeal.main_arg2) = m ((c.tc : Thread Cert.AdamConfIdeal.nD Cert.AdamConfIdeal.τ).loc Cert.AdamConfIdeal.main_arg2)
      ∧ m' ((c.tc : Thread Cert.AdamConfRefIdeal.nD Cert.AdamConfRefIdeal.τ).loc Cert.AdamConfRefIdeal.main_arg3) = m ((c.tc : Thread Cert.AdamConfIdeal.nD Cert.AdamConfIdeal.τ).loc Cert.AdamConfIdeal.main_arg3)) →
    ∃ (v0 : (c : Dev Cert.AdamConfIdeal.nD) → Buf (Elt Ideal) ((c.tc : Thread Cert.AdamConfIdeal.nD Cert.AdamConfIdeal.τ).loc Cert.AdamConfIdeal.main_v0_0)) (v1 : (c : Dev Cert.AdamConfIdeal.nD) → Buf (Elt Ideal) ((c.tc : Thread Cert.AdamConfIdeal.nD Cert.AdamConfIdeal.τ).loc Cert.AdamConfIdeal.main_v0_1)) (v2 : (c : Dev Cert.AdamConfIdeal.nD) → Buf (Elt Ideal) ((c.tc : Thread Cert.AdamConfIdeal.nD Cert.AdamConfIdeal.τ).loc Cert.AdamConfIdeal.main_v0_2)),
      θ_run (Cert.AdamConfIdeal.defs (F := Ideal)) (onTc (τ := Cert.AdamConfIdeal.τ) (Cert.AdamConfIdeal.main (F := Ideal))) ⟨m, fun _ => 0, g⟩ (fun r => ∀ c : Dev Cert.AdamConfIdeal.nD,
          r.2.mem ((c.tc : Thread Cert.AdamConfIdeal.nD Cert.AdamConfIdeal.τ).loc Cert.AdamConfIdeal.main_v0_0) = v0 c
          ∧ r.2.mem ((c.tc : Thread Cert.AdamConfIdeal.nD Cert.AdamConfIdeal.τ).loc Cert.AdamConfIdeal.main_v0_1) = v1 c
          ∧ r.2.mem ((c.tc : Thread Cert.AdamConfIdeal.nD Cert.AdamConfIdeal.τ).loc Cert.AdamConfIdeal.main_v0_2) = v2 c
          ∧ r.2.mem ((c.tc : Thread Cert.AdamConfIdeal.nD Cert.AdamConfIdeal.τ).loc Cert.AdamConfIdeal.main_arg0) = m ((c.tc : Thread Cert.AdamConfIdeal.nD Cert.AdamConfIdeal.τ).loc Cert.AdamConfIdeal.main_arg0)
          ∧ r.2.mem ((c.tc : Thread Cert.AdamConfIdeal.nD Cert.AdamConfIdeal.τ).loc Cert.AdamConfIdeal.main_arg1) = m ((c.tc : Thread Cert.AdamConfIdeal.nD Cert.AdamConfIdeal.τ).loc Cert.AdamConfIdeal.main_arg1)
          ∧ r.2.mem ((c.tc : Thread Cert.AdamConfIdeal.nD Cert.AdamConfIdeal.τ).loc Cert.AdamConfIdeal.main_arg2) = m ((c.tc : Thread Cert.AdamConfIdeal.nD Cert.AdamConfIdeal.τ).loc Cert.AdamConfIdeal.main_arg2)
          ∧ r.2.mem ((c.tc : Thread Cert.AdamConfIdeal.nD Cert.AdamConfIdeal.τ).loc Cert.AdamConfIdeal.main_arg3) = m ((c.tc : Thread Cert.AdamConfIdeal.nD Cert.AdamConfIdeal.τ).loc Cert.AdamConfIdeal.main_arg3))
      ∧ θ_run (Cert.AdamConfRefIdeal.defs (F := Ideal)) (onTc (τ := Cert.AdamConfRefIdeal.τ) (Cert.AdamConfRefIdeal.main (F := Ideal))) ⟨m', fun _ => 0, g'⟩ (fun r => ∀ c : Dev Cert.AdamConfRefIdeal.nD,
          r.2.mem ((c.tc : Thread Cert.AdamConfRefIdeal.nD Cert.AdamConfRefIdeal.τ).loc Cert.AdamConfRefIdeal.main_v23) = v0 c
          ∧ r.2.mem ((c.tc : Thread Cert.AdamConfRefIdeal.nD Cert.AdamConfRefIdeal.τ).loc Cert.AdamConfRefIdeal.main_v4) = v1 c
          ∧ r.2.mem ((c.tc : Thread Cert.AdamConfRefIdeal.nD Cert.AdamConfRefIdeal.τ).loc Cert.AdamConfRefIdeal.main_v10) = v2 c
          ∧ r.2.mem ((c.tc : Thread Cert.AdamConfRefIdeal.nD Cert.AdamConfRefIdeal.τ).loc Cert.AdamConfRefIdeal.main_arg0) = m' ((c.tc : Thread Cert.AdamConfRefIdeal.nD Cert.AdamConfRefIdeal.τ).loc Cert.AdamConfRefIdeal.main_arg0)
          ∧ r.2.mem ((c.tc : Thread Cert.AdamConfRefIdeal.nD Cert.AdamConfRefIdeal.τ).loc Cert.AdamConfRefIdeal.main_arg1) = m' ((c.tc : Thread Cert.AdamConfRefIdeal.nD Cert.AdamConfRefIdeal.τ).loc Cert.AdamConfRefIdeal.main_arg1)
          ∧ r.2.mem ((c.tc : Thread Cert.AdamConfRefIdeal.nD Cert.AdamConfRefIdeal.τ).loc Cert.AdamConfRefIdeal.main_arg2) = m' ((c.tc : Thread Cert.AdamConfRefIdeal.nD Cert.AdamConfRefIdeal.τ).loc Cert.AdamConfRefIdeal.main_arg2)
          ∧ r.2.mem ((c.tc : Thread Cert.AdamConfRefIdeal.nD Cert.AdamConfRefIdeal.τ).loc Cert.AdamConfRefIdeal.main_arg3) = m' ((c.tc : Thread Cert.AdamConfRefIdeal.nD Cert.AdamConfRefIdeal.τ).loc Cert.AdamConfRefIdeal.main_arg3))

def preserves_AdamShort_AdamShortIdeal : Prop :=
  True

def algebraic_AdamShortIdeal_AdamShortRefIdeal [hAdamShortIdeal : Cert.AdamShortIdeal.Facts] [hAdamShortRefIdeal : Cert.AdamShortRefIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg)
    (m' : (ℓ : Loc Cert.AdamShortRefIdeal.nD Cert.AdamShortRefIdeal.τ Cert.AdamShortRefIdeal.sig) → Buf (Elt Ideal) ℓ) (g' : Dev Cert.AdamShortRefIdeal.nD → PrngReg), Pre_AdamShortIdeal m →
    (∀ c : Dev Cert.AdamShortIdeal.nD,
      m' ((c.tc : Thread Cert.AdamShortRefIdeal.nD Cert.AdamShortRefIdeal.τ).loc Cert.AdamShortRefIdeal.main_arg0) = m ((c.tc : Thread Cert.AdamShortIdeal.nD Cert.AdamShortIdeal.τ).loc Cert.AdamShortIdeal.main_arg0)
      ∧ m' ((c.tc : Thread Cert.AdamShortRefIdeal.nD Cert.AdamShortRefIdeal.τ).loc Cert.AdamShortRefIdeal.main_arg1) = m ((c.tc : Thread Cert.AdamShortIdeal.nD Cert.AdamShortIdeal.τ).loc Cert.AdamShortIdeal.main_arg1)
      ∧ m' ((c.tc : Thread Cert.AdamShortRefIdeal.nD Cert.AdamShortRefIdeal.τ).loc Cert.AdamShortRefIdeal.main_arg2) = m ((c.tc : Thread Cert.AdamShortIdeal.nD Cert.AdamShortIdeal.τ).loc Cert.AdamShortIdeal.main_arg2)
      ∧ m' ((c.tc : Thread Cert.AdamShortRefIdeal.nD Cert.AdamShortRefIdeal.τ).loc Cert.AdamShortRefIdeal.main_arg3) = m ((c.tc : Thread Cert.AdamShortIdeal.nD Cert.AdamShortIdeal.τ).loc Cert.AdamShortIdeal.main_arg3)) →
    ∃ (v0 : (c : Dev Cert.AdamShortIdeal.nD) → Buf (Elt Ideal) ((c.tc : Thread Cert.AdamShortIdeal.nD Cert.AdamShortIdeal.τ).loc Cert.AdamShortIdeal.main_v4_0)) (v1 : (c : Dev Cert.AdamShortIdeal.nD) → Buf (Elt Ideal) ((c.tc : Thread Cert.AdamShortIdeal.nD Cert.AdamShortIdeal.τ).loc Cert.AdamShortIdeal.main_v4_1)) (v2 : (c : Dev Cert.AdamShortIdeal.nD) → Buf (Elt Ideal) ((c.tc : Thread Cert.AdamShortIdeal.nD Cert.AdamShortIdeal.τ).loc Cert.AdamShortIdeal.main_v4_2)),
      θ_run (Cert.AdamShortIdeal.defs (F := Ideal)) (onTc (τ := Cert.AdamShortIdeal.τ) (Cert.AdamShortIdeal.main (F := Ideal))) ⟨m, fun _ => 0, g⟩ (fun r => ∀ c : Dev Cert.AdamShortIdeal.nD,
          r.2.mem ((c.tc : Thread Cert.AdamShortIdeal.nD Cert.AdamShortIdeal.τ).loc Cert.AdamShortIdeal.main_v4_0) = v0 c
          ∧ r.2.mem ((c.tc : Thread Cert.AdamShortIdeal.nD Cert.AdamShortIdeal.τ).loc Cert.AdamShortIdeal.main_v4_1) = v1 c
          ∧ r.2.mem ((c.tc : Thread Cert.AdamShortIdeal.nD Cert.AdamShortIdeal.τ).loc Cert.AdamShortIdeal.main_v4_2) = v2 c
          ∧ r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
          ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
          ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
          ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ θ_run (Cert.AdamShortRefIdeal.defs (F := Ideal)) (onTc (τ := Cert.AdamShortRefIdeal.τ) (Cert.AdamShortRefIdeal.main (F := Ideal))) ⟨m', fun _ => 0, g'⟩ (fun r => ∀ c : Dev Cert.AdamShortRefIdeal.nD,
          r.2.mem ((c.tc : Thread Cert.AdamShortRefIdeal.nD Cert.AdamShortRefIdeal.τ).loc Cert.AdamShortRefIdeal.main_v24) = v0 c
          ∧ r.2.mem ((c.tc : Thread Cert.AdamShortRefIdeal.nD Cert.AdamShortRefIdeal.τ).loc Cert.AdamShortRefIdeal.main_v25) = v1 c
          ∧ r.2.mem ((c.tc : Thread Cert.AdamShortRefIdeal.nD Cert.AdamShortRefIdeal.τ).loc Cert.AdamShortRefIdeal.main_v26) = v2 c
          ∧ r.2.mem ((c.tc : Thread Cert.AdamShortRefIdeal.nD Cert.AdamShortRefIdeal.τ).loc Cert.AdamShortRefIdeal.main_arg0) = m' ((c.tc : Thread Cert.AdamShortRefIdeal.nD Cert.AdamShortRefIdeal.τ).loc Cert.AdamShortRefIdeal.main_arg0)
          ∧ r.2.mem ((c.tc : Thread Cert.AdamShortRefIdeal.nD Cert.AdamShortRefIdeal.τ).loc Cert.AdamShortRefIdeal.main_arg1) = m' ((c.tc : Thread Cert.AdamShortRefIdeal.nD Cert.AdamShortRefIdeal.τ).loc Cert.AdamShortRefIdeal.main_arg1)
          ∧ r.2.mem ((c.tc : Thread Cert.AdamShortRefIdeal.nD Cert.AdamShortRefIdeal.τ).loc Cert.AdamShortRefIdeal.main_arg2) = m' ((c.tc : Thread Cert.AdamShortRefIdeal.nD Cert.AdamShortRefIdeal.τ).loc Cert.AdamShortRefIdeal.main_arg2)
          ∧ r.2.mem ((c.tc : Thread Cert.AdamShortRefIdeal.nD Cert.AdamShortRefIdeal.τ).loc Cert.AdamShortRefIdeal.main_arg3) = m' ((c.tc : Thread Cert.AdamShortRefIdeal.nD Cert.AdamShortRefIdeal.τ).loc Cert.AdamShortRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_SumBig_SumBigIdeal : Prop :=
  True

def algebraic_SumBigIdeal_SumBigRefIdeal [hSumBigIdeal : Cert.SumBigIdeal.Facts] [hSumBigRefIdeal : Cert.SumBigRefIdeal.Facts] : Prop :=
  ∀ (m : (ℓ : Loc Cert.SumBigIdeal.nD Cert.SumBigIdeal.τ Cert.SumBigIdeal.sig) → Buf (Elt Ideal) ℓ) (g : Dev Cert.SumBigIdeal.nD → PrngReg)
    (m' : (ℓ : Loc Cert.SumBigRefIdeal.nD Cert.SumBigRefIdeal.τ Cert.SumBigRefIdeal.sig) → Buf (Elt Ideal) ℓ) (g' : Dev Cert.SumBigRefIdeal.nD → PrngReg), Pre_SumBigIdeal m →
    (∀ c : Dev Cert.SumBigIdeal.nD,
      m' ((c.tc : Thread Cert.SumBigRefIdeal.nD Cert.SumBigRefIdeal.τ).loc Cert.SumBigRefIdeal.main_arg0) = m ((c.tc : Thread Cert.SumBigIdeal.nD Cert.SumBigIdeal.τ).loc Cert.SumBigIdeal.main_arg0)
      ∧ m' ((c.tc : Thread Cert.SumBigRefIdeal.nD Cert.SumBigRefIdeal.τ).loc Cert.SumBigRefIdeal.main_arg1) = m ((c.tc : Thread Cert.SumBigIdeal.nD Cert.SumBigIdeal.τ).loc Cert.SumBigIdeal.main_arg1)) →
    ∃ (v0 : (c : Dev Cert.SumBigIdeal.nD) → Buf (Elt Ideal) ((c.tc : Thread Cert.SumBigIdeal.nD Cert.SumBigIdeal.τ).loc Cert.SumBigIdeal.main_v0)),
      θ_run (Cert.SumBigIdeal.defs (F := Ideal)) (onTc (τ := Cert.SumBigIdeal.τ) (Cert.SumBigIdeal.main (F := Ideal))) ⟨m, fun _ => 0, g⟩ (fun r => ∀ c : Dev Cert.SumBigIdeal.nD,
          r.2.mem ((c.tc : Thread Cert.SumBigIdeal.nD Cert.SumBigIdeal.τ).loc Cert.SumBigIdeal.main_v0) = v0 c
          ∧ r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0)
          ∧ r.2.mem ((c.tc : Thread Cert.SumBigIdeal.nD Cert.SumBigIdeal.τ).loc Cert.SumBigIdeal.main_arg1) = m ((c.tc : Thread Cert.SumBigIdeal.nD Cert.SumBigIdeal.τ).loc Cert.SumBigIdeal.main_arg1))
      ∧ θ_run (Cert.SumBigRefIdeal.defs (F := Ideal)) (onTc (τ := Cert.SumBigRefIdeal.τ) (Cert.SumBigRefIdeal.main (F := Ideal))) ⟨m', fun _ => 0, g'⟩ (fun r => ∀ c : Dev Cert.SumBigRefIdeal.nD,
          r.2.mem ((c.tc : Thread Cert.SumBigRefIdeal.nD Cert.SumBigRefIdeal.τ).loc Cert.SumBigRefIdeal.main_v2) = v0 c
          ∧ r.2.mem ((c.tc : Thread Cert.SumBigRefIdeal.nD Cert.SumBigRefIdeal.τ).loc Cert.SumBigRefIdeal.main_arg0) = m' ((c.tc : Thread Cert.SumBigRefIdeal.nD Cert.SumBigRefIdeal.τ).loc Cert.SumBigRefIdeal.main_arg0)
          ∧ r.2.mem ((c.tc : Thread Cert.SumBigRefIdeal.nD Cert.SumBigRefIdeal.τ).loc Cert.SumBigRefIdeal.main_arg1) = m' ((c.tc : Thread Cert.SumBigRefIdeal.nD Cert.SumBigRefIdeal.τ).loc Cert.SumBigRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hWgrad : Cert.Wgrad.Facts) (hWgradIdeal : Cert.WgradIdeal.Facts) (hWgradRefIdeal : Cert.WgradRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hBackOut : Cert.BackOut.Facts) (hBackOutIdeal : Cert.BackOutIdeal.Facts) (hBackOutRefIdeal : Cert.BackOutRefIdeal.Facts) (hBackIn : Cert.BackIn.Facts) (hBackInIdeal : Cert.BackInIdeal.Facts) (hBackInRefIdeal : Cert.BackInRefIdeal.Facts) (hWgradIn : Cert.WgradIn.Facts) (hWgradInIdeal : Cert.WgradInIdeal.Facts) (hWgradInRefIdeal : Cert.WgradInRefIdeal.Facts) (hWgradOut : Cert.WgradOut.Facts) (hWgradOutIdeal : Cert.WgradOutIdeal.Facts) (hWgradOutRefIdeal : Cert.WgradOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamNorm : Cert.AdamNorm.Facts) (hAdamNormIdeal : Cert.AdamNormIdeal.Facts) (hAdamNormRefIdeal : Cert.AdamNormRefIdeal.Facts) (hAdamPool : Cert.AdamPool.Facts) (hAdamPoolIdeal : Cert.AdamPoolIdeal.Facts) (hAdamPoolRefIdeal : Cert.AdamPoolRefIdeal.Facts) (hAdamScale : Cert.AdamScale.Facts) (hAdamScaleIdeal : Cert.AdamScaleIdeal.Facts) (hAdamScaleRefIdeal : Cert.AdamScaleRefIdeal.Facts) (hAdamConf : Cert.AdamConf.Facts) (hAdamConfIdeal : Cert.AdamConfIdeal.Facts) (hAdamConfRefIdeal : Cert.AdamConfRefIdeal.Facts) (hAdamShort : Cert.AdamShort.Facts) (hAdamShortIdeal : Cert.AdamShortIdeal.Facts) (hAdamShortRefIdeal : Cert.AdamShortRefIdeal.Facts) (hAdamConv : Cert.AdamConv.Facts) (hAdamConvIdeal : Cert.AdamConvIdeal.Facts) (hAdamConvRefIdeal : Cert.AdamConvRefIdeal.Facts) (hLoss : Cert.Loss.Facts) (hLossIdeal : Cert.LossIdeal.Facts) (hLossRefIdeal : Cert.LossRefIdeal.Facts) (hSumBig : Cert.SumBig.Facts) (hSumBigIdeal : Cert.SumBigIdeal.Facts) (hSumBigRefIdeal : Cert.SumBigRefIdeal.Facts) (hSumSmall : Cert.SumSmall.Facts) (hSumSmallIdeal : Cert.SumSmallIdeal.Facts) (hSumSmallRefIdeal : Cert.SumSmallRefIdeal.Facts) (hPre_finite : Cert.Pre_finite.Facts) (hPre_finite_back_out : Cert.Pre_finite_back_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wgrad (hWgrad := hWgrad)
    ∧ quiescent_WgradIdeal (hWgradIdeal := hWgradIdeal)
    ∧ quiescent_WgradRefIdeal (hWgradRefIdeal := hWgradRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_BackOut (hBackOut := hBackOut)
    ∧ quiescent_BackOutIdeal (hBackOutIdeal := hBackOutIdeal)
    ∧ quiescent_BackOutIdeal_pre_finite_back_out (hBackOutIdeal := hBackOutIdeal) (hPre_finite_back_out := hPre_finite_back_out)
    ∧ quiescent_BackOutRefIdeal (hBackOutRefIdeal := hBackOutRefIdeal)
    ∧ quiescent_BackOutRefIdeal_pre_finite_back_out (hBackOutRefIdeal := hBackOutRefIdeal) (hPre_finite_back_out := hPre_finite_back_out)
    ∧ quiescent_BackIn (hBackIn := hBackIn)
    ∧ quiescent_BackInIdeal (hBackInIdeal := hBackInIdeal)
    ∧ quiescent_BackInRefIdeal (hBackInRefIdeal := hBackInRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ quiescent_AdamConf (hAdamConf := hAdamConf)
    ∧ quiescent_AdamConfIdeal (hAdamConfIdeal := hAdamConfIdeal)
    ∧ quiescent_AdamConfRefIdeal (hAdamConfRefIdeal := hAdamConfRefIdeal)
    ∧ quiescent_AdamShort (hAdamShort := hAdamShort)
    ∧ quiescent_AdamShortIdeal (hAdamShortIdeal := hAdamShortIdeal)
    ∧ quiescent_AdamShortRefIdeal (hAdamShortRefIdeal := hAdamShortRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_Loss (hLoss := hLoss)
    ∧ quiescent_LossIdeal (hLossIdeal := hLossIdeal)
    ∧ quiescent_LossRefIdeal (hLossRefIdeal := hLossRefIdeal)
    ∧ quiescent_SumBig (hSumBig := hSumBig)
    ∧ quiescent_SumBigIdeal (hSumBigIdeal := hSumBigIdeal)
    ∧ quiescent_SumBigRefIdeal (hSumBigRefIdeal := hSumBigRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Wgrad_WgradIdeal
    ∧ algebraic_WgradIdeal_WgradRefIdeal (hWgradIdeal := hWgradIdeal) (hWgradRefIdeal := hWgradRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_BackOut_BackOutIdeal
    ∧ algebraic_BackOutIdeal_BackOutRefIdeal_pre_finite_back_out (hBackOutIdeal := hBackOutIdeal) (hBackOutRefIdeal := hBackOutRefIdeal) (hPre_finite_back_out := hPre_finite_back_out)
    ∧ preserves_BackIn_BackInIdeal
    ∧ algebraic_BackInIdeal_BackInRefIdeal (hBackInIdeal := hBackInIdeal) (hBackInRefIdeal := hBackInRefIdeal)
    ∧ preserves_WgradIn_WgradInIdeal
    ∧ algebraic_WgradInIdeal_WgradInRefIdeal (hWgradInIdeal := hWgradInIdeal) (hWgradInRefIdeal := hWgradInRefIdeal)
    ∧ preserves_WgradOut_WgradOutIdeal
    ∧ algebraic_WgradOutIdeal_WgradOutRefIdeal (hWgradOutIdeal := hWgradOutIdeal) (hWgradOutRefIdeal := hWgradOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamScale_AdamScaleIdeal
    ∧ algebraic_AdamScaleIdeal_AdamScaleRefIdeal (hAdamScaleIdeal := hAdamScaleIdeal) (hAdamScaleRefIdeal := hAdamScaleRefIdeal)
    ∧ preserves_AdamConf_AdamConfIdeal
    ∧ algebraic_AdamConfIdeal_AdamConfRefIdeal (hAdamConfIdeal := hAdamConfIdeal) (hAdamConfRefIdeal := hAdamConfRefIdeal)
    ∧ preserves_AdamShort_AdamShortIdeal
    ∧ algebraic_AdamShortIdeal_AdamShortRefIdeal (hAdamShortIdeal := hAdamShortIdeal) (hAdamShortRefIdeal := hAdamShortRefIdeal)
    ∧ preserves_AdamConv_AdamConvIdeal
    ∧ algebraic_AdamConvIdeal_AdamConvRefIdeal (hAdamConvIdeal := hAdamConvIdeal) (hAdamConvRefIdeal := hAdamConvRefIdeal)
    ∧ preserves_Loss_LossIdeal
    ∧ algebraic_LossIdeal_LossRefIdeal (hLossIdeal := hLossIdeal) (hLossRefIdeal := hLossRefIdeal)
    ∧ preserves_SumBig_SumBigIdeal
    ∧ algebraic_SumBigIdeal_SumBigRefIdeal (hSumBigIdeal := hSumBigIdeal) (hSumBigRefIdeal := hSumBigRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S1x1024 .f32) (main_arg5 : FVec F S16384x1024 .f32) : IVec S16384x1024 1 × IVec S1024x2816 1 × IVec S1024x2816 1 × IVec S2816x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_finite_back_out.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1024x1024 .f32) (main_arg2 : FVec F S1x1024 .f32) (main_arg3 : FVec F S16384x1024 .f32) : IVec S16384x1024 1 × IVec S1024x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Kernel.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S256x1 : Shape := ⟨2, ![256, 1]⟩
abbrev S256x2816 : Shape := ⟨2, ![256, 2816]⟩
abbrev S1024 : Shape := ⟨1, ![1024]⟩
abbrev S256 : Shape := ⟨1, ![256]⟩
abbrev S256x256 : Shape := ⟨2, ![256, 256]⟩

abbrev nBuf : Space → Nat
  | .hbm => 62
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S2816x1024, .bf16⟩
  | .hbm, ⟨50, _⟩ => ⟨S2816x1024, .f32⟩
  | .hbm, ⟨51, _⟩ => ⟨S2816x1024, .bf16⟩
  | .hbm, ⟨52, _⟩ => ⟨S2816x1024, .f32⟩
  | .hbm, ⟨53, _⟩ => ⟨S2816x1024, .bf16⟩
  | .hbm, ⟨54, _⟩ => ⟨S16384x2816, .bf16⟩
  | .hbm, ⟨55, _⟩ => ⟨S16384x2816, .bf16⟩
  | .hbm, ⟨56, _⟩ => ⟨S16384x1024, .f32⟩
  | .hbm, ⟨57, _⟩ => ⟨S16384x1024, .bf16⟩
  | .hbm, ⟨58, _⟩ => ⟨S16384x2816, .bf16⟩
  | .hbm, ⟨59, _⟩ => ⟨S16384x2816, .bf16⟩
  | .hbm, ⟨60, _⟩ => ⟨S1x1024, .f32⟩
  | .hbm, ⟨61, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S2816x1024, .bf16⟩
  | .local _ .vmem, ⟨8, _⟩ => ⟨S2816x1024, .bf16⟩
  | .local _ .vmem, ⟨9, _⟩ => ⟨S2816x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | .local _ .vmem, ⟨23, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev main_v35_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S16384x1024, .f32⟩
  | 1 => ⟨S1024x2816, .f32⟩
  | 2 => ⟨S1024x2816, .f32⟩
  | 3 => ⟨S2816x1024, .f32⟩
  | 4 => ⟨S1x1024, .f32⟩
  | 5 => ⟨S16384x1024, .f32⟩
  | 6 => ⟨S_, .f32⟩
  | 7 => ⟨S16384x2816, .f32⟩
  | 8 => ⟨S_, .f32⟩
  | 9 => ⟨S16384x1024, .f32⟩
  | 10 => ⟨S_, .f32⟩
  | 11 => ⟨S1x1024, .f32⟩
  | 12 => ⟨S16384x2816, .f32⟩
  | 13 => ⟨S16384x2816, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S_, .f32⟩
  | 20 => ⟨S16384x2816, .f32⟩
  | 21 => ⟨S16384x2816, .f32⟩
  | 22 => ⟨S_, .f32⟩
  | 23 => ⟨S16384x2816, .f32⟩
  | 24 => ⟨S16384x2816, .f32⟩
  | 25 => ⟨S16384x2816, .f32⟩
  | 26 => ⟨S16384x2816, .f32⟩
  | 27 => ⟨S16384x2816, .f32⟩
  | 28 => ⟨S16384x2816, .f32⟩
  | 29 => ⟨S16384x2816, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x1024, .f32⟩
  | 58 => ⟨S16384x1024, .f32⟩
  | 59 => ⟨S_, .f32⟩
  | 60 => ⟨S16384x1, .f32⟩
  | 61 => ⟨S16384x1, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S_, .f32⟩
  | 75 => ⟨S1024, .f32⟩
  | 76 => ⟨S1x1024, .f32⟩
  | 77 => ⟨S16384x1024, .f32⟩
  | 78 => ⟨S_, .f32⟩
  | 79 => ⟨S1024, .f32⟩
  | 80 => ⟨S1x1024, .f32⟩
  | 81 => ⟨S16384x1024, .f32⟩
  | 82 => ⟨S16384x1024, .f32⟩
  | 83 => ⟨S16384x1024, .f32⟩
  | 84 => ⟨S_, .f32⟩
  | 85 => ⟨S16384, .f32⟩
  | 86 => ⟨S16384x1, .f32⟩
  | 87 => ⟨S16384x1024, .f32⟩
  | 88 => ⟨S16384x1024, .f32⟩
  | 89 => ⟨S16384x1, .f32⟩
  | 90 => ⟨S16384x1024, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S16384x1024, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S16384x2816, .f32⟩
  | 121 => ⟨S16384x2816, .f32⟩
  | 122 => ⟨S16384x2816, .f32⟩
  | 123 => ⟨S16384x1024, .f32⟩
  | 124 => ⟨S16384x1024, .f32⟩
  | 125 => ⟨S16384x2816, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x1024, .f32⟩
  | 2 => ⟨S16384x1024, .f32⟩
  | 3 => ⟨S16384x1024, .bf16⟩
  | 4 => ⟨S16384x2816, .bf16⟩
  | 5 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_cst_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_20 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩

abbrev nD : Nat := 1
abbrev τ : Topo := Topo.v7x

variable {F : FTy → Type} [FloatOps F]
-- ==== Wgrad.lean ====
abbrev S16384x1024 : Shape := ⟨2, ![16384, 1024]⟩
abbrev S16384x2816 : Shape := ⟨2, ![16384, 2816]⟩
abbrev S1x1 : Shape := ⟨2, ![1, 1]⟩
abbrev S8x352x1024 : Shape := ⟨3, ![8, 352, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S1x1, .f32⟩
  | .hbm, ⟨3, _⟩ => ⟨S8x352x1024, .bf16⟩
  | .hbm, ⟨4, _⟩ => ⟨S16384x2816, .bf16⟩
  | .hbm, ⟨5, _⟩ => ⟨S16384x1024, .bf16⟩
  | .hbm, ⟨6, _⟩ => ⟨S2816x1024, .f32⟩
  | .hbm, ⟨7, _⟩ => ⟨S8x352x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S4x352x1024, .bf16⟩
  | .local _ .vmem, ⟨7, _⟩ => ⟨S4x352x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgradRefIdeal.lean ====
abbrev S16384x1024 : Shape := ⟨2, ![16384, 1024]⟩
abbrev S16384x2816 : Shape := ⟨2, ![16384, 2816]⟩
abbrev S1x1 : Shape := ⟨2, ![1, 1]⟩
abbrev S8x352x1024 : Shape := ⟨3, ![8, 352, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S1x1, .f32⟩
  | .hbm, ⟨3, _⟩ => ⟨S8x352x1024, .bf16⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S8x352x1024, .f32⟩
  | .hbm, ⟨11, _⟩ => ⟨S8x352x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Up.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S16384x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2816x1024, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpRefIdeal.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S16384x2816, .f32⟩
  | .hbm, ⟨11, _⟩ => ⟨S16384x1024, .bf16⟩
  | .hbm, ⟨12, _⟩ => ⟨S16384x2816, .bf16⟩
  | .hbm, ⟨13, _⟩ => ⟨S16384x2816, .bf16⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S16384x1 : Shape := ⟨2, ![16384, 1]⟩
abbrev S1024x2816 : Shape := ⟨2, ![1024, 2816]⟩
abbrev S1024x1024 : Shape := ⟨2, ![1024, 1024]⟩
abbrev S1024x1 : Shape := ⟨2, ![1024, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x2816, .bf16⟩
  | .hbm, ⟨6, _⟩ => ⟨S2816x1024, .bf16⟩
  | .hbm, ⟨7, _⟩ => ⟨S16384x1024, .f32⟩
  | .hbm, ⟨8, _⟩ => ⟨S16384x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== In.lean ====
abbrev S16384x1024 : Shape := ⟨2, ![16384, 1024]⟩
abbrev S1x1024 : Shape := ⟨2, ![1, 1024]⟩
abbrev S1024x2176 : Shape := ⟨2, ![1024, 2176]⟩
abbrev S2176x1024 : Shape := ⟨2, ![2176, 1024]⟩
abbrev S16384x2176 : Shape := ⟨2, ![16384, 2176]⟩
abbrev S1024x1024 : Shape := ⟨2, ![1024, 1024]⟩
abbrev S256x1024 : Shape := ⟨2, ![256, 1024]⟩
abbrev S256x2176 : Shape := ⟨2, ![256, 2176]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2176, .f32⟩
  | .hbm, ⟨4, _⟩ => ⟨S2176x1024, .f32⟩
  | .hbm, ⟨5, _⟩ => ⟨S2176x1024, .bf16⟩
  | .hbm, ⟨6, _⟩ => ⟨S16384x2176, .bf16⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S2176x1024, .bf16⟩
  | .local _ .vmem, ⟨5, _⟩ => ⟨S1024x2176, .bf16⟩
  | .local _ .vmem, ⟨6, _⟩ => ⟨S1024x2176, .bf16⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InRefIdeal.lean ====
abbrev S16384x1024 : Shape := ⟨2, ![16384, 1024]⟩
abbrev S1x1024 : Shape := ⟨2, ![1, 1024]⟩
abbrev S1024x2176 : Shape := ⟨2, ![1024, 2176]⟩
abbrev S16384x2176 : Shape := ⟨2, ![16384, 2176]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x2176, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x2176, .f32⟩
  | .hbm, ⟨9, _⟩ => ⟨S16384x2176, .bf16⟩
  | .hbm, ⟨10, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1x1024 : Shape := ⟨2, ![1, 1024]⟩
abbrev S16384x1 : Shape := ⟨2, ![16384, 1]⟩
abbrev S1024x1 : Shape := ⟨2, ![1024, 1]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .bf16⟩
  | .hbm, ⟨6, _⟩ => ⟨S1024x1024, .bf16⟩
  | .hbm, ⟨7, _⟩ => ⟨S16384x1024, .f32⟩
  | .hbm, ⟨8, _⟩ => ⟨S16384x1, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== BackOut.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S256x1024 : Shape := ⟨2, ![256, 1024]⟩
abbrev S1024 : Shape := ⟨1, ![1024]⟩
abbrev S256x1 : Shape := ⟨2, ![256, 1]⟩
abbrev S256 : Shape := ⟨1, ![256]⟩

abbrev nBuf : Space → Nat
  | .hbm => 33
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .bf16⟩
  | .hbm, ⟨28, _⟩ => ⟨S16384x1024, .f32⟩
  | .hbm, ⟨29, _⟩ => ⟨S16384x1024, .bf16⟩
  | .hbm, ⟨30, _⟩ => ⟨S16384x1024, .bf16⟩
  | .hbm, ⟨31, _⟩ => ⟨S1x1024, .f32⟩
  | .hbm, ⟨32, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackOutRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .bf16⟩
  | .hbm, ⟨86, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== BackIn.lean ====
abbrev S16384x2176 : Shape := ⟨2, ![16384, 2176]⟩
abbrev S1024x2176 : Shape := ⟨2, ![1024, 2176]⟩
abbrev S16384x1024 : Shape := ⟨2, ![16384, 1024]⟩
abbrev S2176x1024 : Shape := ⟨2, ![2176, 1024]⟩
abbrev S1024x1024 : Shape := ⟨2, ![1024, 1024]⟩
abbrev S256x2176 : Shape := ⟨2, ![256, 2176]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x2176, .f32⟩
  | .hbm, ⟨1, _⟩ => ⟨S1024x2176, .f32⟩
  | .hbm, ⟨2, _⟩ => ⟨S16384x1024, .f32⟩
  | .hbm, ⟨3, _⟩ => ⟨S16384x2176, .bf16⟩
  | .hbm, ⟨4, _⟩ => ⟨S2176x1024, .f32⟩
  | .hbm, ⟨5, _⟩ => ⟨S2176x1024, .bf16⟩
  | .hbm, ⟨6, _⟩ => ⟨S16384x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BackInRefIdeal.lean ====
abbrev S16384x2176 : Shape := ⟨2, ![16384, 2176]⟩
abbrev S1024x2176 : Shape := ⟨2, ![1024, 2176]⟩
abbrev S16384x1024 : Shape := ⟨2, ![16384, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S1024x2176, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2176, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== WgradIn.lean ====
abbrev S16384x1024 : Shape := ⟨2, ![16384, 1024]⟩
abbrev S16384x2176 : Shape := ⟨2, ![16384, 2176]⟩
abbrev S8x272x1024 : Shape := ⟨3, ![8, 272, 1024]⟩
abbrev S2176x1024 : Shape := ⟨2, ![2176, 1024]⟩
abbrev S2048x2176 : Shape := ⟨2, ![2048, 2176]⟩
abbrev S2048x1024 : Shape := ⟨2, ![2048, 1024]⟩
abbrev S272x1024 : Shape := ⟨2, ![272, 1024]⟩
abbrev S1x272x1024 : Shape := ⟨3, ![1, 272, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2176, .f32⟩
  | .hbm, ⟨2, _⟩ => ⟨S8x272x1024, .bf16⟩
  | .hbm, ⟨3, _⟩ => ⟨S16384x2176, .bf16⟩
  | .hbm, ⟨4, _⟩ => ⟨S16384x1024, .bf16⟩
  | .hbm, ⟨5, _⟩ => ⟨S2176x1024, .f32⟩
  | .hbm, ⟨6, _⟩ => ⟨S8x272x1024, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S2176x1024, .f32⟩
  | .local _ .vmem, ⟨5, _⟩ => ⟨S8x272x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x272x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== WgradInRefIdeal.lean ====
abbrev S16384x1024 : Shape := ⟨2, ![16384, 1024]⟩
abbrev S16384x2176 : Shape := ⟨2, ![16384, 2176]⟩
abbrev S8x272x1024 : Shape := ⟨3, ![8, 272, 1024]⟩
abbrev S_ : Shape := ⟨0, ![]⟩
abbrev S1024x2176 : Shape := ⟨2, ![1024, 2176]⟩
abbrev S2176x1024 : Shape := ⟨2, ![2176, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2176, .f32⟩
  | .hbm, ⟨2, _⟩ => ⟨S8x272x1024, .bf16⟩
  | .hbm, ⟨3, _⟩ => ⟨S_, .f32⟩
  | .hbm, ⟨4, _⟩ => ⟨S1024x2176, .f32⟩
  | .hbm, ⟨5, _⟩ => ⟨S16384x2176, .f32⟩
  | .hbm, ⟨6, _⟩ => ⟨S2176x1024, .f32⟩
  | .hbm, ⟨7, _⟩ => ⟨S1024x2176, .f32⟩
  | .hbm, ⟨8, _⟩ => ⟨S2176x1024, .f32⟩
  | .hbm, ⟨9, _⟩ => ⟨S8x272x1024, .f32⟩
  | .hbm, ⟨10, _⟩ => ⟨S8x272x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WgradOut.lean ====
abbrev S16384x1024 : Shape := ⟨2, ![16384, 1024]⟩
abbrev S8x128x1024 : Shape := ⟨3, ![8, 128, 1024]⟩
abbrev S1024x1024 : Shape := ⟨2, ![1024, 1024]⟩
abbrev S2048x1024 : Shape := ⟨2, ![2048, 1024]⟩
abbrev S128x1024 : Shape := ⟨2, ![128, 1024]⟩
abbrev S1x128x1024 : Shape := ⟨3, ![1, 128, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128x1024, .bf16⟩
  | .hbm, ⟨3, _⟩ => ⟨S16384x1024, .bf16⟩
  | .hbm, ⟨4, _⟩ => ⟨S16384x1024, .bf16⟩
  | .hbm, ⟨5, _⟩ => ⟨S1024x1024, .f32⟩
  | .hbm, ⟨6, _⟩ => ⟨S8x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S8x128x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== WgradOutRefIdeal.lean ====
abbrev S16384x1024 : Shape := ⟨2, ![16384, 1024]⟩
abbrev S8x128x1024 : Shape := ⟨3, ![8, 128, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128x1024, .bf16⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S8x128x1024, .f32⟩
  | .hbm, ⟨9, _⟩ => ⟨S8x128x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamUp.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S4x1024x272 : Shape := ⟨3, ![4, 1024, 272]⟩
abbrev S4096x272 : Shape := ⟨2, ![4096, 272]⟩
abbrev S512x272 : Shape := ⟨2, ![512, 272]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x272, .f32⟩
  | .hbm, ⟨1, _⟩ => ⟨S4x1024x272, .f32⟩
  | .hbm, ⟨2, _⟩ => ⟨S4x1024x272, .f32⟩
  | .hbm, ⟨3, _⟩ => ⟨S4x1024x272, .f32⟩
  | .hbm, ⟨4, _⟩ => ⟨S4096x272, .f32⟩
  | .hbm, ⟨5, _⟩ => ⟨S4096x272, .f32⟩
  | .hbm, ⟨6, _⟩ => ⟨S4096x272, .f32⟩
  | .hbm, ⟨7, _⟩ => ⟨S4096x272, .f32⟩
  | .hbm, ⟨8, _⟩ => ⟨S4096x272, .f32⟩
  | .hbm, ⟨9, _⟩ => ⟨S4096x272, .f32⟩
  | .hbm, ⟨10, _⟩ => ⟨S4096x272, .f32⟩
  | .local _ .vmem, ⟨0, _⟩ => ⟨S512x272, .f32⟩
  | .local _ .vmem, ⟨1, _⟩ => ⟨S512x272, .f32⟩
  | .local _ .vmem, ⟨2, _⟩ => ⟨S512x272, .f32⟩
  | .local _ .vmem, ⟨3, _⟩ => ⟨S512x272, .f32⟩
  | .local _ .vmem, ⟨4, _⟩ => ⟨S512x272, .f32⟩
  | .local _ .vmem, ⟨5, _⟩ => ⟨S512x272, .f32⟩
  | .local _ .vmem, ⟨6, _⟩ => ⟨S512x272, .f32⟩
  | .local _ .vmem, ⟨7, _⟩ => ⟨S512x272, .f32⟩
  | .local _ .vmem, ⟨8, _⟩ => ⟨S512x272, .f32⟩
  | .local _ .vmem, ⟨9, _⟩ => ⟨S512x272, .f32⟩
  | .local _ .vmem, ⟨10, _⟩ => ⟨S512x272, .f32⟩
  | .local _ .vmem, ⟨11, _⟩ => ⟨S512x272, .f32⟩
  | .local _ .vmem, ⟨12, _⟩ => ⟨S512x272, .f32⟩
  | .local _ .vmem, ⟨13, _⟩ => ⟨S512x272, .f32⟩
  | _, _ => ⟨S4x1024x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x272 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x272 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x272 : Shape := ⟨3, ![4, 1024, 272]⟩
abbrev S4096x272 : Shape := ⟨2, ![4096, 272]⟩
abbrev S512x272 : Shape := ⟨2, ![512, 272]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x272, .f32⟩
  | .hbm, ⟨1, _⟩ => ⟨S4x1024x272, .f32⟩
  | .hbm, ⟨2, _⟩ => ⟨S4x1024x272, .f32⟩
  | .hbm, ⟨3, _⟩ => ⟨S4x1024x272, .f32⟩
  | .hbm, ⟨4, _⟩ => ⟨S4096x272, .f32⟩
  | .hbm, ⟨5, _⟩ => ⟨S4096x272, .f32⟩
  | .hbm, ⟨6, _⟩ => ⟨S4096x272, .f32⟩
  | .hbm, ⟨7, _⟩ => ⟨S4096x272, .f32⟩
  | .hbm, ⟨8, _⟩ => ⟨S4096x272, .f32⟩
  | .hbm, ⟨9, _⟩ => ⟨S4096x272, .f32⟩
  | .hbm, ⟨10, _⟩ => ⟨S4096x272, .f32⟩
  | .local _ .vmem, ⟨0, _⟩ => ⟨S512x272, .f32⟩
  | .local _ .vmem, ⟨1, _⟩ => ⟨S512x272, .f32⟩
  | .local _ .vmem, ⟨2, _⟩ => ⟨S512x272, .f32⟩
  | .local _ .vmem, ⟨3, _⟩ => ⟨S512x272, .f32⟩
  | .local _ .vmem, ⟨4, _⟩ => ⟨S512x272, .f32⟩
  | .local _ .vmem, ⟨5, _⟩ => ⟨S512x272, .f32⟩
  | .local _ .vmem, ⟨6, _⟩ => ⟨S512x272, .f32⟩
  | .local _ .vmem, ⟨7, _⟩ => ⟨S512x272, .f32⟩
  | .local _ .vmem, ⟨8, _⟩ => ⟨S512x272, .f32⟩
  | .local _ .vmem, ⟨9, _⟩ => ⟨S512x272, .f32⟩
  | .local _ .vmem, ⟨10, _⟩ => ⟨S512x272, .f32⟩
  | .local _ .vmem, ⟨11, _⟩ => ⟨S512x272, .f32⟩
  | .local _ .vmem, ⟨12, _⟩ => ⟨S512x272, .f32⟩
  | .local _ .vmem, ⟨13, _⟩ => ⟨S512x272, .f32⟩
  | _, _ => ⟨S4x1024x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x272 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x272 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x272 : Shape := ⟨3, ![4, 1024, 272]⟩
abbrev S_ : Shape := ⟨0, ![]⟩
abbrev S4096x272 : Shape := ⟨2, ![4096, 272]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x272, .f32⟩
  | .hbm, ⟨1, _⟩ => ⟨S4x1024x272, .f32⟩
  | .hbm, ⟨2, _⟩ => ⟨S4x1024x272, .f32⟩
  | .hbm, ⟨3, _⟩ => ⟨S4x1024x272, .f32⟩
  | .hbm, ⟨4, _⟩ => ⟨S_, .f32⟩
  | .hbm, ⟨5, _⟩ => ⟨S4x1024x272, .f32⟩
  | .hbm, ⟨6, _⟩ => ⟨S4x1024x272, .f32⟩
  | .hbm, ⟨7, _⟩ => ⟨S_, .f32⟩
  | .hbm, ⟨8, _⟩ => ⟨S4x1024x272, .f32⟩
  | .hbm, ⟨9, _⟩ => ⟨S4x1024x272, .f32⟩
  | .hbm, ⟨10, _⟩ => ⟨S4x1024x272, .f32⟩
  | .hbm, ⟨11, _⟩ => ⟨S_, .f32⟩
  | .hbm, ⟨12, _⟩ => ⟨S4x1024x272, .f32⟩
  | .hbm, ⟨13, _⟩ => ⟨S4x1024x272, .f32⟩
  | .hbm, ⟨14, _⟩ => ⟨S4x1024x272, .f32⟩
  | .hbm, ⟨15, _⟩ => ⟨S_, .f32⟩
  | .hbm, ⟨16, _⟩ => ⟨S4x1024x272, .f32⟩
  | .hbm, ⟨17, _⟩ => ⟨S4x1024x272, .f32⟩
  | .hbm, ⟨18, _⟩ => ⟨S4x1024x272, .f32⟩
  | .hbm, ⟨19, _⟩ => ⟨S_, .f32⟩
  | .hbm, ⟨20, _⟩ => ⟨S4x1024x272, .f32⟩
  | .hbm, ⟨21, _⟩ => ⟨S4x1024x272, .f32⟩
  | .hbm, ⟨22, _⟩ => ⟨S_, .f32⟩
  | .hbm, ⟨23, _⟩ => ⟨S4x1024x272, .f32⟩
  | .hbm, ⟨24, _⟩ => ⟨S4x1024x272, .f32⟩
  | .hbm, ⟨25, _⟩ => ⟨S4x1024x272, .f32⟩
  | .hbm, ⟨26, _⟩ => ⟨S_, .f32⟩
  | .hbm, ⟨27, _⟩ => ⟨S4x1024x272, .f32⟩
  | .hbm, ⟨28, _⟩ => ⟨S4x1024x272, .f32⟩
  | .hbm, ⟨29, _⟩ => ⟨S4x1024x272, .f32⟩
  | .hbm, ⟨30, _⟩ => ⟨S_, .f32⟩
  | .hbm, ⟨31, _⟩ => ⟨S4x1024x272, .f32⟩
  | .hbm, ⟨32, _⟩ => ⟨S4x1024x272, .f32⟩
  | .hbm, ⟨33, _⟩ => ⟨S4x1024x272, .f32⟩
  | .hbm, ⟨34, _⟩ => ⟨S_, .f32⟩
  | .hbm, ⟨35, _⟩ => ⟨S4x1024x272, .f32⟩
  | .hbm, ⟨36, _⟩ => ⟨S4x1024x272, .f32⟩
  | .hbm, ⟨37, _⟩ => ⟨S4096x272, .f32⟩
  | .hbm, ⟨38, _⟩ => ⟨S4096x272, .f32⟩
  | .hbm, ⟨39, _⟩ => ⟨S4096x272, .f32⟩
  | _, _ => ⟨S4x1024x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S4x4x64x64 : Shape := ⟨4, ![4, 4, 64, 64]⟩
abbrev S1024x64 : Shape := ⟨2, ![1024, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolIdeal.lean ====
abbrev S4x4x64x64 : Shape := ⟨4, ![4, 4, 64, 64]⟩
abbrev S1024x64 : Shape := ⟨2, ![1024, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolRefIdeal.lean ====
abbrev S4x4x64x64 : Shape := ⟨4, ![4, 4, 64, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S_, .f32⟩
  | .hbm, ⟨5, _⟩ => ⟨S4x4x64x64, .f32⟩
  | .hbm, ⟨6, _⟩ => ⟨S4x4x64x64, .f32⟩
  | .hbm, ⟨7, _⟩ => ⟨S_, .f32⟩
  | .hbm, ⟨8, _⟩ => ⟨S4x4x64x64, .f32⟩
  | .hbm, ⟨9, _⟩ => ⟨S4x4x64x64, .f32⟩
  | .hbm, ⟨10, _⟩ => ⟨S4x4x64x64, .f32⟩
  | .hbm, ⟨11, _⟩ => ⟨S_, .f32⟩
  | .hbm, ⟨12, _⟩ => ⟨S4x4x64x64, .f32⟩
  | .hbm, ⟨13, _⟩ => ⟨S4x4x64x64, .f32⟩
  | .hbm, ⟨14, _⟩ => ⟨S4x4x64x64, .f32⟩
  | .hbm, ⟨15, _⟩ => ⟨S_, .f32⟩
  | .hbm, ⟨16, _⟩ => ⟨S4x4x64x64, .f32⟩
  | .hbm, ⟨17, _⟩ => ⟨S4x4x64x64, .f32⟩
  | .hbm, ⟨18, _⟩ => ⟨S4x4x64x64, .f32⟩
  | .hbm, ⟨19, _⟩ => ⟨S_, .f32⟩
  | .hbm, ⟨20, _⟩ => ⟨S4x4x64x64, .f32⟩
  | .hbm, ⟨21, _⟩ => ⟨S4x4x64x64, .f32⟩
  | .hbm, ⟨22, _⟩ => ⟨S_, .f32⟩
  | .hbm, ⟨23, _⟩ => ⟨S4x4x64x64, .f32⟩
  | .hbm, ⟨24, _⟩ => ⟨S4x4x64x64, .f32⟩
  | .hbm, ⟨25, _⟩ => ⟨S4x4x64x64, .f32⟩
  | .hbm, ⟨26, _⟩ => ⟨S_, .f32⟩
  | .hbm, ⟨27, _⟩ => ⟨S4x4x64x64, .f32⟩
  | .hbm, ⟨28, _⟩ => ⟨S4x4x64x64, .f32⟩
  | .hbm, ⟨29, _⟩ => ⟨S4x4x64x64, .f32⟩
  | .hbm, ⟨30, _⟩ => ⟨S_, .f32⟩
  | .hbm, ⟨31, _⟩ => ⟨S4x4x64x64, .f32⟩
  | .hbm, ⟨32, _⟩ => ⟨S4x4x64x64, .f32⟩
  | .hbm, ⟨33, _⟩ => ⟨S4x4x64x64, .f32⟩
  | .hbm, ⟨34, _⟩ => ⟨S_, .f32⟩
  | .hbm, ⟨35, _⟩ => ⟨S4x4x64x64, .f32⟩
  | .hbm, ⟨36, _⟩ => ⟨S4x4x64x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamScale.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamScaleIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamScaleRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConf.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConfIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConfRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamShort.lean ====
abbrev S4x3x48 : Shape := ⟨3, ![4, 3, 48]⟩
abbrev S12x48 : Shape := ⟨2, ![12, 48]⟩

abbrev nBuf : Space → Nat
  | .hbm => 11
  | .vmem => 7
  | .smem => 0
  | _ => 0

abbrev bufTy : (tb : Table) → Fin (tcTables nBuf tb) → BufTy
  | .hbm, ⟨0, _⟩ => ⟨S4x3x48, .f32⟩
  | .hbm, ⟨1, _⟩ => ⟨S4x3x48, .f32⟩
  | .hbm, ⟨2, _⟩ => ⟨S4x3x48, .f32⟩
  | .hbm, ⟨3, _⟩ => ⟨S4x3x48, .f32⟩
  | .hbm, ⟨4, _⟩ => ⟨S12x48, .f32⟩
  | .hbm, ⟨5, _⟩ => ⟨S12x48, .f32⟩
  | .hbm, ⟨6, _⟩ => ⟨S12x48, .f32⟩
  | .hbm, ⟨7, _⟩ => ⟨S12x48, .f32⟩
  | .hbm, ⟨8, _⟩ => ⟨S12x48, .f32⟩
  | .hbm, ⟨9, _⟩ => ⟨S12x48, .f32⟩
  | .hbm, ⟨10, _⟩ => ⟨S12x48, .f32⟩
  | .local _ .vmem, ⟨0, _⟩ => ⟨S12x48, .f32⟩
  | .local _ .vmem, ⟨1, _⟩ => ⟨S12x48, .f32⟩
  | .local _ .vmem, ⟨2, _⟩ => ⟨S12x48, .f32⟩
  | .local _ .vmem, ⟨3, _⟩ => ⟨S12x48, .f32⟩
  | .local _ .vmem, ⟨4, _⟩ => ⟨S12x48, .f32⟩
  | .local _ .vmem, ⟨5, _⟩ => ⟨S12x48, .f32⟩
  | .local _ .vmem, ⟨6, _⟩ => ⟨S12x48, .f32⟩
  | _, _ => ⟨S4x3x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortIdeal.lean ====
abbrev S4x3x48 : Shape := ⟨3, ![4, 3, 48]⟩
abbrev S12x48 : Shape := ⟨2, ![12, 48]⟩

abbrev nBuf : Space → Nat
  | .hbm => 11
  | .vmem => 7
  | .smem => 0
  | _ => 0

abbrev bufTy : (tb : Table) → Fin (tcTables nBuf tb) → BufTy
  | .hbm, ⟨0, _⟩ => ⟨S4x3x48, .f32⟩
  | .hbm, ⟨1, _⟩ => ⟨S4x3x48, .f32⟩
  | .hbm, ⟨2, _⟩ => ⟨S4x3x48, .f32⟩
  | .hbm, ⟨3, _⟩ => ⟨S4x3x48, .f32⟩
  | .hbm, ⟨4, _⟩ => ⟨S12x48, .f32⟩
  | .hbm, ⟨5, _⟩ => ⟨S12x48, .f32⟩
  | .hbm, ⟨6, _⟩ => ⟨S12x48, .f32⟩
  | .hbm, ⟨7, _⟩ => ⟨S12x48, .f32⟩
  | .hbm, ⟨8, _⟩ => ⟨S12x48, .f32⟩
  | .hbm, ⟨9, _⟩ => ⟨S12x48, .f32⟩
  | .hbm, ⟨10, _⟩ => ⟨S12x48, .f32⟩
  | .local _ .vmem, ⟨0, _⟩ => ⟨S12x48, .f32⟩
  | .local _ .vmem, ⟨1, _⟩ => ⟨S12x48, .f32⟩
  | .local _ .vmem, ⟨2, _⟩ => ⟨S12x48, .f32⟩
  | .local _ .vmem, ⟨3, _⟩ => ⟨S12x48, .f32⟩
  | .local _ .vmem, ⟨4, _⟩ => ⟨S12x48, .f32⟩
  | .local _ .vmem, ⟨5, _⟩ => ⟨S12x48, .f32⟩
  | .local _ .vmem, ⟨6, _⟩ => ⟨S12x48, .f32⟩
  | _, _ => ⟨S4x3x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortRefIdeal.lean ====
abbrev S4x3x48 : Shape := ⟨3, ![4, 3, 48]⟩
abbrev S_ : Shape := ⟨0, ![]⟩
abbrev S12x48 : Shape := ⟨2, ![12, 48]⟩

abbrev nBuf : Space → Nat
  | .hbm => 40
  | .vmem => 0
  | .smem => 0
  | _ => 0

abbrev bufTy : (tb : Table) → Fin (tcTables nBuf tb) → BufTy
  | .hbm, ⟨0, _⟩ => ⟨S4x3x48, .f32⟩
  | .hbm, ⟨1, _⟩ => ⟨S4x3x48, .f32⟩
  | .hbm, ⟨2, _⟩ => ⟨S4x3x48, .f32⟩
  | .hbm, ⟨3, _⟩ => ⟨S4x3x48, .f32⟩
  | .hbm, ⟨4, _⟩ => ⟨S_, .f32⟩
  | .hbm, ⟨5, _⟩ => ⟨S4x3x48, .f32⟩
  | .hbm, ⟨6, _⟩ => ⟨S4x3x48, .f32⟩
  | .hbm, ⟨7, _⟩ => ⟨S_, .f32⟩
  | .hbm, ⟨8, _⟩ => ⟨S4x3x48, .f32⟩
  | .hbm, ⟨9, _⟩ => ⟨S4x3x48, .f32⟩
  | .hbm, ⟨10, _⟩ => ⟨S4x3x48, .f32⟩
  | .hbm, ⟨11, _⟩ => ⟨S_, .f32⟩
  | .hbm, ⟨12, _⟩ => ⟨S4x3x48, .f32⟩
  | .hbm, ⟨13, _⟩ => ⟨S4x3x48, .f32⟩
  | .hbm, ⟨14, _⟩ => ⟨S4x3x48, .f32⟩
  | .hbm, ⟨15, _⟩ => ⟨S_, .f32⟩
  | .hbm, ⟨16, _⟩ => ⟨S4x3x48, .f32⟩
  | .hbm, ⟨17, _⟩ => ⟨S4x3x48, .f32⟩
  | .hbm, ⟨18, _⟩ => ⟨S4x3x48, .f32⟩
  | .hbm, ⟨19, _⟩ => ⟨S_, .f32⟩
  | .hbm, ⟨20, _⟩ => ⟨S4x3x48, .f32⟩
  | .hbm, ⟨21, _⟩ => ⟨S4x3x48, .f32⟩
  | .hbm, ⟨22, _⟩ => ⟨S_, .f32⟩
  | .hbm, ⟨23, _⟩ => ⟨S4x3x48, .f32⟩
  | .hbm, ⟨24, _⟩ => ⟨S4x3x48, .f32⟩
  | .hbm, ⟨25, _⟩ => ⟨S4x3x48, .f32⟩
  | .hbm, ⟨26, _⟩ => ⟨S_, .f32⟩
  | .hbm, ⟨27, _⟩ => ⟨S4x3x48, .f32⟩
  | .hbm, ⟨28, _⟩ => ⟨S4x3x48, .f32⟩
  | .hbm, ⟨29, _⟩ => ⟨S4x3x48, .f32⟩
  | .hbm, ⟨30, _⟩ => ⟨S_, .f32⟩
  | .hbm, ⟨31, _⟩ => ⟨S4x3x48, .f32⟩
  | .hbm, ⟨32, _⟩ => ⟨S4x3x48, .f32⟩
  | .hbm, ⟨33, _⟩ => ⟨S4x3x48, .f32⟩
  | .hbm, ⟨34, _⟩ => ⟨S_, .f32⟩
  | .hbm, ⟨35, _⟩ => ⟨S4x3x48, .f32⟩
  | .hbm, ⟨36, _⟩ => ⟨S4x3x48, .f32⟩
  | .hbm, ⟨37, _⟩ => ⟨S12x48, .f32⟩
  | .hbm, ⟨38, _⟩ => ⟨S12x48, .f32⟩
  | .hbm, ⟨39, _⟩ => ⟨S12x48, .f32⟩
  | _, _ => ⟨S4x3x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S4x31x48 : Shape := ⟨3, ![4, 31, 48]⟩
abbrev S124x48 : Shape := ⟨2, ![124, 48]⟩

abbrev nBuf : Space → Nat
  | .hbm => 11
  | .vmem => 7
  | .smem => 0
  | _ => 0

abbrev bufTy : (tb : Table) → Fin (tcTables nBuf tb) → BufTy
  | .hbm, ⟨0, _⟩ => ⟨S4x31x48, .f32⟩
  | .hbm, ⟨1, _⟩ => ⟨S4x31x48, .f32⟩
  | .hbm, ⟨2, _⟩ => ⟨S4x31x48, .f32⟩
  | .hbm, ⟨3, _⟩ => ⟨S4x31x48, .f32⟩
  | .hbm, ⟨4, _⟩ => ⟨S124x48, .f32⟩
  | .hbm, ⟨5, _⟩ => ⟨S124x48, .f32⟩
  | .hbm, ⟨6, _⟩ => ⟨S124x48, .f32⟩
  | .hbm, ⟨7, _⟩ => ⟨S124x48, .f32⟩
  | .hbm, ⟨8, _⟩ => ⟨S124x48, .f32⟩
  | .hbm, ⟨9, _⟩ => ⟨S124x48, .f32⟩
  | .hbm, ⟨10, _⟩ => ⟨S124x48, .f32⟩
  | .local _ .vmem, ⟨0, _⟩ => ⟨S124x48, .f32⟩
  | .local _ .vmem, ⟨1, _⟩ => ⟨S124x48, .f32⟩
  | .local _ .vmem, ⟨2, _⟩ => ⟨S124x48, .f32⟩
  | .local _ .vmem, ⟨3, _⟩ => ⟨S124x48, .f32⟩
  | .local _ .vmem, ⟨4, _⟩ => ⟨S124x48, .f32⟩
  | .local _ .vmem, ⟨5, _⟩ => ⟨S124x48, .f32⟩
  | .local _ .vmem, ⟨6, _⟩ => ⟨S124x48, .f32⟩
  | _, _ => ⟨S4x31x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x31x48 : Shape := ⟨3, ![4, 31, 48]⟩
abbrev S_ : Shape := ⟨0, ![]⟩
abbrev S124x48 : Shape := ⟨2, ![124, 48]⟩

abbrev nBuf : Space → Nat
  | .hbm => 40
  | .vmem => 0
  | .smem => 0
  | _ => 0

abbrev bufTy : (tb : Table) → Fin (tcTables nBuf tb) → BufTy
  | .hbm, ⟨0, _⟩ => ⟨S4x31x48, .f32⟩
  | .hbm, ⟨1, _⟩ => ⟨S4x31x48, .f32⟩
  | .hbm, ⟨2, _⟩ => ⟨S4x31x48, .f32⟩
  | .hbm, ⟨3, _⟩ => ⟨S4x31x48, .f32⟩
  | .hbm, ⟨4, _⟩ => ⟨S_, .f32⟩
  | .hbm, ⟨5, _⟩ => ⟨S4x31x48, .f32⟩
  | .hbm, ⟨6, _⟩ => ⟨S4x31x48, .f32⟩
  | .hbm, ⟨7, _⟩ => ⟨S_, .f32⟩
  | .hbm, ⟨8, _⟩ => ⟨S4x31x48, .f32⟩
  | .hbm, ⟨9, _⟩ => ⟨S4x31x48, .f32⟩
  | .hbm, ⟨10, _⟩ => ⟨S4x31x48, .f32⟩
  | .hbm, ⟨11, _⟩ => ⟨S_, .f32⟩
  | .hbm, ⟨12, _⟩ => ⟨S4x31x48, .f32⟩
  | .hbm, ⟨13, _⟩ => ⟨S4x31x48, .f32⟩
  | .hbm, ⟨14, _⟩ => ⟨S4x31x48, .f32⟩
  | .hbm, ⟨15, _⟩ => ⟨S_, .f32⟩
  | .hbm, ⟨16, _⟩ => ⟨S4x31x48, .f32⟩
  | .hbm, ⟨17, _⟩ => ⟨S4x31x48, .f32⟩
  | .hbm, ⟨18, _⟩ => ⟨S4x31x48, .f32⟩
  | .hbm, ⟨19, _⟩ => ⟨S_, .f32⟩
  | .hbm, ⟨20, _⟩ => ⟨S4x31x48, .f32⟩
  | .hbm, ⟨21, _⟩ => ⟨S4x31x48, .f32⟩
  | .hbm, ⟨22, _⟩ => ⟨S_, .f32⟩
  | .hbm, ⟨23, _⟩ => ⟨S4x31x48, .f32⟩
  | .hbm, ⟨24, _⟩ => ⟨S4x31x48, .f32⟩
  | .hbm, ⟨25, _⟩ => ⟨S4x31x48, .f32⟩
  | .hbm, ⟨26, _⟩ => ⟨S_, .f32⟩
  | .hbm, ⟨27, _⟩ => ⟨S4x31x48, .f32⟩
  | .hbm, ⟨28, _⟩ => ⟨S4x31x48, .f32⟩
  | .hbm, ⟨29, _⟩ => ⟨S4x31x48, .f32⟩
  | .hbm, ⟨30, _⟩ => ⟨S_, .f32⟩
  | .hbm, ⟨31, _⟩ => ⟨S4x31x48, .f32⟩
  | .hbm, ⟨32, _⟩ => ⟨S4x31x48, .f32⟩
  | .hbm, ⟨33, _⟩ => ⟨S4x31x48, .f32⟩
  | .hbm, ⟨34, _⟩ => ⟨S_, .f32⟩
  | .hbm, ⟨35, _⟩ => ⟨S4x31x48, .f32⟩
  | .hbm, ⟨36, _⟩ => ⟨S4x31x48, .f32⟩
  | .hbm, ⟨37, _⟩ => ⟨S124x48, .f32⟩
  | .hbm, ⟨38, _⟩ => ⟨S124x48, .f32⟩
  | .hbm, ⟨39, _⟩ => ⟨S124x48, .f32⟩
  | _, _ => ⟨S4x31x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S1x1 : Shape := ⟨2, ![1, 1]⟩
abbrev S512x1024 : Shape := ⟨2, ![512, 1024]⟩
abbrev S1024 : Shape := ⟨1, ![1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1024, .f32⟩
  | .hbm, ⟨30, _⟩ => ⟨S16384x1024, .f32⟩
  | .hbm, ⟨31, _⟩ => ⟨S1x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== SumBig.lean ====
abbrev S2816x1024 : Shape := ⟨2, ![2816, 1024]⟩
abbrev S7x2816x1024 : Shape := ⟨3, ![7, 2816, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S7x2816x1024, .bf16⟩
  | .hbm, ⟨2, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumBigRefIdeal.lean ====
abbrev S2816x1024 : Shape := ⟨2, ![2816, 1024]⟩
abbrev S7x2816x1024 : Shape := ⟨3, ![7, 2816, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S7x2816x1024, .bf16⟩
  | .hbm, ⟨2, _⟩ => ⟨S7x2816x1024, .f32⟩
  | .hbm, ⟨3, _⟩ => ⟨S_, .f32⟩
  | .hbm, ⟨4, _⟩ => ⟨S2816x1024, .f32⟩
  | .hbm, ⟨5, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumSmall.lean ====
abbrev S8x1160x128 : Shape := ⟨3, ![8, 1160, 128]⟩
abbrev S1160x128 : Shape := ⟨2, ![1160, 128]⟩
abbrev S1x1160x128 : Shape := ⟨3, ![1, 1160, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1160x128, .f32⟩
  | .hbm, ⟨1, _⟩ => ⟨S1160x128, .f32⟩
  | .local _ .vmem, ⟨0, _⟩ => ⟨S8x1160x128, .f32⟩
  | .local _ .vmem, ⟨1, _⟩ => ⟨S1160x128, .f32⟩
  | _, _ => ⟨S8x1160x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x1160x128 : Shape := ⟨3, ![8, 1160, 128]⟩
abbrev S_ : Shape := ⟨0, ![]⟩
abbrev S1160x128 : Shape := ⟨2, ![1160, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1160x128, .f32⟩
  | .hbm, ⟨1, _⟩ => ⟨S_, .f32⟩
  | .hbm, ⟨2, _⟩ => ⟨S1160x128, .f32⟩
  | _, _ => ⟨S8x1160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FfnCases.lean ====
/-
  The backward pass of a feed-forward layer, 256 rows at a time: the gradient through the normalisation of the rows, through
  the down-projection, the gated activation (eleven chunks of 256 columns) and the two up-projections, and the running
  sums of the scale's and the shift's gradients. What one grid point stores, at the extended reals.
-/
module

public import proofs.«01_k».proof.Proof.Gen.KernelIdeal.Value
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.KernelIdeal.Closed

open Cert.KernelIdeal Cert.KernelIdeal.Gen Cert.KernelIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## One row -/

/-- The gradient of a row before its normalisation: from the gradient `d` of the normalised and scaled row, the
    normalised row `h`, the reciprocal `r` of its deviation and the scale `g`. -/
def dzf (d h : Fin 1024 → EReal) (r : EReal) (g : Fin 1024 → EReal) (q : Fin 1024) : EReal :=
  r * (d q * g q - Ideal.div (∑ k : Fin 1024, d k * g k) (Ideal.ofBits .f32 0x44800000#32)
    - h q * Ideal.div (∑ k : Fin 1024, d k * g k * h k) (Ideal.ofBits .f32 0x44800000#32))

/-- Half of it: the gradient of the layer's own output. -/
def dyf (d h : Fin 1024 → EReal) (r : EReal) (g : Fin 1024 → EReal) (q : Fin 1024) : EReal :=
  Ideal.ofBits .f32 0x3F000000#32 * dzf d h r g q

/-- The gradient of one hidden unit. -/
def dhf (d h : Fin 1024 → EReal) (r : EReal) (g : Fin 1024 → EReal) (W : S2816x1024.Idx → EReal) (j : Fin 2816) : EReal :=
  ∑ k : Fin 1024, dyf d h r g k * W (ix2 j k)

/-- The logistic function. -/
def sgf (g : EReal) : EReal := Ideal.div 1 (1 + Ideal.exp (-g))

/-- The gradient of a gate value, from the gradient `a` of the hidden unit. -/
def dgf (a g u : EReal) : EReal := a * u * (sgf g * (1 + g * (1 - sgf g)))

/-- The gradient of an up-projected value. -/
def duf (a g : EReal) : EReal := a * (g * sgf g)

/-! ## One piece of 256 rows -/

section Pieces

variable {F : FTy → Type} [FloatOps F]

/-- The rows' gradients before the normalisation. -/
def dzV (x0 x1 : Vec F S256x1024 .f32) (x2 : Vec F S256x1 .f32) (x3 : Vec F S1x1024 .f32) : FVec F S256x1024 .f32 :=
  k0_pay12 (k0_pay4 x1) (k0_pay7 x2) (k0_pay8 x0 x3) (k0_pay9 x0 x3) (k0_pay10 x0 x1 x3) k0_pay11

/-- Half of them, rounded. -/
def dyV (x0 x1 : Vec F S256x1024 .f32) (x2 : Vec F S256x1 .f32) (x3 : Vec F S1x1024 .f32) : FVec F S256x1024 .bf16 :=
  k0_pay13 (k0_pay4 x1) (k0_pay7 x2) (k0_pay8 x0 x3) (k0_pay9 x0 x3) (k0_pay10 x0 x1 x3) k0_pay11

/-- One chunk's hidden gradients. -/
def dhV (D : FVec F S256x1024 .bf16) (W : Vec F S256x1024 .bf16) : FVec F S256x256 .f32 :=
  matmul dot_S256x1024_S256x1024_S256x256_1_1_0_0_n_n none D (shapeCast S256x1024 W shapeCasts_S256x1024_S256x1024)
    (constant S256x256 .f32 0x00000000#32)

end Pieces

theorem dz_apply (x0 x1 : Vec Ideal S256x1024 .f32) (x2 : Vec Ideal S256x1 .f32) (x3 : Vec Ideal S1x1024 .f32) (y : S256x1024.Idx) :
    dzV (F := Ideal) x0 x1 x2 x3 y
      = dzf (fun k => x0 (ix2 (y 0) k)) (fun k => x1 (ix2 (y 0) k)) (x2 (ix2 (y 0) 0)) (fun k => x3 (ix2 0 k)) (y 1) := by
  have h8 : ∀ k, k0_pay8 (F := Ideal) x0 x3 (ix2 (y 0) k) = x0 (ix2 (y 0) k) * x3 (ix2 0 k) := fun k => by
    unfold k0_pay8; pointwise
  have h8y : k0_pay8 (F := Ideal) x0 x3 y = x0 (ix2 (y 0) (y 1)) * x3 (ix2 0 (y 1)) := by
    conv_lhs => rw [eq_ix2 y]
    exact h8 (y 1)
  have h9 : k0_pay9 (F := Ideal) x0 x3 (ix2 (y 0) 0) = Ideal.div (∑ k : Fin 1024, x0 (ix2 (y 0) k) * x3 (ix2 0 k)) (Ideal.ofBits .f32 0x44800000#32) := by
    unfold k0_pay9
    generalize k0_pay8 (F := Ideal) x0 x3 = X at h8 ⊢
    simp only [← h8]
    pointwise
  have h10 : k0_pay10 (F := Ideal) x0 x1 x3 (ix2 (y 0) 0) = ∑ k : Fin 1024, x0 (ix2 (y 0) k) * x3 (ix2 0 k) * x1 (ix2 (y 0) k) := by
    unfold k0_pay10 k0_pay4
    generalize k0_pay8 (F := Ideal) x0 x3 = X at h8 ⊢
    simp only [← h8, shapeCast_self]
    pointwise
  unfold dzV dzf k0_pay12 k0_pay4 k0_pay7 k0_pay11
  generalize k0_pay8 (F := Ideal) x0 x3 = X at h8y ⊢
  generalize k0_pay9 (F := Ideal) x0 x3 = X9 at h9 ⊢
  generalize k0_pay10 (F := Ideal) x0 x1 x3 = X10 at h10 ⊢
  simp only [shapeCast_self, ← h8y, ← h9, ← h10]
  pointwise

theorem dy_apply (x0 x1 : Vec Ideal S256x1024 .f32) (x2 : Vec Ideal S256x1 .f32) (x3 : Vec Ideal S1x1024 .f32) (y : S256x1024.Idx) :
    dyV (F := Ideal) x0 x1 x2 x3 y
      = dyf (fun k => x0 (ix2 (y 0) k)) (fun k => x1 (ix2 (y 0) k)) (x2 (ix2 (y 0) 0)) (fun k => x3 (ix2 0 k)) (y 1) := by
  have h := dz_apply x0 x1 x2 x3 y
  unfold dyf
  rw [← h]
  unfold dyV dzV k0_pay13
  pointwise

theorem dh_apply (D : FVec Ideal S256x1024 .bf16) (W : Vec Ideal S256x1024 .bf16) (y : S256x256.Idx) :
    dhV D W y = ∑ k : Fin 1024, D (ix2 (y 0) k) * W (ix2 (y 1) k) := by
  unfold dhV
  simp only [shapeCast_self]
  pointwise

theorem sg_apply (G : Vec Ideal S256x256 .bf16) (y : S256x256.Idx) : k0_pay26 (F := Ideal) G y = sgf (G y) := by
  unfold k0_pay26 k0_pay25 sgf
  simp only [shapeCast_self]
  pointwise
  simp only [zero_sub]

theorem dg_apply (H : FVec Ideal S256x256 .f32) (G U : Vec Ideal S256x256 .bf16) (y : S256x256.Idx) :
    k0_pay27 (F := Ideal) H G U y = dgf (H y) (G y) (U y) := by
  have h := sg_apply G y
  unfold k0_pay27 k0_pay25 dgf
  generalize k0_pay26 (F := Ideal) G = S at h ⊢
  simp only [shapeCast_self, ← h]
  pointwise

theorem du_apply (H : FVec Ideal S256x256 .f32) (G : Vec Ideal S256x256 .bf16) (y : S256x256.Idx) :
    k0_pay28 (F := Ideal) H G y = duf (H y) (G y) := by
  have h := sg_apply G y
  unfold k0_pay28 k0_pay25 duf
  generalize k0_pay26 (F := Ideal) G = S at h ⊢
  simp only [shapeCast_self, ← h]
  pointwise

/-- The gate gradients of 256 whole rows. -/
def DG (D : FVec Ideal S256x1024 .bf16) (W : Vec Ideal S2816x1024 .bf16) (G U : Vec Ideal S256x2816 .bf16) : Vec Ideal S256x2816 .bf16 :=
  fun y => dgf (∑ k : Fin 1024, D (ix2 (y 0) k) * W (ix2 (y 1) k)) (G y) (U y)

/-- The up-projected values' gradients of 256 whole rows. -/
def DU (D : FVec Ideal S256x1024 .bf16) (W : Vec Ideal S2816x1024 .bf16) (G : Vec Ideal S256x2816 .bf16) : Vec Ideal S256x2816 .bf16 :=
  fun y => duf (∑ k : Fin 1024, D (ix2 (y 0) k) * W (ix2 (y 1) k)) (G y)

theorem piece_dh (X : FVec Ideal S256x1024 .bf16) (W : Vec Ideal S2816x1024 .bf16) (o : Nat)
    (h1 : ∀ a, (![o, 0] : Fin 2 → Nat) a + S256x1024.size a ≤ S2816x1024.size a)
    (h2 : ∀ a, (![0, o] : Fin 2 → Nat) a + S256x256.size a ≤ S256x2816.size a) (x : S256x256.Idx) :
    dhV X (View.ld W (Rect.unit (s := S2816x1024) ![o, 0] S256x1024.size h1)) x
      = ∑ k : Fin 1024, X (ix2 ((Rect.unit (s := S256x2816) ![0, o] S256x256.size h2).emb x 0) k)
          * W (ix2 ((Rect.unit (s := S256x2816) ![0, o] S256x256.size h2).emb x 1) k) := by
  rw [dh_apply]
  refine Finset.sum_congr rfl fun k _ => congrArg₂ (· * ·) (congrArg X ?_) (congrArg W ?_)
  · funext a
    apply Fin.ext
    match a with
    | ⟨0, _⟩ => show (x 0).val = 0 + 1 * (x 0).val; omega
    | ⟨1, _⟩ => rfl
  · funext a
    apply Fin.ext
    match a with
    | ⟨0, _⟩ => show o + 1 * (x 1).val = o + 1 * (x 1).val; rfl
    | ⟨1, _⟩ => show 0 + 1 * k.val = k.val; omega

theorem piece_dg (X : FVec Ideal S256x1024 .bf16) (W : Vec Ideal S2816x1024 .bf16) (G U : Vec Ideal S256x2816 .bf16) (o : Nat)
    (h1 : ∀ a, (![o, 0] : Fin 2 → Nat) a + S256x1024.size a ≤ S2816x1024.size a)
    (h2 : ∀ a, (![0, o] : Fin 2 → Nat) a + S256x256.size a ≤ S256x2816.size a) (x : S256x256.Idx) :
    k0_pay27 (F := Ideal) (dhV X (View.ld W (Rect.unit (s := S2816x1024) ![o, 0] S256x1024.size h1)))
        (View.ld G (Rect.unit (s := S256x2816) ![0, o] S256x256.size h2)) (View.ld U (Rect.unit (s := S256x2816) ![0, o] S256x256.size h2)) x
      = DG X W G U ((Rect.unit (s := S256x2816) ![0, o] S256x256.size h2).emb x) := by
  rw [dg_apply, piece_dh X W o h1 h2]
  rfl

theorem piece_du (X : FVec Ideal S256x1024 .bf16) (W : Vec Ideal S2816x1024 .bf16) (G : Vec Ideal S256x2816 .bf16) (o : Nat)
    (h1 : ∀ a, (![o, 0] : Fin 2 → Nat) a + S256x1024.size a ≤ S2816x1024.size a)
    (h2 : ∀ a, (![0, o] : Fin 2 → Nat) a + S256x256.size a ≤ S256x2816.size a) (x : S256x256.Idx) :
    k0_pay28 (F := Ideal) (dhV X (View.ld W (Rect.unit (s := S2816x1024) ![o, 0] S256x1024.size h1)))
        (View.ld G (Rect.unit (s := S256x2816) ![0, o] S256x256.size h2)) x
      = DU X W G ((Rect.unit (s := S256x2816) ![0, o] S256x256.size h2).emb x) := by
  rw [du_apply, piece_dh X W o h1 h2]
  rfl

/-- The eleven chunks stored one after another. -/
def dgL (x0 x1 : Vec Ideal S256x1024 .f32) (x2 : Vec Ideal S256x1 .f32) (x3 : Vec Ideal S1x1024 .f32) (x4 : Vec Ideal S2816x1024 .bf16) (x7 x8 : Vec Ideal S256x2816 .bf16) : List (View.Piece (Elt Ideal) S256x2816 .bf16) :=
  [⟨Rect.unit ![0, 2560] ![256, 256] inb_S256x2816_S256x256_0_2560, k0_pay27 (F := Ideal) (dhV (dyV x0 x1 x2 x3) (View.ld x4 (Rect.unit ![2560, 0] ![256, 1024] inb_S2816x1024_S256x1024_2560_0))) (View.ld x7 (Rect.unit ![0, 2560] ![256, 256] inb_S256x2816_S256x256_0_2560)) (View.ld x8 (Rect.unit ![0, 2560] ![256, 256] inb_S256x2816_S256x256_0_2560))⟩,
   ⟨Rect.unit ![0, 2304] ![256, 256] inb_S256x2816_S256x256_0_2304, k0_pay27 (F := Ideal) (dhV (dyV x0 x1 x2 x3) (View.ld x4 (Rect.unit ![2304, 0] ![256, 1024] inb_S2816x1024_S256x1024_2304_0))) (View.ld x7 (Rect.unit ![0, 2304] ![256, 256] inb_S256x2816_S256x256_0_2304)) (View.ld x8 (Rect.unit ![0, 2304] ![256, 256] inb_S256x2816_S256x256_0_2304))⟩,
   ⟨Rect.unit ![0, 2048] ![256, 256] inb_S256x2816_S256x256_0_2048, k0_pay27 (F := Ideal) (dhV (dyV x0 x1 x2 x3) (View.ld x4 (Rect.unit ![2048, 0] ![256, 1024] inb_S2816x1024_S256x1024_2048_0))) (View.ld x7 (Rect.unit ![0, 2048] ![256, 256] inb_S256x2816_S256x256_0_2048)) (View.ld x8 (Rect.unit ![0, 2048] ![256, 256] inb_S256x2816_S256x256_0_2048))⟩,
   ⟨Rect.unit ![0, 1792] ![256, 256] inb_S256x2816_S256x256_0_1792, k0_pay27 (F := Ideal) (dhV (dyV x0 x1 x2 x3) (View.ld x4 (Rect.unit ![1792, 0] ![256, 1024] inb_S2816x1024_S256x1024_1792_0))) (View.ld x7 (Rect.unit ![0, 1792] ![256, 256] inb_S256x2816_S256x256_0_1792)) (View.ld x8 (Rect.unit ![0, 1792] ![256, 256] inb_S256x2816_S256x256_0_1792))⟩,
   ⟨Rect.unit ![0, 1536] ![256, 256] inb_S256x2816_S256x256_0_1536, k0_pay27 (F := Ideal) (dhV (dyV x0 x1 x2 x3) (View.ld x4 (Rect.unit ![1536, 0] ![256, 1024] inb_S2816x1024_S256x1024_1536_0))) (View.ld x7 (Rect.unit ![0, 1536] ![256, 256] inb_S256x2816_S256x256_0_1536)) (View.ld x8 (Rect.unit ![0, 1536] ![256, 256] inb_S256x2816_S256x256_0_1536))⟩,
   ⟨Rect.unit ![0, 1280] ![256, 256] inb_S256x2816_S256x256_0_1280, k0_pay27 (F := Ideal) (dhV (dyV x0 x1 x2 x3) (View.ld x4 (Rect.unit ![1280, 0] ![256, 1024] inb_S2816x1024_S256x1024_1280_0))) (View.ld x7 (Rect.unit ![0, 1280] ![256, 256] inb_S256x2816_S256x256_0_1280)) (View.ld x8 (Rect.unit ![0, 1280] ![256, 256] inb_S256x2816_S256x256_0_1280))⟩,
   ⟨Rect.unit ![0, 1024] ![256, 256] inb_S256x2816_S256x256_0_1024, k0_pay27 (F := Ideal) (dhV (dyV x0 x1 x2 x3) (View.ld x4 (Rect.unit ![1024, 0] ![256, 1024] inb_S2816x1024_S256x1024_1024_0))) (View.ld x7 (Rect.unit ![0, 1024] ![256, 256] inb_S256x2816_S256x256_0_1024)) (View.ld x8 (Rect.unit ![0, 1024] ![256, 256] inb_S256x2816_S256x256_0_1024))⟩,
   ⟨Rect.unit ![0, 768] ![256, 256] inb_S256x2816_S256x256_0_768, k0_pay27 (F := Ideal) (dhV (dyV x0 x1 x2 x3) (View.ld x4 (Rect.unit ![768, 0] ![256, 1024] inb_S2816x1024_S256x1024_768_0))) (View.ld x7 (Rect.unit ![0, 768] ![256, 256] inb_S256x2816_S256x256_0_768)) (View.ld x8 (Rect.unit ![0, 768] ![256, 256] inb_S256x2816_S256x256_0_768))⟩,
   ⟨Rect.unit ![0, 512] ![256, 256] inb_S256x2816_S256x256_0_512, k0_pay27 (F := Ideal) (dhV (dyV x0 x1 x2 x3) (View.ld x4 (Rect.unit ![512, 0] ![256, 1024] inb_S2816x1024_S256x1024_512_0))) (View.ld x7 (Rect.unit ![0, 512] ![256, 256] inb_S256x2816_S256x256_0_512)) (View.ld x8 (Rect.unit ![0, 512] ![256, 256] inb_S256x2816_S256x256_0_512))⟩,
   ⟨Rect.unit ![0, 256] ![256, 256] inb_S256x2816_S256x256_0_256, k0_pay27 (F := Ideal) (dhV (dyV x0 x1 x2 x3) (View.ld x4 (Rect.unit ![256, 0] ![256, 1024] inb_S2816x1024_S256x1024_256_0))) (View.ld x7 (Rect.unit ![0, 256] ![256, 256] inb_S256x2816_S256x256_0_256)) (View.ld x8 (Rect.unit ![0, 256] ![256, 256] inb_S256x2816_S256x256_0_256))⟩,
   ⟨Rect.unit ![0, 0] ![256, 256] inb_S256x2816_S256x256_0_0, k0_pay27 (F := Ideal) (dhV (dyV x0 x1 x2 x3) (View.ld x4 (Rect.unit ![0, 0] ![256, 1024] inb_S2816x1024_S256x1024_0_0))) (View.ld x7 (Rect.unit ![0, 0] ![256, 256] inb_S256x2816_S256x256_0_0)) (View.ld x8 (Rect.unit ![0, 0] ![256, 256] inb_S256x2816_S256x256_0_0))⟩]

set_option maxHeartbeats 1000000 in
theorem dgL_mem (x0 x1 : Vec Ideal S256x1024 .f32) (x2 : Vec Ideal S256x1 .f32) (x3 : Vec Ideal S1x1024 .f32) (x4 : Vec Ideal S2816x1024 .bf16) (x7 x8 : Vec Ideal S256x2816 .bf16) : ∀ p ∈ dgL x0 x1 x2 x3 x4 x7 x8, ∀ x, p.2 x = DG (dyV x0 x1 x2 x3) x4 x7 x8 (p.1.emb x) := by
  intro p hp
  simp only [dgL, List.mem_cons, List.mem_singleton, List.not_mem_nil, or_false] at hp
  rcases hp with rfl | rfl | rfl | rfl | rfl | rfl | rfl | rfl | rfl | rfl | rfl
  · intro (x : S256x256.Idx); exact piece_dg (dyV x0 x1 x2 x3) x4 x7 x8 2560 inb_S2816x1024_S256x1024_2560_0 inb_S256x2816_S256x256_0_2560 x
  · intro (x : S256x256.Idx); exact piece_dg (dyV x0 x1 x2 x3) x4 x7 x8 2304 inb_S2816x1024_S256x1024_2304_0 inb_S256x2816_S256x256_0_2304 x
  · intro (x : S256x256.Idx); exact piece_dg (dyV x0 x1 x2 x3) x4 x7 x8 2048 inb_S2816x1024_S256x1024_2048_0 inb_S256x2816_S256x256_0_2048 x
  · intro (x : S256x256.Idx); exact piece_dg (dyV x0 x1 x2 x3) x4 x7 x8 1792 inb_S2816x1024_S256x1024_1792_0 inb_S256x2816_S256x256_0_1792 x
  · intro (x : S256x256.Idx); exact piece_dg (dyV x0 x1 x2 x3) x4 x7 x8 1536 inb_S2816x1024_S256x1024_1536_0 inb_S256x2816_S256x256_0_1536 x
  · intro (x : S256x256.Idx); exact piece_dg (dyV x0 x1 x2 x3) x4 x7 x8 1280 inb_S2816x1024_S256x1024_1280_0 inb_S256x2816_S256x256_0_1280 x
  · intro (x : S256x256.Idx); exact piece_dg (dyV x0 x1 x2 x3) x4 x7 x8 1024 inb_S2816x1024_S256x1024_1024_0 inb_S256x2816_S256x256_0_1024 x
  · intro (x : S256x256.Idx); exact piece_dg (dyV x0 x1 x2 x3) x4 x7 x8 768 inb_S2816x1024_S256x1024_768_0 inb_S256x2816_S256x256_0_768 x
  · intro (x : S256x256.Idx); exact piece_dg (dyV x0 x1 x2 x3) x4 x7 x8 512 inb_S2816x1024_S256x1024_512_0 inb_S256x2816_S256x256_0_512 x
  · intro (x : S256x256.Idx); exact piece_dg (dyV x0 x1 x2 x3) x4 x7 x8 256 inb_S2816x1024_S256x1024_256_0 inb_S256x2816_S256x256_0_256 x
  · intro (x : S256x256.Idx); exact piece_dg (dyV x0 x1 x2 x3) x4 x7 x8 0 inb_S2816x1024_S256x1024_0_0 inb_S256x2816_S256x256_0_0 x

theorem dgL_cov (x0 x1 : Vec Ideal S256x1024 .f32) (x2 : Vec Ideal S256x1 .f32) (x3 : Vec Ideal S1x1024 .f32) (x4 : Vec Ideal S2816x1024 .bf16) (x7 x8 : Vec Ideal S256x2816 .bf16) (y : S256x2816.Idx) : ∃ p ∈ dgL x0 x1 x2 x3 x4 x7 x8, y ∈ p.1.set := by
  have h0 : (y 0).val < 256 := (y 0).isLt
  have h1 : (y 1).val < 2816 := (y 1).isLt
  have key : ∀ (o : Nat) (h2 : ∀ a, (![0, o] : Fin 2 → Nat) a + S256x256.size a ≤ S256x2816.size a), o ≤ (y 1).val → (y 1).val < o + 256 →
      y ∈ (Rect.unit (s := S256x2816) ![0, o] S256x256.size h2).set := fun o h2 ha hb => by
    rw [Rect.mem_set_unit]
    intro a
    match a with
    | ⟨0, _⟩ => show 0 ≤ (y 0).val ∧ (y 0).val < 0 + 256; omega
    | ⟨1, _⟩ => show o ≤ (y 1).val ∧ (y 1).val < o + 256; omega
  simp only [dgL, List.mem_cons, List.not_mem_nil, or_false, exists_eq_or_imp, exists_eq_left]
  by_cases c10 : 2560 ≤ (y 1).val
  · exact Or.inl (key 2560 _ c10 (by omega))
  by_cases c9 : 2304 ≤ (y 1).val
  · exact Or.inr (Or.inl (key 2304 _ c9 (by omega)))
  by_cases c8 : 2048 ≤ (y 1).val
  · exact Or.inr (Or.inr (Or.inl (key 2048 _ c8 (by omega))))
  by_cases c7 : 1792 ≤ (y 1).val
  · exact Or.inr (Or.inr (Or.inr (Or.inl (key 1792 _ c7 (by omega)))))
  by_cases c6 : 1536 ≤ (y 1).val
  · exact Or.inr (Or.inr (Or.inr (Or.inr (Or.inl (key 1536 _ c6 (by omega))))))
  by_cases c5 : 1280 ≤ (y 1).val
  · exact Or.inr (Or.inr (Or.inr (Or.inr (Or.inr (Or.inl (key 1280 _ c5 (by omega)))))))
  by_cases c4 : 1024 ≤ (y 1).val
  · exact Or.inr (Or.inr (Or.inr (Or.inr (Or.inr (Or.inr (Or.inl (key 1024 _ c4 (by omega))))))))
  by_cases c3 : 768 ≤ (y 1).val
  · exact Or.inr (Or.inr (Or.inr (Or.inr (Or.inr (Or.inr (Or.inr (Or.inl (key 768 _ c3 (by omega)))))))))
  by_cases c2 : 512 ≤ (y 1).val
  · exact Or.inr (Or.inr (Or.inr (Or.inr (Or.inr (Or.inr (Or.inr (Or.inr (Or.inl (key 512 _ c2 (by omega))))))))))
  by_cases c1 : 256 ≤ (y 1).val
  · exact Or.inr (Or.inr (Or.inr (Or.inr (Or.inr (Or.inr (Or.inr (Or.inr (Or.inr (Or.inl (key 256 _ c1 (by omega)))))))))))
  by_cases c0 : 0 ≤ (y 1).val
  · exact Or.inr (Or.inr (Or.inr (Or.inr (Or.inr (Or.inr (Or.inr (Or.inr (Or.inr (Or.inr (key 0 _ c0 (by omega)))))))))))
  · omega

theorem dgL_canon (x0 x1 : Vec Ideal S256x1024 .f32) (x2 : Vec Ideal S256x1 .f32) (x3 : Vec Ideal S1x1024 .f32) (x4 : Vec Ideal S2816x1024 .bf16) (x7 x8 : Vec Ideal S256x2816 .bf16) : View.canon (dgL x0 x1 x2 x3 x4 x7 x8) = DG (dyV x0 x1 x2 x3) x4 x7 x8 :=
  funext fun y => View.canon_apply_of_pieces (Val := Elt Ideal) (DG (dyV x0 x1 x2 x3) x4 x7 x8) _ (dgL_mem x0 x1 x2 x3 x4 x7 x8) y (dgL_cov x0 x1 x2 x3 x4 x7 x8 y)

theorem dgL_read (v : View sig .tc .vmem S256x2816 .bf16) (h : ∀ a, (![0, 0] : Fin 2 → Nat) a + S256x2816.size a ≤ S256x2816.size a) (x0 x1 : Vec Ideal S256x1024 .f32) (x2 : Vec Ideal S256x1 .f32) (x3 : Vec Ideal S1x1024 .f32) (x4 : Vec Ideal S2816x1024 .bf16) (x7 x8 : Vec Ideal S256x2816 .bf16) :
    v.readCov (Val := Elt Ideal) (dgL x0 x1 x2 x3 x4 x7 x8) (Rect.unit (s := S256x2816) ![0, 0] S256x2816.size h).toLoadRect = DG (dyV x0 x1 x2 x3) x4 x7 x8 := by
  rw [View.readCov_eq_canon_ld v (dgL x0 x1 x2 x3 x4 x7 x8) _ (dgL_cov x0 x1 x2 x3 x4 x7 x8), dgL_canon]
  exact View.ld_unit_zero (S := S256x2816) hz _ _

/-- The eleven chunks stored one after another. -/
def duL (x0 x1 : Vec Ideal S256x1024 .f32) (x2 : Vec Ideal S256x1 .f32) (x3 : Vec Ideal S1x1024 .f32) (x4 : Vec Ideal S2816x1024 .bf16) (x7 : Vec Ideal S256x2816 .bf16) : List (View.Piece (Elt Ideal) S256x2816 .bf16) :=
  [⟨Rect.unit ![0, 2560] ![256, 256] inb_S256x2816_S256x256_0_2560, k0_pay28 (F := Ideal) (dhV (dyV x0 x1 x2 x3) (View.ld x4 (Rect.unit ![2560, 0] ![256, 1024] inb_S2816x1024_S256x1024_2560_0))) (View.ld x7 (Rect.unit ![0, 2560] ![256, 256] inb_S256x2816_S256x256_0_2560))⟩,
   ⟨Rect.unit ![0, 2304] ![256, 256] inb_S256x2816_S256x256_0_2304, k0_pay28 (F := Ideal) (dhV (dyV x0 x1 x2 x3) (View.ld x4 (Rect.unit ![2304, 0] ![256, 1024] inb_S2816x1024_S256x1024_2304_0))) (View.ld x7 (Rect.unit ![0, 2304] ![256, 256] inb_S256x2816_S256x256_0_2304))⟩,
   ⟨Rect.unit ![0, 2048] ![256, 256] inb_S256x2816_S256x256_0_2048, k0_pay28 (F := Ideal) (dhV (dyV x0 x1 x2 x3) (View.ld x4 (Rect.unit ![2048, 0] ![256, 1024] inb_S2816x1024_S256x1024_2048_0))) (View.ld x7 (Rect.unit ![0, 2048] ![256, 256] inb_S256x2816_S256x256_0_2048))⟩,
   ⟨Rect.unit ![0, 1792] ![256, 256] inb_S256x2816_S256x256_0_1792, k0_pay28 (F := Ideal) (dhV (dyV x0 x1 x2 x3) (View.ld x4 (Rect.unit ![1792, 0] ![256, 1024] inb_S2816x1024_S256x1024_1792_0))) (View.ld x7 (Rect.unit ![0, 1792] ![256, 256] inb_S256x2816_S256x256_0_1792))⟩,
   ⟨Rect.unit ![0, 1536] ![256, 256] inb_S256x2816_S256x256_0_1536, k0_pay28 (F := Ideal) (dhV (dyV x0 x1 x2 x3) (View.ld x4 (Rect.unit ![1536, 0] ![256, 1024] inb_S2816x1024_S256x1024_1536_0))) (View.ld x7 (Rect.unit ![0, 1536] ![256, 256] inb_S256x2816_S256x256_0_1536))⟩,
   ⟨Rect.unit ![0, 1280] ![256, 256] inb_S256x2816_S256x256_0_1280, k0_pay28 (F := Ideal) (dhV (dyV x0 x1 x2 x3) (View.ld x4 (Rect.unit ![1280, 0] ![256, 1024] inb_S2816x1024_S256x1024_1280_0))) (View.ld x7 (Rect.unit ![0, 1280] ![256, 256] inb_S256x2816_S256x256_0_1280))⟩,
   ⟨Rect.unit ![0, 1024] ![256, 256] inb_S256x2816_S256x256_0_1024, k0_pay28 (F := Ideal) (dhV (dyV x0 x1 x2 x3) (View.ld x4 (Rect.unit ![1024, 0] ![256, 1024] inb_S2816x1024_S256x1024_1024_0))) (View.ld x7 (Rect.unit ![0, 1024] ![256, 256] inb_S256x2816_S256x256_0_1024))⟩,
   ⟨Rect.unit ![0, 768] ![256, 256] inb_S256x2816_S256x256_0_768, k0_pay28 (F := Ideal) (dhV (dyV x0 x1 x2 x3) (View.ld x4 (Rect.unit ![768, 0] ![256, 1024] inb_S2816x1024_S256x1024_768_0))) (View.ld x7 (Rect.unit ![0, 768] ![256, 256] inb_S256x2816_S256x256_0_768))⟩,
   ⟨Rect.unit ![0, 512] ![256, 256] inb_S256x2816_S256x256_0_512, k0_pay28 (F := Ideal) (dhV (dyV x0 x1 x2 x3) (View.ld x4 (Rect.unit ![512, 0] ![256, 1024] inb_S2816x1024_S256x1024_512_0))) (View.ld x7 (Rect.unit ![0, 512] ![256, 256] inb_S256x2816_S256x256_0_512))⟩,
   ⟨Rect.unit ![0, 256] ![256, 256] inb_S256x2816_S256x256_0_256, k0_pay28 (F := Ideal) (dhV (dyV x0 x1 x2 x3) (View.ld x4 (Rect.unit ![256, 0] ![256, 1024] inb_S2816x1024_S256x1024_256_0))) (View.ld x7 (Rect.unit ![0, 256] ![256, 256] inb_S256x2816_S256x256_0_256))⟩,
   ⟨Rect.unit ![0, 0] ![256, 256] inb_S256x2816_S256x256_0_0, k0_pay28 (F := Ideal) (dhV (dyV x0 x1 x2 x3) (View.ld x4 (Rect.unit ![0, 0] ![256, 1024] inb_S2816x1024_S256x1024_0_0))) (View.ld x7 (Rect.unit ![0, 0] ![256, 256] inb_S256x2816_S256x256_0_0))⟩]

set_option maxHeartbeats 1000000 in
theorem duL_mem (x0 x1 : Vec Ideal S256x1024 .f32) (x2 : Vec Ideal S256x1 .f32) (x3 : Vec Ideal S1x1024 .f32) (x4 : Vec Ideal S2816x1024 .bf16) (x7 : Vec Ideal S256x2816 .bf16) : ∀ p ∈ duL x0 x1 x2 x3 x4 x7, ∀ x, p.2 x = DU (dyV x0 x1 x2 x3) x4 x7 (p.1.emb x) := by
  intro p hp
  simp only [duL, List.mem_cons, List.mem_singleton, List.not_mem_nil, or_false] at hp
  rcases hp with rfl | rfl | rfl | rfl | rfl | rfl | rfl | rfl | rfl | rfl | rfl
  · intro (x : S256x256.Idx); exact piece_du (dyV x0 x1 x2 x3) x4 x7 2560 inb_S2816x1024_S256x1024_2560_0 inb_S256x2816_S256x256_0_2560 x
  · intro (x : S256x256.Idx); exact piece_du (dyV x0 x1 x2 x3) x4 x7 2304 inb_S2816x1024_S256x1024_2304_0 inb_S256x2816_S256x256_0_2304 x
  · intro (x : S256x256.Idx); exact piece_du (dyV x0 x1 x2 x3) x4 x7 2048 inb_S2816x1024_S256x1024_2048_0 inb_S256x2816_S256x256_0_2048 x
  · intro (x : S256x256.Idx); exact piece_du (dyV x0 x1 x2 x3) x4 x7 1792 inb_S2816x1024_S256x1024_1792_0 inb_S256x2816_S256x256_0_1792 x
  · intro (x : S256x256.Idx); exact piece_du (dyV x0 x1 x2 x3) x4 x7 1536 inb_S2816x1024_S256x1024_1536_0 inb_S256x2816_S256x256_0_1536 x
  · intro (x : S256x256.Idx); exact piece_du (dyV x0 x1 x2 x3) x4 x7 1280 inb_S2816x1024_S256x1024_1280_0 inb_S256x2816_S256x256_0_1280 x
  · intro (x : S256x256.Idx); exact piece_du (dyV x0 x1 x2 x3) x4 x7 1024 inb_S2816x1024_S256x1024_1024_0 inb_S256x2816_S256x256_0_1024 x
  · intro (x : S256x256.Idx); exact piece_du (dyV x0 x1 x2 x3) x4 x7 768 inb_S2816x1024_S256x1024_768_0 inb_S256x2816_S256x256_0_768 x
  · intro (x : S256x256.Idx); exact piece_du (dyV x0 x1 x2 x3) x4 x7 512 inb_S2816x1024_S256x1024_512_0 inb_S256x2816_S256x256_0_512 x
  · intro (x : S256x256.Idx); exact piece_du (dyV x0 x1 x2 x3) x4 x7 256 inb_S2816x1024_S256x1024_256_0 inb_S256x2816_S256x256_0_256 x
  · intro (x : S256x256.Idx); exact piece_du (dyV x0 x1 x2 x3) x4 x7 0 inb_S2816x1024_S256x1024_0_0 inb_S256x2816_S256x256_0_0 x

theorem duL_cov (x0 x1 : Vec Ideal S256x1024 .f32) (x2 : Vec Ideal S256x1 .f32) (x3 : Vec Ideal S1x1024 .f32) (x4 : Vec Ideal S2816x1024 .bf16) (x7 : Vec Ideal S256x2816 .bf16) (y : S256x2816.Idx) : ∃ p ∈ duL x0 x1 x2 x3 x4 x7, y ∈ p.1.set := by
  have h0 : (y 0).val < 256 := (y 0).isLt
  have h1 : (y 1).val < 2816 := (y 1).isLt
  have key : ∀ (o : Nat) (h2 : ∀ a, (![0, o] : Fin 2 → Nat) a + S256x256.size a ≤ S256x2816.size a), o ≤ (y 1).val → (y 1).val < o + 256 →
      y ∈ (Rect.unit (s := S256x2816) ![0, o] S256x256.size h2).set := fun o h2 ha hb => by
    rw [Rect.mem_set_unit]
    intro a
    match a with
    | ⟨0, _⟩ => show 0 ≤ (y 0).val ∧ (y 0).val < 0 + 256; omega
    | ⟨1, _⟩ => show o ≤ (y 1).val ∧ (y 1).val < o + 256; omega
  simp only [duL, List.mem_cons, List.not_mem_nil, or_false, exists_eq_or_imp, exists_eq_left]
  by_cases c10 : 2560 ≤ (y 1).val
  · exact Or.inl (key 2560 _ c10 (by omega))
  by_cases c9 : 2304 ≤ (y 1).val
  · exact Or.inr (Or.inl (key 2304 _ c9 (by omega)))
  by_cases c8 : 2048 ≤ (y 1).val
  · exact Or.inr (Or.inr (Or.inl (key 2048 _ c8 (by omega))))
  by_cases c7 : 1792 ≤ (y 1).val
  · exact Or.inr (Or.inr (Or.inr (Or.inl (key 1792 _ c7 (by omega)))))
  by_cases c6 : 1536 ≤ (y 1).val
  · exact Or.inr (Or.inr (Or.inr (Or.inr (Or.inl (key 1536 _ c6 (by omega))))))
  by_cases c5 : 1280 ≤ (y 1).val
  · exact Or.inr (Or.inr (Or.inr (Or.inr (Or.inr (Or.inl (key 1280 _ c5 (by omega)))))))
  by_cases c4 : 1024 ≤ (y 1).val
  · exact Or.inr (Or.inr (Or.inr (Or.inr (Or.inr (Or.inr (Or.inl (key 1024 _ c4 (by omega))))))))
  by_cases c3 : 768 ≤ (y 1).val
  · exact Or.inr (Or.inr (Or.inr (Or.inr (Or.inr (Or.inr (Or.inr (Or.inl (key 768 _ c3 (by omega)))))))))
  by_cases c2 : 512 ≤ (y 1).val
  · exact Or.inr (Or.inr (Or.inr (Or.inr (Or.inr (Or.inr (Or.inr (Or.inr (Or.inl (key 512 _ c2 (by omega))))))))))
  by_cases c1 : 256 ≤ (y 1).val
  · exact Or.inr (Or.inr (Or.inr (Or.inr (Or.inr (Or.inr (Or.inr (Or.inr (Or.inr (Or.inl (key 256 _ c1 (by omega)))))))))))
  by_cases c0 : 0 ≤ (y 1).val
  · exact Or.inr (Or.inr (Or.inr (Or.inr (Or.inr (Or.inr (Or.inr (Or.inr (Or.inr (Or.inr (key 0 _ c0 (by omega)))))))))))
  · omega

theorem duL_canon (x0 x1 : Vec Ideal S256x1024 .f32) (x2 : Vec Ideal S256x1 .f32) (x3 : Vec Ideal S1x1024 .f32) (x4 : Vec Ideal S2816x1024 .bf16) (x7 : Vec Ideal S256x2816 .bf16) : View.canon (duL x0 x1 x2 x3 x4 x7) = DU (dyV x0 x1 x2 x3) x4 x7 :=
  funext fun y => View.canon_apply_of_pieces (Val := Elt Ideal) (DU (dyV x0 x1 x2 x3) x4 x7) _ (duL_mem x0 x1 x2 x3 x4 x7) y (duL_cov x0 x1 x2 x3 x4 x7 y)

theorem duL_read (v : View sig .tc .vmem S256x2816 .bf16) (h : ∀ a, (![0, 0] : Fin 2 → Nat) a + S256x2816.size a ≤ S256x2816.size a) (x0 x1 : Vec Ideal S256x1024 .f32) (x2 : Vec Ideal S256x1 .f32) (x3 : Vec Ideal S1x1024 .f32) (x4 : Vec Ideal S2816x1024 .bf16) (x7 : Vec Ideal S256x2816 .bf16) :
    v.readCov (Val := Elt Ideal) (duL x0 x1 x2 x3 x4 x7) (Rect.unit (s := S256x2816) ![0, 0] S256x2816.size h).toLoadRect = DU (dyV x0 x1 x2 x3) x4 x7 := by
  rw [View.readCov_eq_canon_ld v (duL x0 x1 x2 x3 x4 x7) _ (duL_cov x0 x1 x2 x3 x4 x7), duL_canon]
  exact View.ld_unit_zero (S := S256x2816) hz _ _

set_option maxHeartbeats 2000000 in
theorem out9_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_9 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = k0_pay1 (F := Ideal) (dzV x0 x1 x2 x3) (DG (dyV x0 x1 x2 x3) x4 x7 x8) x5 (DU (dyV x0 x1 x2 x3) x4 x7) x6 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S256x1024) hz]
  exact congrArg₂ (fun a b => k0_pay1 (F := Ideal) (dzV x0 x1 x2 x3) a x5 b x6) (dgL_read _ _ x0 x1 x2 x3 x4 x7 x8) (duL_read _ _ x0 x1 x2 x3 x4 x7)

set_option maxHeartbeats 2000000 in
theorem out10_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_10 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = dyV x0 x1 x2 x3 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S256x1024) hz]
  rfl

set_option maxHeartbeats 2000000 in
theorem out11_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_11 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = DG (dyV x0 x1 x2 x3) x4 x7 x8 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  exact dgL_canon x0 x1 x2 x3 x4 x7 x8

set_option maxHeartbeats 2000000 in
theorem out12_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_12 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = DU (dyV x0 x1 x2 x3) x4 x7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  exact duL_canon x0 x1 x2 x3 x4 x7

set_option maxHeartbeats 2000000 in
theorem out13_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_13 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = k0_pay5 (F := Ideal) x0 x1 (k0_pay2 (F := Ideal)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_cons_unit_zero (S := S1x1024) hz, View.readCov_unit_zero (S := S1x1024) _ hz]

set_option maxHeartbeats 2000000 in
theorem out14_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) :
    out0_A_14 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 = k0_pay6 (F := Ideal) x0 (k0_pay3 (F := Ideal)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_cons_unit_zero (S := S1x1024) hz, View.readCov_unit_zero (S := S1x1024) _ hz]

set_option maxHeartbeats 2000000 in
theorem out9_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_9 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = k0_pay1 (F := Ideal) (dzV x0 x1 x2 x3) (DG (dyV x0 x1 x2 x3) x4 x7 x8) x5 (DU (dyV x0 x1 x2 x3) x4 x7) x6 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S256x1024) hz]
  exact congrArg₂ (fun a b => k0_pay1 (F := Ideal) (dzV x0 x1 x2 x3) a x5 b x6) (dgL_read _ _ x0 x1 x2 x3 x4 x7 x8) (duL_read _ _ x0 x1 x2 x3 x4 x7)

set_option maxHeartbeats 2000000 in
theorem out10_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_10 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = dyV x0 x1 x2 x3 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S256x1024) hz]
  rfl

set_option maxHeartbeats 2000000 in
theorem out11_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_11 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = DG (dyV x0 x1 x2 x3) x4 x7 x8 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  exact dgL_canon x0 x1 x2 x3 x4 x7 x8

set_option maxHeartbeats 2000000 in
theorem out12_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_12 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = DU (dyV x0 x1 x2 x3) x4 x7 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  exact duL_canon x0 x1 x2 x3 x4 x7

set_option maxHeartbeats 2000000 in
theorem out13_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_13 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = k0_pay5 (F := Ideal) x0 x1 xo13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S1x1024) hz]

set_option maxHeartbeats 2000000 in
theorem out14_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .bf16) (h8 : a8.IsWhole) (a9 : Memref sig .tc .vmem S256x2816 .bf16) (h9 : a9.IsWhole) (a10 : Memref sig .tc .vmem S256x1024 .f32) (h10 : a10.IsWhole) (a11 : Memref sig .tc .vmem S256x1024 .bf16) (h11 : a11.IsWhole) (a12 : Memref sig .tc .vmem S256x2816 .bf16) (h12 : a12.IsWhole) (a13 : Memref sig .tc .vmem S256x2816 .bf16) (h13 : a13.IsWhole) (a14 : Memref sig .tc .vmem S1x1024 .f32) (h14 : a14.IsWhole) (a15 : Memref sig .tc .vmem S1x1024 .f32) (h15 : a15.IsWhole) (hc0 : ¬cond0_0 i) (x0 : Vec Ideal S256x1024 .f32) (x1 : Vec Ideal S256x1024 .f32) (x2 : Vec Ideal S256x1 .f32) (x3 : Vec Ideal S1x1024 .f32) (x4 : Vec Ideal S2816x1024 .bf16) (x5 : Vec Ideal S2816x1024 .bf16) (x6 : Vec Ideal S2816x1024 .bf16) (x7 : Vec Ideal S256x2816 .bf16) (x8 : Vec Ideal S256x2816 .bf16) (xo13 xo14 : Vec Ideal S1x1024 .f32) :
    out0_B_14 (F := Ideal) c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14 = k0_pay6 (F := Ideal) x0 xo14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc0 x0 x1 x2 x3 x4 x5 x6 x7 x8 xo13 xo14)]
  unfold kernelRun0_B
  dsimp only
  sl_unfold_words
  simp only [View.readAt_eq_ld, h1.read_unread, h2.read_unread, h3.read_unread, h4.read_unread, h5.read_unread, h6.read_unread, h7.read_unread, h8.read_unread, h9.read_unread, h14.read_unread, h15.read_unread, View.ld_unit_zero (S := S256x1024) hz, View.ld_unit_zero (S := S256x1) hz, View.ld_unit_zero (S := S1x1024) hz, View.ld_unit_zero (S := S2816x1024) hz]
  rw [View.canon_unit_zero (S := S1x1024) hz]

theorem pay1_apply (Z : Vec Ideal S256x1024 .f32) (A : Vec Ideal S256x2816 .bf16) (P : Vec Ideal S2816x1024 .bf16) (B : Vec Ideal S256x2816 .bf16) (Q : Vec Ideal S2816x1024 .bf16) (y : S256x1024.Idx) :
    k0_pay1 (F := Ideal) Z A P B Q y = Ideal.ofBits .f32 0x3FD744FD#32 * Z y + (∑ j : Fin 2816, A (ix2 (y 0) j) * P (ix2 j (y 1)))
      + ∑ j : Fin 2816, B (ix2 (y 0) j) * Q (ix2 j (y 1)) := by
  unfold k0_pay1
  simp only [shapeCast_self]
  pointwise

theorem pay2_apply (y : S1x1024.Idx) : k0_pay2 (F := Ideal) y = 0 := by
  unfold k0_pay2; pointwise

theorem pay3_apply (y : S1x1024.Idx) : k0_pay3 (F := Ideal) y = 0 := by
  unfold k0_pay3; pointwise

theorem pay5_apply (x0 x1 : Vec Ideal S256x1024 .f32) (a : Vec Ideal S1x1024 .f32) (q : Fin 1024) :
    k0_pay5 (F := Ideal) x0 x1 a (ix2 0 q) = a (ix2 0 q) + ∑ p : Fin 256, x0 (ix2 p q) * x1 (ix2 p q) := by
  unfold k0_pay5 k0_pay4
  simp only [shapeCast_self]
  pointwise

theorem pay6_apply (x0 : Vec Ideal S256x1024 .f32) (a : Vec Ideal S1x1024 .f32) (q : Fin 1024) :
    k0_pay6 (F := Ideal) x0 a (ix2 0 q) = a (ix2 0 q) + ∑ p : Fin 256, x0 (ix2 p q) := by
  unfold k0_pay6
  simp only [shapeCast_self]
  pointwise

end Cert.KernelIdeal.Closed

end
-- ==== Proof.FfnHost.lean ====
/-
  The operands the backward FFN kernel is launched over, as functions of the program's arguments: the forward values
  the kernel is given are the ones the derivative's own forward lines hold.
-/
module

public import proofs.«01_k».proof.Proof.Gen.KernelIdeal.Value
public import proofs.«01_k».proof.Proof.Gen.ReferenceIdeal.Read
public import Idealize.ShloMosaic.Lib.Pointwise.Tactic

@[expose] public section

set_option maxRecDepth 16384

noncomputable section

namespace Cert.KernelIdeal.Closed

open Cert.KernelIdeal Cert.KernelIdeal.Gen Cert.KernelIdeal.Value Idealize.ShloMosaic Idealize.ShloMosaic.TcCoe Idealize.SL.Sem
open Idealize.ShloMosaic.Pipeline (Dat)
open Cert.ReferenceIdeal.Read

theorem zero0 (i : S16384x2816.Idx) : val_main_v0 (F := Ideal) i = 0 := by
  rw [val_main_v0_apply, val_main_cst_apply]
  exact Ideal.ofBits_zero_f32

theorem zero1 (i : S16384x1024.Idx) : val_main_v1 (F := Ideal) i = 0 := by
  rw [val_main_v1_apply, val_main_cst_0_apply]
  exact Ideal.ofBits_zero_f32

theorem val4 (x0 : S16384x1024.Idx → EReal) (x1 : S1024x2816.Idx → EReal) :
    val_main_v4 (F := Ideal) x0 x1 = val_main_v3 (F := Ideal) x0 x1 := funext fun i => by
  rw [val_main_v4_apply, zero0]
  exact add_zero _

theorem val7 (x0 : S16384x1024.Idx → EReal) (x2 : S1024x2816.Idx → EReal) :
    val_main_v7 (F := Ideal) x0 x2 = val_main_v6 (F := Ideal) x0 x2 := funext fun i => by
  rw [val_main_v7_apply, zero0]
  exact add_zero _

theorem val12 (x0 : S16384x1024.Idx → EReal) (x1 x2 : S1024x2816.Idx → EReal) (x3 : S2816x1024.Idx → EReal) :
    val_main_v12 (F := Ideal) x0 x1 x2 x3 = val_main_v9 (F := Ideal) x0 x1 x2 x3 := funext fun i => by
  rw [val_main_v12_apply, zero1]
  exact add_zero _

variable (m : (ℓ : Loc nD τ sig) → Buf (Elt Ideal) ℓ)

abbrev aX (c : Dev nD) : S16384x1024.Idx → EReal := m ((c : Thread nD τ).loc main_arg0)
abbrev aG (c : Dev nD) : S1024x2816.Idx → EReal := m ((c : Thread nD τ).loc main_arg1)
abbrev aU (c : Dev nD) : S1024x2816.Idx → EReal := m ((c : Thread nD τ).loc main_arg2)
abbrev aD (c : Dev nD) : S2816x1024.Idx → EReal := m ((c : Thread nD τ).loc main_arg3)
abbrev aL (c : Dev nD) : S1x1024.Idx → EReal := m ((c : Thread nD τ).loc main_arg4)
abbrev aC (c : Dev nD) : S16384x1024.Idx → EReal := m ((c : Thread nD τ).loc main_arg5)

theorem V_v28 (c : Dev nD) : V m c main_v28 = (aD m c : S2816x1024.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  rfl

theorem V_v30 (c : Dev nD) : V m c main_v30 = (fun i => aG m c (ix2 (i 1) (i 0)) : S2816x1024.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  funext i
  exact transpose_apply (s := S1024x2816) [1, 0] (aG m c) transposes_S1024x2816_S2816x1024_1_0 i (ix2 (i 1) (i 0)) (fun b => match b with
    | ⟨0, _⟩ => rfl
    | ⟨1, _⟩ => rfl)

theorem V_v32 (c : Dev nD) : V m c main_v32 = (fun i => aU m c (ix2 (i 1) (i 0)) : S2816x1024.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  funext i
  exact transpose_apply (s := S1024x2816) [1, 0] (aU m c) transposes_S1024x2816_S2816x1024_1_0 i (ix2 (i 1) (i 0)) (fun b => match b with
    | ⟨0, _⟩ => rfl
    | ⟨1, _⟩ => rfl)

theorem V_v33 (c : Dev nD) : V m c main_v33 = (val_main_v3 (F := Ideal) (aX m c) (aG m c) : S16384x2816.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  rfl

theorem V_v34 (c : Dev nD) : V m c main_v34 = (val_main_v6 (F := Ideal) (aX m c) (aU m c) : S16384x2816.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  rfl

set_option maxHeartbeats 2000000 in
theorem V_v23 (c : Dev nD) : V m c main_v23 = (val_main_v33 (F := Ideal) (aX m c) (aG m c) (aU m c) (aD m c) : S16384x1.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  unfold val_main_v33 val_main_v32 val_main_v31 val_main_cst_9 val_main_v28 val_main_v27 val_main_cst_8 val_main_v26 val_main_v25 val_main_cst_7 val_main_v22 val_main_v21 val_main_v20 val_main_v19 val_main_v18 val_main_cst_5 val_main_v17 val_main_v16 val_main_cst_4 val_main_v15 val_main_v14 val_main_v13 val_main_cst_3 val_main_v11 val_main_v10 val_main_cst_2
  rw [val12]
  unfold val_main_v9 val_main_v8
  rw [val7]
  unfold val_main_v5_0 val_main_v5_2 val_main_call0_v4 val_main_call0_cst_0 val_main_call0_v3 val_main_call0_v2 val_main_call0_cst val_main_call0_v1 val_main_call0_v0
  rw [val4]
  rfl

set_option maxHeartbeats 4000000 in
theorem V_v27 (c : Dev nD) : V m c main_v27 = (val_main_v38 (F := Ideal) (aX m c) (aG m c) (aU m c) (aD m c) : S16384x1024.Idx → EReal) := by
  show StableHlo.after (List.flatten [hostOps0, hostOps0_1, hostOps0_2]) _ _ = _
  simp only [List.flatten_cons, List.flatten_nil, List.append_nil]
  unfold hostOps0 hostOps0_1 hostOps0_2
  simp only [List.cons_append, List.nil_append]
  after_results
  unfold val_main_v38 val_main_v37 val_main_v30 val_main_v29 val_main_v33 val_main_v32 val_main_v31 val_main_cst_9 val_main_v28 val_main_v27 val_main_cst_8 val_main_v26 val_main_v25 val_main_cst_7 val_main_v22 val_main_v21 val_main_v20 val_main_v19 val_main_v18 val_main_cst_5 val_main_v17 val_main_v16 val_main_cst_4 val_main_v15 val_main_v14 val_main_v13 val_main_cst_3 val_main_v11 val_main_v10 val_main_cst_2
  rw [val12]
  unfold val_main_v9 val_main_v8
  rw [val7]
  unfold val_main_v5_0 val_main_v5_2 val_main_call0_v4 val_main_call0_cst_0 val_main_call0_v3 val_main_call0_v2 val_main_call0_cst val_main_call0_v1 val_main_call0_v0
  rw [val4]
  rfl

end Cert.KernelIdeal.Closed

end
-- ==== Proof.FfnValue.lean ====
/-
  The backward FFN kernel: its six result arrays at the extended reals, in closed form. Four are written block by block
  (256 rows a grid point); the gradients of the scale and of the shift are summed over the 64 points.
-/
module

public import proofs.«01_k».proof.Proof.FfnCases
public import proofs.«01_k».proof.Proof.FfnHost

@[expose] public section

set_option maxRecDepth 16384

noncomputable section

namespace Cert.KernelIdeal.Closed

open Cert.KernelIdeal Cert.KernelIdeal.Gen Cert.KernelIdeal.Value Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (ρ : Dev nD → PrngReg)

/-! ## The operands -/

/-- The normalised rows, the reciprocals of their deviations, the gate and the up-projected values. -/
def aH (c : Dev nD) : S16384x1024.Idx → EReal := val_main_v38 (F := Ideal) (aX m c) (aG m c) (aU m c) (aD m c)
def aR (c : Dev nD) : S16384x1.Idx → EReal := val_main_v33 (F := Ideal) (aX m c) (aG m c) (aU m c) (aD m c)
def aA (c : Dev nD) : S16384x2816.Idx → EReal := val_main_v3 (F := Ideal) (aX m c) (aG m c)
def aB (c : Dev nD) : S16384x2816.Idx → EReal := val_main_v6 (F := Ideal) (aX m c) (aU m c)

theorem V_arg4 (c : Dev nD) : V m c main_arg4 = (aL m c : S1x1024.Idx → EReal) := V_main_arg4 m c
theorem V_arg5 (c : Dev nD) : V m c main_arg5 = (aC m c : S16384x1024.Idx → EReal) := V_main_arg5 m c
theorem W_v27 (c : Dev nD) : V m c main_v27 = (aH m c : S16384x1024.Idx → EReal) := V_v27 m c
theorem W_v23 (c : Dev nD) : V m c main_v23 = (aR m c : S16384x1.Idx → EReal) := V_v23 m c
theorem W_v33 (c : Dev nD) : V m c main_v33 = (aA m c : S16384x2816.Idx → EReal) := V_v33 m c
theorem W_v34 (c : Dev nD) : V m c main_v34 = (aB m c : S16384x2816.Idx → EReal) := V_v34 m c

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 := by decide +kernel

theorem iblk0 (c : Dev nD) (t : Fin cfg0.N) (p : Fin 256) (k : Fin 1024) (h : 256 * t.val + p.val < 16384) :
    (iblk m c 0 t : Vec Ideal S256x1024 .f32) (ix2 p k) = (aC m c : S16384x1024.Idx → EReal) (ix2 ⟨256 * t.val + p.val, h⟩ k) := by
  have hi := idx0 t
  have hv := V_arg5 m c
  rw [← hv]
  unfold iblk
  rw [View.read_apply]
  show V m c main_arg5 _ = V m c main_arg5 _
  congr 1
  funext a
  apply Fin.ext
  match a with
  | ⟨0, _⟩ => show win0_0.index t 0 * 256 + 1 * p.val = 256 * t.val + p.val; rw [hi.1]; omega
  | ⟨1, _⟩ => show win0_0.index t 1 * 1024 + 1 * k.val = k.val; rw [hi.2]; omega

theorem iblk1 (c : Dev nD) (t : Fin cfg0.N) (p : Fin 256) (k : Fin 1024) (h : 256 * t.val + p.val < 16384) :
    (iblk m c 1 t : Vec Ideal S256x1024 .f32) (ix2 p k) = (aH m c : S16384x1024.Idx → EReal) (ix2 ⟨256 * t.val + p.val, h⟩ k) := by
  have hi := idx1 t
  have hv := W_v27 m c
  rw [← hv]
  unfold iblk
  rw [View.read_apply]
  show V m c main_v27 _ = V m c main_v27 _
  congr 1
  funext a
  apply Fin.ext
  match a with
  | ⟨0, _⟩ => show win0_1.index t 0 * 256 + 1 * p.val = 256 * t.val + p.val; rw [hi.1]; omega
  | ⟨1, _⟩ => show win0_1.index t 1 * 1024 + 1 * k.val = k.val; rw [hi.2]; omega

theorem iblk2 (c : Dev nD) (t : Fin cfg0.N) (p : Fin 256) (k : Fin 1) (h : 256 * t.val + p.val < 16384) :
    (iblk m c 2 t : Vec Ideal S256x1 .f32) (ix2 p k) = (aR m c : S16384x1.Idx → EReal) (ix2 ⟨256 * t.val + p.val, h⟩ k) := by
  have hi := idx2 t
  have hv := W_v23 m c
  rw [← hv]
  unfold iblk
  rw [View.read_apply]
  show V m c main_v23 _ = V m c main_v23 _
  congr 1
  funext a
  apply Fin.ext
  match a with
  | ⟨0, _⟩ => show win0_2.index t 0 * 256 + 1 * p.val = 256 * t.val + p.val; rw [hi.1]; omega
  | ⟨1, _⟩ => show win0_2.index t 1 * 1 + 1 * k.val = k.val; rw [hi.2]; omega

theorem iblk7 (c : Dev nD) (t : Fin cfg0.N) (p : Fin 256) (k : Fin 2816) (h : 256 * t.val + p.val < 16384) :
    (iblk m c 7 t : Vec Ideal S256x2816 .bf16) (ix2 p k) = (aA m c : S16384x2816.Idx → EReal) (ix2 ⟨256 * t.val + p.val, h⟩ k) := by
  have hi := idx7 t
  have hv := W_v33 m c
  rw [← hv]
  unfold iblk
  rw [View.read_apply]
  show V m c main_v33 _ = V m c main_v33 _
  congr 1
  funext a
  apply Fin.ext
  match a with
  | ⟨0, _⟩ => show win0_7.index t 0 * 256 + 1 * p.val = 256 * t.val + p.val; rw [hi.1]; omega
  | ⟨1, _⟩ => show win0_7.index t 1 * 2816 + 1 * k.val = k.val; rw [hi.2]; omega

theorem iblk8 (c : Dev nD) (t : Fin cfg0.N) (p : Fin 256) (k : Fin 2816) (h : 256 * t.val + p.val < 16384) :
    (iblk m c 8 t : Vec Ideal S256x2816 .bf16) (ix2 p k) = (aB m c : S16384x2816.Idx → EReal) (ix2 ⟨256 * t.val + p.val, h⟩ k) := by
  have hi := idx8 t
  have hv := W_v34 m c
  rw [← hv]
  unfold iblk
  rw [View.read_apply]
  show V m c main_v34 _ = V m c main_v34 _
  congr 1
  funext a
  apply Fin.ext
  match a with
  | ⟨0, _⟩ => show win0_8.index t 0 * 256 + 1 * p.val = 256 * t.val + p.val; rw [hi.1]; omega
  | ⟨1, _⟩ => show win0_8.index t 1 * 2816 + 1 * k.val = k.val; rw [hi.2]; omega

theorem iblk3 (c : Dev nD) (t : Fin cfg0.N) :
    (iblk m c 3 t : Vec Ideal S1x1024 .f32) = (aL m c : S1x1024.Idx → EReal) := by
  have hi := idx3 t
  have hv := V_arg4 m c
  rw [← hv]
  unfold iblk
  funext y
  rw [View.read_apply]
  show V m c main_arg4 _ = V m c main_arg4 _
  congr 1
  funext a
  apply Fin.ext
  match a with
  | ⟨0, _⟩ => show win0_3.index t 0 * 1 + 1 * (y 0).val = (y 0).val; rw [hi.1]; omega
  | ⟨1, _⟩ => show win0_3.index t 1 * 1024 + 1 * (y 1).val = (y 1).val; rw [hi.2]; omega

theorem iblk4 (c : Dev nD) (t : Fin cfg0.N) :
    (iblk m c 4 t : Vec Ideal S2816x1024 .bf16) = (aD m c : S2816x1024.Idx → EReal) := by
  have hi := idx4 t
  have hv := V_v28 m c
  rw [← hv]
  unfold iblk
  funext y
  rw [View.read_apply]
  show V m c main_v28 _ = V m c main_v28 _
  congr 1
  funext a
  apply Fin.ext
  match a with
  | ⟨0, _⟩ => show win0_4.index t 0 * 2816 + 1 * (y 0).val = (y 0).val; rw [hi.1]; omega
  | ⟨1, _⟩ => show win0_4.index t 1 * 1024 + 1 * (y 1).val = (y 1).val; rw [hi.2]; omega

theorem iblk5 (c : Dev nD) (t : Fin cfg0.N) :
    (iblk m c 5 t : Vec Ideal S2816x1024 .bf16) = ((fun i => aG m c (ix2 (i 1) (i 0))) : S2816x1024.Idx → EReal) := by
  have hi := idx5 t
  have hv := V_v30 m c
  rw [← hv]
  unfold iblk
  funext y
  rw [View.read_apply]
  show V m c main_v30 _ = V m c main_v30 _
  congr 1
  funext a
  apply Fin.ext
  match a with
  | ⟨0, _⟩ => show win0_5.index t 0 * 2816 + 1 * (y 0).val = (y 0).val; rw [hi.1]; omega
  | ⟨1, _⟩ => show win0_5.index t 1 * 1024 + 1 * (y 1).val = (y 1).val; rw [hi.2]; omega

theorem iblk6 (c : Dev nD) (t : Fin cfg0.N) :
    (iblk m c 6 t : Vec Ideal S2816x1024 .bf16) = ((fun i => aU m c (ix2 (i 1) (i 0))) : S2816x1024.Idx → EReal) := by
  have hi := idx6 t
  have hv := V_v32 m c
  rw [← hv]
  unfold iblk
  funext y
  rw [View.read_apply]
  show V m c main_v32 _ = V m c main_v32 _
  congr 1
  funext a
  apply Fin.ext
  match a with
  | ⟨0, _⟩ => show win0_6.index t 0 * 2816 + 1 * (y 0).val = (y 0).val; rw [hi.1]; omega
  | ⟨1, _⟩ => show win0_6.index t 1 * 1024 + 1 * (y 1).val = (y 1).val; rw [hi.2]; omega

/-- The operands' blocks at point `t`. -/
abbrev b0 (c : Dev nD) (t : Fin cfg0.N) : Vec Ideal S256x1024 .f32 := iblk m c 0 t
abbrev b1 (c : Dev nD) (t : Fin cfg0.N) : Vec Ideal S256x1024 .f32 := iblk m c 1 t
abbrev b2 (c : Dev nD) (t : Fin cfg0.N) : Vec Ideal S256x1 .f32 := iblk m c 2 t
abbrev b3 (c : Dev nD) (t : Fin cfg0.N) : Vec Ideal S1x1024 .f32 := iblk m c 3 t
abbrev b4 (c : Dev nD) (t : Fin cfg0.N) : Vec Ideal S2816x1024 .bf16 := iblk m c 4 t
abbrev b5 (c : Dev nD) (t : Fin cfg0.N) : Vec Ideal S2816x1024 .bf16 := iblk m c 5 t
abbrev b6 (c : Dev nD) (t : Fin cfg0.N) : Vec Ideal S2816x1024 .bf16 := iblk m c 6 t
abbrev b7 (c : Dev nD) (t : Fin cfg0.N) : Vec Ideal S256x2816 .bf16 := iblk m c 7 t
abbrev b8 (c : Dev nD) (t : Fin cfg0.N) : Vec Ideal S256x2816 .bf16 := iblk m c 8 t

/-! ## The results, element by element -/

/-- Row `n` of the incoming gradient, of the normalised rows; the scale. -/
abbrev rd (c : Dev nD) (n : Fin 16384) : Fin 1024 → EReal := fun k => aC m c (ix2 n k)
abbrev rh (c : Dev nD) (n : Fin 16384) : Fin 1024 → EReal := fun k => aH m c (ix2 n k)
abbrev rr (c : Dev nD) (n : Fin 16384) : EReal := aR m c (ix2 n 0)
abbrev rl (c : Dev nD) : Fin 1024 → EReal := fun k => aL m c (ix2 0 k)

/-- The gradient of the layer's own output. -/
def rDY (c : Dev nD) (n : Fin 16384) (q : Fin 1024) : EReal := dyf (rd m c n) (rh m c n) (rr m c n) (rl m c) q

/-- The gradient of a gate value. -/
def rDG (c : Dev nD) (n : Fin 16384) (j : Fin 2816) : EReal :=
  dgf (dhf (rd m c n) (rh m c n) (rr m c n) (rl m c) (aD m c) j) (aA m c (ix2 n j)) (aB m c (ix2 n j))

/-- The gradient of an up-projected value. -/
def rDU (c : Dev nD) (n : Fin 16384) (j : Fin 2816) : EReal :=
  duf (dhf (rd m c n) (rh m c n) (rr m c n) (rl m c) (aD m c) j) (aA m c (ix2 n j))

/-- The gradient of the layer's input. -/
def rDX (c : Dev nD) (n : Fin 16384) (q : Fin 1024) : EReal :=
  Ideal.ofBits .f32 0x3FD744FD#32 * dzf (rd m c n) (rh m c n) (rr m c n) (rl m c) q
    + (∑ j : Fin 2816, rDG m c n j * aG m c (ix2 q j)) + ∑ j : Fin 2816, rDU m c n j * aU m c (ix2 q j)

/-! ## One grid point -/

section Point

variable (c : Dev nD) (t : Fin cfg0.N) (p : Fin 256) (h : 256 * t.val + p.val < 16384)

theorem blk_dz (q : Fin 1024) : dzV (b0 m c t) (b1 m c t) (b2 m c t) (b3 m c t) (ix2 p q)
    = dzf (rd m c ⟨256 * t.val + p.val, h⟩) (rh m c ⟨256 * t.val + p.val, h⟩) (rr m c ⟨256 * t.val + p.val, h⟩) (rl m c) q := by
  have e0 : (fun k => b0 m c t (ix2 p k)) = rd m c ⟨256 * t.val + p.val, h⟩ := funext fun k => iblk0 m c t p k h
  have e1 : (fun k => b1 m c t (ix2 p k)) = rh m c ⟨256 * t.val + p.val, h⟩ := funext fun k => iblk1 m c t p k h
  have e2 : b2 m c t (ix2 p 0) = rr m c ⟨256 * t.val + p.val, h⟩ := iblk2 m c t p 0 h
  have e3 : (fun k => b3 m c t (ix2 0 k)) = rl m c := funext fun k => congrFun (iblk3 m c t) _
  rw [← e0, ← e1, ← e2, ← e3]
  exact dz_apply _ _ _ _ _

theorem blk_dy (q : Fin 1024) : dyV (b0 m c t) (b1 m c t) (b2 m c t) (b3 m c t) (ix2 p q) = rDY m c ⟨256 * t.val + p.val, h⟩ q := by
  have e0 : (fun k => b0 m c t (ix2 p k)) = rd m c ⟨256 * t.val + p.val, h⟩ := funext fun k => iblk0 m c t p k h
  have e1 : (fun k => b1 m c t (ix2 p k)) = rh m c ⟨256 * t.val + p.val, h⟩ := funext fun k => iblk1 m c t p k h
  have e2 : b2 m c t (ix2 p 0) = rr m c ⟨256 * t.val + p.val, h⟩ := iblk2 m c t p 0 h
  have e3 : (fun k => b3 m c t (ix2 0 k)) = rl m c := funext fun k => congrFun (iblk3 m c t) _
  unfold rDY
  rw [← e0, ← e1, ← e2, ← e3]
  exact dy_apply _ _ _ _ _

theorem blk_dh (j : Fin 2816) : ∑ k : Fin 1024, dyV (b0 m c t) (b1 m c t) (b2 m c t) (b3 m c t) (ix2 p k) * b4 m c t (ix2 j k)
    = dhf (rd m c ⟨256 * t.val + p.val, h⟩) (rh m c ⟨256 * t.val + p.val, h⟩) (rr m c ⟨256 * t.val + p.val, h⟩) (rl m c) (aD m c) j :=
  Finset.sum_congr rfl fun k _ => congrArg₂ (· * ·) (blk_dy m c t p h k) (congrFun (iblk4 m c t) _)

theorem blk_dg (j : Fin 2816) : DG (dyV (b0 m c t) (b1 m c t) (b2 m c t) (b3 m c t)) (b4 m c t) (b7 m c t) (b8 m c t) (ix2 p j)
    = rDG m c ⟨256 * t.val + p.val, h⟩ j := by
  unfold DG rDG
  rw [← blk_dh m c t p h j, ← iblk7 m c t p j h, ← iblk8 m c t p j h]
  rfl

theorem blk_du (j : Fin 2816) : DU (dyV (b0 m c t) (b1 m c t) (b2 m c t) (b3 m c t)) (b4 m c t) (b7 m c t) (ix2 p j)
    = rDU m c ⟨256 * t.val + p.val, h⟩ j := by
  unfold DU rDU
  rw [← blk_dh m c t p h j, ← iblk7 m c t p j h]
  rfl

end Point

theorem outs9 (c : Dev nD) (t : Fin cfg0.N) : (outsAt0 m c t.val t.isLt).1 = k0_pay1 (F := Ideal) (dzV (b0 m c t) (b1 m c t) (b2 m c t) (b3 m c t)) (DG (dyV (b0 m c t) (b1 m c t) (b2 m c t) (b3 m c t)) (b4 m c t) (b7 m c t) (b8 m c t)) (b5 m c t) (DU (dyV (b0 m c t) (b1 m c t) (b2 m c t) (b3 m c t)) (b4 m c t) (b7 m c t)) (b6 m c t) := by
  by_cases h0 : t.val % 64 = 0
  · rw [outsAt0_A m c t h0]
    dsimp only
    rw [out9_A]
  · rw [outsAt0_B m c t h0]
    dsimp only
    rw [out9_B]

theorem outs10 (c : Dev nD) (t : Fin cfg0.N) : (outsAt0 m c t.val t.isLt).2.1 = (dyV (b0 m c t) (b1 m c t) (b2 m c t) (b3 m c t)) := by
  by_cases h0 : t.val % 64 = 0
  · rw [outsAt0_A m c t h0]
    dsimp only
    rw [out10_A]
  · rw [outsAt0_B m c t h0]
    dsimp only
    rw [out10_B]

theorem outs11 (c : Dev nD) (t : Fin cfg0.N) : (outsAt0 m c t.val t.isLt).2.2.1 = DG (dyV (b0 m c t) (b1 m c t) (b2 m c t) (b3 m c t)) (b4 m c t) (b7 m c t) (b8 m c t) := by
  by_cases h0 : t.val % 64 = 0
  · rw [outsAt0_A m c t h0]
    dsimp only
    rw [out11_A]
  · rw [outsAt0_B m c t h0]
    dsimp only
    rw [out11_B]

theorem outs12 (c : Dev nD) (t : Fin cfg0.N) : (outsAt0 m c t.val t.isLt).2.2.2.1 = DU (dyV (b0 m c t) (b1 m c t) (b2 m c t) (b3 m c t)) (b4 m c t) (b7 m c t) := by
  by_cases h0 : t.val % 64 = 0
  · rw [outsAt0_A m c t h0]
    dsimp only
    rw [out12_A]
  · rw [outsAt0_B m c t h0]
    dsimp only
    rw [out12_B]

theorem row9 (c : Dev nD) (t : Fin cfg0.N) (p : Fin 256) (q : Fin 1024) (h : 256 * t.val + p.val < 16384) :
    (outsAt0 m c t.val t.isLt).1 (ix2 p q) = rDX m c ⟨256 * t.val + p.val, h⟩ q := by
  rw [outs9]
  refine (pay1_apply _ _ _ _ _ _).trans ?_
  unfold rDX
  refine congrArg₂ (· + ·) (congrArg₂ (· + ·) (congrArg (_ * ·) (blk_dz m c t p h q)) ?_) ?_
  · exact Finset.sum_congr rfl fun j _ => congrArg₂ (· * ·) (blk_dg m c t p h j) (congrFun (iblk5 m c t) _)
  · exact Finset.sum_congr rfl fun j _ => congrArg₂ (· * ·) (blk_du m c t p h j) (congrFun (iblk6 m c t) _)

theorem row10 (c : Dev nD) (t : Fin cfg0.N) (p : Fin 256) (q : Fin 1024) (h : 256 * t.val + p.val < 16384) :
    (outsAt0 m c t.val t.isLt).2.1 (ix2 p q) = rDY m c ⟨256 * t.val + p.val, h⟩ q := by
  rw [outs10]
  exact blk_dy m c t p h q

theorem row11 (c : Dev nD) (t : Fin cfg0.N) (p : Fin 256) (q : Fin 2816) (h : 256 * t.val + p.val < 16384) :
    (outsAt0 m c t.val t.isLt).2.2.1 (ix2 p q) = rDG m c ⟨256 * t.val + p.val, h⟩ q := by
  rw [outs11]
  exact blk_dg m c t p h q

theorem row12 (c : Dev nD) (t : Fin cfg0.N) (p : Fin 256) (q : Fin 2816) (h : 256 * t.val + p.val < 16384) :
    (outsAt0 m c t.val t.isLt).2.2.2.1 (ix2 p q) = rDU m c ⟨256 * t.val + p.val, h⟩ q := by
  rw [outs12]
  exact blk_du m c t p h q

def G9 (c : Dev nD) : Buf (Elt Ideal) ((c : Thread nD τ).loc main_v35_0) := fun i : S16384x1024.Idx => rDX m c (i 0) (i 1)

theorem flushed9_eq (c : Dev nD) (t : Fin cfg0.N) (hf : (cfg0.win 9).flush t = true) :
    (dats m 0 c).flushed 9 t = ((cfg0.win 9).blk t).view.read (Elt Ideal) (G9 m c) := by
  have hN : cfg0.N = 64 := N_0
  have hlt : t.val < 64 := hN ▸ t.isLt
  have hi := idx9 t
  rw [flushed9]
  funext y
  have hy0 : (y 0).val < 256 := (y 0).isLt
  rw [View.read_apply]
  show (outsAt0 m c t.val t.isLt).1 y = _
  rw [eq_ix2 y]
  refine (row9 m c t (y 0) (y 1) (by omega)).trans ?_
  unfold G9
  congr 1
  · apply Fin.ext
    show 256 * t.val + (y 0).val = win0_9.index t 0 * 256 + 1 * (y 0).val
    rw [hi.1]; omega
  · apply Fin.ext
    show (y 1).val = win0_9.index t 1 * 1024 + 1 * (y 1).val
    rw [hi.2]; omega

theorem final9 (c : Dev nD) : (dats m 0 c).arrAt 9 cfg0.N = G9 m c :=
  (dats m 0 c).arrAt_eq_of_cover 9 (G9 m c) (flushed9_eq m c) fun (i : S16384x1024.Idx) => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0).val / 256 := ⟨⟨(i 0).val / 256, by omega⟩, rfl⟩
    have hi := idx9 t
    refine ⟨t, flush0_9 t, ?_⟩
    show i ∈ ((View.whole main_v35_0).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256
                rw [hi.1]; omega
    | ⟨1, _⟩ => show win0_9.index t 1 * 1024 ≤ (i 1 : Nat) ∧ (i 1 : Nat) < win0_9.index t 1 * 1024 + 1024
                rw [hi.2]; omega

def G10 (c : Dev nD) : Buf (Elt Ideal) ((c : Thread nD τ).loc main_v35_1) := fun i : S16384x1024.Idx => rDY m c (i 0) (i 1)

theorem flushed10_eq (c : Dev nD) (t : Fin cfg0.N) (hf : (cfg0.win 10).flush t = true) :
    (dats m 0 c).flushed 10 t = ((cfg0.win 10).blk t).view.read (Elt Ideal) (G10 m c) := by
  have hN : cfg0.N = 64 := N_0
  have hlt : t.val < 64 := hN ▸ t.isLt
  have hi := idx10 t
  rw [flushed10]
  funext y
  have hy0 : (y 0).val < 256 := (y 0).isLt
  rw [View.read_apply]
  show (outsAt0 m c t.val t.isLt).2.1 y = _
  rw [eq_ix2 y]
  refine (row10 m c t (y 0) (y 1) (by omega)).trans ?_
  unfold G10
  congr 1
  · apply Fin.ext
    show 256 * t.val + (y 0).val = win0_10.index t 0 * 256 + 1 * (y 0).val
    rw [hi.1]; omega
  · apply Fin.ext
    show (y 1).val = win0_10.index t 1 * 1024 + 1 * (y 1).val
    rw [hi.2]; omega

theorem final10 (c : Dev nD) : (dats m 0 c).arrAt 10 cfg0.N = G10 m c :=
  (dats m 0 c).arrAt_eq_of_cover 10 (G10 m c) (flushed10_eq m c) fun (i : S16384x1024.Idx) => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0).val / 256 := ⟨⟨(i 0).val / 256, by omega⟩, rfl⟩
    have hi := idx10 t
    refine ⟨t, flush0_10 t, ?_⟩
    show i ∈ ((View.whole main_v35_1).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [hi.1]; omega
    | ⟨1, _⟩ => show win0_10.index t 1 * 1024 ≤ (i 1 : Nat) ∧ (i 1 : Nat) < win0_10.index t 1 * 1024 + 1024
                rw [hi.2]; omega

def G11 (c : Dev nD) : Buf (Elt Ideal) ((c : Thread nD τ).loc main_v35_2) := fun i : S16384x2816.Idx => rDG m c (i 0) (i 1)

theorem flushed11_eq (c : Dev nD) (t : Fin cfg0.N) (hf : (cfg0.win 11).flush t = true) :
    (dats m 0 c).flushed 11 t = ((cfg0.win 11).blk t).view.read (Elt Ideal) (G11 m c) := by
  have hN : cfg0.N = 64 := N_0
  have hlt : t.val < 64 := hN ▸ t.isLt
  have hi := idx11 t
  rw [flushed11]
  funext y
  have hy0 : (y 0).val < 256 := (y 0).isLt
  rw [View.read_apply]
  show (outsAt0 m c t.val t.isLt).2.2.1 y = _
  rw [eq_ix2 y]
  refine (row11 m c t (y 0) (y 1) (by omega)).trans ?_
  unfold G11
  congr 1
  · apply Fin.ext
    show 256 * t.val + (y 0).val = win0_11.index t 0 * 256 + 1 * (y 0).val
    rw [hi.1]; omega
  · apply Fin.ext
    show (y 1).val = win0_11.index t 1 * 2816 + 1 * (y 1).val
    rw [hi.2]; omega

theorem final11 (c : Dev nD) : (dats m 0 c).arrAt 11 cfg0.N = G11 m c :=
  (dats m 0 c).arrAt_eq_of_cover 11 (G11 m c) (flushed11_eq m c) fun (i : S16384x2816.Idx) => by
    have h0 : (i 0 : Nat) < 16384 := (i 0).isLt
    have h1 : (i 1 : Nat) < 2816 := (i 1).isLt
    have hN : cfg0.N = 64 := N_0
    obtain ⟨t, ht⟩ : ∃ t : Fin cfg0.N, t.val = (i 0).val / 256 := ⟨⟨(i 0).val / 256, by omega⟩, rfl⟩
    have hi := idx11 t
    refine ⟨t, flush0_11 t, ?_⟩
    show i ∈ ((View.whole main_v35_2).slice (win0_11.rect t)).set
    rw [View.set_slice_whole, Rect.mem_set_unit]
    intro a
    match a with
    | ⟨0, _⟩ => show win0_11.index t 0 * 256 ≤ (i 0 : Nat) ∧ (i 0 : Nat) < win0_11.index t 0 * 256 + 256
                rw [hi.1]; omega
    | ⟨1, _⟩ => show win0_11.index t 1 * 2816 ≤ (i 1 : Nat) ∧ (i 1 : Nat) < win0_11.index t 1 * 2816 + 2816
                rw [hi.2]; omega

def G12 (c : Dev nD) : Buf (Elt Ideal) ((c : Thread nD τ).loc main_v35_3) := fun i : S16384x2816.Idx => rDU m c (i 0) (i 1)

theorem flushed12_eq (c : Dev nD) (t : Fin cfg0.N) (hf : (cfg0.win 12).flush t = true) :
    (dats m 0 c).flushed 12 t = ((cfg0.win 12).blk t).view.read (Elt Ideal) (G12 m c) := by
  have hN : cfg0.N = 64 := N_0
  have hlt : t.val < 64 := hN ▸ t.isLt
  have hi := idx12 t
  rw [flushed12]
  funext y
  have hy0 : (y 0).val < 256 := (y 0).isLt
  rw [View.read_apply]
  show (outsAt0 m c t.val t.isLt).2.2.2.1 y = _
  rw [eq_ix2 y]
  refine (row12 m c t (y 0) (y 1) (by omega)).trans ?_
  unfold G12
  congr 1
  · apply Fin.ext
    show 256 * t.val + (y 0).val = win0_12.index t 0 * 256 + 1 * (y 0).val
    rw [hi.1]; omega
  · apply Fin.ext
    show (y 1).val = win0_12.index t 1 * 2816 + 1 * (y 1).val
    rw [hi.2]; omega

theorem final12 (c : Dev nD) : (dats m 0 c).arrAt 12 cfg0.N = G12 m c :=
  (dats m 0 c).arrAt_eq_of_cover 12 (G12 m c) (flushed12_eq m c) fun (i : S16384x2816.Idx) => by
    have h0 : (i 0 : Nat) < 16384 := (i 0).isLt
    have h1 : (i 1 : Nat) < 2816 := (i 1).isLt
    have hN : cfg0.N = 64 := N_0
    obtain ⟨t, ht⟩ : ∃ t : Fin cfg0.N, t.val = (i 0).val / 256 := ⟨⟨(i 0).val / 256, by omega⟩, rfl⟩
    have hi := idx12 t
    refine ⟨t, flush0_12 t, ?_⟩
    show i ∈ ((View.whole main_v35_3).slice (win0_12.rect t)).set
    rw [View.set_slice_whole, Rect.mem_set_unit]
    intro a
    match a with
    | ⟨0, _⟩ => show win0_12.index t 0 * 256 ≤ (i 0 : Nat) ∧ (i 0 : Nat) < win0_12.index t 0 * 256 + 256
                rw [hi.1]; omega
    | ⟨1, _⟩ => show win0_12.index t 1 * 2816 ≤ (i 1 : Nat) ∧ (i 1 : Nat) < win0_12.index t 1 * 2816 + 2816
                rw [hi.2]; omega

/-! ## The running sums -/

/-- A summand of the scale's gradient and of the shift's, at natural-number rows. -/
def tGam (c : Dev nD) (q : Fin 1024) (k : ℕ) : EReal := if h : k < 16384 then aC m c (ix2 ⟨k, h⟩ q) * aH m c (ix2 ⟨k, h⟩ q) else 0
def tBet (c : Dev nD) (q : Fin 1024) (k : ℕ) : EReal := if h : k < 16384 then aC m c (ix2 ⟨k, h⟩ q) else 0

theorem tile_gam (c : Dev nD) (t : Fin cfg0.N) (q : Fin 1024) :
    ∑ p : Fin 256, b0 m c t (ix2 p q) * b1 m c t (ix2 p q) = ∑ k ∈ Finset.range 256, tGam m c q (256 * t.val + k) := by
  have hN : cfg0.N = 64 := N_0
  have hlt : t.val < 64 := hN ▸ t.isLt
  rw [Finset.sum_range]
  refine Finset.sum_congr rfl fun k _ => ?_
  have h0 : 256 * t.val + k.val < 16384 := by have := k.isLt; omega
  rw [tGam, dif_pos h0]
  exact congrArg₂ (· * ·) (iblk0 m c t k q h0) (iblk1 m c t k q h0)

theorem step13_A (c : Dev nD) (t : Fin cfg0.N) (h0 : t.val % 64 = 0) (q : Fin 1024) :
    (outsAt0 m c t.val t.isLt).2.2.2.2.1 (ix2 0 q) = ∑ p : Fin 256, b0 m c t (ix2 p q) * b1 m c t (ix2 p q) := by
  rw [outsAt0_A m c t h0]
  dsimp only
  rw [out13_A, pay5_apply, pay2_apply, zero_add]

theorem step13_B (c : Dev nD) (t : Fin cfg0.N) (h0 : ¬t.val % 64 = 0) (q : Fin 1024) :
    (outsAt0 m c t.val t.isLt).2.2.2.2.1 (ix2 0 q)
      = (outsAt0 m c (t.val - 1) (Nat.lt_of_le_of_lt (Nat.sub_le _ _) t.isLt)).2.2.2.2.1 (ix2 0 q) + ∑ p : Fin 256, b0 m c t (ix2 p q) * b1 m c t (ix2 p q) := by
  rw [outsAt0_B m c t h0]
  dsimp only
  rw [out13_B, pay5_apply]

/-- After point `n`, the running sum over the rows met so far. -/
theorem outs13_eq (c : Dev nD) : ∀ (n : ℕ) (h : n < cfg0.N) (q : Fin 1024),
    (outsAt0 m c n h).2.2.2.2.1 (ix2 0 q) = ∑ k ∈ Finset.range (256 * (n + 1)), tGam m c q k := by
  have hN : cfg0.N = 64 := N_0
  intro n
  induction n with
  | zero =>
    intro h q
    refine (step13_A m c ⟨0, h⟩ rfl q).trans ?_
    rw [tile_gam m c ⟨0, h⟩ q]
    simp
  | succ n ih =>
    intro h q
    refine (step13_B m c ⟨n + 1, h⟩ (by show ¬(n + 1) % 64 = 0; omega) q).trans ?_
    rw [tile_gam m c ⟨n + 1, h⟩ q, show 256 * (n + 1 + 1) = 256 * (n + 1) + 256 from by omega, Finset.sum_range_add]
    exact congrArg (· + _) (ih (Nat.lt_of_succ_lt h) q)

def rdgam (c : Dev nD) (q : Fin 1024) : EReal := ∑ n : Fin 16384, aC m c (ix2 n q) * aH m c (ix2 n q)

theorem rdgam_eq (c : Dev nD) (q : Fin 1024) : ∑ k ∈ Finset.range 16384, tGam m c q k = rdgam m c q := by
  rw [Finset.sum_range]
  exact Finset.sum_congr rfl fun k _ => by rw [tGam, dif_pos k.isLt]

def G13 (c : Dev nD) : Buf (Elt Ideal) ((c : Thread nD τ).loc main_v35_4) := fun i : S1x1024.Idx => rdgam m c (i 1)

theorem flushed13_eq (c : Dev nD) (t : Fin cfg0.N) (hf : (cfg0.win 13).flush t = true) :
    (dats m 0 c).flushed 13 t = ((cfg0.win 13).blk t).view.read (Elt Ideal) (G13 m c) := by
  have h63 : t.val % 64 = 63 := (flush0_13 t).mp hf
  have hN : cfg0.N = 64 := N_0
  have hlt : t.val < 64 := hN ▸ t.isLt
  have hi := idx13 t
  rw [flushed13]
  funext y
  rw [View.read_apply]
  show (outsAt0 m c t.val t.isLt).2.2.2.2.1 y = _
  have hy : y = ix2 0 (y 1) := by
    conv_lhs => rw [eq_ix2 y]
    exact congrArg (fun a : Fin 1 => ix2 a (y 1)) (Subsingleton.elim _ _)
  rw [hy]
  refine (outs13_eq m c t.val t.isLt (y 1)).trans ?_
  rw [show 256 * (t.val + 1) = 16384 from by omega]
  refine (rdgam_eq m c (y 1)).trans ?_
  unfold G13
  congr 1
  apply Fin.ext
  show (y 1).val = win0_13.index t 1 * 1024 + 1 * (y 1).val
  rw [hi.2]; omega

theorem final13 (c : Dev nD) : (dats m 0 c).arrAt 13 cfg0.N = G13 m c :=
  (dats m 0 c).arrAt_eq_of_cover 13 (G13 m c) (flushed13_eq m c) fun (i : S1x1024.Idx) => by
    have h0 : (i 0 : Nat) < 1 := (i 0).isLt
    have h1 : (i 1 : Nat) < 1024 := (i 1).isLt
    have hN : cfg0.N = 64 := N_0
    obtain ⟨t, ht⟩ : ∃ t : Fin cfg0.N, t.val = 63 := ⟨⟨63, by omega⟩, rfl⟩
    have hi := idx13 t
    refine ⟨t, (flush0_13 t).mpr (by omega), ?_⟩
    show i ∈ ((View.whole main_v35_4).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1
                rw [hi.1]; omega
    | ⟨1, _⟩ => show win0_13.index t 1 * 1024 ≤ (i 1 : Nat) ∧ (i 1 : Nat) < win0_13.index t 1 * 1024 + 1024
                rw [hi.2]; omega

theorem tile_bet (c : Dev nD) (t : Fin cfg0.N) (q : Fin 1024) :
    ∑ p : Fin 256, b0 m c t (ix2 p q) = ∑ k ∈ Finset.range 256, tBet m c q (256 * t.val + k) := by
  have hN : cfg0.N = 64 := N_0
  have hlt : t.val < 64 := hN ▸ t.isLt
  rw [Finset.sum_range]
  refine Finset.sum_congr rfl fun k _ => ?_
  have h0 : 256 * t.val + k.val < 16384 := by have := k.isLt; omega
  rw [tBet, dif_pos h0]
  exact iblk0 m c t k q h0

theorem step14_A (c : Dev nD) (t : Fin cfg0.N) (h0 : t.val % 64 = 0) (q : Fin 1024) :
    (outsAt0 m c t.val t.isLt).2.2.2.2.2 (ix2 0 q) = ∑ p : Fin 256, b0 m c t (ix2 p q) := by
  rw [outsAt0_A m c t h0]
  dsimp only
  rw [out14_A, pay6_apply, pay3_apply, zero_add]

theorem step14_B (c : Dev nD) (t : Fin cfg0.N) (h0 : ¬t.val % 64 = 0) (q : Fin 1024) :
    (outsAt0 m c t.val t.isLt).2.2.2.2.2 (ix2 0 q)
      = (outsAt0 m c (t.val - 1) (Nat.lt_of_le_of_lt (Nat.sub_le _ _) t.isLt)).2.2.2.2.2 (ix2 0 q) + ∑ p : Fin 256, b0 m c t (ix2 p q) := by
  rw [outsAt0_B m c t h0]
  dsimp only
  rw [out14_B, pay6_apply]

/-- After point `n`, the running sum over the rows met so far. -/
theorem outs14_eq (c : Dev nD) : ∀ (n : ℕ) (h : n < cfg0.N) (q : Fin 1024),
    (outsAt0 m c n h).2.2.2.2.2 (ix2 0 q) = ∑ k ∈ Finset.range (256 * (n + 1)), tBet m c q k := by
  have hN : cfg0.N = 64 := N_0
  intro n
  induction n with
  | zero =>
    intro h q
    refine (step14_A m c ⟨0, h⟩ rfl q).trans ?_
    rw [tile_bet m c ⟨0, h⟩ q]
    simp
  | succ n ih =>
    intro h q
    refine (step14_B m c ⟨n + 1, h⟩ (by show ¬(n + 1) % 64 = 0; omega) q).trans ?_
    rw [tile_bet m c ⟨n + 1, h⟩ q, show 256 * (n + 1 + 1) = 256 * (n + 1) + 256 from by omega, Finset.sum_range_add]
    exact congrArg (· + _) (ih (Nat.lt_of_succ_lt h) q)

def rdbet (c : Dev nD) (q : Fin 1024) : EReal := ∑ n : Fin 16384, aC m c (ix2 n q)

theorem rdbet_eq (c : Dev nD) (q : Fin 1024) : ∑ k ∈ Finset.range 16384, tBet m c q k = rdbet m c q := by
  rw [Finset.sum_range]
  exact Finset.sum_congr rfl fun k _ => by rw [tBet, dif_pos k.isLt]

def G14 (c : Dev nD) : Buf (Elt Ideal) ((c : Thread nD τ).loc main_v35_5) := fun i : S1x1024.Idx => rdbet m c (i 1)

theorem flushed14_eq (c : Dev nD) (t : Fin cfg0.N) (hf : (cfg0.win 14).flush t = true) :
    (dats m 0 c).flushed 14 t = ((cfg0.win 14).blk t).view.read (Elt Ideal) (G14 m c) := by
  have h63 : t.val % 64 = 63 := (flush0_14 t).mp hf
  have hN : cfg0.N = 64 := N_0
  have hlt : t.val < 64 := hN ▸ t.isLt
  have hi := idx14 t
  rw [flushed14]
  funext y
  rw [View.read_apply]
  show (outsAt0 m c t.val t.isLt).2.2.2.2.2 y = _
  have hy : y = ix2 0 (y 1) := by
    conv_lhs => rw [eq_ix2 y]
    exact congrArg (fun a : Fin 1 => ix2 a (y 1)) (Subsingleton.elim _ _)
  rw [hy]
  refine (outs14_eq m c t.val t.isLt (y 1)).trans ?_
  rw [show 256 * (t.val + 1) = 16384 from by omega]
  refine (rdbet_eq m c (y 1)).trans ?_
  unfold G14
  congr 1
  apply Fin.ext
  show (y 1).val = win0_14.index t 1 * 1024 + 1 * (y 1).val
  rw [hi.2]; omega

theorem final14 (c : Dev nD) : (dats m 0 c).arrAt 14 cfg0.N = G14 m c :=
  (dats m 0 c).arrAt_eq_of_cover 14 (G14 m c) (flushed14_eq m c) fun (i : S1x1024.Idx) => by
    have h0 : (i 0 : Nat) < 1 := (i 0).isLt
    have h1 : (i 1 : Nat) < 1024 := (i 1).isLt
    have hN : cfg0.N = 64 := N_0
    obtain ⟨t, ht⟩ : ∃ t : Fin cfg0.N, t.val = 63 := ⟨⟨63, by omega⟩, rfl⟩
    have hi := idx14 t
    refine ⟨t, (flush0_14 t).mpr (by omega), ?_⟩
    show i ∈ ((View.whole main_v35_5).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1
                rw [hi.1]; omega
    | ⟨1, _⟩ => show win0_14.index t 1 * 1024 ≤ (i 1 : Nat) ∧ (i 1 : Nat) < win0_14.index t 1 * 1024 + 1024
                rw [hi.2]; omega

/-- The run, read: the six result arrays in closed form, the arguments unchanged. -/
theorem run : θ_run defs (onTc (τ := τ) (main (F := Ideal))) ⟨m, fun _ => 0, ρ⟩ fun r => ∀ c : Dev nD,
      r.2.mem ((c : Thread nD τ).loc main_v35_0) = G9 m c
      ∧ r.2.mem ((c : Thread nD τ).loc main_v35_1) = G10 m c
      ∧ r.2.mem ((c : Thread nD τ).loc main_v35_2) = G11 m c
      ∧ r.2.mem ((c : Thread nD τ).loc main_v35_3) = G12 m c
      ∧ r.2.mem ((c : Thread nD τ).loc main_v35_4) = G13 m c
      ∧ r.2.mem ((c : Thread nD τ).loc main_v35_5) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨a0, a1, a2, a3, a4, a5, d⟩ := h c
    exact ⟨a0.trans (final9 m c), a1.trans (final10 m c), a2.trans (final11 m c), a3.trans (final12 m c), a4.trans (final13 m c), a5.trans (final14 m c), d⟩) (run_blocks m ρ)

end Cert.KernelIdeal.Closed

end
-- ==== Proof.FfnReal.lean ====
/-
  The backward of the normalisation on one row, over the reals: the derivative as it is written from the forward lines
  (through the mean, the variance and the reciprocal root one after another) and the kernel's closed expression agree
  wherever the row, its gradient and the scale are finite.
-/
module

public import proofs.«01_k».proof.Proof.FfnCases

@[expose] public section

set_option maxRecDepth 16384

noncomputable section

namespace Cert.KernelIdeal.Closed

open Cert.KernelIdeal Idealize.ShloMosaic

/-! ## Finite values -/

/-- A value that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy
  exact ⟨a + b, (EReal.coe_add a b).symm⟩

theorem Fin'.mul {x y : EReal} (hx : Fin' x) (hy : Fin' y) : Fin' (x * y) := by
  obtain ⟨a, rfl⟩ := hx; obtain ⟨b, rfl⟩ := hy
  exact ⟨a * b, (EReal.coe_mul a b).symm⟩

theorem coe_sumR {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

theorem Fin'.sum {n : ℕ} {f : Fin n → EReal} (h : ∀ k, Fin' (f k)) : Fin' (∑ k : Fin n, f k) := by
  choose r hr using h
  exact ⟨∑ k, r k, by rw [coe_sumR]; exact Finset.sum_congr rfl fun k _ => hr k⟩

theorem fin_zero : Fin' 0 := ⟨0, rfl⟩

/-! ## The constants -/

theorem c1024 : Ideal.ofBits .f32 0x44800000#32 = ((1024 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cMHalf : Ideal.ofBits .f32 0xBF000000#32 = ((-(1 / 2) : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cEps : ∃ e : ℝ, 0 < e ∧ Ideal.ofBits .f32 0x3727C5AC#32 = (e : EReal) := by
  refine ⟨_, ?_, by simp [Ideal.ofBits, Ideal.ieee, -EReal.coe_mul]; rfl⟩
  positivity

theorem cAlpha : Fin' (Ideal.ofBits .f32 0x3FD744FD#32) := by
  refine ⟨_, by simp [Ideal.ofBits, Ideal.ieee, -EReal.coe_mul]; rfl⟩

theorem div1024 (x : ℝ) : Ideal.div (x : EReal) (Ideal.ofBits .f32 0x44800000#32) = ((x / 1024 : ℝ) : EReal) := by
  rw [c1024, Ideal.div_coe (by norm_num), ← EReal.coe_mul]
  congr 1; ring

/-! ## The derivative as it is written -/

section Row

variable (z d g : Fin 1024 → EReal)

/-- The row's mean, the centred row, the variance with the small constant, the reciprocal of its root. -/
def muf : EReal := Ideal.div (Ideal.ofBits .f32 0x00000000#32 + ∑ k : Fin 1024, z k) (Ideal.ofBits .f32 0x44800000#32)
def cf (q : Fin 1024) : EReal := z q - muf z
def vf : EReal := Ideal.div (Ideal.ofBits .f32 0x00000000#32 + ∑ k : Fin 1024, cf z k * cf z k) (Ideal.ofBits .f32 0x44800000#32)
  + Ideal.ofBits .f32 0x3727C5AC#32
def rsf : EReal := Ideal.rsqrt (vf z)

/-- The derivative through the product with the reciprocal root. -/
def pf (q : Fin 1024) : EReal := d q * g q * rsf z
/-- The derivative of the variance. -/
def wf : EReal := Ideal.div ((Ideal.ofBits .f32 0x00000000#32 + ∑ k : Fin 1024, cf z k * (d k * g k))
  * (Ideal.ofBits .f32 0xBF000000#32 * Ideal.div (rsf z) (vf z))) (Ideal.ofBits .f32 0x44800000#32)
/-- The derivative through the variance. -/
def tf (q : Fin 1024) : EReal := (Ideal.ofBits .f32 0x00000000#32 + ∑ _k : Fin 1, wf z d g) * (Ideal.ofBits .f32 0x40000000#32 * cf z q)
/-- The derivative through the mean. -/
def mf : EReal := Ideal.div ((Ideal.ofBits .f32 0x00000000#32 + ∑ k : Fin 1024, -pf z d g k)
  + (Ideal.ofBits .f32 0x00000000#32 + ∑ k : Fin 1024, -tf z d g k)) (Ideal.ofBits .f32 0x44800000#32)
/-- The derivative with respect to the row. -/
def zf (q : Fin 1024) : EReal := (pf z d g q + tf z d g q) + (Ideal.ofBits .f32 0x00000000#32 + ∑ _k : Fin 1, mf z d g)

end Row

/-! ## Over the reals -/

section RealRow

variable (z d g : Fin 1024 → ℝ)

def muR : ℝ := (∑ k, z k) / 1024
def cR (q : Fin 1024) : ℝ := z q - muR z

theorem sum_cR : ∑ k, cR z k = 0 := by
  unfold cR muR
  rw [Finset.sum_sub_distrib, Finset.sum_const, Finset.card_univ, Fintype.card_fin, nsmul_eq_mul]
  push_cast; ring

theorem muf_coe : muf (fun k => (z k : EReal)) = (muR z : EReal) := by
  unfold muf muR
  rw [Ideal.ofBits_zero_f32, zero_add, ← coe_sumR, div1024]

theorem cf_coe (q : Fin 1024) : cf (fun k => (z k : EReal)) q = (cR z q : EReal) := by
  unfold cf cR
  rw [muf_coe, EReal.coe_sub]

theorem vf_coe : ∃ v : ℝ, 0 < v ∧ vf (fun k => (z k : EReal)) = (v : EReal) := by
  obtain ⟨e, he, hE⟩ := cEps
  refine ⟨(∑ k, cR z k * cR z k) / 1024 + e, ?_, ?_⟩
  · have : 0 ≤ ∑ k, cR z k * cR z k := Finset.sum_nonneg fun k _ => mul_self_nonneg _
    positivity
  · unfold vf
    have h : ∀ k, cf (fun k => (z k : EReal)) k * cf (fun k => (z k : EReal)) k = ((cR z k * cR z k : ℝ) : EReal) := fun k => by
      rw [cf_coe, EReal.coe_mul]
    rw [Finset.sum_congr rfl fun k _ => h k, Ideal.ofBits_zero_f32, zero_add, ← coe_sumR, div1024, hE, EReal.coe_add]

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The kernel's expression and the derivative, at real rows. -/
theorem zf_coe (q : Fin 1024) :
    ∃ r : ℝ, zf (fun k => (z k : EReal)) (fun k => (d k : EReal)) (fun k => (g k : EReal)) q = (r : EReal)
      ∧ dzf (fun k => (d k : EReal)) (fun k => cf (fun k => (z k : EReal)) k * rsf (fun k => (z k : EReal))) (rsf (fun k => (z k : EReal)))
          (fun k => (g k : EReal)) q = (r : EReal) := by
  obtain ⟨v, hv, hV⟩ := vf_coe z
  obtain ⟨s, hs⟩ : ∃ s : ℝ, s = (Real.sqrt v)⁻¹ := ⟨_, rfl⟩
  have hS : rsf (fun k => (z k : EReal)) = (s : EReal) := by rw [rsf, hV, rsqrt_pos hv, hs]
  have hss : s * s = v⁻¹ := by rw [hs, ← mul_inv, Real.mul_self_sqrt hv.le]
  have hc : ∀ k, cf (fun k => (z k : EReal)) k = (cR z k : EReal) := cf_coe z
  have hdiv : Ideal.div (s : EReal) (v : EReal) = ((s * (1 / v) : ℝ) : EReal) := by rw [Ideal.div_coe hv.ne', ← EReal.coe_mul]
  -- the reference's parts
  have hp : ∀ k, pf (fun k => (z k : EReal)) (fun k => (d k : EReal)) (fun k => (g k : EReal)) k = ((d k * g k * s : ℝ) : EReal) := fun k => by
    rw [pf, hS, EReal.coe_mul, EReal.coe_mul]
  obtain ⟨A, hA⟩ : ∃ A : ℝ, A = ∑ k, cR z k * (d k * g k) := ⟨_, rfl⟩
  have hw : wf (fun k => (z k : EReal)) (fun k => (d k : EReal)) (fun k => (g k : EReal))
      = ((A * (-(1 / 2) * (s * (1 / v))) / 1024 : ℝ) : EReal) := by
    rw [wf, hS, hV, hdiv, cMHalf, Ideal.ofBits_zero_f32, zero_add]
    have h : ∀ k, cf (fun k => (z k : EReal)) k * ((d k : EReal) * (g k : EReal)) = ((cR z k * (d k * g k) : ℝ) : EReal) := fun k => by
      rw [hc, EReal.coe_mul, EReal.coe_mul]
    rw [Finset.sum_congr rfl fun k _ => h k, ← coe_sumR, ← hA, ← EReal.coe_mul, ← EReal.coe_mul, div1024]
  obtain ⟨W, hW⟩ : ∃ W : ℝ, W = A * (-(1 / 2) * (s * (1 / v))) / 1024 := ⟨_, rfl⟩
  have ht : ∀ k, tf (fun k => (z k : EReal)) (fun k => (d k : EReal)) (fun k => (g k : EReal)) k = ((W * (2 * cR z k) : ℝ) : EReal) := fun k => by
    rw [tf, hw, ← hW, hc, cTwo, Ideal.ofBits_zero_f32, zero_add, Finset.sum_const, Finset.card_univ, Fintype.card_fin, one_smul,
      EReal.coe_mul, EReal.coe_mul]
  have hm : mf (fun k => (z k : EReal)) (fun k => (d k : EReal)) (fun k => (g k : EReal))
      = (((∑ k, -(d k * g k * s)) + (∑ k, -(W * (2 * cR z k)))) / 1024 : ℝ) := by
    have h1 : ∀ k, -pf (fun k => (z k : EReal)) (fun k => (d k : EReal)) (fun k => (g k : EReal)) k = ((-(d k * g k * s) : ℝ) : EReal) := fun k => by
      rw [hp, EReal.coe_neg]
    have h2 : ∀ k, -tf (fun k => (z k : EReal)) (fun k => (d k : EReal)) (fun k => (g k : EReal)) k = ((-(W * (2 * cR z k)) : ℝ) : EReal) := fun k => by
      rw [ht, EReal.coe_neg]
    rw [mf, Ideal.ofBits_zero_f32, zero_add, zero_add, Finset.sum_congr rfl fun k _ => h1 k, Finset.sum_congr rfl fun k _ => h2 k,
      ← coe_sumR, ← coe_sumR, ← EReal.coe_add, div1024]
  refine ⟨(d q * g q * s + W * (2 * cR z q)) + ((∑ k, -(d k * g k * s)) + (∑ k, -(W * (2 * cR z k)))) / 1024, ?_, ?_⟩
  · rw [zf, hp, ht, hm, Ideal.ofBits_zero_f32, zero_add, Finset.sum_const, Finset.card_univ, Fintype.card_fin, one_smul,
      ← EReal.coe_add, ← EReal.coe_add]
  · have hh : ∀ k, (d k : EReal) * (g k : EReal) * (cf (fun k => (z k : EReal)) k * rsf (fun k => (z k : EReal)))
        = ((d k * g k * (cR z k * s) : ℝ) : EReal) := fun k => by
      rw [hc, hS, EReal.coe_mul, EReal.coe_mul, EReal.coe_mul]
    have hg : ∀ k, (d k : EReal) * (g k : EReal) = ((d k * g k : ℝ) : EReal) := fun k => (EReal.coe_mul _ _).symm
    rw [dzf, Finset.sum_congr rfl fun k _ => hh k, Finset.sum_congr rfl fun k _ => hg k, ← coe_sumR, ← coe_sumR, div1024, div1024, hg, hc, hS,
      ← EReal.coe_sub, ← EReal.coe_mul, ← EReal.coe_mul, ← EReal.coe_sub, ← EReal.coe_mul]
    congr 1
    have e1 : ∑ k, d k * g k * (cR z k * s) = A * s := by
      rw [hA, Finset.sum_mul]; exact Finset.sum_congr rfl fun k _ => by ring
    have e2 : ∑ k, -(d k * g k * s) = -((∑ k, d k * g k) * s) := by
      rw [Finset.sum_mul, ← Finset.sum_neg_distrib]
    have e3 : ∑ k, -(W * (2 * cR z k)) = 0 := by
      have : ∀ k, -(W * (2 * cR z k)) = (-(W * 2)) * cR z k := fun k => by ring
      rw [Finset.sum_congr rfl fun k _ => this k, ← Finset.mul_sum, sum_cR, mul_zero]
    rw [e1, e2, e3, hW, one_div v, ← hss]
    ring

end RealRow

/-- The two agree at finite rows, and the value is finite. -/
theorem zf_eq (z d g : Fin 1024 → EReal) (hz : ∀ k, Fin' (z k)) (hd : ∀ k, Fin' (d k)) (hg : ∀ k, Fin' (g k)) (q : Fin 1024) :
    zf z d g q = dzf d (fun k => cf z k * rsf z) (rsf z) g q ∧ Fin' (dzf d (fun k => cf z k * rsf z) (rsf z) g q) := by
  choose z' hz' using hz
  choose d' hd' using hd
  choose g' hg' using hg
  obtain rfl : z = fun k => (z' k : EReal) := funext hz'
  obtain rfl : d = fun k => (d' k : EReal) := funext hd'
  obtain rfl : g = fun k => (g' k : EReal) := funext hg'
  obtain ⟨r, h1, h2⟩ := zf_coe z' d' g' q
  exact ⟨h1.trans h2.symm, r, h2⟩

/-! ## The gate -/

theorem sgf_coe (g : ℝ) : ∃ s : ℝ, sgf (g : EReal) = (s : EReal) := by
  have hne : (1 + Real.exp (-g) : ℝ) ≠ 0 := by positivity
  refine ⟨1 * (1 / (1 + Real.exp (-g))), ?_⟩
  rw [sgf, ← EReal.coe_neg, Ideal.exp_coe, ← EReal.coe_one, ← EReal.coe_add, Ideal.div_coe hne, ← EReal.coe_mul]

/-- The gate's derivative in the two ways it is written. -/
theorem dgf_eq (a g u : EReal) (ha : Fin' a) (hg : Fin' g) (hu : Fin' u) :
    a * u * sgf g + g * (a * u) * (sgf g * (1 - sgf g)) = dgf a g u := by
  obtain ⟨a, rfl⟩ := ha; obtain ⟨g, rfl⟩ := hg; obtain ⟨u, rfl⟩ := hu
  obtain ⟨s, hs⟩ := sgf_coe g
  rw [dgf, hs, ← EReal.coe_one]
  simp only [← EReal.coe_mul, ← EReal.coe_sub, ← EReal.coe_add]
  congr 1; ring

theorem fin_sgf (g : EReal) (hg : Fin' g) : Fin' (sgf g) := by
  obtain ⟨g, rfl⟩ := hg
  exact sgf_coe g

theorem fin_half : Fin' (Ideal.ofBits .f32 0x3F000000#32) := ⟨_, cHalf⟩

/-- A value whose magnitude is below the greatest is a real number. -/
theorem fin_of_lt (x : EReal) (h : max x (-x) < ⊤) : Fin' x := by
  induction x using EReal.rec with
  | bot => simp at h
  | coe r => exact ⟨r, rfl⟩
  | top => simp at h

end Cert.KernelIdeal.Closed

end
-- ==== Proof.FfnRef.lean ====
/-
  The derivative of the FFN layer, read element by element: each of its six results is the kernel's expression, wherever
  the arguments are finite.
-/
module

public import proofs.«01_k».proof.Proof.FfnReal
public import proofs.«01_k».proof.Proof.FfnHost

@[expose] public section

set_option maxRecDepth 16384

noncomputable section

namespace Cert.ReferenceIdeal.Closed

open Cert.ReferenceIdeal Cert.ReferenceIdeal.Read Idealize.ShloMosaic
open Cert.KernelIdeal.Closed

variable (x0 : S16384x1024.Idx → EReal) (x1 x2 : S1024x2816.Idx → EReal) (x3 : S2816x1024.Idx → EReal) (x4 : S1x1024.Idx → EReal)
  (x5 : S16384x1024.Idx → EReal)

theorem ix_eq {a b : ℕ} (i j : (⟨2, ![a, b]⟩ : Shape).Idx) (h0 : (i 0).val = (j 0).val) (h1 : (i 1).val = (j 1).val) : i = j := by
  funext k
  match k with
  | ⟨0, _⟩ => exact Fin.ext h0
  | ⟨1, _⟩ => exact Fin.ext h1

/-- A row before the normalisation, of the incoming gradient, and the scale. -/
def zr (n : Fin 16384) : Fin 1024 → EReal := fun k => val_main_v15 (F := Ideal) x0 x1 x2 x3 (ix2 n k)
def dr (n : Fin 16384) : Fin 1024 → EReal := fun k => x5 (ix2 n k)
def gr : Fin 1024 → EReal := fun k => x4 (ix2 0 k)

theorem r19 (n : Fin 16384) :
    val_main_v19 (F := Ideal) x0 x1 x2 x3 (ix2 n 0) = muf (zr x0 x1 x2 x3 n) := by
  rw [val_main_v19_apply, val_main_v17_apply, val_main_v16_apply, val_main_v18_apply]
  have h : ∀ k : Fin 1024, val_main_v15 (F := Ideal) x0 x1 x2 x3 (idx_main_v16 (idx_main_v17 (ix2 n 0)) k) = (zr x0 x1 x2 x3 n) k := fun k => by
    rw [show idx_main_v16 (idx_main_v17 (ix2 n 0)) k = ix2 n k from ix_eq _ _ rfl rfl]
    rfl
  rw [Finset.sum_congr rfl fun k _ => h k]
  rfl

theorem r21 (n : Fin 16384) (q : Fin 1024) :
    val_main_v21 (F := Ideal) x0 x1 x2 x3 (ix2 n q) = cf (zr x0 x1 x2 x3 n) q := by
  rw [val_main_v21_apply, val_main_v20_apply, show idx_main_v20 (ix2 n q) = ix2 n 0 from ix_eq _ _ rfl rfl, r19]
  rfl

theorem r30 (n : Fin 16384) (q : Fin 1024) :
    val_main_v30 (F := Ideal) x0 x1 x2 x3 (ix2 n q) = cf (zr x0 x1 x2 x3 n) q := by
  rw [val_main_v30_apply, val_main_v29_apply, show idx_main_v29 (ix2 n q) = ix2 n 0 from ix_eq _ _ rfl rfl, r19]
  rfl

theorem r32 (n : Fin 16384) :
    val_main_v32 (F := Ideal) x0 x1 x2 x3 (ix2 n 0) = vf (zr x0 x1 x2 x3 n) := by
  rw [val_main_v32_apply, val_main_v28_apply, val_main_v26_apply, val_main_v25_apply, val_main_v27_apply, val_main_v31_apply]
  have h : ∀ k : Fin 1024, val_main_v22 (F := Ideal) x0 x1 x2 x3 (idx_main_v25 (idx_main_v26 (ix2 n 0)) k) = cf (zr x0 x1 x2 x3 n) k * cf (zr x0 x1 x2 x3 n) k := fun k => by
    rw [show idx_main_v25 (idx_main_v26 (ix2 n 0)) k = ix2 n k from ix_eq _ _ rfl rfl, val_main_v22_apply, r21 x0 x1 x2 x3 n k]
    rfl
  rw [Finset.sum_congr rfl fun k _ => h k]
  rfl

theorem r33 (n : Fin 16384) :
    val_main_v33 (F := Ideal) x0 x1 x2 x3 (ix2 n 0) = rsf (zr x0 x1 x2 x3 n) := by
  rw [val_main_v33_apply, r32]
  rfl

theorem r38 (n : Fin 16384) (q : Fin 1024) :
    val_main_v38 (F := Ideal) x0 x1 x2 x3 (ix2 n q) = cf (zr x0 x1 x2 x3 n) q * rsf (zr x0 x1 x2 x3 n) := by
  rw [val_main_v38_apply, val_main_v37_apply, r30, show idx_main_v37 (ix2 n q) = ix2 n 0 from ix_eq _ _ rfl rfl, r33]
  rfl

theorem r43 (n : Fin 16384) (q : Fin 1024) :
    val_main_v43 (F := Ideal) x5 (ix2 n q) = (dr x5 n) q := by
  rw [val_main_v43_apply]
  refine congrArg x5 (ix_eq _ _ ?_ ?_)
  · show (n.val * 1024 + q.val) / 1024 = n.val
    have := q.isLt; omega
  · show (n.val * 1024 + q.val) % 1024 = q.val
    have := q.isLt; omega

theorem r50 (n : Fin 16384) (q : Fin 1024) :
    val_main_v50 (F := Ideal) x4 x5 (ix2 n q) = (dr x5 n) q * (gr x4) q := by
  rw [val_main_v50_apply, r43, val_main_v49_apply, show idx_main_v49 (ix2 n q) = ix2 0 q from ix_eq _ _ rfl rfl]
  rfl

theorem r55 (n : Fin 16384) (q : Fin 1024) :
    val_main_v55 (F := Ideal) x0 x1 x2 x3 x4 x5 (ix2 n q) = pf (zr x0 x1 x2 x3 n) (dr x5 n) (gr x4) q := by
  rw [val_main_v55_apply, val_main_v54_apply, r50, show idx_main_v54 (ix2 n q) = ix2 n 0 from ix_eq _ _ rfl rfl, r33]
  rfl

theorem r61 (n : Fin 16384) :
    val_main_v61 (F := Ideal) x0 x1 x2 x3 x4 x5 (ix2 n 0) = wf (zr x0 x1 x2 x3 n) (dr x5 n) (gr x4) := by
  rw [val_main_v61_apply, val_main_v56_apply, val_main_v53_apply, val_main_v52_apply, val_main_v36_apply, val_main_v34_apply, val_main_v35_apply, val_main_v60_apply, r33, r32]
  have h : ∀ k : Fin 1024, val_main_v51 (F := Ideal) x0 x1 x2 x3 x4 x5 (idx_main_v52 (idx_main_v53 (ix2 n 0)) k) = cf (zr x0 x1 x2 x3 n) k * ((dr x5 n) k * (gr x4) k) := fun k => by
    rw [show idx_main_v52 (idx_main_v53 (ix2 n 0)) k = ix2 n k from ix_eq _ _ (by show n.val * 1 + 0 = n.val; omega) rfl, val_main_v51_apply, r30, r50]
    rfl
  rw [Finset.sum_congr rfl fun k _ => h k]
  rfl

theorem r64 (n : Fin 16384) (q : Fin 1024) :
    val_main_v64 (F := Ideal) x0 x1 x2 x3 x4 x5 (ix2 n q) = tf (zr x0 x1 x2 x3 n) (dr x5 n) (gr x4) q := by
  rw [val_main_v64_apply, val_main_v63_apply, val_main_v62_apply, val_main_v24_apply, val_main_v23_apply, r21]
  have h : ∀ k : Fin 1, val_main_v61 (F := Ideal) x0 x1 x2 x3 x4 x5 (idx_main_v62 (idx_main_v63 (ix2 n q)) k) = wf (zr x0 x1 x2 x3 n) (dr x5 n) (gr x4) := fun k => by
    rw [show idx_main_v62 (idx_main_v63 (ix2 n q)) k = ix2 n 0 from ix_eq _ _ rfl (by have := k.isLt; show k.val = 0; omega), r61]
  rw [Finset.sum_congr rfl fun k _ => h k]
  rfl

theorem r71 (n : Fin 16384) :
    val_main_v71 (F := Ideal) x0 x1 x2 x3 x4 x5 (ix2 n 0) = mf (zr x0 x1 x2 x3 n) (dr x5 n) (gr x4) := by
  rw [val_main_v71_apply, val_main_v69_apply, val_main_v59_apply, val_main_v67_apply, val_main_v58_apply, val_main_v66_apply, val_main_v70_apply]
  have h1 : ∀ k : Fin 1024, val_main_v57 (F := Ideal) x0 x1 x2 x3 x4 x5 (idx_main_v58 (idx_main_v59 (ix2 n 0)) k) = -pf (zr x0 x1 x2 x3 n) (dr x5 n) (gr x4) k := fun k => by
    rw [show idx_main_v58 (idx_main_v59 (ix2 n 0)) k = ix2 n k from ix_eq _ _ (by show n.val * 1 + 0 = n.val; omega) rfl, val_main_v57_apply, r55]
    rfl
  have h2 : ∀ k : Fin 1024, val_main_v65 (F := Ideal) x0 x1 x2 x3 x4 x5 (idx_main_v66 (idx_main_v67 (ix2 n 0)) k) = -tf (zr x0 x1 x2 x3 n) (dr x5 n) (gr x4) k := fun k => by
    rw [show idx_main_v66 (idx_main_v67 (ix2 n 0)) k = ix2 n k from ix_eq _ _ (by show n.val * 1 + 0 = n.val; omega) rfl, val_main_v65_apply, r64]
    rfl
  rw [Finset.sum_congr rfl fun k _ => h1 k, Finset.sum_congr rfl fun k _ => h2 k]
  rfl

theorem r74 (n : Fin 16384) (q : Fin 1024) :
    val_main_v74 (F := Ideal) x0 x1 x2 x3 x4 x5 (ix2 n q) = zf (zr x0 x1 x2 x3 n) (dr x5 n) (gr x4) q := by
  rw [val_main_v74_apply, val_main_v68_apply, val_main_v73_apply, val_main_v72_apply, r55, r64]
  have h : ∀ k : Fin 1, val_main_v71 (F := Ideal) x0 x1 x2 x3 x4 x5 (idx_main_v72 (idx_main_v73 (ix2 n q)) k) = mf (zr x0 x1 x2 x3 n) (dr x5 n) (gr x4) := fun k => by
    rw [show idx_main_v72 (idx_main_v73 (ix2 n q)) k = ix2 n 0 from ix_eq _ _ rfl (by have := k.isLt; show k.val = 0; omega), r71]
  rw [Finset.sum_congr rfl fun k _ => h k]
  rfl

/-! ## The two sums over the rows -/

theorem r45 (q : Fin 1024) : val_main_v45 (F := Ideal) x5 (ix2 0 q) = ∑ n : Fin 16384, x5 (ix2 n q) := by
  rw [val_main_v45_apply, val_main_v44_apply]
  show Ideal.ofBits .f32 0x00000000#32 + _ = _
  rw [Ideal.ofBits_zero_f32, zero_add]
  exact Finset.sum_congr rfl fun n _ => congrArg x5 (ix_eq _ _ rfl (by show 0 * 1024 + q.val = q.val; omega))

theorem r48 (q : Fin 1024) : val_main_v48 (F := Ideal) x0 x1 x2 x3 x5 (ix2 0 q)
    = ∑ n : Fin 16384, x5 (ix2 n q) * val_main_v38 (F := Ideal) x0 x1 x2 x3 (ix2 n q) := by
  rw [val_main_v48_apply, val_main_v47_apply]
  show Ideal.ofBits .f32 0x00000000#32 + _ = _
  rw [Ideal.ofBits_zero_f32, zero_add]
  refine Finset.sum_congr rfl fun n _ => ?_
  rw [show idx_main_v47 (idx_main_v48 (ix2 0 q)) n = ix2 n q from ix_eq _ _ rfl (by show 0 * 1024 + q.val = q.val; omega), val_main_v46_apply, r43]
  exact mul_comm (G := EReal) _ _

/-! ## Finite arguments -/

variable (h0 : ∀ i, Fin' (x0 i)) (h1 : ∀ i, Fin' (x1 i)) (h2 : ∀ i, Fin' (x2 i)) (h3 : ∀ i, Fin' (x3 i)) (h4 : ∀ i, Fin' (x4 i))
  (h5 : ∀ i, Fin' (x5 i))

include h0 h1 in
theorem fin_v3 (i : S16384x2816.Idx) : Fin' (val_main_v3 (F := Ideal) x0 x1 i) := by
  rw [val_main_v3_apply]
  exact Fin'.sum fun k => (h0 _).mul (h1 _)

include h0 h2 in
theorem fin_v6 (i : S16384x2816.Idx) : Fin' (val_main_v6 (F := Ideal) x0 x2 i) := by
  rw [val_main_v6_apply]
  exact Fin'.sum fun k => (h0 _).mul (h2 _)

theorem r4 (i : S16384x2816.Idx) : val_main_v4 (F := Ideal) x0 x1 i = val_main_v3 (F := Ideal) x0 x1 i := congrFun (val4 x0 x1) i
theorem r7 (i : S16384x2816.Idx) : val_main_v7 (F := Ideal) x0 x2 i = val_main_v6 (F := Ideal) x0 x2 i := congrFun (val7 x0 x2) i

theorem r5_2 (i : S16384x2816.Idx) : val_main_v5_2 (F := Ideal) x0 x1 i = sgf (val_main_v3 (F := Ideal) x0 x1 i) := by
  rw [val_main_v5_2_apply, val_main_call0_v4_apply, val_main_call0_v3_apply, val_main_call0_v2_apply, val_main_call0_v1_apply,
    val_main_call0_v0_apply, val_main_call0_cst_apply, val_main_call0_cst_0_apply, r4]
  show Ideal.div (Ideal.ofBits .f32 0x3F800000#32) (Ideal.ofBits .f32 0x3F800000#32 + Ideal.exp (-_)) = _
  rw [Ideal.ofBits_one_f32]
  rfl

theorem r5_1 (i : S16384x2816.Idx) : val_main_v5_1 (F := Ideal) x0 x1 i
    = sgf (val_main_v3 (F := Ideal) x0 x1 i) * (1 - sgf (val_main_v3 (F := Ideal) x0 x1 i)) := by
  rw [val_main_v5_1_apply, val_main_call0_v7_apply, val_main_call0_v6_apply, val_main_call0_cst_1_apply, r5_2]
  show _ * (Ideal.ofBits .f32 0x3F800000#32 - _) = _
  rw [Ideal.ofBits_one_f32]

theorem r5_0 (i : S16384x2816.Idx) : val_main_v5_0 (F := Ideal) x0 x1 i
    = val_main_v3 (F := Ideal) x0 x1 i * sgf (val_main_v3 (F := Ideal) x0 x1 i) := by
  rw [val_main_v5_0_apply, r4, r5_2]
  rfl

include h0 h1 h2 h3 in
theorem fin_z (n : Fin 16384) (k : Fin 1024) : Fin' (zr x0 x1 x2 x3 n k) := by
  unfold zr
  rw [val_main_v15_apply, val_main_v11_apply, val_main_v14_apply, val_main_v10_apply, val_main_v13_apply]
  have e12 : val_main_v12 (F := Ideal) x0 x1 x2 x3 (ix2 n k) = val_main_v9 (F := Ideal) x0 x1 x2 x3 (ix2 n k) := congrFun (val12 x0 x1 x2 x3) _
  rw [e12, val_main_v9_apply]
  refine Fin'.add (Fin'.mul cAlpha (h0 _)) (Fin'.mul fin_half (Fin'.sum fun j => Fin'.mul ?_ (h3 _)))
  rw [val_main_v8_apply, r5_0, r7]
  exact Fin'.mul (Fin'.mul (fin_v3 x0 x1 h0 h1 _) (fin_sgf _ (fin_v3 x0 x1 h0 h1 _))) (fin_v6 x0 x2 h0 h2 _)

/-! ## The row's operands as the kernel takes them -/

abbrev kd (n : Fin 16384) : Fin 1024 → EReal := fun k => x5 (ix2 n k)
abbrev kh (n : Fin 16384) : Fin 1024 → EReal := fun k => val_main_v38 (F := Ideal) x0 x1 x2 x3 (ix2 n k)
abbrev kr (n : Fin 16384) : EReal := val_main_v33 (F := Ideal) x0 x1 x2 x3 (ix2 n 0)
abbrev kg : Fin 1024 → EReal := fun k => x4 (ix2 0 k)

include h0 h1 h2 h3 h4 h5 in
theorem dz_all (n : Fin 16384) (q : Fin 1024) : val_main_v74 (F := Ideal) x0 x1 x2 x3 x4 x5 (ix2 n q)
      = dzf (kd x5 n) (kh x0 x1 x2 x3 n) (kr x0 x1 x2 x3 n) (kg x4) q
    ∧ Fin' (dzf (kd x5 n) (kh x0 x1 x2 x3 n) (kr x0 x1 x2 x3 n) (kg x4) q) := by
  have hh : kh x0 x1 x2 x3 n = fun k => cf (zr x0 x1 x2 x3 n) k * rsf (zr x0 x1 x2 x3 n) := funext fun k => r38 x0 x1 x2 x3 n k
  have hr : kr x0 x1 x2 x3 n = rsf (zr x0 x1 x2 x3 n) := r33 x0 x1 x2 x3 n
  rw [r74, hh, hr]
  exact zf_eq (zr x0 x1 x2 x3 n) (dr x5 n) (gr x4) (fin_z x0 x1 x2 x3 h0 h1 h2 h3 n) (fun k => h5 _) (fun k => h4 _) q

include h0 h1 h2 h3 h4 h5 in
theorem r76 (n : Fin 16384) (q : Fin 1024) : val_main_v76 (F := Ideal) x0 x1 x2 x3 x4 x5 (ix2 n q)
    = dyf (kd x5 n) (kh x0 x1 x2 x3 n) (kr x0 x1 x2 x3 n) (kg x4) q := by
  rw [val_main_v76_apply, val_main_v75_apply, (dz_all x0 x1 x2 x3 x4 x5 h0 h1 h2 h3 h4 h5 n q).1]
  rfl

include h0 h1 h2 h3 h4 h5 in
theorem r79 (n : Fin 16384) (j : Fin 2816) : val_main_v79 (F := Ideal) x0 x1 x2 x3 x4 x5 (ix2 n j)
    = dhf (kd x5 n) (kh x0 x1 x2 x3 n) (kr x0 x1 x2 x3 n) (kg x4) x3 j := by
  rw [val_main_v79_apply]
  refine Finset.sum_congr rfl fun k _ => ?_
  rw [show lidx_main_v79 (ix2 n j) k = ix2 n k from ix_eq _ _ rfl rfl, show ridx_main_v79 (ix2 n j) k = ix2 j k from ix_eq _ _ rfl rfl,
    r76 x0 x1 x2 x3 x4 x5 h0 h1 h2 h3 h4 h5]

include h0 h1 h2 h3 h4 h5 in
theorem fin_dh (n : Fin 16384) (j : Fin 2816) : Fin' (dhf (kd x5 n) (kh x0 x1 x2 x3 n) (kr x0 x1 x2 x3 n) (kg x4) x3 j) :=
  Fin'.sum fun k => Fin'.mul (Fin'.mul fin_half (dz_all x0 x1 x2 x3 x4 x5 h0 h1 h2 h3 h4 h5 n k).2) (h3 _)

include h0 h1 h2 h3 h4 h5 in
theorem r80 (n : Fin 16384) (j : Fin 2816) : val_main_v80 (F := Ideal) x0 x1 x2 x3 x4 x5 (ix2 n j)
    = duf (dhf (kd x5 n) (kh x0 x1 x2 x3 n) (kr x0 x1 x2 x3 n) (kg x4) x3 j) (val_main_v3 (F := Ideal) x0 x1 (ix2 n j)) := by
  rw [val_main_v80_apply, r5_0, r79 x0 x1 x2 x3 x4 x5 h0 h1 h2 h3 h4 h5]
  exact mul_comm (G := EReal) _ _

include h0 h1 h2 h3 h4 h5 in
theorem r84 (n : Fin 16384) (j : Fin 2816) : val_main_v84 (F := Ideal) x0 x1 x2 x3 x4 x5 (ix2 n j)
    = dgf (dhf (kd x5 n) (kh x0 x1 x2 x3 n) (kr x0 x1 x2 x3 n) (kg x4) x3 j) (val_main_v3 (F := Ideal) x0 x1 (ix2 n j))
      (val_main_v6 (F := Ideal) x0 x2 (ix2 n j)) := by
  rw [val_main_v84_apply, val_main_call1_v1_apply, val_main_call1_v2_apply, val_main_call1_v0_apply, val_main_v81_apply, r5_1, r5_2, r4, r7,
    r79 x0 x1 x2 x3 x4 x5 h0 h1 h2 h3 h4 h5]
  exact dgf_eq _ _ _ (fin_dh x0 x1 x2 x3 x4 x5 h0 h1 h2 h3 h4 h5 n j) (fin_v3 x0 x1 h0 h1 _) (fin_v6 x0 x2 h0 h2 _)

include h0 h1 h2 h3 h4 h5 in
theorem r86 (n : Fin 16384) (q : Fin 1024) : val_main_v86 (F := Ideal) x0 x1 x2 x3 x4 x5 (ix2 n q)
    = Ideal.ofBits .f32 0x3FD744FD#32 * dzf (kd x5 n) (kh x0 x1 x2 x3 n) (kr x0 x1 x2 x3 n) (kg x4) q
      + (∑ j : Fin 2816, dgf (dhf (kd x5 n) (kh x0 x1 x2 x3 n) (kr x0 x1 x2 x3 n) (kg x4) x3 j) (val_main_v3 (F := Ideal) x0 x1 (ix2 n j))
          (val_main_v6 (F := Ideal) x0 x2 (ix2 n j)) * x1 (ix2 q j))
      + ∑ j : Fin 2816, duf (dhf (kd x5 n) (kh x0 x1 x2 x3 n) (kr x0 x1 x2 x3 n) (kg x4) x3 j) (val_main_v3 (F := Ideal) x0 x1 (ix2 n j)) * x2 (ix2 q j) := by
  rw [val_main_v86_apply, val_main_v83_apply, val_main_v78_apply, val_main_v77_apply, val_main_v82_apply, val_main_v85_apply,
    (dz_all x0 x1 x2 x3 x4 x5 h0 h1 h2 h3 h4 h5 n q).1]
  have e82 : ∀ j : Fin 2816, val_main_v80 (F := Ideal) x0 x1 x2 x3 x4 x5 (lidx_main_v82 (ix2 n q) j) * x2 (ridx_main_v82 (ix2 n q) j)
      = duf (dhf (kd x5 n) (kh x0 x1 x2 x3 n) (kr x0 x1 x2 x3 n) (kg x4) x3 j) (val_main_v3 (F := Ideal) x0 x1 (ix2 n j)) * x2 (ix2 q j) := fun j => by
    rw [show lidx_main_v82 (ix2 n q) j = ix2 n j from ix_eq _ _ rfl rfl, show ridx_main_v82 (ix2 n q) j = ix2 q j from ix_eq _ _ rfl rfl,
      r80 x0 x1 x2 x3 x4 x5 h0 h1 h2 h3 h4 h5]
  have e85 : ∀ j : Fin 2816, val_main_v84 (F := Ideal) x0 x1 x2 x3 x4 x5 (lidx_main_v85 (ix2 n q) j) * x1 (ridx_main_v85 (ix2 n q) j)
      = dgf (dhf (kd x5 n) (kh x0 x1 x2 x3 n) (kr x0 x1 x2 x3 n) (kg x4) x3 j) (val_main_v3 (F := Ideal) x0 x1 (ix2 n j))
          (val_main_v6 (F := Ideal) x0 x2 (ix2 n j)) * x1 (ix2 q j) := fun j => by
    rw [show lidx_main_v85 (ix2 n q) j = ix2 n j from ix_eq _ _ rfl rfl, show ridx_main_v85 (ix2 n q) j = ix2 q j from ix_eq _ _ rfl rfl,
      r84 x0 x1 x2 x3 x4 x5 h0 h1 h2 h3 h4 h5]
  rw [Finset.sum_congr rfl fun j _ => e82 j, Finset.sum_congr rfl fun j _ => e85 j]
  exact add_right_comm (G := EReal) _ _ _

end Cert.ReferenceIdeal.Closed

end
-- ==== Proof.FfnClaim.lean ====
/-
  The backward FFN kernel: it ends, leaves its arguments unchanged, and its six results are the derivative of the forward lines.
-/
module

public import proofs.«01_k».proof.Defs
public import proofs.«01_k».proof.Proof.FfnValue
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.FfnRef
public import proofs.«01_k».proof.Proof.Gen.Pre_finite
public import Idealize.ShloMosaic.Lib.Quiescent
public import Idealize.ShloMosaic.Lib.IdealHost

@[expose] public section

set_option maxRecDepth 16384

noncomputable section

namespace Cert.Proof.FfnClaims

open Idealize.ShloMosaic Idealize.ShloMosaic.TcCoe Idealize.SL.Sem

theorem frame_k : Cert.quiescent_Kernel := fun m ρ _ => Cert.Kernel.Gen.frame m ρ
theorem frame_i : Cert.quiescent_KernelIdeal := fun m ρ _ => Cert.KernelIdeal.Gen.frame m ρ
theorem frame_ip : Cert.quiescent_KernelIdeal_pre_finite := fun m ρ _ => Cert.KernelIdeal.Gen.frame m ρ
theorem frame_r : Cert.quiescent_ReferenceIdeal := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)
theorem frame_rp : Cert.quiescent_ReferenceIdeal_pre_finite := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)

/-- A component of the precondition at one element. -/
theorem fin_one {x : EReal} (h : Ideal.cmp .olt (max x (-x)) (Ideal.ofBits .f32 0x7F800000#32) = 1#1) : Cert.KernelIdeal.Closed.Fin' x := by
  have e : Ideal.ofBits .f32 0x7F800000#32 = ⊤ := by simp [Ideal.ofBits, Ideal.ieee]
  rw [e] at h
  refine Cert.KernelIdeal.Closed.fin_of_lt x ?_
  by_contra hn
  simp [Ideal.cmp, hn] at h

section Results

open Cert.KernelIdeal.Closed Cert.ReferenceIdeal.Read Cert.ReferenceIdeal.Closed

variable (m : (ℓ : Loc Cert.KernelIdeal.nD Cert.KernelIdeal.τ Cert.KernelIdeal.sig) → Buf (Elt Ideal) ℓ) (c : Dev Cert.KernelIdeal.nD)

/-- Every argument is finite. -/
def AllFin : Prop := (∀ i, Fin' (aX m c i)) ∧ (∀ i, Fin' (aG m c i)) ∧ (∀ i, Fin' (aU m c i)) ∧ (∀ i, Fin' (aD m c i)) ∧ (∀ i, Fin' (aL m c i))
  ∧ ∀ i, Fin' (aC m c i)

theorem allFin (h : Cert.Pre_KernelIdeal_finite m) : AllFin m c :=
  ⟨fun i => fin_one (congrFun (h c).1 i), fun i => fin_one (congrFun (h c).2.1 i), fun i => fin_one (congrFun (h c).2.2.1 i),
    fun i => fin_one (congrFun (h c).2.2.2.1 i), fun i => fin_one (congrFun (h c).2.2.2.2.1 i), fun i => fin_one (congrFun (h c).2.2.2.2.2 i)⟩

variable (hf : AllFin m c)

include hf in
theorem res0 : val_main_v86 (F := Ideal) (aX m c) (aG m c) (aU m c) (aD m c) (aL m c) (aC m c) = G9 m c := by
  funext i
  obtain ⟨n, q, rfl⟩ : ∃ n q, i = ix2 n q := ⟨i 0, i 1, eq_ix2 i⟩
  exact r86 (aX m c) (aG m c) (aU m c) (aD m c) (aL m c) (aC m c) hf.1 hf.2.1 hf.2.2.1 hf.2.2.2.1 hf.2.2.2.2.1 hf.2.2.2.2.2 n q

include hf in
theorem res1 : val_main_v87 (F := Ideal) (aX m c) (aG m c) (aU m c) (aD m c) (aL m c) (aC m c) = G10 m c := by
  funext i
  obtain ⟨n, q, rfl⟩ : ∃ n q, i = ix2 n q := ⟨i 0, i 1, eq_ix2 i⟩
  rw [val_main_v87_apply]
  exact r76 (aX m c) (aG m c) (aU m c) (aD m c) (aL m c) (aC m c) hf.1 hf.2.1 hf.2.2.1 hf.2.2.2.1 hf.2.2.2.2.1 hf.2.2.2.2.2 n q

include hf in
theorem res2 : val_main_v88 (F := Ideal) (aX m c) (aG m c) (aU m c) (aD m c) (aL m c) (aC m c) = G11 m c := by
  funext i
  obtain ⟨n, q, rfl⟩ : ∃ n q, i = ix2 n q := ⟨i 0, i 1, eq_ix2 i⟩
  rw [val_main_v88_apply]
  exact r84 (aX m c) (aG m c) (aU m c) (aD m c) (aL m c) (aC m c) hf.1 hf.2.1 hf.2.2.1 hf.2.2.2.1 hf.2.2.2.2.1 hf.2.2.2.2.2 n q

include hf in
theorem res3 : val_main_v89 (F := Ideal) (aX m c) (aG m c) (aU m c) (aD m c) (aL m c) (aC m c) = G12 m c := by
  funext i
  obtain ⟨n, q, rfl⟩ : ∃ n q, i = ix2 n q := ⟨i 0, i 1, eq_ix2 i⟩
  rw [val_main_v89_apply]
  exact r80 (aX m c) (aG m c) (aU m c) (aD m c) (aL m c) (aC m c) hf.1 hf.2.1 hf.2.2.1 hf.2.2.2.1 hf.2.2.2.2.1 hf.2.2.2.2.2 n q

theorem res4 : val_main_v48 (F := Ideal) (aX m c) (aG m c) (aU m c) (aD m c) (aC m c) = G13 m c := by
  funext i
  have hi : i = ix2 0 (i 1) := ix_eq _ _ (by have : (i 0).val < 1 := (i 0).isLt; show (i 0).val = 0; omega) rfl
  rw [hi]
  exact r48 (aX m c) (aG m c) (aU m c) (aD m c) (aC m c) (i 1)

theorem res5 : val_main_v45 (F := Ideal) (aC m c) = G14 m c := by
  funext i
  have hi : i = ix2 0 (i 1) := ix_eq _ _ (by have : (i 0).val < 1 := (i 0).isLt; show (i 0).val = 0; omega) rfl
  rw [hi]
  exact r45 (aC m c) (i 1)

end Results

theorem algebraic : Cert.algebraic_KernelIdeal_ReferenceIdeal_pre_finite := by
  intro m ρ m' ρ' hpre hagree
  refine ⟨fun c => Cert.KernelIdeal.Closed.G9 m c, fun c => Cert.KernelIdeal.Closed.G10 m c, fun c => Cert.KernelIdeal.Closed.G11 m c, fun c => Cert.KernelIdeal.Closed.G12 m c, fun c => Cert.KernelIdeal.Closed.G13 m c, fun c => Cert.KernelIdeal.Closed.G14 m c, Cert.KernelIdeal.Closed.run m ρ, ?_⟩
  refine (θ_run Cert.ReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ReferenceIdeal.Value.run (F := Ideal) m' ρ')
  · rw [Cert.ReferenceIdeal.Read.val_main_v86_eq]
    show Cert.ReferenceIdeal.Read.val_main_v86 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact res0 m c (allFin m c hpre)
  · rw [Cert.ReferenceIdeal.Read.val_main_v87_eq]
    show Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact res1 m c (allFin m c hpre)
  · rw [Cert.ReferenceIdeal.Read.val_main_v88_eq]
    show Cert.ReferenceIdeal.Read.val_main_v88 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact res2 m c (allFin m c hpre)
  · rw [Cert.ReferenceIdeal.Read.val_main_v89_eq]
    show Cert.ReferenceIdeal.Read.val_main_v89 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact res3 m c (allFin m c hpre)
  · rw [Cert.ReferenceIdeal.Read.val_main_v48_eq]
    show Cert.ReferenceIdeal.Read.val_main_v48 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.2]
    exact res4 m c
  · rw [Cert.ReferenceIdeal.Read.val_main_v45_eq]
    exact (congrArg (fun x => Cert.ReferenceIdeal.Read.val_main_v45 (F := Ideal) x) (hagree c).2.2.2.2.2).trans (res5 m c)

end Cert.Proof.FfnClaims

end
-- ==== Proof.WgradCases.lean ====
/-
  The weight gradient kernel: a tiled product over 16384 rows, accumulated over eight row tiles per output block, and
  the same product rounded into eight row blocks. Its result arrays at the extended reals, in closed form.
-/
module

public import proofs.«01_k».proof.Proof.Gen.WgradIdeal.Value
public import Idealize.ShloMosaic.Lib.Pointwise.Tactic

@[expose] public section

set_option maxRecDepth 16384

noncomputable section

namespace Cert.WgradIdeal.Closed

open Cert.WgradIdeal Cert.WgradIdeal.Gen Cert.WgradIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

section Cases
variable {F : FTy → Type} [FloatOps F]

/-- A first tile of a run of eight: the block is zeroed, then the tile's product is added. -/
theorem out_A (c : Dev nD) (i : grid0.Coords) (a2 : Memref sig .tc .vmem S2048x1408 .bf16) (h2 : a2.IsWhole)
    (a3 : Memref sig .tc .vmem S2048x1024 .bf16) (h3 : a3.IsWhole) (a6 : Memref sig .tc .vmem S1408x1024 .f32) (h6 : a6.IsWhole)
    (a7 : Memref sig .tc .vmem S4x352x1024 .bf16) (h7 : a7.IsWhole) (hc0 : cond0_0 i) (hc1 : ¬cond0_1 i)
    (x0 : Vec F S2048x1408 .bf16) (x1 : Vec F S2048x1024 .bf16) :
    out0_A_2 c i a2 h2 a3 h3 a6 h6 a7 h7 hc0 hc1 x0 x1 = k0_pay2 k0_pay1 x0 x1 := by
  unfold out0_A_2
  rw [View.read_writes_eq_canon _ _ _ (cover0_A_2 c i a2 h2 a3 h3 a6 h6 a7 h7 hc0 hc1 x0 x1)]
  unfold kernelRun0_A
  dsimp only
  sl_unfold_words
  rw [View.canon_cons_unit_zero (S := S1408x1024) hz, View.readCov_unit_zero (S := S1408x1024) _ hz]
  simp only [View.readAt_eq_ld, h2.read_unread, h3.read_unread, View.ld_unit_zero (S := S2048x1408) hz,
    View.ld_unit_zero (S := S2048x1024) hz]

/-- A middle tile: the tile's product is added to what the block held. -/
theorem out_B (c : Dev nD) (i : grid0.Coords) (a2 : Memref sig .tc .vmem S2048x1408 .bf16) (h2 : a2.IsWhole)
    (a3 : Memref sig .tc .vmem S2048x1024 .bf16) (h3 : a3.IsWhole) (a6 : Memref sig .tc .vmem S1408x1024 .f32) (h6 : a6.IsWhole)
    (a7 : Memref sig .tc .vmem S4x352x1024 .bf16) (h7 : a7.IsWhole) (hc0 : ¬cond0_0 i) (hc1 : ¬cond0_1 i)
    (x0 : Vec F S2048x1408 .bf16) (x1 : Vec F S2048x1024 .bf16) (xo : Vec F S1408x1024 .f32) :
    out0_B_2 c i a2 h2 a3 h3 a6 h6 a7 h7 hc0 hc1 x0 x1 xo = k0_pay2 xo x0 x1 := by
  unfold out0_B_2
  rw [View.read_writes_eq_canon _ _ _ (cover0_B_2 c i a2 h2 a3 h3 a6 h6 a7 h7 hc0 hc1 x0 x1 xo)]
  unfold kernelRun0_B
  dsimp only
  sl_unfold_words
  rw [View.canon_cons_unit_zero (S := S1408x1024) hz]
  simp only [View.readAt_eq_ld, h2.read_unread, h3.read_unread, h6.read_unread, View.ld_unit_zero (S := S2048x1408) hz,
    View.ld_unit_zero (S := S2048x1024) hz, View.ld_unit_zero (S := S1408x1024) hz]

/-- A last tile: as a middle one. -/
theorem out_C (c : Dev nD) (i : grid0.Coords) (a2 : Memref sig .tc .vmem S2048x1408 .bf16) (h2 : a2.IsWhole)
    (a3 : Memref sig .tc .vmem S2048x1024 .bf16) (h3 : a3.IsWhole) (a6 : Memref sig .tc .vmem S1408x1024 .f32) (h6 : a6.IsWhole)
    (a7 : Memref sig .tc .vmem S4x352x1024 .bf16) (h7 : a7.IsWhole) (hc0 : ¬cond0_0 i) (hc1 : cond0_1 i)
    (x0 : Vec F S2048x1408 .bf16) (x1 : Vec F S2048x1024 .bf16) (xo : Vec F S1408x1024 .f32) :
    out0_C_2 c i a2 h2 a3 h3 a6 h6 a7 h7 hc0 hc1 x0 x1 xo = k0_pay2 xo x0 x1 := by
  unfold out0_C_2
  rw [View.read_writes_eq_canon _ _ _ (cover0_C_2 c i a2 h2 a3 h3 a6 h6 a7 h7 hc0 hc1 x0 x1 xo)]
  unfold kernelRun0_C
  dsimp only
  sl_unfold_words
  rw [View.canon_cons_unit_zero (S := S1408x1024) hz]
  simp only [View.readAt_eq_ld, h2.read_unread, h3.read_unread, h6.read_unread, View.ld_unit_zero (S := S2048x1408) hz,
    View.ld_unit_zero (S := S2048x1024) hz, View.ld_unit_zero (S := S1408x1024) hz]

/-- Row `p` of group `q` of a block of 4 × 352 rows. -/
abbrev row4 (y : S4x352x1024.Idx) : S1408x1024.Idx :=
  ix2 ⟨352 * (y 0).val + (y 1).val, by have h0 : (y 0).val < 4 := (y 0).isLt; have h1 : (y 1).val < 352 := (y 1).isLt; omega⟩ (y 2)

theorem pay3_apply (Y : Vec Ideal S1408x1024 .f32) (x : S1x352x1024.Idx) :
    k0_pay3 (F := Ideal) (View.ld Y (Rect.unit ![0, 0] ![352, 1024] inb_S1408x1024_S352x1024_0_0)) x
      = Y (ix2 ⟨0 + (x 1).val, by have h1 : (x 1).val < 352 := (x 1).isLt; omega⟩ (x 2)) := by
  unfold k0_pay3
  simp only [shapeCast_self]
  rw [shapeCast_addUnit_apply]
  pointwise
  rfl

theorem pay4_apply (Y : Vec Ideal S1408x1024 .f32) (x : S1x352x1024.Idx) :
    k0_pay4 (F := Ideal) (View.ld Y (Rect.unit ![352, 0] ![352, 1024] inb_S1408x1024_S352x1024_352_0)) x
      = Y (ix2 ⟨352 + (x 1).val, by have h1 : (x 1).val < 352 := (x 1).isLt; omega⟩ (x 2)) := by
  unfold k0_pay4
  simp only [shapeCast_self]
  rw [shapeCast_addUnit_apply]
  pointwise
  rfl

theorem pay5_apply (Y : Vec Ideal S1408x1024 .f32) (x : S1x352x1024.Idx) :
    k0_pay5 (F := Ideal) (View.ld Y (Rect.unit ![704, 0] ![352, 1024] inb_S1408x1024_S352x1024_704_0)) x
      = Y (ix2 ⟨704 + (x 1).val, by have h1 : (x 1).val < 352 := (x 1).isLt; omega⟩ (x 2)) := by
  unfold k0_pay5
  simp only [shapeCast_self]
  rw [shapeCast_addUnit_apply]
  pointwise
  rfl

theorem pay6_apply (Y : Vec Ideal S1408x1024 .f32) (x : S1x352x1024.Idx) :
    k0_pay6 (F := Ideal) (View.ld Y (Rect.unit ![1056, 0] ![352, 1024] inb_S1408x1024_S352x1024_1056_0)) x
      = Y (ix2 ⟨1056 + (x 1).val, by have h1 : (x 1).val < 352 := (x 1).isLt; omega⟩ (x 2)) := by
  unfold k0_pay6
  simp only [shapeCast_self]
  rw [shapeCast_addUnit_apply]
  pointwise
  rfl

/-- A load of a part of the block, after one store of all of it, reads that part of what was stored. -/
theorem cov_ld (v : View sig .tc .vmem S1408x1024 .f32) (P : View.Piece (Elt Ideal) S1408x1024 .f32) (Y : Vec Ideal S1408x1024 .f32)
    (hc : View.canon [P] = Y) (hm : ∀ y, y ∈ P.1.set) (R : Rect S1408x1024) :
    v.readCov (Val := Elt Ideal) [P] R.toLoadRect = View.ld Y R := by
  rw [View.readCov_eq_canon_ld v [P] R (fun y => ⟨P, List.mem_singleton.mpr rfl, hm y⟩), hc]

set_option maxHeartbeats 1000000 in
/-- A last tile also rounds the finished block into its four groups of 352 rows. -/
theorem out_C3 (c : Dev nD) (i : grid0.Coords) (a2 : Memref sig .tc .vmem S2048x1408 .bf16) (h2 : a2.IsWhole)
    (a3 : Memref sig .tc .vmem S2048x1024 .bf16) (h3 : a3.IsWhole) (a6 : Memref sig .tc .vmem S1408x1024 .f32) (h6 : a6.IsWhole)
    (a7 : Memref sig .tc .vmem S4x352x1024 .bf16) (h7 : a7.IsWhole) (hc0 : ¬cond0_0 i) (hc1 : cond0_1 i)
    (x0 : Vec Ideal S2048x1408 .bf16) (x1 : Vec Ideal S2048x1024 .bf16) (xo : Vec Ideal S1408x1024 .f32) (y : S4x352x1024.Idx) :
    out0_C_3 c i a2 h2 a3 h3 a6 h6 a7 h7 hc0 hc1 x0 x1 xo y = k0_pay2 (F := Ideal) xo x0 x1 (row4 y) := by
  unfold out0_C_3
  rw [View.read_writes_eq_canon _ _ _ (cover0_C_3 c i a2 h2 a3 h3 a6 h6 a7 h7 hc0 hc1 x0 x1 xo)]
  refine View.canon_apply_of_pieces (fun y => k0_pay2 (F := Ideal) xo x0 x1 (row4 y)) _ ?_ y
    (cover0_C_3 c i a2 h2 a3 h3 a6 h6 a7 h7 hc0 hc1 x0 x1 xo y)
  unfold kernelRun0_C
  dsimp only
  sl_unfold_words
  simp only [View.readAt_eq_ld, h2.read_unread, h3.read_unread, h6.read_unread, View.ld_unit_zero (S := S2048x1408) hz,
    View.ld_unit_zero (S := S2048x1024) hz, View.ld_unit_zero (S := S1408x1024) hz]
  intro p hp
  simp only [List.mem_cons, List.mem_singleton, List.not_mem_nil, or_false] at hp
  rcases hp with rfl | rfl | rfl | rfl
  all_goals
    intro (x : S1x352x1024.Idx)
    dsimp only
    rw [cov_ld _ _ _ (View.canon_unit_zero (S := S1408x1024) hz inb_S1408x1024_S1408x1024_0_0 _) (View.mem_set_unit_zero (S := S1408x1024) hz inb_S1408x1024_S1408x1024_0_0)]
    generalize k0_pay2 (F := Ideal) xo x0 x1 = Y
  · refine (pay6_apply Y x).trans (congrArg Y (funext fun a => Fin.ext ?_))
    have h0 : (x 0).val < 1 := (x 0).isLt
    match a with
    | ⟨0, _⟩ => show 1056 + (x 1).val = 352 * (3 + 1 * (x 0).val) + (0 + 1 * (x 1).val); omega
    | ⟨1, _⟩ => show (x 2).val = 0 + 1 * (x 2).val; omega
  · refine (pay5_apply Y x).trans (congrArg Y (funext fun a => Fin.ext ?_))
    have h0 : (x 0).val < 1 := (x 0).isLt
    match a with
    | ⟨0, _⟩ => show 704 + (x 1).val = 352 * (2 + 1 * (x 0).val) + (0 + 1 * (x 1).val); omega
    | ⟨1, _⟩ => show (x 2).val = 0 + 1 * (x 2).val; omega
  · refine (pay4_apply Y x).trans (congrArg Y (funext fun a => Fin.ext ?_))
    have h0 : (x 0).val < 1 := (x 0).isLt
    match a with
    | ⟨0, _⟩ => show 352 + (x 1).val = 352 * (1 + 1 * (x 0).val) + (0 + 1 * (x 1).val); omega
    | ⟨1, _⟩ => show (x 2).val = 0 + 1 * (x 2).val; omega
  · refine (pay3_apply Y x).trans (congrArg Y (funext fun a => Fin.ext ?_))
    have h0 : (x 0).val < 1 := (x 0).isLt
    match a with
    | ⟨0, _⟩ => show 0 + (x 1).val = 352 * (0 + 1 * (x 0).val) + (0 + 1 * (x 1).val); omega
    | ⟨1, _⟩ => show (x 2).val = 0 + 1 * (x 2).val; omega

end Cases

end Cert.WgradIdeal.Closed

end
-- ==== Proof.WgradValue.lean ====
/-
  The weight gradient kernel: a tiled product over 16384 rows, its running sums over the
  row tiles, and its two result arrays at the extended reals, in closed form.
-/
module

public import proofs.«01_k».proof.Proof.WgradCases
public import Idealize.ShloMosaic.Lib.Pointwise.Tactic
public import Idealize.ShloMosaic.Lib.Pointwise.Contract

@[expose] public section

set_option maxRecDepth 16384

noncomputable section

namespace Cert.WgradIdeal.Closed

open Cert.WgradIdeal Cert.WgradIdeal.Gen Cert.WgradIdeal.Value Idealize.ShloMosaic Idealize.ShloMosaic.TcCoe Idealize.SL.Sem
open Idealize.ShloMosaic.Pipeline (Dat)

/-! ## The running sums -/

theorem pay1_apply (y : S1408x1024.Idx) : k0_pay1 (F := Ideal) y = 0 := by
  unfold k0_pay1; pointwise

theorem pay2_apply (a : Vec Ideal S1408x1024 .f32) (x0 : Vec Ideal S2048x1408 .bf16) (x1 : Vec Ideal S2048x1024 .bf16) (y : S1408x1024.Idx) :
    k0_pay2 (F := Ideal) a x0 x1 y = a y + ∑ k : Fin 2048, x0 (ix2 k (y 0)) * x1 (ix2 k (y 1)) := by
  unfold k0_pay2
  simp only [shapeCast_self]
  pointwise

variable (m : (ℓ : Loc nD τ sig) → Buf (Elt Ideal) ℓ) (ρ : Dev nD → PrngReg)

/-- The two arrays the kernel is launched over, read at natural-number rows. -/
def term (A : S16384x2816.Idx → EReal) (B : S16384x1024.Idx → EReal) (r : Fin 2816) (l : Fin 1024) (k : ℕ) : EReal :=
  if h : k < 16384 then A (ix2 ⟨k, h⟩ r) * B (ix2 ⟨k, h⟩ l) else 0

theorem V_v0 (c : Dev nD) : V m c main_v0 = (m ((c : Thread nD τ).loc main_arg1) : S16384x2816.Idx → EReal) := by
  show StableHlo.after hostOps0 _ _ = _
  unfold hostOps0
  after_results
  rfl

theorem V_v1 (c : Dev nD) : V m c main_v1 = (m ((c : Thread nD τ).loc main_arg0) : S16384x1024.Idx → EReal) := by
  show StableHlo.after hostOps0 _ _ = _
  unfold hostOps0
  after_results
  rfl

theorem idx0 : ∀ t : Fin grid0.N, win0_0.index t 0 = t.val % 8 ∧ win0_0.index t 1 = t.val / 8 := by decide +kernel
theorem idx1 : ∀ t : Fin grid0.N, win0_1.index t 0 = t.val % 8 ∧ win0_1.index t 1 = 0 := by decide +kernel
theorem idx2 : ∀ t : Fin grid0.N, win0_2.index t 0 = t.val / 8 ∧ win0_2.index t 1 = 0 := by decide +kernel
theorem idx3 : ∀ t : Fin grid0.N, win0_3.index t 0 = t.val / 8 ∧ win0_3.index t 1 = 0 ∧ win0_3.index t 2 = 0 := by decide +kernel

theorem iblk0 (c : Dev nD) (t : Fin cfg0.N) (k : Fin 2048) (r : Fin 1408) (h0 : 2048 * (t.val % 8) + k.val < 16384)
    (h1 : 1408 * (t.val / 8) + r.val < 2816) :
    (iblk m c 0 t : Vec Ideal S2048x1408 .bf16) (ix2 k r)
      = (m ((c : Thread nD τ).loc main_arg1) : S16384x2816.Idx → EReal) (ix2 ⟨2048 * (t.val % 8) + k.val, h0⟩ ⟨1408 * (t.val / 8) + r.val, h1⟩) := by
  have hi := idx0 t
  rw [← V_v0 m c]
  unfold iblk
  rw [View.read_apply]
  show V m c main_v0 _ = V m c main_v0 _
  congr 1
  funext a
  apply Fin.ext
  match a with
  | ⟨0, _⟩ => show win0_0.index t 0 * 2048 + 1 * k.val = 2048 * (t.val % 8) + k.val; rw [hi.1]; omega
  | ⟨1, _⟩ => show win0_0.index t 1 * 1408 + 1 * r.val = 1408 * (t.val / 8) + r.val; rw [hi.2]; omega

theorem iblk1 (c : Dev nD) (t : Fin cfg0.N) (k : Fin 2048) (l : Fin 1024) (h0 : 2048 * (t.val % 8) + k.val < 16384) :
    (iblk m c 1 t : Vec Ideal S2048x1024 .bf16) (ix2 k l)
      = (m ((c : Thread nD τ).loc main_arg0) : S16384x1024.Idx → EReal) (ix2 ⟨2048 * (t.val % 8) + k.val, h0⟩ l) := by
  have hi := idx1 t
  rw [← V_v1 m c]
  unfold iblk
  rw [View.read_apply]
  show V m c main_v1 _ = V m c main_v1 _
  congr 1
  funext a
  apply Fin.ext
  match a with
  | ⟨0, _⟩ => show win0_1.index t 0 * 2048 + 1 * k.val = 2048 * (t.val % 8) + k.val; rw [hi.1]; omega
  | ⟨1, _⟩ => show win0_1.index t 1 * 1024 + 1 * l.val = l.val; rw [hi.2]; omega

/-- The blocks of the two arrays at point `t`. -/
abbrev blkA (c : Dev nD) (t : Fin cfg0.N) : Vec Ideal S2048x1408 .bf16 := iblk m c 0 t
abbrev blkB (c : Dev nD) (t : Fin cfg0.N) : Vec Ideal S2048x1024 .bf16 := iblk m c 1 t

/-- The products one tile adds are the next 2048 terms of the whole sum. -/
theorem tile_sum (c : Dev nD) (t : Fin cfg0.N) (p : Fin 1408) (l : Fin 1024) (h1 : 1408 * (t.val / 8) + p.val < 2816) :
    ∑ k : Fin 2048, blkA m c t (ix2 k p) * blkB m c t (ix2 k l)
      = ∑ k ∈ Finset.range 2048, term (m ((c : Thread nD τ).loc main_arg1)) (m ((c : Thread nD τ).loc main_arg0))
          ⟨1408 * (t.val / 8) + p.val, h1⟩ l (2048 * (t.val % 8) + k) := by
  rw [Finset.sum_range]
  refine Finset.sum_congr rfl fun k _ => ?_
  have h0 : 2048 * (t.val % 8) + k.val < 16384 := by have := k.isLt; omega
  rw [show blkA m c t (ix2 k p) = _ from iblk0 m c t k p h0 h1, show blkB m c t (ix2 k l) = _ from iblk1 m c t k l h0, term, dif_pos h0]

theorem step_A (c : Dev nD) (t : Fin cfg0.N) (h0 : t.val % 8 = 0) (p : Fin 1408) (l : Fin 1024) :
    (outsAt0 m c t.val t.isLt).1 (ix2 p l) = ∑ k : Fin 2048, blkA m c t (ix2 k p) * blkB m c t (ix2 k l) := by
  rw [outsAt0_A m c t h0 (by omega)]
  dsimp only
  rw [out_A, pay2_apply, pay1_apply, zero_add]
  rfl

theorem step_B (c : Dev nD) (t : Fin cfg0.N) (h0 : ¬t.val % 8 = 0) (p : Fin 1408) (l : Fin 1024) :
    (outsAt0 m c t.val t.isLt).1 (ix2 p l)
      = (outsAt0 m c (t.val - 1) (Nat.lt_of_le_of_lt (Nat.sub_le _ _) t.isLt)).1 (ix2 p l)
        + ∑ k : Fin 2048, blkA m c t (ix2 k p) * blkB m c t (ix2 k l) := by
  by_cases h7 : t.val % 8 = 7
  · rw [outsAt0_C m c t h0 h7]
    dsimp only
    rw [out_C, pay2_apply]
    rfl
  · rw [outsAt0_B m c t h0 h7]
    dsimp only
    rw [out_B, pay2_apply]
    rfl

/-- After point `n`, the output block holds the sum over the row tiles met so far. -/
theorem outs_eq (c : Dev nD) : ∀ (n : ℕ) (h : n < cfg0.N) (p : Fin 1408) (l : Fin 1024) (h1 : 1408 * (n / 8) + p.val < 2816),
    (outsAt0 m c n h).1 (ix2 p l) = ∑ k ∈ Finset.range (2048 * (n % 8 + 1)),
      term (m ((c : Thread nD τ).loc main_arg1)) (m ((c : Thread nD τ).loc main_arg0)) ⟨1408 * (n / 8) + p.val, h1⟩ l k := by
  intro n
  induction n with
  | zero =>
    intro h p l h1
    refine (step_A m c ⟨0, h⟩ rfl p l).trans ?_
    rw [tile_sum m c ⟨0, h⟩ p l h1]
    simp
  | succ n ih =>
    intro h p l h1
    by_cases h0 : (n + 1) % 8 = 0
    · refine (step_A m c ⟨n + 1, h⟩ h0 p l).trans ?_
      rw [tile_sum m c ⟨n + 1, h⟩ p l h1]
      simp [h0]
    · have hq : (n + 1) / 8 = n / 8 := by omega
      have hr : (n + 1) % 8 = n % 8 + 1 := by omega
      refine (step_B m c ⟨n + 1, h⟩ h0 p l).trans ?_
      rw [tile_sum m c ⟨n + 1, h⟩ p l h1,
        show 2048 * ((n + 1) % 8 + 1) = 2048 * (n % 8 + 1) + 2048 from by omega, Finset.sum_range_add]
      refine congrArg₂ (· + ·) ((ih (Nat.lt_of_succ_lt h) p l (by omega)).trans ?_) ?_
      · simp only [hq]
      · simp only [hr]

/-- A last tile's group block is the rounded output block of the same point. -/
theorem outs3_eq (c : Dev nD) (t : Fin cfg0.N) (h7 : t.val % 8 = 7) (y : S4x352x1024.Idx) :
    (outsAt0 m c t.val t.isLt).2 y = (outsAt0 m c t.val t.isLt).1 (row4 y) := by
  rw [outsAt0_C m c t (by omega) h7]
  dsimp only
  rw [out_C3, out_C]

/-! ## The result arrays -/

/-- The product `ct^T · x` over all 16384 rows. -/
def prodT (A : S16384x2816.Idx → EReal) (B : S16384x1024.Idx → EReal) (r : Fin 2816) (l : Fin 1024) : EReal :=
  ∑ k : Fin 16384, A (ix2 k r) * B (ix2 k l)

theorem prodT_eq (A : S16384x2816.Idx → EReal) (B : S16384x1024.Idx → EReal) (r : Fin 2816) (l : Fin 1024) :
    ∑ k ∈ Finset.range 16384, term A B r l k = prodT A B r l := by
  rw [Finset.sum_range]
  exact Finset.sum_congr rfl fun k _ => by rw [term, dif_pos k.isLt]

/-- The first result. -/
def G2 (c : Dev nD) : Buf (Elt Ideal) ((c : Thread nD τ).loc main_v2_0) := fun i : S2816x1024.Idx =>
  prodT (m ((c : Thread nD τ).loc main_arg1)) (m ((c : Thread nD τ).loc main_arg0)) (i 0) (i 1)

/-- The second: the first, rounded, in eight row blocks. -/
def G3 (c : Dev nD) : Buf (Elt Ideal) ((c : Thread nD τ).loc main_v2_1) := fun i : S8x352x1024.Idx =>
  prodT (m ((c : Thread nD τ).loc main_arg1)) (m ((c : Thread nD τ).loc main_arg0))
    ⟨352 * (i 0).val + (i 1).val, by have h0 : (i 0).val < 8 := (i 0).isLt; have h1 : (i 1).val < 352 := (i 1).isLt; omega⟩ (i 2)

theorem last_eq (c : Dev nD) (t : Fin cfg0.N) (h7 : t.val % 8 = 7) (p : Fin 1408) (l : Fin 1024) (h1 : 1408 * (t.val / 8) + p.val < 2816) :
    (outsAt0 m c t.val t.isLt).1 (ix2 p l) = prodT (m ((c : Thread nD τ).loc main_arg1)) (m ((c : Thread nD τ).loc main_arg0))
      ⟨1408 * (t.val / 8) + p.val, h1⟩ l := by
  rw [outs_eq m c t.val t.isLt p l h1, ← prodT_eq, h7]

theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : cfg0.N = 16 := N_0
  have hlt : t.val < 16 := hN ▸ t.isLt
  have hi := idx2 t
  rw [flushed2]
  funext y
  have hy0 : (y 0).val < 1408 := (y 0).isLt
  rw [View.read_apply]
  show (outsAt0 m c t.val t.isLt).1 y = _
  rw [eq_ix2 y]
  refine (last_eq m c t h7 (y 0) (y 1) (by omega)).trans ?_
  unfold G2
  congr 1
  · apply Fin.ext
    show 1408 * (t.val / 8) + (y 0).val = win0_2.index t 0 * 1408 + 1 * (y 0).val
    rw [hi.1]; omega
  · apply Fin.ext
    show (y 1).val = win0_2.index t 1 * 1024 + 1 * (y 1).val
    rw [hi.2]; omega

theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : cfg0.N = 16 := N_0
  have hlt : t.val < 16 := hN ▸ t.isLt
  have hi := idx3 t
  rw [flushed3]
  funext y
  have hy0 : (y 0).val < 4 := (y 0).isLt
  have hy1 : (y 1).val < 352 := (y 1).isLt
  rw [View.read_apply]
  show (outsAt0 m c t.val t.isLt).2 y = _
  refine (outs3_eq m c t h7 y).trans ((last_eq m c t h7 _ _ (by show 1408 * (t.val / 8) + (352 * (y 0).val + (y 1).val) < 2816; omega)).trans ?_)
  unfold G3
  congr 1
  · apply Fin.ext
    show 1408 * (t.val / 8) + (352 * (y 0).val + (y 1).val) = 352 * (win0_3.index t 0 * 4 + 1 * (y 0).val) + (win0_3.index t 1 * 352 + 1 * (y 1).val)
    rw [hi.1, hi.2.1]; omega
  · apply Fin.ext
    show (y 2).val = win0_3.index t 2 * 1024 + 1 * (y 2).val
    rw [hi.2.2]; omega

theorem final2 (c : Dev nD) : (dats m 0 c).arrAt 2 cfg0.N = G2 m c :=
  (dats m 0 c).arrAt_eq_of_cover 2 (G2 m c) (flushed2_eq m c) fun (i : S2816x1024.Idx) => by
    have h0 : (i 0 : Nat) < 2816 := (i 0).isLt
    have h1 : (i 1 : Nat) < 1024 := (i 1).isLt
    have hN : cfg0.N = 16 := N_0
    obtain ⟨t, ht⟩ : ∃ t : Fin cfg0.N, t.val = 8 * ((i 0).val / 1408) + 7 := ⟨⟨8 * ((i 0).val / 1408) + 7, by omega⟩, rfl⟩
    have hi := idx2 t
    refine ⟨t, (flush0_2 t).mpr (by omega), ?_⟩
    show i ∈ ((View.whole main_v2_0).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + 1408
                rw [hi.1]; omega
    | ⟨1, _⟩ => show win0_2.index t 1 * 1024 ≤ (i 1 : Nat) ∧ (i 1 : Nat) < win0_2.index t 1 * 1024 + 1024
                rw [hi.2]; omega

theorem final3 (c : Dev nD) : (dats m 0 c).arrAt 3 cfg0.N = G3 m c :=
  (dats m 0 c).arrAt_eq_of_cover 3 (G3 m c) (flushed3_eq m c) fun (i : S8x352x1024.Idx) => by
    have h0 : (i 0 : Nat) < 8 := (i 0).isLt
    have h1 : (i 1 : Nat) < 352 := (i 1).isLt
    have h2 : (i 2 : Nat) < 1024 := (i 2).isLt
    have hN : cfg0.N = 16 := N_0
    obtain ⟨t, ht⟩ : ∃ t : Fin cfg0.N, t.val = 8 * ((i 0).val / 4) + 7 := ⟨⟨8 * ((i 0).val / 4) + 7, by omega⟩, rfl⟩
    have hi := idx3 t
    refine ⟨t, (flush0_3 t).mpr (by omega), ?_⟩
    show i ∈ ((View.whole main_v2_1).slice (win0_3.rect t)).set
    rw [View.set_slice_whole, Rect.mem_set_unit]
    intro a
    match a with
    | ⟨0, _⟩ => show win0_3.index t 0 * 4 ≤ (i 0 : Nat) ∧ (i 0 : Nat) < win0_3.index t 0 * 4 + 4
                rw [hi.1]; omega
    | ⟨1, _⟩ => show win0_3.index t 1 * 352 ≤ (i 1 : Nat) ∧ (i 1 : Nat) < win0_3.index t 1 * 352 + 352
                rw [hi.2.1]; omega
    | ⟨2, _⟩ => show win0_3.index t 2 * 1024 ≤ (i 2 : Nat) ∧ (i 2 : Nat) < win0_3.index t 2 * 1024 + 1024
                rw [hi.2.2]; omega

/-- The run, read: both result arrays in closed form, the arguments unchanged. -/
theorem run : θ_run defs (onTc (τ := τ) (main (F := Ideal))) ⟨m, fun _ => 0, ρ⟩ fun r => ∀ c : Dev nD,
      r.2.mem ((c : Thread nD τ).loc main_v2_0) = G2 m c
      ∧ r.2.mem ((c : Thread nD τ).loc main_v2_1) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d⟩ := h c
    exact ⟨a.trans (final2 m c), b.trans (final3 m c), d⟩) (run_blocks m ρ)

end Cert.WgradIdeal.Closed

end
-- ==== Proof.WgradClaim.lean ====
/-
  The weight gradient: the kernel's two result arrays against those of the derivative of the plain product.
-/
module

public import proofs.«01_k».proof.Defs
public import proofs.«01_k».proof.Proof.WgradValue
public import proofs.«01_k».proof.Proof.Gen.WgradRefIdeal.Run
public import proofs.«01_k».proof.Proof.Gen.WgradRefIdeal.Read
public import proofs.«01_k».proof.Proof.Gen.Wgrad.Frame
public import proofs.«01_k».proof.Proof.Gen.WgradIdeal.Frame
public import Idealize.ShloMosaic.Lib.Quiescent

@[expose] public section

set_option maxRecDepth 16384

noncomputable section

namespace Cert.Proof.WgradClaims

open Idealize.ShloMosaic Idealize.ShloMosaic.TcCoe Idealize.SL.Sem

theorem frame_k : Cert.quiescent_Wgrad := fun m ρ _ => Cert.Wgrad.Gen.frame m ρ
theorem frame_i : Cert.quiescent_WgradIdeal := fun m ρ _ => Cert.WgradIdeal.Gen.frame m ρ
theorem frame_r : Cert.quiescent_WgradRefIdeal := fun m ρ _ =>
  (θ_run Cert.WgradRefIdeal.defs _ _).mono (fun r h => ⟨fun c => (h c).2.2, Idealize.ShloMosaic.sem_eq_zero_of_no_sems (by decide) r.2⟩)
    (Cert.WgradRefIdeal.Value.run (F := Ideal) m ρ)

section Ref
open Cert.WgradRefIdeal Cert.WgradRefIdeal.Read

/-- The derivative's array, transposed back, is the sum over all rows of the products. -/
theorem ref_v4 (x0 : S16384x1024.Idx → EReal) (x1 : S16384x2816.Idx → EReal) (i : S2816x1024.Idx) :
    val_main_v4 (F := Ideal) x0 x1 i = Cert.WgradIdeal.Closed.prodT x1 x0 (i 0) (i 1) := by
  rw [val_main_v4_apply, val_main_v3_apply, val_main_v2_apply]
  refine Finset.sum_congr rfl fun k _ => congrArg₂ (· * ·) (congrArg x1 ?_) (congrArg x0 ?_) <;>
  · funext a
    match a with
    | ⟨0, _⟩ => rfl
    | ⟨1, _⟩ => rfl

theorem ref_v6 (x0 : S16384x1024.Idx → EReal) (x1 : S16384x2816.Idx → EReal) (i : S8x352x1024.Idx) :
    val_main_v6 (F := Ideal) x0 x1 i = Cert.WgradIdeal.Closed.prodT x1 x0
      ⟨352 * (i 0).val + (i 1).val, by have h0 : (i 0).val < 8 := (i 0).isLt; have h1 : (i 1).val < 352 := (i 1).isLt; omega⟩ (i 2) := by
  rw [val_main_v6_apply]
  show val_main_v5 (F := Ideal) x0 x1 i = _
  rw [val_main_v5_apply, ref_v4]
  have h2 : (i 2).val < 1024 := (i 2).isLt
  congr 1
  · apply Fin.ext
    show (((i 0).val * 352 + (i 1).val) * 1024 + (i 2).val) / 1024 = 352 * (i 0).val + (i 1).val
    omega
  · apply Fin.ext
    show (((i 0).val * 352 + (i 1).val) * 1024 + (i 2).val) % 1024 = (i 2).val
    omega
end Ref

theorem algebraic : Cert.algebraic_WgradIdeal_WgradRefIdeal := by
  intro m ρ m' ρ' _ hagree
  refine ⟨fun c => Cert.WgradIdeal.Closed.G2 m c, fun c => Cert.WgradIdeal.Closed.G3 m c, Cert.WgradIdeal.Closed.run m ρ, ?_⟩
  refine (θ_run Cert.WgradRefIdeal.defs _ _).mono (fun _ h c => ⟨(h c).1.trans ?_, (h c).2.1.trans ?_, (h c).2.2⟩)
    (Cert.WgradRefIdeal.Value.run (F := Ideal) m' ρ')
  · rw [Cert.WgradRefIdeal.Read.val_main_v4_eq, (hagree c).1, (hagree c).2.1]
    exact funext fun i => ref_v4 _ _ i
  · rw [Cert.WgradRefIdeal.Read.val_main_v6_eq, (hagree c).1, (hagree c).2.1]
    exact funext fun i => ref_v6 _ _ i

end Cert.Proof.WgradClaims

end
-- ==== Proof.UpValue.lean ====
/-
  The forward FFN's first half: normalised rows scaled and shifted, their two products and the gated activation,
  computed 512 rows by 256 columns at a time. Its four result arrays at the extended reals, in closed form.
-/
module

public import proofs.«01_k».proof.Proof.Gen.UpIdeal.Value
public import Idealize.ShloMosaic.Lib.Pointwise.Tactic
public import Idealize.ShloMosaic.Lib.Pointwise.Contract

@[expose] public section

set_option maxRecDepth 16384

noncomputable section

namespace Cert.UpIdeal.Closed

open Cert.UpIdeal Cert.UpIdeal.Gen Cert.UpIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The activation `g · σ(g) · u`. -/
def act (g u : EReal) : EReal := g * Ideal.div 1 (1 + Ideal.exp (-g)) * u

section Pieces

variable {F : FTy → Type} [FloatOps F]

/-- One product of a chunk: 512 rows against 256 rows of a transposed weight. -/
def mm (X : FVec F S512x1024 .bf16) (W : Vec F S256x1024 .bf16) : FVec F S512x256 .f32 :=
  matmul dot_S512x1024_S256x1024_S512x256_1_1_0_0_n_n none X (shapeCast S256x1024 W shapeCasts_S256x1024_S256x1024)
    (constant S512x256 .f32 0x00000000#32)

/-- The activation of a chunk. -/
def actV (g u : FVec F S512x256 .f32) : FVec F S512x256 .bf16 :=
  truncf .bf16 (mulf (mulf g (divf (broadcast S512x256 (Scalar.ofBits .f32 0x3F800000#32 : F .f32))
    (addf (broadcast S512x256 (Scalar.ofBits .f32 0x3F800000#32 : F .f32))
      (exp (subf (broadcast S512x256 (Scalar.ofBits .f32 0x00000000#32 : F .f32)) g))))) u) bitsLt_bf16_f32

end Pieces

theorem mm_apply (X : FVec Ideal S512x1024 .bf16) (W : Vec Ideal S256x1024 .bf16) (y : S512x256.Idx) :
    mm X W y = ∑ k : Fin 1024, X (ix2 (y 0) k) * W (ix2 (y 1) k) := by
  unfold mm
  simp only [shapeCast_self]
  pointwise

theorem actV_apply (g u : FVec Ideal S512x256 .f32) (y : S512x256.Idx) : actV g u y = act (g y) (u y) := by
  unfold actV act
  pointwise
  simp only [zero_sub]

theorem pay5_apply (v0 : Vec Ideal S512x1024 .f32) (v1 v4 : Vec Ideal S1x1024 .f32) (y : S512x1024.Idx) :
    k0_pay5 (F := Ideal) v0 v1 v4 y = v0 y * v1 (ix2 0 (y 1)) + v4 (ix2 0 (y 1)) := by
  unfold k0_pay5
  pointwise

/-! ## One block of each result, from the blocks of the operands -/

theorem piece_mm (X : FVec Ideal S512x1024 .bf16) (W : Vec Ideal S2816x1024 .bf16) (o : Nat)
    (h1 : ∀ a, (![o, 0] : Fin 2 → Nat) a + S256x1024.size a ≤ S2816x1024.size a)
    (h2 : ∀ a, (![0, o] : Fin 2 → Nat) a + S512x256.size a ≤ S512x2816.size a) (x : S512x256.Idx) :
    mm X (View.ld W (Rect.unit (s := S2816x1024) ![o, 0] S256x1024.size h1)) x
      = ∑ k : Fin 1024, X (ix2 ((Rect.unit (s := S512x2816) ![0, o] S512x256.size h2).emb x 0) k)
          * W (ix2 ((Rect.unit (s := S512x2816) ![0, o] S512x256.size h2).emb x 1) k) := by
  rw [mm_apply]
  refine Finset.sum_congr rfl fun k _ => congrArg₂ (· * ·) (congrArg X ?_) (congrArg W ?_)
  · funext a
    apply Fin.ext
    match a with
    | ⟨0, _⟩ => show (x 0).val = 0 + 1 * (x 0).val; omega
    | ⟨1, _⟩ => rfl
  · funext a
    apply Fin.ext
    match a with
    | ⟨0, _⟩ => rfl
    | ⟨1, _⟩ => show 0 + 1 * k.val = k.val; omega

/-- The scaled and shifted rows of a block. -/
abbrev xb (x0 : Vec Ideal S512x1024 .f32) (x1 x2 : Vec Ideal S1x1024 .f32) : S512x1024.Idx → EReal :=
  fun y => x0 y * x1 (ix2 0 (y 1)) + x2 (ix2 0 (y 1))

theorem pay61_eq (x0 : Vec Ideal S512x1024 .f32) (x1 x2 : Vec Ideal S1x1024 .f32) (x3 x4 : Vec Ideal S2816x1024 .bf16) :
    k0_pay61 (F := Ideal) x0 x1 x2 x3 x4 = xb x0 x1 x2 := by
  unfold k0_pay61
  simp only [View.ld_unit_zero (S := S512x1024) hz, View.ld_unit_zero (S := S1x1024) hz]
  exact funext fun y => pay5_apply x0 x1 x2 y

theorem out5_apply (x0 : Vec Ideal S512x1024 .f32) (x1 x2 : Vec Ideal S1x1024 .f32) (x3 x4 : Vec Ideal S2816x1024 .bf16) :
    out0_5 (F := Ideal) x0 x1 x2 x3 x4 = xb x0 x1 x2 := by
  unfold out0_5
  rw [View.canon_unit_zero (S := S512x1024) hz]
  exact pay61_eq x0 x1 x2 x3 x4

theorem out6_apply (x0 : Vec Ideal S512x1024 .f32) (x1 x2 : Vec Ideal S1x1024 .f32) (x3 x4 : Vec Ideal S2816x1024 .bf16) (y : S512x2816.Idx) :
    out0_6 (F := Ideal) x0 x1 x2 x3 x4 y = ∑ k : Fin 1024, xb x0 x1 x2 (ix2 (y 0) k) * x3 (ix2 (y 1) k) := by
  unfold out0_6
  refine View.canon_apply_of_pieces (Val := Elt Ideal) (fun y : S512x2816.Idx => ∑ k : Fin 1024, xb x0 x1 x2 (ix2 (y 0) k) * x3 (ix2 (y 1) k)) _ ?_ y (cover0_6 _ _ _ _ _ _ _ _ _ _ _ y)
  intro p hp
  simp only [List.mem_cons, List.mem_singleton, List.not_mem_nil, or_false] at hp
  rw [← pay61_eq x0 x1 x2 x3 x4]
  rcases hp with rfl | rfl | rfl | rfl | rfl | rfl | rfl | rfl | rfl | rfl | rfl
  · intro (x : S512x256.Idx)
    exact piece_mm (k0_pay61 x0 x1 x2 x3 x4) x3 2560 inb_S2816x1024_S256x1024_2560_0 inb_S512x2816_S512x256_0_2560 x
  · intro (x : S512x256.Idx)
    exact piece_mm (k0_pay61 x0 x1 x2 x3 x4) x3 2304 inb_S2816x1024_S256x1024_2304_0 inb_S512x2816_S512x256_0_2304 x
  · intro (x : S512x256.Idx)
    exact piece_mm (k0_pay61 x0 x1 x2 x3 x4) x3 2048 inb_S2816x1024_S256x1024_2048_0 inb_S512x2816_S512x256_0_2048 x
  · intro (x : S512x256.Idx)
    exact piece_mm (k0_pay61 x0 x1 x2 x3 x4) x3 1792 inb_S2816x1024_S256x1024_1792_0 inb_S512x2816_S512x256_0_1792 x
  · intro (x : S512x256.Idx)
    exact piece_mm (k0_pay61 x0 x1 x2 x3 x4) x3 1536 inb_S2816x1024_S256x1024_1536_0 inb_S512x2816_S512x256_0_1536 x
  · intro (x : S512x256.Idx)
    exact piece_mm (k0_pay61 x0 x1 x2 x3 x4) x3 1280 inb_S2816x1024_S256x1024_1280_0 inb_S512x2816_S512x256_0_1280 x
  · intro (x : S512x256.Idx)
    exact piece_mm (k0_pay61 x0 x1 x2 x3 x4) x3 1024 inb_S2816x1024_S256x1024_1024_0 inb_S512x2816_S512x256_0_1024 x
  · intro (x : S512x256.Idx)
    exact piece_mm (k0_pay61 x0 x1 x2 x3 x4) x3 768 inb_S2816x1024_S256x1024_768_0 inb_S512x2816_S512x256_0_768 x
  · intro (x : S512x256.Idx)
    exact piece_mm (k0_pay61 x0 x1 x2 x3 x4) x3 512 inb_S2816x1024_S256x1024_512_0 inb_S512x2816_S512x256_0_512 x
  · intro (x : S512x256.Idx)
    exact piece_mm (k0_pay61 x0 x1 x2 x3 x4) x3 256 inb_S2816x1024_S256x1024_256_0 inb_S512x2816_S512x256_0_256 x
  · intro (x : S512x256.Idx)
    exact piece_mm (k0_pay61 x0 x1 x2 x3 x4) x3 0 inb_S2816x1024_S256x1024_0_0 inb_S512x2816_S512x256_0_0 x

theorem out7_apply (x0 : Vec Ideal S512x1024 .f32) (x1 x2 : Vec Ideal S1x1024 .f32) (x3 x4 : Vec Ideal S2816x1024 .bf16) (y : S512x2816.Idx) :
    out0_7 (F := Ideal) x0 x1 x2 x3 x4 y = ∑ k : Fin 1024, xb x0 x1 x2 (ix2 (y 0) k) * x4 (ix2 (y 1) k) := by
  unfold out0_7
  refine View.canon_apply_of_pieces (Val := Elt Ideal) (fun y : S512x2816.Idx => ∑ k : Fin 1024, xb x0 x1 x2 (ix2 (y 0) k) * x4 (ix2 (y 1) k)) _ ?_ y (cover0_7 _ _ _ _ _ _ _ _ _ _ _ y)
  intro p hp
  simp only [List.mem_cons, List.mem_singleton, List.not_mem_nil, or_false] at hp
  rw [← pay61_eq x0 x1 x2 x3 x4]
  rcases hp with rfl | rfl | rfl | rfl | rfl | rfl | rfl | rfl | rfl | rfl | rfl
  · intro (x : S512x256.Idx)
    exact piece_mm (k0_pay61 x0 x1 x2 x3 x4) x4 2560 inb_S2816x1024_S256x1024_2560_0 inb_S512x2816_S512x256_0_2560 x
  · intro (x : S512x256.Idx)
    exact piece_mm (k0_pay61 x0 x1 x2 x3 x4) x4 2304 inb_S2816x1024_S256x1024_2304_0 inb_S512x2816_S512x256_0_2304 x
  · intro (x : S512x256.Idx)
    exact piece_mm (k0_pay61 x0 x1 x2 x3 x4) x4 2048 inb_S2816x1024_S256x1024_2048_0 inb_S512x2816_S512x256_0_2048 x
  · intro (x : S512x256.Idx)
    exact piece_mm (k0_pay61 x0 x1 x2 x3 x4) x4 1792 inb_S2816x1024_S256x1024_1792_0 inb_S512x2816_S512x256_0_1792 x
  · intro (x : S512x256.Idx)
    exact piece_mm (k0_pay61 x0 x1 x2 x3 x4) x4 1536 inb_S2816x1024_S256x1024_1536_0 inb_S512x2816_S512x256_0_1536 x
  · intro (x : S512x256.Idx)
    exact piece_mm (k0_pay61 x0 x1 x2 x3 x4) x4 1280 inb_S2816x1024_S256x1024_1280_0 inb_S512x2816_S512x256_0_1280 x
  · intro (x : S512x256.Idx)
    exact piece_mm (k0_pay61 x0 x1 x2 x3 x4) x4 1024 inb_S2816x1024_S256x1024_1024_0 inb_S512x2816_S512x256_0_1024 x
  · intro (x : S512x256.Idx)
    exact piece_mm (k0_pay61 x0 x1 x2 x3 x4) x4 768 inb_S2816x1024_S256x1024_768_0 inb_S512x2816_S512x256_0_768 x
  · intro (x : S512x256.Idx)
    exact piece_mm (k0_pay61 x0 x1 x2 x3 x4) x4 512 inb_S2816x1024_S256x1024_512_0 inb_S512x2816_S512x256_0_512 x
  · intro (x : S512x256.Idx)
    exact piece_mm (k0_pay61 x0 x1 x2 x3 x4) x4 256 inb_S2816x1024_S256x1024_256_0 inb_S512x2816_S512x256_0_256 x
  · intro (x : S512x256.Idx)
    exact piece_mm (k0_pay61 x0 x1 x2 x3 x4) x4 0 inb_S2816x1024_S256x1024_0_0 inb_S512x2816_S512x256_0_0 x

theorem piece_act (X : FVec Ideal S512x1024 .bf16) (W W' : Vec Ideal S2816x1024 .bf16) (o : Nat)
    (h1 : ∀ a, (![o, 0] : Fin 2 → Nat) a + S256x1024.size a ≤ S2816x1024.size a)
    (h2 : ∀ a, (![0, o] : Fin 2 → Nat) a + S512x256.size a ≤ S512x2816.size a) (x : S512x256.Idx) :
    actV (mm X (View.ld W (Rect.unit (s := S2816x1024) ![o, 0] S256x1024.size h1))) (mm X (View.ld W' (Rect.unit (s := S2816x1024) ![o, 0] S256x1024.size h1))) x
      = act (∑ k : Fin 1024, X (ix2 ((Rect.unit (s := S512x2816) ![0, o] S512x256.size h2).emb x 0) k)
          * W (ix2 ((Rect.unit (s := S512x2816) ![0, o] S512x256.size h2).emb x 1) k))
        (∑ k : Fin 1024, X (ix2 ((Rect.unit (s := S512x2816) ![0, o] S512x256.size h2).emb x 0) k)
          * W' (ix2 ((Rect.unit (s := S512x2816) ![0, o] S512x256.size h2).emb x 1) k)) := by
  rw [actV_apply, piece_mm X W o h1 h2, piece_mm X W' o h1 h2]

theorem out8_apply (x0 : Vec Ideal S512x1024 .f32) (x1 x2 : Vec Ideal S1x1024 .f32) (x3 x4 : Vec Ideal S2816x1024 .bf16) (y : S512x2816.Idx) :
    out0_8 (F := Ideal) x0 x1 x2 x3 x4 y = act (∑ k : Fin 1024, xb x0 x1 x2 (ix2 (y 0) k) * x3 (ix2 (y 1) k)) (∑ k : Fin 1024, xb x0 x1 x2 (ix2 (y 0) k) * x4 (ix2 (y 1) k)) := by
  unfold out0_8
  refine View.canon_apply_of_pieces (Val := Elt Ideal) (fun y : S512x2816.Idx => act (∑ k : Fin 1024, xb x0 x1 x2 (ix2 (y 0) k) * x3 (ix2 (y 1) k)) (∑ k : Fin 1024, xb x0 x1 x2 (ix2 (y 0) k) * x4 (ix2 (y 1) k))) _ ?_ y (cover0_8 _ _ _ _ _ _ _ _ _ _ _ y)
  intro p hp
  simp only [List.mem_cons, List.mem_singleton, List.not_mem_nil, or_false] at hp
  rw [← pay61_eq x0 x1 x2 x3 x4]
  rcases hp with rfl | rfl | rfl | rfl | rfl | rfl | rfl | rfl | rfl | rfl | rfl
  · intro (x : S512x256.Idx)
    exact piece_act (k0_pay61 x0 x1 x2 x3 x4) x3 x4 2560 inb_S2816x1024_S256x1024_2560_0 inb_S512x2816_S512x256_0_2560 x
  · intro (x : S512x256.Idx)
    exact piece_act (k0_pay61 x0 x1 x2 x3 x4) x3 x4 2304 inb_S2816x1024_S256x1024_2304_0 inb_S512x2816_S512x256_0_2304 x
  · intro (x : S512x256.Idx)
    exact piece_act (k0_pay61 x0 x1 x2 x3 x4) x3 x4 2048 inb_S2816x1024_S256x1024_2048_0 inb_S512x2816_S512x256_0_2048 x
  · intro (x : S512x256.Idx)
    exact piece_act (k0_pay61 x0 x1 x2 x3 x4) x3 x4 1792 inb_S2816x1024_S256x1024_1792_0 inb_S512x2816_S512x256_0_1792 x
  · intro (x : S512x256.Idx)
    exact piece_act (k0_pay61 x0 x1 x2 x3 x4) x3 x4 1536 inb_S2816x1024_S256x1024_1536_0 inb_S512x2816_S512x256_0_1536 x
  · intro (x : S512x256.Idx)
    exact piece_act (k0_pay61 x0 x1 x2 x3 x4) x3 x4 1280 inb_S2816x1024_S256x1024_1280_0 inb_S512x2816_S512x256_0_1280 x
  · intro (x : S512x256.Idx)
    exact piece_act (k0_pay61 x0 x1 x2 x3 x4) x3 x4 1024 inb_S2816x1024_S256x1024_1024_0 inb_S512x2816_S512x256_0_1024 x
  · intro (x : S512x256.Idx)
    exact piece_act (k0_pay61 x0 x1 x2 x3 x4) x3 x4 768 inb_S2816x1024_S256x1024_768_0 inb_S512x2816_S512x256_0_768 x
  · intro (x : S512x256.Idx)
    exact piece_act (k0_pay61 x0 x1 x2 x3 x4) x3 x4 512 inb_S2816x1024_S256x1024_512_0 inb_S512x2816_S512x256_0_512 x
  · intro (x : S512x256.Idx)
    exact piece_act (k0_pay61 x0 x1 x2 x3 x4) x3 x4 256 inb_S2816x1024_S256x1024_256_0 inb_S512x2816_S512x256_0_256 x
  · intro (x : S512x256.Idx)
    exact piece_act (k0_pay61 x0 x1 x2 x3 x4) x3 x4 0 inb_S2816x1024_S256x1024_0_0 inb_S512x2816_S512x256_0_0 x

/-! ## The operands' blocks -/

variable (m : (ℓ : Loc nD τ sig) → Buf (Elt Ideal) ℓ) (ρ : Dev nD → PrngReg)

theorem V_v1 (c : Dev nD) : V m c main_v1 = (fun i => (m ((c : Thread nD τ).loc main_arg3) : S1024x2816.Idx → EReal) (ix2 (i 1) (i 0)) : S2816x1024.Idx → EReal) := by
  show StableHlo.after hostOps0 _ _ = _
  unfold hostOps0
  after_results
  funext i
  exact transpose_apply (s := S1024x2816) [1, 0] (m ((c : Thread nD τ).loc main_arg3) : S1024x2816.Idx → EReal) transposes_S1024x2816_S2816x1024_1_0 i (ix2 (i 1) (i 0)) (fun b => match b with
    | ⟨0, _⟩ => rfl
    | ⟨1, _⟩ => rfl)

theorem V_v3 (c : Dev nD) : V m c main_v3 = (fun i => (m ((c : Thread nD τ).loc main_arg4) : S1024x2816.Idx → EReal) (ix2 (i 1) (i 0)) : S2816x1024.Idx → EReal) := by
  show StableHlo.after hostOps0 _ _ = _
  unfold hostOps0
  after_results
  funext i
  exact transpose_apply (s := S1024x2816) [1, 0] (m ((c : Thread nD τ).loc main_arg4) : S1024x2816.Idx → EReal) transposes_S1024x2816_S2816x1024_1_0 i (ix2 (i 1) (i 0)) (fun b => match b with
    | ⟨0, _⟩ => rfl
    | ⟨1, _⟩ => rfl)

theorem idx0 : ∀ t : Fin grid0.N, win0_0.index t 0 = t.val ∧ win0_0.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel

theorem iblk0 (c : Dev nD) (t : Fin cfg0.N) (p : Fin 512) (k : Fin 1024) (h : 512 * t.val + p.val < 16384) :
    (iblk m c 0 t : Vec Ideal S512x1024 .f32) (ix2 p k) = (m ((c : Thread nD τ).loc main_arg0) : S16384x1024.Idx → EReal) (ix2 ⟨512 * t.val + p.val, h⟩ k) := by
  have hi := idx0 t
  have hv := V_main_arg0 m c
  rw [← hv]
  unfold iblk
  rw [View.read_apply]
  show V m c main_arg0 _ = V m c main_arg0 _
  congr 1
  funext a
  apply Fin.ext
  match a with
  | ⟨0, _⟩ => show win0_0.index t 0 * 512 + 1 * p.val = 512 * t.val + p.val; rw [hi.1]; omega
  | ⟨1, _⟩ => show win0_0.index t 1 * 1024 + 1 * k.val = k.val; rw [hi.2]; omega

theorem iblk1 (c : Dev nD) (t : Fin cfg0.N) :
    (iblk m c 1 t : Vec Ideal S1x1024 .f32) = (m ((c : Thread nD τ).loc main_arg1) : S1x1024.Idx → EReal) := by
  have hi := idx1 t
  have hv := V_main_arg1 m c
  rw [← hv]
  unfold iblk
  funext y
  rw [View.read_apply]
  show V m c main_arg1 _ = V m c main_arg1 _
  congr 1
  funext a
  apply Fin.ext
  match a with
  | ⟨0, _⟩ => show win0_1.index t 0 * 1 + 1 * (y 0).val = (y 0).val; rw [hi.1]; omega
  | ⟨1, _⟩ => show win0_1.index t 1 * 1024 + 1 * (y 1).val = (y 1).val; rw [hi.2]; omega

theorem iblk2 (c : Dev nD) (t : Fin cfg0.N) :
    (iblk m c 2 t : Vec Ideal S1x1024 .f32) = (m ((c : Thread nD τ).loc main_arg2) : S1x1024.Idx → EReal) := by
  have hi := idx2 t
  have hv := V_main_arg2 m c
  rw [← hv]
  unfold iblk
  funext y
  rw [View.read_apply]
  show V m c main_arg2 _ = V m c main_arg2 _
  congr 1
  funext a
  apply Fin.ext
  match a with
  | ⟨0, _⟩ => show win0_2.index t 0 * 1 + 1 * (y 0).val = (y 0).val; rw [hi.1]; omega
  | ⟨1, _⟩ => show win0_2.index t 1 * 1024 + 1 * (y 1).val = (y 1).val; rw [hi.2]; omega

theorem iblk3 (c : Dev nD) (t : Fin cfg0.N) :
    (iblk m c 3 t : Vec Ideal S2816x1024 .bf16) = (fun i : S2816x1024.Idx => (m ((c : Thread nD τ).loc main_arg3) : S1024x2816.Idx → EReal) (ix2 (i 1) (i 0)) : S2816x1024.Idx → EReal) := by
  have hi := idx3 t
  have hv := V_v1 m c
  rw [← hv]
  unfold iblk
  funext y
  rw [View.read_apply]
  show V m c main_v1 _ = V m c main_v1 _
  congr 1
  funext a
  apply Fin.ext
  match a with
  | ⟨0, _⟩ => show win0_3.index t 0 * 2816 + 1 * (y 0).val = (y 0).val; rw [hi.1]; omega
  | ⟨1, _⟩ => show win0_3.index t 1 * 1024 + 1 * (y 1).val = (y 1).val; rw [hi.2]; omega

theorem iblk4 (c : Dev nD) (t : Fin cfg0.N) :
    (iblk m c 4 t : Vec Ideal S2816x1024 .bf16) = (fun i : S2816x1024.Idx => (m ((c : Thread nD τ).loc main_arg4) : S1024x2816.Idx → EReal) (ix2 (i 1) (i 0)) : S2816x1024.Idx → EReal) := by
  have hi := idx4 t
  have hv := V_v3 m c
  rw [← hv]
  unfold iblk
  funext y
  rw [View.read_apply]
  show V m c main_v3 _ = V m c main_v3 _
  congr 1
  funext a
  apply Fin.ext
  match a with
  | ⟨0, _⟩ => show win0_4.index t 0 * 2816 + 1 * (y 0).val = (y 0).val; rw [hi.1]; omega
  | ⟨1, _⟩ => show win0_4.index t 1 * 1024 + 1 * (y 1).val = (y 1).val; rw [hi.2]; omega

/-! ## The result arrays -/

/-- The rows, scaled and shifted. -/
def xrow (A : S16384x1024.Idx → EReal) (g b : S1x1024.Idx → EReal) (r : Fin 16384) (k : Fin 1024) : EReal :=
  A (ix2 r k) * g (ix2 0 k) + b (ix2 0 k)

/-- Their product with a weight. -/
def prod (A : S16384x1024.Idx → EReal) (g b : S1x1024.Idx → EReal) (W : S1024x2816.Idx → EReal) (r : Fin 16384) (q : Fin 2816) : EReal :=
  ∑ k : Fin 1024, xrow A g b r k * W (ix2 k q)

/-- The gated activation. -/
def hrow (A : S16384x1024.Idx → EReal) (g b : S1x1024.Idx → EReal) (W W' : S1024x2816.Idx → EReal) (r : Fin 16384) (q : Fin 2816) : EReal :=
  act (prod A g b W r q) (prod A g b W' r q)

def G5 (c : Dev nD) : Buf (Elt Ideal) ((c : Thread nD τ).loc main_v4_0) := fun i : S16384x1024.Idx =>
  xrow (m ((c : Thread nD τ).loc main_arg0)) (m ((c : Thread nD τ).loc main_arg1)) (m ((c : Thread nD τ).loc main_arg2)) (i 0) (i 1)
def G6 (c : Dev nD) : Buf (Elt Ideal) ((c : Thread nD τ).loc main_v4_1) := fun i : S16384x2816.Idx =>
  prod (m ((c : Thread nD τ).loc main_arg0)) (m ((c : Thread nD τ).loc main_arg1)) (m ((c : Thread nD τ).loc main_arg2)) (m ((c : Thread nD τ).loc main_arg3)) (i 0) (i 1)
def G7 (c : Dev nD) : Buf (Elt Ideal) ((c : Thread nD τ).loc main_v4_2) := fun i : S16384x2816.Idx =>
  prod (m ((c : Thread nD τ).loc main_arg0)) (m ((c : Thread nD τ).loc main_arg1)) (m ((c : Thread nD τ).loc main_arg2)) (m ((c : Thread nD τ).loc main_arg4)) (i 0) (i 1)
def G8 (c : Dev nD) : Buf (Elt Ideal) ((c : Thread nD τ).loc main_v4_3) := fun i : S16384x2816.Idx =>
  hrow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem xb_eq (c : Dev nD) (t : Fin cfg0.N) (p : Fin 512) (k : Fin 1024) (h : 512 * t.val + p.val < 16384) :
    xb (iblk m c 0 t) (iblk m c 1 t) (iblk m c 2 t) (ix2 p k)
      = xrow (m ((c : Thread nD τ).loc main_arg0)) (m ((c : Thread nD τ).loc main_arg1)) (m ((c : Thread nD τ).loc main_arg2)) ⟨512 * t.val + p.val, h⟩ k := by
  unfold xb xrow
  rw [show (iblk m c 0 t : Vec Ideal S512x1024 .f32) (ix2 p k) = _ from iblk0 m c t p k h, iblk1 m c t, iblk2 m c t]
  rfl

theorem g_eq (c : Dev nD) (t : Fin cfg0.N) (p : Fin 512) (q : Fin 2816) (h : 512 * t.val + p.val < 16384) :
    ∑ k : Fin 1024, xb (iblk m c 0 t) (iblk m c 1 t) (iblk m c 2 t) (ix2 p k) * (iblk m c 3 t : Vec Ideal S2816x1024 .bf16) (ix2 q k)
      = prod (m ((c : Thread nD τ).loc main_arg0)) (m ((c : Thread nD τ).loc main_arg1)) (m ((c : Thread nD τ).loc main_arg2)) (m ((c : Thread nD τ).loc main_arg3)) ⟨512 * t.val + p.val, h⟩ q := by
  rw [iblk3 m c t]
  exact Finset.sum_congr rfl fun k _ => by rw [xb_eq m c t p k h]; rfl

theorem u_eq (c : Dev nD) (t : Fin cfg0.N) (p : Fin 512) (q : Fin 2816) (h : 512 * t.val + p.val < 16384) :
    ∑ k : Fin 1024, xb (iblk m c 0 t) (iblk m c 1 t) (iblk m c 2 t) (ix2 p k) * (iblk m c 4 t : Vec Ideal S2816x1024 .bf16) (ix2 q k)
      = prod (m ((c : Thread nD τ).loc main_arg0)) (m ((c : Thread nD τ).loc main_arg1)) (m ((c : Thread nD τ).loc main_arg2)) (m ((c : Thread nD τ).loc main_arg4)) ⟨512 * t.val + p.val, h⟩ q := by
  rw [iblk4 m c t]
  exact Finset.sum_congr rfl fun k _ => by rw [xb_eq m c t p k h]; rfl

theorem h_eq (c : Dev nD) (t : Fin cfg0.N) (p : Fin 512) (q : Fin 2816) (h : 512 * t.val + p.val < 16384) :
    act (∑ k : Fin 1024, xb (iblk m c 0 t) (iblk m c 1 t) (iblk m c 2 t) (ix2 p k) * (iblk m c 3 t : Vec Ideal S2816x1024 .bf16) (ix2 q k))
        (∑ k : Fin 1024, xb (iblk m c 0 t) (iblk m c 1 t) (iblk m c 2 t) (ix2 p k) * (iblk m c 4 t : Vec Ideal S2816x1024 .bf16) (ix2 q k))
      = hrow (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + p.val, h⟩ q :=
  congrArg₂ act (g_eq m c t p q h) (u_eq m c t p q h)

theorem flushed5_eq (c : Dev nD) (t : Fin cfg0.N) (hf : (cfg0.win 5).flush t = true) :
    (dats m 0 c).flushed 5 t = ((cfg0.win 5).blk t).view.read (Elt Ideal) (G5 m c) := by
  have hN : cfg0.N = 32 := N_0
  have hlt : t.val < 32 := hN ▸ t.isLt
  have hi := idx5 t
  rw [flushed5]
  funext (y : S512x1024.Idx)
  have hy0 : (y 0).val < 512 := (y 0).isLt
  have hr : 512 * t.val + (y 0).val < 16384 := by omega
  rw [View.read_apply]
  show out0_5 _ _ _ _ _ y = _
  rw [out5_apply, eq_ix2 y]
  refine (xb_eq m c t (y 0) (y 1) hr).trans ?_
  unfold G5
  congr 1
  · apply Fin.ext
    show 512 * t.val + (y 0).val = win0_5.index t 0 * 512 + 1 * (y 0).val
    rw [hi.1]; omega
  · apply Fin.ext
    show (y 1).val = win0_5.index t 1 * 1024 + 1 * (y 1).val
    rw [hi.2]; omega

theorem final5 (c : Dev nD) : (dats m 0 c).arrAt 5 cfg0.N = G5 m c :=
  (dats m 0 c).arrAt_eq_of_cover 5 (G5 m c) (flushed5_eq m c) fun (i : S16384x1024.Idx) => by
    have h0 : (i 0 : Nat) < 16384 := (i 0).isLt
    have h1 : (i 1 : Nat) < 1024 := (i 1).isLt
    have hN : cfg0.N = 32 := N_0
    obtain ⟨t, ht⟩ : ∃ t : Fin cfg0.N, t.val = (i 0).val / 512 := ⟨⟨(i 0).val / 512, by omega⟩, rfl⟩
    have hi := idx5 t
    refine ⟨t, flush0_5 t, ?_⟩
    show i ∈ ((View.whole main_v4_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [hi.1]; omega
    | ⟨1, _⟩ => show win0_5.index t 1 * 1024 ≤ (i 1 : Nat) ∧ (i 1 : Nat) < win0_5.index t 1 * 1024 + 1024
                rw [hi.2]; omega

theorem flushed6_eq (c : Dev nD) (t : Fin cfg0.N) (hf : (cfg0.win 6).flush t = true) :
    (dats m 0 c).flushed 6 t = ((cfg0.win 6).blk t).view.read (Elt Ideal) (G6 m c) := by
  have hN : cfg0.N = 32 := N_0
  have hlt : t.val < 32 := hN ▸ t.isLt
  have hi := idx6 t
  rw [flushed6]
  funext (y : S512x2816.Idx)
  have hy0 : (y 0).val < 512 := (y 0).isLt
  have hr : 512 * t.val + (y 0).val < 16384 := by omega
  rw [View.read_apply]
  show out0_6 _ _ _ _ _ y = _
  rw [out6_apply, eq_ix2 y]
  refine (g_eq m c t (y 0) (y 1) hr).trans ?_
  unfold G6
  congr 1
  · apply Fin.ext
    show 512 * t.val + (y 0).val = win0_6.index t 0 * 512 + 1 * (y 0).val
    rw [hi.1]; omega
  · apply Fin.ext
    show (y 1).val = win0_6.index t 1 * 2816 + 1 * (y 1).val
    rw [hi.2]; omega

theorem final6 (c : Dev nD) : (dats m 0 c).arrAt 6 cfg0.N = G6 m c :=
  (dats m 0 c).arrAt_eq_of_cover 6 (G6 m c) (flushed6_eq m c) fun (i : S16384x2816.Idx) => by
    have h0 : (i 0 : Nat) < 16384 := (i 0).isLt
    have h1 : (i 1 : Nat) < 2816 := (i 1).isLt
    have hN : cfg0.N = 32 := N_0
    obtain ⟨t, ht⟩ : ∃ t : Fin cfg0.N, t.val = (i 0).val / 512 := ⟨⟨(i 0).val / 512, by omega⟩, rfl⟩
    have hi := idx6 t
    refine ⟨t, flush0_6 t, ?_⟩
    show i ∈ ((View.whole main_v4_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [hi.1]; omega
    | ⟨1, _⟩ => show win0_6.index t 1 * 2816 ≤ (i 1 : Nat) ∧ (i 1 : Nat) < win0_6.index t 1 * 2816 + 2816
                rw [hi.2]; omega

theorem flushed7_eq (c : Dev nD) (t : Fin cfg0.N) (hf : (cfg0.win 7).flush t = true) :
    (dats m 0 c).flushed 7 t = ((cfg0.win 7).blk t).view.read (Elt Ideal) (G7 m c) := by
  have hN : cfg0.N = 32 := N_0
  have hlt : t.val < 32 := hN ▸ t.isLt
  have hi := idx7 t
  rw [flushed7]
  funext (y : S512x2816.Idx)
  have hy0 : (y 0).val < 512 := (y 0).isLt
  have hr : 512 * t.val + (y 0).val < 16384 := by omega
  rw [View.read_apply]
  show out0_7 _ _ _ _ _ y = _
  rw [out7_apply, eq_ix2 y]
  refine (u_eq m c t (y 0) (y 1) hr).trans ?_
  unfold G7
  congr 1
  · apply Fin.ext
    show 512 * t.val + (y 0).val = win0_7.index t 0 * 512 + 1 * (y 0).val
    rw [hi.1]; omega
  · apply Fin.ext
    show (y 1).val = win0_7.index t 1 * 2816 + 1 * (y 1).val
    rw [hi.2]; omega

theorem final7 (c : Dev nD) : (dats m 0 c).arrAt 7 cfg0.N = G7 m c :=
  (dats m 0 c).arrAt_eq_of_cover 7 (G7 m c) (flushed7_eq m c) fun (i : S16384x2816.Idx) => by
    have h0 : (i 0 : Nat) < 16384 := (i 0).isLt
    have h1 : (i 1 : Nat) < 2816 := (i 1).isLt
    have hN : cfg0.N = 32 := N_0
    obtain ⟨t, ht⟩ : ∃ t : Fin cfg0.N, t.val = (i 0).val / 512 := ⟨⟨(i 0).val / 512, by omega⟩, rfl⟩
    have hi := idx7 t
    refine ⟨t, flush0_7 t, ?_⟩
    show i ∈ ((View.whole main_v4_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [hi.1]; omega
    | ⟨1, _⟩ => show win0_7.index t 1 * 2816 ≤ (i 1 : Nat) ∧ (i 1 : Nat) < win0_7.index t 1 * 2816 + 2816
                rw [hi.2]; omega

theorem flushed8_eq (c : Dev nD) (t : Fin cfg0.N) (hf : (cfg0.win 8).flush t = true) :
    (dats m 0 c).flushed 8 t = ((cfg0.win 8).blk t).view.read (Elt Ideal) (G8 m c) := by
  have hN : cfg0.N = 32 := N_0
  have hlt : t.val < 32 := hN ▸ t.isLt
  have hi := idx8 t
  rw [flushed8]
  funext (y : S512x2816.Idx)
  have hy0 : (y 0).val < 512 := (y 0).isLt
  have hr : 512 * t.val + (y 0).val < 16384 := by omega
  rw [View.read_apply]
  show out0_8 _ _ _ _ _ y = _
  rw [out8_apply, eq_ix2 y]
  refine (h_eq m c t (y 0) (y 1) hr).trans ?_
  unfold G8
  congr 1
  · apply Fin.ext
    show 512 * t.val + (y 0).val = win0_8.index t 0 * 512 + 1 * (y 0).val
    rw [hi.1]; omega
  · apply Fin.ext
    show (y 1).val = win0_8.index t 1 * 2816 + 1 * (y 1).val
    rw [hi.2]; omega

theorem final8 (c : Dev nD) : (dats m 0 c).arrAt 8 cfg0.N = G8 m c :=
  (dats m 0 c).arrAt_eq_of_cover 8 (G8 m c) (flushed8_eq m c) fun (i : S16384x2816.Idx) => by
    have h0 : (i 0 : Nat) < 16384 := (i 0).isLt
    have h1 : (i 1 : Nat) < 2816 := (i 1).isLt
    have hN : cfg0.N = 32 := N_0
    obtain ⟨t, ht⟩ : ∃ t : Fin cfg0.N, t.val = (i 0).val / 512 := ⟨⟨(i 0).val / 512, by omega⟩, rfl⟩
    have hi := idx8 t
    refine ⟨t, flush0_8 t, ?_⟩
    show i ∈ ((View.whole main_v4_3).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [hi.1]; omega
    | ⟨1, _⟩ => show win0_8.index t 1 * 2816 ≤ (i 1 : Nat) ∧ (i 1 : Nat) < win0_8.index t 1 * 2816 + 2816
                rw [hi.2]; omega

/-- The run, read: the four result arrays in closed form, the arguments unchanged. -/
theorem run : θ_run defs (onTc (τ := τ) (main (F := Ideal))) ⟨m, fun _ => 0, ρ⟩ fun r => ∀ c : Dev nD,
      r.2.mem ((c : Thread nD τ).loc main_v4_0) = G5 m c
      ∧ r.2.mem ((c : Thread nD τ).loc main_v4_1) = G6 m c
      ∧ r.2.mem ((c : Thread nD τ).loc main_v4_2) = G7 m c
      ∧ r.2.mem ((c : Thread nD τ).loc main_v4_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨a, b, d, e, f⟩ := h c
    exact ⟨a.trans (final5 m c), b.trans (final6 m c), d.trans (final7 m c), e.trans (final8 m c), f⟩) (run_blocks m ρ)

end Cert.UpIdeal.Closed

end
-- ==== Proof.UpClaim.lean ====
/-
  The FFN up-projection: the kernel's four result arrays against those of the plain formula.
-/
module

public import proofs.«01_k».proof.Defs
public import proofs.«01_k».proof.Proof.UpValue
public import proofs.«01_k».proof.Proof.Gen.UpRefIdeal.Run
public import proofs.«01_k».proof.Proof.Gen.UpRefIdeal.Read
public import proofs.«01_k».proof.Proof.Gen.Up.Frame
public import proofs.«01_k».proof.Proof.Gen.UpIdeal.Frame
public import Idealize.ShloMosaic.Lib.Quiescent
public import Idealize.ShloMosaic.Lib.IdealHost

@[expose] public section

set_option maxRecDepth 16384

noncomputable section

namespace Cert.Proof.UpClaims

open Idealize.ShloMosaic Idealize.ShloMosaic.TcCoe Idealize.SL.Sem

theorem frame_k : Cert.quiescent_Up := fun m ρ _ => Cert.Up.Gen.frame m ρ
theorem frame_i : Cert.quiescent_UpIdeal := fun m ρ _ => Cert.UpIdeal.Gen.frame m ρ
theorem frame_r : Cert.quiescent_UpRefIdeal := fun m ρ _ =>
  (θ_run Cert.UpRefIdeal.defs _ _).mono (fun r h => ⟨fun c => (h c).2.2.2.2, Idealize.ShloMosaic.sem_eq_zero_of_no_sems (by decide) r.2⟩)
    (Cert.UpRefIdeal.Value.run (F := Ideal) m ρ)

section Ref
open Cert.UpRefIdeal Cert.UpRefIdeal.Read

/-- The reference's scaled and shifted rows. -/
theorem ref_v3 (x0 : S16384x1024.Idx → EReal) (x1 x2 : S1x1024.Idx → EReal) (i : S16384x1024.Idx) :
    val_main_v3 (F := Ideal) x0 x1 x2 i = Cert.UpIdeal.Closed.xrow x0 x1 x2 (i 0) (i 1) := by
  rw [val_main_v3_apply, val_main_v1_apply, val_main_v0_apply, val_main_v2_apply]
  refine congrArg₂ (· + ·) (congrArg₂ (· * ·) (congrArg x0 ?_) (congrArg x1 ?_)) (congrArg x2 ?_) <;>
  · funext a
    match a with
    | ⟨0, _⟩ => rfl
    | ⟨1, _⟩ => rfl

theorem ref_v6 (x0 : S16384x1024.Idx → EReal) (x1 x2 : S1x1024.Idx → EReal) (i : S16384x1024.Idx) :
    val_main_v6 (F := Ideal) x0 x1 x2 i = Cert.UpIdeal.Closed.xrow x0 x1 x2 (i 0) (i 1) := by
  rw [val_main_v6_apply]
  exact ref_v3 x0 x1 x2 i

theorem ref_v4 (x0 : S16384x1024.Idx → EReal) (x1 x2 : S1x1024.Idx → EReal) (x3 : S1024x2816.Idx → EReal) (i : S16384x2816.Idx) :
    val_main_v4 (F := Ideal) x0 x1 x2 x3 i = Cert.UpIdeal.Closed.prod x0 x1 x2 x3 (i 0) (i 1) := by
  rw [val_main_v4_apply]
  refine Finset.sum_congr rfl fun k _ => congrArg₂ (· * ·) (ref_v3 x0 x1 x2 _) (congrArg x3 ?_)
  funext a
  match a with
  | ⟨0, _⟩ => rfl
  | ⟨1, _⟩ => rfl

theorem ref_v7 (x0 : S16384x1024.Idx → EReal) (x1 x2 : S1x1024.Idx → EReal) (x3 : S1024x2816.Idx → EReal) (i : S16384x2816.Idx) :
    val_main_v7 (F := Ideal) x0 x1 x2 x3 i = Cert.UpIdeal.Closed.prod x0 x1 x2 x3 (i 0) (i 1) := by
  rw [val_main_v7_apply]
  exact ref_v4 x0 x1 x2 x3 i

theorem ref_v5 (x0 : S16384x1024.Idx → EReal) (x1 x2 : S1x1024.Idx → EReal) (x4 : S1024x2816.Idx → EReal) (i : S16384x2816.Idx) :
    val_main_v5 (F := Ideal) x0 x1 x2 x4 i = Cert.UpIdeal.Closed.prod x0 x1 x2 x4 (i 0) (i 1) := by
  rw [val_main_v5_apply]
  refine Finset.sum_congr rfl fun k _ => congrArg₂ (· * ·) (ref_v3 x0 x1 x2 _) (congrArg x4 ?_)
  funext a
  match a with
  | ⟨0, _⟩ => rfl
  | ⟨1, _⟩ => rfl

theorem ref_v8 (x0 : S16384x1024.Idx → EReal) (x1 x2 : S1x1024.Idx → EReal) (x4 : S1024x2816.Idx → EReal) (i : S16384x2816.Idx) :
    val_main_v8 (F := Ideal) x0 x1 x2 x4 i = Cert.UpIdeal.Closed.prod x0 x1 x2 x4 (i 0) (i 1) := by
  rw [val_main_v8_apply]
  exact ref_v5 x0 x1 x2 x4 i

theorem ref_v11 (x0 : S16384x1024.Idx → EReal) (x1 x2 : S1x1024.Idx → EReal) (x3 x4 : S1024x2816.Idx → EReal) (i : S16384x2816.Idx) :
    val_main_v11 (F := Ideal) x0 x1 x2 x3 x4 i = Cert.UpIdeal.Closed.hrow x0 x1 x2 x3 x4 (i 0) (i 1) := by
  rw [val_main_v11_apply]
  show val_main_v10 (F := Ideal) x0 x1 x2 x3 x4 i = _
  rw [val_main_v10_apply, val_main_v9_apply, val_main_call0_v5_apply, val_main_call0_v3_apply, val_main_call0_v1_apply, val_main_call0_v0_apply,
    val_main_call0_v2_apply, val_main_call0_v4_apply, val_main_call0_cst_apply, val_main_call0_cst_0_apply, ref_v4, ref_v5]
  show _ * Ideal.div (Ideal.ofBits .f32 0x3F800000#32) (Ideal.ofBits .f32 0x3F800000#32 + Ideal.exp (-_)) * _ = _
  rw [Ideal.ofBits_one_f32]
  rfl
end Ref

theorem algebraic : Cert.algebraic_UpIdeal_UpRefIdeal := by
  intro m ρ m' ρ' _ hagree
  refine ⟨fun c => Cert.UpIdeal.Closed.G5 m c, fun c => Cert.UpIdeal.Closed.G6 m c, fun c => Cert.UpIdeal.Closed.G7 m c, fun c => Cert.UpIdeal.Closed.G8 m c, Cert.UpIdeal.Closed.run m ρ, ?_⟩
  refine (θ_run Cert.UpRefIdeal.defs _ _).mono (fun _ h c => ⟨(h c).1.trans ?_, (h c).2.1.trans ?_, (h c).2.2.1.trans ?_, (h c).2.2.2.1.trans ?_, (h c).2.2.2.2⟩)
    (Cert.UpRefIdeal.Value.run (F := Ideal) m' ρ')
  · rw [Cert.UpRefIdeal.Read.val_main_v6_eq, (hagree c).1, (hagree c).2.1, (hagree c).2.2.1]
    exact funext fun i => ref_v6 _ _ _ i
  · rw [Cert.UpRefIdeal.Read.val_main_v7_eq, (hagree c).1, (hagree c).2.1, (hagree c).2.2.1, (hagree c).2.2.2.1]
    exact funext fun i => ref_v7 _ _ _ _ i
  · rw [Cert.UpRefIdeal.Read.val_main_v8_eq, (hagree c).1, (hagree c).2.1, (hagree c).2.2.1, (hagree c).2.2.2.2]
    exact funext fun i => ref_v8 _ _ _ _ i
  · rw [Cert.UpRefIdeal.Read.val_main_v11_eq, (hagree c).1, (hagree c).2.1, (hagree c).2.2.1, (hagree c).2.2.2.1, (hagree c).2.2.2.2]
    exact funext fun i => ref_v11 _ _ _ _ _ i

end Cert.Proof.UpClaims

end
-- ==== Proof.DownValue.lean ====
/-
  The forward FFN's second half: the down-projection, the residual and the normalisation of a row,
  computed 256 rows at a time. Its two result arrays at the extended reals, in closed form.
-/
module

public import proofs.«01_k».proof.Proof.Gen.DownIdeal.Value
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.DownIdeal.Closed

open Cert.DownIdeal Cert.DownIdeal.Gen Cert.DownIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## One row -/

/-- The residual sum of a row: `α · (x · g + b) + ½ · (h W)`. -/
def zf (h : Fin 2816 → EReal) (W : S2816x1024.Idx → EReal) (x : Fin 1024 → EReal) (g b : S1x1024.Idx → EReal) (q : Fin 1024) : EReal :=
  Ideal.ofBits .f32 0x3FD744FD#32 * (x q * g (ix2 0 q) + b (ix2 0 q)) + Ideal.ofBits .f32 0x3F000000#32 * ∑ k : Fin 2816, h k * W (ix2 k q)

/-- A row less its mean. -/
def cf (z : Fin 1024 → EReal) (q : Fin 1024) : EReal := z q - Ideal.div (∑ k : Fin 1024, z k) (Ideal.ofBits .f32 0x44800000#32)

/-- The reciprocal of a row's standard deviation. -/
def sf (z : Fin 1024 → EReal) : EReal :=
  Ideal.rsqrt (Ideal.div (∑ k : Fin 1024, cf z k * cf z k) (Ideal.ofBits .f32 0x44800000#32) + Ideal.ofBits .f32 0x3727C5AC#32)

/-- The normalised row. -/
def nf (z : Fin 1024 → EReal) (q : Fin 1024) : EReal := cf z q * sf z

/-! ## One piece of 256 rows -/

/-- Row `p` of a piece's residual sum. -/
abbrev zp (v0 : Vec Ideal S256x2816 .bf16) (v2 : Vec Ideal S2816x1024 .bf16) (v5 : Vec Ideal S256x1024 .f32) (v6 v9 : Vec Ideal S1x1024 .f32) (p : Fin 256) : Fin 1024 → EReal :=
  zf (fun k => v0 (ix2 p k)) v2 (fun k => v5 (ix2 p k)) v6 v9

theorem pay1_apply (v0 : Vec Ideal S256x2816 .bf16) (v2 : Vec Ideal S2816x1024 .bf16) (v5 : Vec Ideal S256x1024 .f32) (v6 v9 : Vec Ideal S1x1024 .f32) (y : S256x1024.Idx) :
    k0_pay1 (F := Ideal) v0 v2 v5 v6 v9 y = cf (zp v0 v2 v5 v6 v9 (y 0)) (y 1) := by
  unfold k0_pay1 cf zp zf
  simp only [shapeCast_self]
  pointwise

theorem pay2_apply (v0 : Vec Ideal S256x2816 .bf16) (v2 : Vec Ideal S2816x1024 .bf16) (v5 : Vec Ideal S256x1024 .f32) (v6 v9 : Vec Ideal S1x1024 .f32) (y : S256x1.Idx) :
    k0_pay2 (F := Ideal) v0 v2 v5 v6 v9 y = sf (zp v0 v2 v5 v6 v9 (y 0)) := by
  unfold k0_pay2 sf
  have h : ∀ k : Fin 1024, k0_pay1 (F := Ideal) v0 v2 v5 v6 v9 (ix2 (y 0) k) = cf (zp v0 v2 v5 v6 v9 (y 0)) k := fun k => pay1_apply v0 v2 v5 v6 v9 (ix2 (y 0) k)
  generalize k0_pay1 (F := Ideal) v0 v2 v5 v6 v9 = X at h ⊢
  simp only [← h]
  pointwise

theorem pay3_apply (v0 : Vec Ideal S256x2816 .bf16) (v2 : Vec Ideal S2816x1024 .bf16) (v5 : Vec Ideal S256x1024 .f32) (v6 v9 : Vec Ideal S1x1024 .f32) (y : S256x1024.Idx) :
    k0_pay3 (F := Ideal) v0 v2 v5 v6 v9 y = nf (zp v0 v2 v5 v6 v9 (y 0)) (y 1) := by
  unfold k0_pay3 nf
  have h := pay1_apply v0 v2 v5 v6 v9 y
  have h2 : k0_pay2 (F := Ideal) v0 v2 v5 v6 v9 (ix2 (y 0) 0) = sf (zp v0 v2 v5 v6 v9 (y 0)) := pay2_apply v0 v2 v5 v6 v9 (ix2 (y 0) 0)
  generalize k0_pay1 (F := Ideal) v0 v2 v5 v6 v9 = X at h ⊢
  generalize k0_pay2 (F := Ideal) v0 v2 v5 v6 v9 = Y at h2 ⊢
  rw [← h, ← h2]
  pointwise

/-! ## One block of each result -/

theorem zp_ld (x0 : Vec Ideal S1024x2816 .bf16) (x1 : Vec Ideal S2816x1024 .bf16) (x2 : Vec Ideal S1024x1024 .f32) (x3 x4 : Vec Ideal S1x1024 .f32) (o : Nat)
    (h0 : ∀ a, (![o, 0] : Fin 2 → Nat) a + S256x2816.size a ≤ S1024x2816.size a)
    (h2 : ∀ a, (![o, 0] : Fin 2 → Nat) a + S256x1024.size a ≤ S1024x1024.size a)
    (p : Fin 256) (r : Fin 1024) (hr : o + p.val = r.val) :
    zp (View.ld x0 (Rect.unit (s := S1024x2816) ![o, 0] S256x2816.size h0)) (View.ld x1 r0_1) (View.ld x2 (Rect.unit (s := S1024x1024) ![o, 0] S256x1024.size h2)) (View.ld x3 r0_3) (View.ld x4 r0_3) p
      = zf (fun k => x0 (ix2 r k)) x1 (fun k => x2 (ix2 r k)) x3 x4 := by
  have e1 : View.ld x1 r0_1 = x1 := View.ld_unit_zero (S := S2816x1024) hz _ _
  have e3 : View.ld x3 r0_3 = x3 := View.ld_unit_zero (S := S1x1024) hz _ _
  have e4 : View.ld x4 r0_3 = x4 := View.ld_unit_zero (S := S1x1024) hz _ _
  have e0 : (fun k : Fin 2816 => View.ld x0 (Rect.unit (s := S1024x2816) ![o, 0] S256x2816.size h0) (ix2 p k)) = fun k => x0 (ix2 r k) := by
    funext k
    refine congrArg x0 (funext fun a => Fin.ext ?_)
    match a with
    | ⟨0, _⟩ => show o + 1 * p.val = r.val; omega
    | ⟨1, _⟩ => show 0 + 1 * k.val = k.val; omega
  have e2 : (fun k : Fin 1024 => View.ld x2 (Rect.unit (s := S1024x1024) ![o, 0] S256x1024.size h2) (ix2 p k)) = fun k => x2 (ix2 r k) := by
    funext k
    refine congrArg x2 (funext fun a => Fin.ext ?_)
    match a with
    | ⟨0, _⟩ => show o + 1 * p.val = r.val; omega
    | ⟨1, _⟩ => show 0 + 1 * k.val = k.val; omega
  unfold zp
  rw [e1, e3, e4, e0, e2]

theorem piece5 (x0 : Vec Ideal S1024x2816 .bf16) (x1 : Vec Ideal S2816x1024 .bf16) (x2 : Vec Ideal S1024x1024 .f32) (x3 x4 : Vec Ideal S1x1024 .f32) (o : Nat)
    (h0 : ∀ a, (![o, 0] : Fin 2 → Nat) a + S256x2816.size a ≤ S1024x2816.size a)
    (h2 : ∀ a, (![o, 0] : Fin 2 → Nat) a + S256x1024.size a ≤ S1024x1024.size a) (x : S256x1024.Idx) :
    k0_pay3 (View.ld x0 (Rect.unit (s := S1024x2816) ![o, 0] S256x2816.size h0)) (View.ld x1 r0_1) (View.ld x2 (Rect.unit (s := S1024x1024) ![o, 0] S256x1024.size h2)) (View.ld x3 r0_3) (View.ld x4 r0_3) x
      = nf (zf (fun k => x0 (ix2 (((Rect.unit (s := S1024x1024) ![o, 0] S256x1024.size h2).emb x 0)) k)) x1 (fun k => x2 (ix2 (((Rect.unit (s := S1024x1024) ![o, 0] S256x1024.size h2).emb x 0)) k)) x3 x4) ((Rect.unit (s := S1024x1024) ![o, 0] S256x1024.size h2).emb x 1) := by
  rw [pay3_apply, zp_ld x0 x1 x2 x3 x4 o h0 h2 (x 0) ((Rect.unit (s := S1024x1024) ![o, 0] S256x1024.size h2).emb x 0) (by show o + (x 0).val = o + 1 * (x 0).val; omega)]
  refine congrArg _ (Fin.ext ?_)
  show (x 1).val = 0 + 1 * (x 1).val
  omega

theorem piece6 (x0 : Vec Ideal S1024x2816 .bf16) (x1 : Vec Ideal S2816x1024 .bf16) (x2 : Vec Ideal S1024x1024 .f32) (x3 x4 : Vec Ideal S1x1024 .f32) (o : Nat)
    (h0 : ∀ a, (![o, 0] : Fin 2 → Nat) a + S256x2816.size a ≤ S1024x2816.size a)
    (h2 : ∀ a, (![o, 0] : Fin 2 → Nat) a + S256x1024.size a ≤ S1024x1024.size a)
    (h3 : ∀ a, (![o, 0] : Fin 2 → Nat) a + S256x1.size a ≤ S1024x1.size a) (x : S256x1.Idx) :
    k0_pay2 (View.ld x0 (Rect.unit (s := S1024x2816) ![o, 0] S256x2816.size h0)) (View.ld x1 r0_1) (View.ld x2 (Rect.unit (s := S1024x1024) ![o, 0] S256x1024.size h2)) (View.ld x3 r0_3) (View.ld x4 r0_3) x
      = sf (zf (fun k => x0 (ix2 (((Rect.unit (s := S1024x1) ![o, 0] S256x1.size h3).emb x 0)) k)) x1 (fun k => x2 (ix2 (((Rect.unit (s := S1024x1) ![o, 0] S256x1.size h3).emb x 0)) k)) x3 x4) := by
  rw [pay2_apply, zp_ld x0 x1 x2 x3 x4 o h0 h2 (x 0) ((Rect.unit (s := S1024x1) ![o, 0] S256x1.size h3).emb x 0) (by show o + (x 0).val = o + 1 * (x 0).val; omega)]

theorem out5_apply (x0 : Vec Ideal S1024x2816 .bf16) (x1 : Vec Ideal S2816x1024 .bf16) (x2 : Vec Ideal S1024x1024 .f32) (x3 x4 : Vec Ideal S1x1024 .f32) (y : S1024x1024.Idx) :
    out0_5 (F := Ideal) x0 x1 x2 x3 x4 y = nf (zf (fun k => x0 (ix2 (y 0) k)) x1 (fun k => x2 (ix2 (y 0) k)) x3 x4) (y 1) := by
  unfold out0_5
  refine View.canon_apply_of_pieces (Val := Elt Ideal) (fun y : S1024x1024.Idx => nf (zf (fun k => x0 (ix2 (y 0) k)) x1 (fun k => x2 (ix2 (y 0) k)) x3 x4) (y 1)) _ ?_ y (cover0_5 _ _ _ _ y)
  intro p hp
  simp only [List.mem_cons, List.mem_singleton, List.not_mem_nil, or_false] at hp
  rcases hp with rfl | rfl | rfl | rfl
  · intro (x : S256x1024.Idx)
    exact piece5 x0 x1 x2 x3 x4 768 inb_S1024x2816_S256x2816_768_0 inb_S1024x1024_S256x1024_768_0 x
  · intro (x : S256x1024.Idx)
    exact piece5 x0 x1 x2 x3 x4 512 inb_S1024x2816_S256x2816_512_0 inb_S1024x1024_S256x1024_512_0 x
  · intro (x : S256x1024.Idx)
    exact piece5 x0 x1 x2 x3 x4 256 inb_S1024x2816_S256x2816_256_0 inb_S1024x1024_S256x1024_256_0 x
  · intro (x : S256x1024.Idx)
    exact piece5 x0 x1 x2 x3 x4 0 inb_S1024x2816_S256x2816_0_0 inb_S1024x1024_S256x1024_0_0 x

theorem out6_apply (x0 : Vec Ideal S1024x2816 .bf16) (x1 : Vec Ideal S2816x1024 .bf16) (x2 : Vec Ideal S1024x1024 .f32) (x3 x4 : Vec Ideal S1x1024 .f32) (y : S1024x1.Idx) :
    out0_6 (F := Ideal) x0 x1 x2 x3 x4 y = sf (zf (fun k => x0 (ix2 (y 0) k)) x1 (fun k => x2 (ix2 (y 0) k)) x3 x4) := by
  unfold out0_6
  refine View.canon_apply_of_pieces (Val := Elt Ideal) (fun y : S1024x1.Idx => sf (zf (fun k => x0 (ix2 (y 0) k)) x1 (fun k => x2 (ix2 (y 0) k)) x3 x4)) _ ?_ y (cover0_6 _ _ _ _ y)
  intro p hp
  simp only [List.mem_cons, List.mem_singleton, List.not_mem_nil, or_false] at hp
  rcases hp with rfl | rfl | rfl | rfl
  · intro (x : S256x1.Idx)
    exact piece6 x0 x1 x2 x3 x4 768 inb_S1024x2816_S256x2816_768_0 inb_S1024x1024_S256x1024_768_0 inb_S1024x1_S256x1_768_0 x
  · intro (x : S256x1.Idx)
    exact piece6 x0 x1 x2 x3 x4 512 inb_S1024x2816_S256x2816_512_0 inb_S1024x1024_S256x1024_512_0 inb_S1024x1_S256x1_512_0 x
  · intro (x : S256x1.Idx)
    exact piece6 x0 x1 x2 x3 x4 256 inb_S1024x2816_S256x2816_256_0 inb_S1024x1024_S256x1024_256_0 inb_S1024x1_S256x1_256_0 x
  · intro (x : S256x1.Idx)
    exact piece6 x0 x1 x2 x3 x4 0 inb_S1024x2816_S256x2816_0_0 inb_S1024x1024_S256x1024_0_0 inb_S1024x1_S256x1_0_0 x

/-! ## The operands' blocks -/

variable (m : (ℓ : Loc nD τ sig) → Buf (Elt Ideal) ℓ) (ρ : Dev nD → PrngReg)

theorem V_v0 (c : Dev nD) : V m c main_v0 = (m ((c : Thread nD τ).loc main_arg0) : S16384x2816.Idx → EReal) := by
  show StableHlo.after hostOps0 _ _ = _
  unfold hostOps0
  after_results
  rfl

theorem V_v1 (c : Dev nD) : V m c main_v1 = (m ((c : Thread nD τ).loc main_arg1) : S2816x1024.Idx → EReal) := by
  show StableHlo.after hostOps0 _ _ = _
  unfold hostOps0
  after_results
  rfl

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx1 : ∀ t : Fin grid0.N, win0_1.index t 0 = 0 ∧ win0_1.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel

theorem iblk0 (c : Dev nD) (t : Fin cfg0.N) (p : Fin 1024) (k : Fin 2816) (h : 1024 * t.val + p.val < 16384) :
    (iblk m c 0 t : Vec Ideal S1024x2816 .bf16) (ix2 p k) = (m ((c : Thread nD τ).loc main_arg0) : S16384x2816.Idx → EReal) (ix2 ⟨1024 * t.val + p.val, h⟩ k) := by
  have hi := idx0 t
  have hv := V_v0 m c
  rw [← hv]
  unfold iblk
  rw [View.read_apply]
  show V m c main_v0 _ = V m c main_v0 _
  congr 1
  funext a
  apply Fin.ext
  match a with
  | ⟨0, _⟩ => show win0_0.index t 0 * 1024 + 1 * p.val = 1024 * t.val + p.val; rw [hi.1]; omega
  | ⟨1, _⟩ => show win0_0.index t 1 * 2816 + 1 * k.val = k.val; rw [hi.2]; omega

theorem iblk2 (c : Dev nD) (t : Fin cfg0.N) (p : Fin 1024) (k : Fin 1024) (h : 1024 * t.val + p.val < 16384) :
    (iblk m c 2 t : Vec Ideal S1024x1024 .f32) (ix2 p k) = (m ((c : Thread nD τ).loc main_arg2) : S16384x1024.Idx → EReal) (ix2 ⟨1024 * t.val + p.val, h⟩ k) := by
  have hi := idx2 t
  have hv := V_main_arg2 m c
  rw [← hv]
  unfold iblk
  rw [View.read_apply]
  show V m c main_arg2 _ = V m c main_arg2 _
  congr 1
  funext a
  apply Fin.ext
  match a with
  | ⟨0, _⟩ => show win0_2.index t 0 * 1024 + 1 * p.val = 1024 * t.val + p.val; rw [hi.1]; omega
  | ⟨1, _⟩ => show win0_2.index t 1 * 1024 + 1 * k.val = k.val; rw [hi.2]; omega

theorem iblk1 (c : Dev nD) (t : Fin cfg0.N) :
    (iblk m c 1 t : Vec Ideal S2816x1024 .bf16) = (m ((c : Thread nD τ).loc main_arg1) : S2816x1024.Idx → EReal) := by
  have hi := idx1 t
  have hv := V_v1 m c
  rw [← hv]
  unfold iblk
  funext y
  rw [View.read_apply]
  show V m c main_v1 _ = V m c main_v1 _
  congr 1
  funext a
  apply Fin.ext
  match a with
  | ⟨0, _⟩ => show win0_1.index t 0 * 2816 + 1 * (y 0).val = (y 0).val; rw [hi.1]; omega
  | ⟨1, _⟩ => show win0_1.index t 1 * 1024 + 1 * (y 1).val = (y 1).val; rw [hi.2]; omega

theorem iblk3 (c : Dev nD) (t : Fin cfg0.N) :
    (iblk m c 3 t : Vec Ideal S1x1024 .f32) = (m ((c : Thread nD τ).loc main_arg3) : S1x1024.Idx → EReal) := by
  have hi := idx3 t
  have hv := V_main_arg3 m c
  rw [← hv]
  unfold iblk
  funext y
  rw [View.read_apply]
  show V m c main_arg3 _ = V m c main_arg3 _
  congr 1
  funext a
  apply Fin.ext
  match a with
  | ⟨0, _⟩ => show win0_3.index t 0 * 1 + 1 * (y 0).val = (y 0).val; rw [hi.1]; omega
  | ⟨1, _⟩ => show win0_3.index t 1 * 1024 + 1 * (y 1).val = (y 1).val; rw [hi.2]; omega

theorem iblk4 (c : Dev nD) (t : Fin cfg0.N) :
    (iblk m c 4 t : Vec Ideal S1x1024 .f32) = (m ((c : Thread nD τ).loc main_arg4) : S1x1024.Idx → EReal) := by
  have hi := idx4 t
  have hv := V_main_arg4 m c
  rw [← hv]
  unfold iblk
  funext y
  rw [View.read_apply]
  show V m c main_arg4 _ = V m c main_arg4 _
  congr 1
  funext a
  apply Fin.ext
  match a with
  | ⟨0, _⟩ => show win0_4.index t 0 * 1 + 1 * (y 0).val = (y 0).val; rw [hi.1]; omega
  | ⟨1, _⟩ => show win0_4.index t 1 * 1024 + 1 * (y 1).val = (y 1).val; rw [hi.2]; omega

/-! ## The result arrays -/

/-- Row `r` of the residual sum. -/
def zrow (H : S16384x2816.Idx → EReal) (W : S2816x1024.Idx → EReal) (A : S16384x1024.Idx → EReal) (g b : S1x1024.Idx → EReal) (r : Fin 16384) : Fin 1024 → EReal := zf (fun k => H (ix2 r k)) W (fun k => A (ix2 r k)) g b

/-- The normalised rows. -/
def nrow (H : S16384x2816.Idx → EReal) (W : S2816x1024.Idx → EReal) (A : S16384x1024.Idx → EReal) (g b : S1x1024.Idx → EReal) (r : Fin 16384) (q : Fin 1024) : EReal := nf (zrow H W A g b r) q

/-- The reciprocals of their standard deviations. -/
def srow (H : S16384x2816.Idx → EReal) (W : S2816x1024.Idx → EReal) (A : S16384x1024.Idx → EReal) (g b : S1x1024.Idx → EReal) (r : Fin 16384) (q : Fin 1) : EReal := sf (zrow H W A g b r)

def G5 (c : Dev nD) : Buf (Elt Ideal) ((c : Thread nD τ).loc main_v2_0) := fun i : S16384x1024.Idx => nrow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
def G6 (c : Dev nD) : Buf (Elt Ideal) ((c : Thread nD τ).loc main_v2_1) := fun i : S16384x1.Idx => srow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem z_eq (c : Dev nD) (t : Fin cfg0.N) (p : Fin 1024) (h : 1024 * t.val + p.val < 16384) :
    zf (fun k => (iblk m c 0 t : Vec Ideal S1024x2816 .bf16) (ix2 p k)) (iblk m c 1 t) (fun k => (iblk m c 2 t : Vec Ideal S1024x1024 .f32) (ix2 p k)) (iblk m c 3 t) (iblk m c 4 t)
      = zrow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ := by
  have e0 := funext fun k : Fin 2816 => iblk0 m c t p k h
  have e2 := funext fun k : Fin 1024 => iblk2 m c t p k h
  unfold zrow
  rw [iblk1 m c t, iblk3 m c t, iblk4 m c t, e0, e2]

theorem n_eq (c : Dev nD) (t : Fin cfg0.N) (p : Fin 1024) (q : Fin 1024) (h : 1024 * t.val + p.val < 16384) :
    nf (zf (fun k => (iblk m c 0 t : Vec Ideal S1024x2816 .bf16) (ix2 p k)) (iblk m c 1 t) (fun k => (iblk m c 2 t : Vec Ideal S1024x1024 .f32) (ix2 p k)) (iblk m c 3 t) (iblk m c 4 t)) q
      = nrow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ q := by
  rw [z_eq m c t p h]; rfl

theorem s_eq (c : Dev nD) (t : Fin cfg0.N) (p : Fin 1024) (q : Fin 1) (h : 1024 * t.val + p.val < 16384) :
    sf (zf (fun k => (iblk m c 0 t : Vec Ideal S1024x2816 .bf16) (ix2 p k)) (iblk m c 1 t) (fun k => (iblk m c 2 t : Vec Ideal S1024x1024 .f32) (ix2 p k)) (iblk m c 3 t) (iblk m c 4 t))
      = srow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ q := by
  rw [z_eq m c t p h]; rfl

theorem flushed5_eq (c : Dev nD) (t : Fin cfg0.N) (hf : (cfg0.win 5).flush t = true) :
    (dats m 0 c).flushed 5 t = ((cfg0.win 5).blk t).view.read (Elt Ideal) (G5 m c) := by
  have hN : cfg0.N = 16 := N_0
  have hlt : t.val < 16 := hN ▸ t.isLt
  have hi := idx5 t
  rw [flushed5]
  funext (y : S1024x1024.Idx)
  have hy0 : (y 0).val < 1024 := (y 0).isLt
  have hr : 1024 * t.val + (y 0).val < 16384 := by omega
  rw [View.read_apply]
  show out0_5 _ _ _ _ _ y = _
  rw [out5_apply]
  refine (n_eq m c t (y 0) (y 1) hr).trans ?_
  unfold G5
  congr 1
  · apply Fin.ext
    show 1024 * t.val + (y 0).val = win0_5.index t 0 * 1024 + 1 * (y 0).val
    rw [hi.1]; omega
  · apply Fin.ext
    show (y 1).val = win0_5.index t 1 * 1024 + 1 * (y 1).val
    rw [hi.2]; omega

theorem final5 (c : Dev nD) : (dats m 0 c).arrAt 5 cfg0.N = G5 m c :=
  (dats m 0 c).arrAt_eq_of_cover 5 (G5 m c) (flushed5_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx5 t
    refine ⟨t, flush0_5 t, ?_⟩
    show i ∈ ((View.whole main_v2_0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

theorem flushed6_eq (c : Dev nD) (t : Fin cfg0.N) (hf : (cfg0.win 6).flush t = true) :
    (dats m 0 c).flushed 6 t = ((cfg0.win 6).blk t).view.read (Elt Ideal) (G6 m c) := by
  have hN : cfg0.N = 16 := N_0
  have hlt : t.val < 16 := hN ▸ t.isLt
  have hi := idx6 t
  rw [flushed6]
  funext (y : S1024x1.Idx)
  have hy0 : (y 0).val < 1024 := (y 0).isLt
  have hr : 1024 * t.val + (y 0).val < 16384 := by omega
  rw [View.read_apply]
  show out0_6 _ _ _ _ _ y = _
  rw [out6_apply]
  refine (s_eq m c t (y 0) (y 1) hr).trans ?_
  unfold G6
  congr 1
  · apply Fin.ext
    show 1024 * t.val + (y 0).val = win0_6.index t 0 * 1024 + 1 * (y 0).val
    rw [hi.1]; omega
  · exact Subsingleton.elim (α := Fin 1) _ _

theorem final6 (c : Dev nD) : (dats m 0 c).arrAt 6 cfg0.N = G6 m c :=
  (dats m 0 c).arrAt_eq_of_cover 6 (G6 m c) (flushed6_eq m c) fun (i : S16384x1.Idx) => by
    have h0 : (i 0 : Nat) < 16384 := (i 0).isLt
    have h1 : (i 1 : Nat) < 1 := (i 1).isLt
    have hN : cfg0.N = 16 := N_0
    obtain ⟨t, ht⟩ : ∃ t : Fin cfg0.N, t.val = (i 0).val / 1024 := ⟨⟨(i 0).val / 1024, by omega⟩, rfl⟩
    have hi := idx6 t
    refine ⟨t, flush0_6 t, ?_⟩
    show i ∈ ((View.whole main_v2_1).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024
                rw [hi.1]; omega
    | ⟨1, _⟩ => show win0_6.index t 1 * 1 ≤ (i 1 : Nat) ∧ (i 1 : Nat) < win0_6.index t 1 * 1 + 1
                rw [hi.2]; omega

/-- The run, read: the two result arrays in closed form, the arguments unchanged. -/
theorem run : θ_run defs (onTc (τ := τ) (main (F := Ideal))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨a, b, f⟩ := h c
    exact ⟨a.trans (final5 m c), b.trans (final6 m c), f⟩) (run_blocks m ρ)

end Cert.DownIdeal.Closed

end
-- ==== Proof.DownClaim.lean ====
/-
  The FFN down-projection with residual and normalisation: the kernel's two result arrays against those of the plain formula.
-/
module

public import proofs.«01_k».proof.Defs
public import proofs.«01_k».proof.Proof.DownValue
public import proofs.«01_k».proof.Proof.Gen.DownRefIdeal.Run
public import proofs.«01_k».proof.Proof.Gen.DownRefIdeal.Read
public import proofs.«01_k».proof.Proof.Gen.Down.Frame
public import proofs.«01_k».proof.Proof.Gen.DownIdeal.Frame
public import Idealize.ShloMosaic.Lib.Quiescent
public import Idealize.ShloMosaic.Lib.IdealHost

@[expose] public section

set_option maxRecDepth 16384

noncomputable section

namespace Cert.Proof.DownClaims

open Idealize.ShloMosaic Idealize.ShloMosaic.TcCoe Idealize.SL.Sem

theorem frame_k : Cert.quiescent_Down := fun m ρ _ => Cert.Down.Gen.frame m ρ
theorem frame_i : Cert.quiescent_DownIdeal := fun m ρ _ => Cert.DownIdeal.Gen.frame m ρ
theorem frame_r : Cert.quiescent_DownRefIdeal := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

section Ref
open Cert.DownRefIdeal Cert.DownRefIdeal.Read Cert.DownIdeal.Closed

/-- The reference's residual sum. -/
theorem ref_v9 (x0 : S16384x2816.Idx → EReal) (x1 : S2816x1024.Idx → EReal) (x2 : S16384x1024.Idx → EReal) (x3 x4 : S1x1024.Idx → EReal) (i : S16384x1024.Idx) :
    val_main_v9 (F := Ideal) x0 x1 x2 x3 x4 i = zrow x0 x1 x2 x3 x4 (i 0) (i 1) := by
  rw [val_main_v9_apply, val_main_v5_apply, val_main_v4_apply, val_main_cst_apply, val_main_v3_apply, val_main_v1_apply, val_main_v0_apply,
    val_main_v2_apply, val_main_v8_apply, val_main_v7_apply, val_main_cst_0_apply, val_main_v6_apply]
  refine congrArg₂ (· + ·) (congrArg (_ * ·) (congrArg₂ (· + ·) (congrArg₂ (· * ·) (congrArg x2 ?_) (congrArg x3 ?_)) (congrArg x4 ?_)))
    (congrArg (_ * ·) (Finset.sum_congr rfl fun k _ => congrArg₂ (· * ·) (congrArg x0 ?_) (congrArg x1 ?_))) <;>
  · funext a
    match a with
    | ⟨0, _⟩ => rfl
    | ⟨1, _⟩ => rfl

/-- Its mean of a row. -/
theorem ref_v13 (x0 : S16384x2816.Idx → EReal) (x1 : S2816x1024.Idx → EReal) (x2 : S16384x1024.Idx → EReal) (x3 x4 : S1x1024.Idx → EReal) (i : S16384x1.Idx) :
    val_main_v13 (F := Ideal) x0 x1 x2 x3 x4 i = Ideal.div (∑ k : Fin 1024, zrow x0 x1 x2 x3 x4 (i 0) k) (Ideal.ofBits .f32 0x44800000#32) := by
  rw [val_main_v13_apply, val_main_v11_apply, val_main_v12_apply, val_main_cst_2_apply, val_main_v10_apply, val_main_cst_1_apply]
  show Ideal.div (Ideal.ofBits .f32 0x00000000#32 + _) _ = _
  rw [Ideal.ofBits_zero_f32, zero_add]
  exact congrArg (Ideal.div · _) (Finset.sum_congr rfl fun k _ => ref_v9 x0 x1 x2 x3 x4 _)

theorem ref_v15 (x0 : S16384x2816.Idx → EReal) (x1 : S2816x1024.Idx → EReal) (x2 : S16384x1024.Idx → EReal) (x3 x4 : S1x1024.Idx → EReal) (i : S16384x1024.Idx) :
    val_main_v15 (F := Ideal) x0 x1 x2 x3 x4 i = cf (zrow x0 x1 x2 x3 x4 (i 0)) (i 1) := by
  rw [val_main_v15_apply, val_main_v14_apply, ref_v13, ref_v9]
  rfl

theorem ref_v23 (x0 : S16384x2816.Idx → EReal) (x1 : S2816x1024.Idx → EReal) (x2 : S16384x1024.Idx → EReal) (x3 x4 : S1x1024.Idx → EReal) (i : S16384x1.Idx) :
    val_main_v23 (F := Ideal) x0 x1 x2 x3 x4 i = srow x0 x1 x2 x3 x4 (i 0) (i 1) := by
  rw [val_main_v23_apply, val_main_v22_apply, val_main_v20_apply, val_main_v18_apply, val_main_v19_apply, val_main_cst_4_apply, val_main_v21_apply,
    val_main_cst_5_apply, val_main_v17_apply, val_main_cst_3_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [val_main_v16_apply, ref_v15]
  rfl

theorem ref_v27 (x0 : S16384x2816.Idx → EReal) (x1 : S2816x1024.Idx → EReal) (x2 : S16384x1024.Idx → EReal) (x3 x4 : S1x1024.Idx → EReal) (i : S16384x1024.Idx) :
    val_main_v27 (F := Ideal) x0 x1 x2 x3 x4 i = nrow x0 x1 x2 x3 x4 (i 0) (i 1) := by
  rw [val_main_v27_apply, val_main_v25_apply, val_main_v24_apply, val_main_v26_apply, ref_v23, ref_v13, ref_v9]
  rfl
end Ref

theorem algebraic : Cert.algebraic_DownIdeal_DownRefIdeal := by
  intro m ρ m' ρ' _ hagree
  refine ⟨fun c => Cert.DownIdeal.Closed.G5 m c, fun c => Cert.DownIdeal.Closed.G6 m c, Cert.DownIdeal.Closed.run m ρ, ?_⟩
  refine (θ_run Cert.DownRefIdeal.defs _ _).mono (fun _ h c => ⟨(h c).1.trans ?_, (h c).2.1.trans ?_, (h c).2.2⟩)
    (Cert.DownRefIdeal.Value.run (F := Ideal) m' ρ')
  · rw [Cert.DownRefIdeal.Read.val_main_v27_eq, (hagree c).1, (hagree c).2.1, (hagree c).2.2.1, (hagree c).2.2.2.1, (hagree c).2.2.2.2]
    exact funext fun i => ref_v27 _ _ _ _ _ i
  · rw [Cert.DownRefIdeal.Read.val_main_v23_eq, (hagree c).1, (hagree c).2.1, (hagree c).2.2.1, (hagree c).2.2.2.1, (hagree c).2.2.2.2]
    exact funext fun i => ref_v23 _ _ _ _ _ i

end Cert.Proof.DownClaims

end
-- ==== Proof.RowCore.lean ====
/-
  Rows of a two-axis array read a piece at a time.
-/
module

public import Idealize.ShloMosaic.Lib.Pipeline.Value
public import Idealize.ShloMosaic.Lib.Pointwise.Tactic

@[expose] public section

set_option maxRecDepth 16384

noncomputable section

namespace Cert.Rows

open Idealize.ShloMosaic Idealize.SL.Sem

theorem hz : (![0, 0] : Fin 2 → Nat) = fun _ => 0 := funext fun a => by fin_cases a <;> rfl

/-- Row `p` of the `B` rows read from row `o` on is row `o + p`. -/
theorem ld_row {R B C : Nat} {e : EltTy} (x : Vec Ideal ⟨2, ![R, C]⟩ e) (o : Nat)
    (h : ∀ a, (![o, 0] : Fin 2 → Nat) a + (⟨2, ![B, C]⟩ : Shape).size a ≤ (⟨2, ![R, C]⟩ : Shape).size a)
    (p : Fin B) (k : Fin C) (r : Fin R) (hr : o + p.val = r.val) :
    View.ld x (Rect.unit (s := ⟨2, ![R, C]⟩) ![o, 0] (⟨2, ![B, C]⟩ : Shape).size h) (ix2 p k) = x (ix2 r k) := by
  refine congrArg x (funext fun a => Fin.ext ?_)
  match a with
  | ⟨0, _⟩ => show o + 1 * p.val = r.val; omega
  | ⟨1, _⟩ => show 0 + 1 * k.val = k.val; omega

/-- Where a piece's element lies in the array: its row below `o`, its column the same. -/
theorem emb_row {R B C : Nat} (o : Nat)
    (h : ∀ a, (![o, 0] : Fin 2 → Nat) a + (⟨2, ![B, C]⟩ : Shape).size a ≤ (⟨2, ![R, C]⟩ : Shape).size a)
    (p : Fin B) (q : Fin C) (r : Fin R) (hr : o + p.val = r.val) :
    (Rect.unit (s := ⟨2, ![R, C]⟩) ![o, 0] (⟨2, ![B, C]⟩ : Shape).size h).emb (ix2 p q) = ix2 r q := by
  refine funext fun a => Fin.ext ?_
  match a with
  | ⟨0, _⟩ => show o + 1 * p.val = r.val; omega
  | ⟨1, _⟩ => show 0 + 1 * q.val = q.val; omega

/-! ## A row's normalisation -/

/-- A row less its mean. -/
def cf (z : Fin 1024 → EReal) (q : Fin 1024) : EReal := z q - Ideal.div (∑ k : Fin 1024, z k) (Ideal.ofBits .f32 0x44800000#32)

/-- The reciprocal of a row's standard deviation. -/
def sf (z : Fin 1024 → EReal) : EReal :=
  Ideal.rsqrt (Ideal.div (∑ k : Fin 1024, cf z k * cf z k) (Ideal.ofBits .f32 0x44800000#32) + Ideal.ofBits .f32 0x3727C5AC#32)

/-- The normalised row. -/
def nf (z : Fin 1024 → EReal) (q : Fin 1024) : EReal := cf z q * sf z

end Cert.Rows

end
-- ==== Proof.InClaim.lean ====
/-
  The mixer's input projection of scaled and shifted rows, computed 256 rows at a time: the kernel's two result arrays
  at the extended reals, against those of the plain formula.
-/
module

public import proofs.«01_k».proof.Defs
public import proofs.«01_k».proof.Proof.RowCore
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import Idealize.ShloMosaic.Lib.Pointwise.Contract
public import Idealize.ShloMosaic.Lib.Quiescent
public import Idealize.ShloMosaic.Lib.IdealHost

@[expose] public section

set_option maxRecDepth 16384

noncomputable section

namespace Cert.InIdeal.Closed

open Cert.InIdeal Cert.InIdeal.Gen Cert.InIdeal.Value Cert.Rows Idealize.ShloMosaic Idealize.ShloMosaic.TcCoe Idealize.SL.Sem
open Idealize.ShloMosaic.Pipeline (Dat)

/-- One element of a scaled and shifted row. -/
def xe (x : EReal) (g b : S1x1024.Idx → EReal) (k : Fin 1024) : EReal := x * g (ix2 0 k) + b (ix2 0 k)

/-- One element of the product: a scaled and shifted row against row `q` of the transposed weight. -/
def af (X : Fin 1024 → EReal) (g b : S1x1024.Idx → EReal) (W : S2176x1024.Idx → EReal) (q : Fin 2176) : EReal :=
  ∑ k : Fin 1024, xe (X k) g b k * W (ix2 q k)

/-- Row `p` of the product, of a block. -/
abbrev ab (x0 : Vec Ideal S1024x1024 .f32) (x1 x2 : Vec Ideal S1x1024 .f32) (x3 : Vec Ideal S2176x1024 .bf16) (p : Fin 1024) (q : Fin 2176) : EReal :=
  af (fun k => x0 (ix2 p k)) x1 x2 x3 q

/-- Row `r` of the product, from the arrays. -/
def arow (X : S16384x1024.Idx → EReal) (g b : S1x1024.Idx → EReal) (W : S1024x2176.Idx → EReal) (r : Fin 16384) (q : Fin 2176) : EReal :=
  af (fun k => X (ix2 r k)) g b (fun i => W (ix2 (i 1) (i 0))) q

/-- Row `r`, scaled and shifted, from the arrays. -/
def xrow (X : S16384x1024.Idx → EReal) (g b : S1x1024.Idx → EReal) (r : Fin 16384) (q : Fin 1024) : EReal := xe (X (ix2 r q)) g b q

theorem pay1_apply (v0 : Vec Ideal S256x1024 .f32) (v1 v4 : Vec Ideal S1x1024 .f32) (y : S256x1024.Idx) :
    k0_pay1 (F := Ideal) v0 v1 v4 y = xe (v0 (ix2 (y 0) (y 1))) v1 v4 (y 1) := by
  unfold k0_pay1 xe
  pointwise

theorem pay2_apply (v0 : Vec Ideal S256x1024 .f32) (v1 v4 : Vec Ideal S1x1024 .f32) (w : Vec Ideal S2176x1024 .bf16) (y : S256x2176.Idx) :
    k0_pay2 (F := Ideal) v0 v1 v4 w y = af (fun k => v0 (ix2 (y 0) k)) v1 v4 w (y 1) := by
  unfold k0_pay2 af
  simp only [shapeCast_self]
  pointwise
  exact Finset.sum_congr rfl fun k _ => congrArg (· * _) (pay1_apply v0 v1 v4 (ix2 (y 0) k))

/-- The piece of 256 rows of the product, from row `o` on. -/
theorem piece (x0 : Vec Ideal S1024x1024 .f32) (x1 x2 : Vec Ideal S1x1024 .f32) (x3 : Vec Ideal S2176x1024 .bf16) (o : Nat)
    (h0 : ∀ a, (![o, 0] : Fin 2 → Nat) a + S256x1024.size a ≤ S1024x1024.size a)
    (h4 : ∀ a, (![o, 0] : Fin 2 → Nat) a + S256x2176.size a ≤ S1024x2176.size a) (x : S256x2176.Idx) :
    k0_pay2 (View.ld x0 (Rect.unit (s := S1024x1024) ![o, 0] S256x1024.size h0)) (View.ld x1 r0_1) (View.ld x2 r0_1) (View.ld x3 r0_2) x
      = (fun y : S1024x2176.Idx => ab x0 x1 x2 x3 (y 0) (y 1)) ((Rect.unit (s := S1024x2176) ![o, 0] S256x2176.size h4).emb x) := by
  have e1 : View.ld x1 r0_1 = x1 := View.ld_unit_zero (S := S1x1024) hz _ _
  have e2 : View.ld x2 r0_1 = x2 := View.ld_unit_zero (S := S1x1024) hz _ _
  have e3 : View.ld x3 r0_2 = x3 := View.ld_unit_zero (S := S2176x1024) hz _ _
  have hx : (x 0).val < 256 := (x 0).isLt
  have ho : o + 256 ≤ 1024 := h0 0
  have hr : o + (x 0).val < 1024 := by omega
  rw [pay2_apply, e1, e2, e3, eq_ix2 x, emb_row o h4 (x 0) (x 1) ⟨o + (x 0).val, hr⟩ rfl]
  have a0 := fun k : Fin 1024 => ld_row x0 o h0 (x 0) k ⟨o + (x 0).val, hr⟩ rfl
  exact congrArg (fun P => af P x1 x2 x3 (x 1)) (funext a0)

/-- The piece of 256 scaled and shifted rows, from row `o` on. -/
theorem piece' (x0 : Vec Ideal S1024x1024 .f32) (x1 x2 : Vec Ideal S1x1024 .f32) (o : Nat)
    (h0 : ∀ a, (![o, 0] : Fin 2 → Nat) a + S256x1024.size a ≤ S1024x1024.size a) (x : S256x1024.Idx) :
    k0_pay1 (View.ld x0 (Rect.unit (s := S1024x1024) ![o, 0] S256x1024.size h0)) (View.ld x1 r0_1) (View.ld x2 r0_1) x
      = (fun y : S1024x1024.Idx => xe (x0 (ix2 (y 0) (y 1))) x1 x2 (y 1)) ((Rect.unit (s := S1024x1024) ![o, 0] S256x1024.size h0).emb x) := by
  have e1 : View.ld x1 r0_1 = x1 := View.ld_unit_zero (S := S1x1024) hz _ _
  have e2 : View.ld x2 r0_1 = x2 := View.ld_unit_zero (S := S1x1024) hz _ _
  have hx : (x 0).val < 256 := (x 0).isLt
  have ho : o + 256 ≤ 1024 := h0 0
  have hr : o + (x 0).val < 1024 := by omega
  rw [pay1_apply, e1, e2, eq_ix2 x, emb_row o h0 (x 0) (x 1) ⟨o + (x 0).val, hr⟩ rfl]
  have a0 := ld_row x0 o h0 (x 0) (x 1) ⟨o + (x 0).val, hr⟩ rfl
  exact congrArg (fun z => xe z x1 x2 (x 1)) a0

theorem out4_apply (x0 : Vec Ideal S1024x1024 .f32) (x1 x2 : Vec Ideal S1x1024 .f32) (x3 : Vec Ideal S2176x1024 .bf16) (y : S1024x2176.Idx) :
    out0_4 (F := Ideal) x0 x1 x2 x3 y = ab x0 x1 x2 x3 (y 0) (y 1) := by
  unfold out0_4
  refine View.canon_apply_of_pieces (Val := Elt Ideal) (fun y : S1024x2176.Idx => ab x0 x1 x2 x3 (y 0) (y 1)) _ ?_ y (cover0_4 _ _ _ _ y)
  intro p hp
  simp only [List.mem_cons, List.mem_singleton, List.not_mem_nil, or_false] at hp
  rcases hp with rfl | rfl | rfl | rfl
  all_goals intro (x : S256x2176.Idx)
  · exact piece x0 x1 x2 x3 768 inb_S1024x1024_S256x1024_768_0 inb_S1024x2176_S256x2176_768_0 x
  · exact piece x0 x1 x2 x3 512 inb_S1024x1024_S256x1024_512_0 inb_S1024x2176_S256x2176_512_0 x
  · exact piece x0 x1 x2 x3 256 inb_S1024x1024_S256x1024_256_0 inb_S1024x2176_S256x2176_256_0 x
  · exact piece x0 x1 x2 x3 0 inb_S1024x1024_S256x1024_0_0 inb_S1024x2176_S256x2176_0_0 x

theorem out5_apply (x0 : Vec Ideal S1024x1024 .f32) (x1 x2 : Vec Ideal S1x1024 .f32) (x3 : Vec Ideal S2176x1024 .bf16) (y : S1024x1024.Idx) :
    out0_5 (F := Ideal) x0 x1 x2 x3 y = xe (x0 (ix2 (y 0) (y 1))) x1 x2 (y 1) := by
  unfold out0_5
  refine View.canon_apply_of_pieces (Val := Elt Ideal) (fun y : S1024x1024.Idx => xe (x0 (ix2 (y 0) (y 1))) x1 x2 (y 1)) _ ?_ y (cover0_5 _ _ _ _ y)
  intro p hp
  simp only [List.mem_cons, List.mem_singleton, List.not_mem_nil, or_false] at hp
  rcases hp with rfl | rfl | rfl | rfl
  all_goals intro (x : S256x1024.Idx)
  · exact piece' x0 x1 x2 768 inb_S1024x1024_S256x1024_768_0 x
  · exact piece' x0 x1 x2 512 inb_S1024x1024_S256x1024_512_0 x
  · exact piece' x0 x1 x2 256 inb_S1024x1024_S256x1024_256_0 x
  · exact piece' x0 x1 x2 0 inb_S1024x1024_S256x1024_0_0 x

variable (m : (ℓ : Loc nD τ sig) → Buf (Elt Ideal) ℓ) (ρ : Dev nD → PrngReg)

theorem V_v1 (c : Dev nD) : V m c main_v1 = (fun i => (m ((c : Thread nD τ).loc main_arg3) : S1024x2176.Idx → EReal) (ix2 (i 1) (i 0)) : S2176x1024.Idx → EReal) := by
  show StableHlo.after hostOps0 _ _ = _
  unfold hostOps0
  after_results
  funext i
  exact transpose_apply (s := S1024x2176) [1, 0] (m ((c : Thread nD τ).loc main_arg3) : S1024x2176.Idx → EReal) transposes_S1024x2176_S2176x1024_1_0 i (ix2 (i 1) (i 0)) (fun b => match b with
    | ⟨0, _⟩ => rfl
    | ⟨1, _⟩ => rfl)

theorem idx0 : ∀ t : Fin grid0.N, win0_0.index t 0 = t.val ∧ win0_0.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel

theorem iblk0 (c : Dev nD) (t : Fin cfg0.N) (p : Fin 1024) (k : Fin 1024) (h : 1024 * t.val + p.val < 16384) :
    (iblk m c 0 t : Vec Ideal S1024x1024 .f32) (ix2 p k) = (m ((c : Thread nD τ).loc main_arg0) : S16384x1024.Idx → EReal) (ix2 ⟨1024 * t.val + p.val, h⟩ k) := by
  have hi := idx0 t
  have hv := V_main_arg0 m c
  rw [← hv]
  unfold iblk
  rw [View.read_apply]
  show V m c main_arg0 _ = V m c main_arg0 _
  congr 1
  funext a
  apply Fin.ext
  match a with
  | ⟨0, _⟩ => show win0_0.index t 0 * 1024 + 1 * p.val = 1024 * t.val + p.val; rw [hi.1]; omega
  | ⟨1, _⟩ => show win0_0.index t 1 * 1024 + 1 * k.val = k.val; rw [hi.2]; omega

theorem iblk1 (c : Dev nD) (t : Fin cfg0.N) :
    (iblk m c 1 t : Vec Ideal S1x1024 .f32) = (m ((c : Thread nD τ).loc main_arg1) : S1x1024.Idx → EReal) := by
  have hi := idx1 t
  have hv := V_main_arg1 m c
  rw [← hv]
  unfold iblk
  funext y
  rw [View.read_apply]
  show V m c main_arg1 _ = V m c main_arg1 _
  congr 1
  funext a
  apply Fin.ext
  match a with
  | ⟨0, _⟩ => show win0_1.index t 0 * 1 + 1 * (y 0).val = (y 0).val; rw [hi.1]; omega
  | ⟨1, _⟩ => show win0_1.index t 1 * 1024 + 1 * (y 1).val = (y 1).val; rw [hi.2]; omega

theorem iblk2 (c : Dev nD) (t : Fin cfg0.N) :
    (iblk m c 2 t : Vec Ideal S1x1024 .f32) = (m ((c : Thread nD τ).loc main_arg2) : S1x1024.Idx → EReal) := by
  have hi := idx2 t
  have hv := V_main_arg2 m c
  rw [← hv]
  unfold iblk
  funext y
  rw [View.read_apply]
  show V m c main_arg2 _ = V m c main_arg2 _
  congr 1
  funext a
  apply Fin.ext
  match a with
  | ⟨0, _⟩ => show win0_2.index t 0 * 1 + 1 * (y 0).val = (y 0).val; rw [hi.1]; omega
  | ⟨1, _⟩ => show win0_2.index t 1 * 1024 + 1 * (y 1).val = (y 1).val; rw [hi.2]; omega

theorem iblk3 (c : Dev nD) (t : Fin cfg0.N) :
    (iblk m c 3 t : Vec Ideal S2176x1024 .bf16) = (fun i => (m ((c : Thread nD τ).loc main_arg3) : S1024x2176.Idx → EReal) (ix2 (i 1) (i 0)) : S2176x1024.Idx → EReal) := by
  have hi := idx3 t
  have hv := V_v1 m c
  rw [← hv]
  unfold iblk
  funext y
  rw [View.read_apply]
  show V m c main_v1 _ = V m c main_v1 _
  congr 1
  funext a
  apply Fin.ext
  match a with
  | ⟨0, _⟩ => show win0_3.index t 0 * 2176 + 1 * (y 0).val = (y 0).val; rw [hi.1]; omega
  | ⟨1, _⟩ => show win0_3.index t 1 * 1024 + 1 * (y 1).val = (y 1).val; rw [hi.2]; omega

/-- The product, element by element. -/
def G4 (c : Dev nD) : Buf (Elt Ideal) ((c : Thread nD τ).loc main_v2_0) := fun i : S16384x2176.Idx =>
  arow (m ((c : Thread nD τ).loc main_arg0)) (m ((c : Thread nD τ).loc main_arg1)) (m ((c : Thread nD τ).loc main_arg2)) (m ((c : Thread nD τ).loc main_arg3)) (i 0) (i 1)

/-- The scaled and shifted rows, element by element. -/
def G5 (c : Dev nD) : Buf (Elt Ideal) ((c : Thread nD τ).loc main_v2_1) := fun i : S16384x1024.Idx =>
  xrow (m ((c : Thread nD τ).loc main_arg0)) (m ((c : Thread nD τ).loc main_arg1)) (m ((c : Thread nD τ).loc main_arg2)) (i 0) (i 1)

theorem a_eq (c : Dev nD) (t : Fin cfg0.N) (p : Fin 1024) (q : Fin 2176) (h : 1024 * t.val + p.val < 16384) :
    ab (iblk m c 0 t) (iblk m c 1 t) (iblk m c 2 t) (iblk m c 3 t) p q
      = arow (m ((c : Thread nD τ).loc main_arg0)) (m ((c : Thread nD τ).loc main_arg1)) (m ((c : Thread nD τ).loc main_arg2)) (m ((c : Thread nD τ).loc main_arg3)) ⟨1024 * t.val + p.val, h⟩ q := by
  have e0 := funext fun k : Fin 1024 => iblk0 m c t p k h
  unfold ab arow
  rw [iblk1 m c t, iblk2 m c t, iblk3 m c t, e0]

theorem x_eq (c : Dev nD) (t : Fin cfg0.N) (p q : Fin 1024) (h : 1024 * t.val + p.val < 16384) :
    xe ((iblk m c 0 t : Vec Ideal S1024x1024 .f32) (ix2 p q)) (iblk m c 1 t) (iblk m c 2 t) q
      = xrow (m ((c : Thread nD τ).loc main_arg0)) (m ((c : Thread nD τ).loc main_arg1)) (m ((c : Thread nD τ).loc main_arg2)) ⟨1024 * t.val + p.val, h⟩ q := by
  unfold xrow
  rw [iblk1 m c t, iblk2 m c t, iblk0 m c t p q h]

theorem flushed4_eq (c : Dev nD) (t : Fin cfg0.N) (hf : (cfg0.win 4).flush t = true) :
    (dats m 0 c).flushed 4 t = ((cfg0.win 4).blk t).view.read (Elt Ideal) (G4 m c) := by
  have hN : cfg0.N = 16 := N_0
  have hlt : t.val < 16 := hN ▸ t.isLt
  have hi := idx4 t
  rw [flushed4]
  funext (y : S1024x2176.Idx)
  have hy0 : (y 0).val < 1024 := (y 0).isLt
  have hr : 1024 * t.val + (y 0).val < 16384 := by omega
  rw [View.read_apply]
  show out0_4 _ _ _ _ y = _
  rw [out4_apply]
  refine (a_eq m c t (y 0) (y 1) hr).trans ?_
  unfold G4
  congr 1
  · apply Fin.ext
    show 1024 * t.val + (y 0).val = win0_4.index t 0 * 1024 + 1 * (y 0).val
    rw [hi.1]; omega
  · apply Fin.ext
    show (y 1).val = win0_4.index t 1 * 2176 + 1 * (y 1).val
    rw [hi.2]; omega

theorem flushed5_eq (c : Dev nD) (t : Fin cfg0.N) (hf : (cfg0.win 5).flush t = true) :
    (dats m 0 c).flushed 5 t = ((cfg0.win 5).blk t).view.read (Elt Ideal) (G5 m c) := by
  have hN : cfg0.N = 16 := N_0
  have hlt : t.val < 16 := hN ▸ t.isLt
  have hi := idx5 t
  rw [flushed5]
  funext (y : S1024x1024.Idx)
  have hy0 : (y 0).val < 1024 := (y 0).isLt
  have hr : 1024 * t.val + (y 0).val < 16384 := by omega
  rw [View.read_apply]
  show out0_5 _ _ _ _ y = _
  rw [out5_apply]
  refine (x_eq m c t (y 0) (y 1) hr).trans ?_
  unfold G5
  congr 1
  · apply Fin.ext
    show 1024 * t.val + (y 0).val = win0_5.index t 0 * 1024 + 1 * (y 0).val
    rw [hi.1]; omega
  · apply Fin.ext
    show (y 1).val = win0_5.index t 1 * 1024 + 1 * (y 1).val
    rw [hi.2]; omega

theorem final4 (c : Dev nD) : (dats m 0 c).arrAt 4 cfg0.N = G4 m c :=
  (dats m 0 c).arrAt_eq_of_cover 4 (G4 m c) (flushed4_eq m c) fun (i : S16384x2176.Idx) => by
    have h0 : (i 0 : Nat) < 16384 := (i 0).isLt
    have h1 : (i 1 : Nat) < 2176 := (i 1).isLt
    have hN : cfg0.N = 16 := N_0
    obtain ⟨t, ht⟩ : ∃ t : Fin cfg0.N, t.val = (i 0).val / 1024 := ⟨⟨(i 0).val / 1024, by omega⟩, rfl⟩
    have hi := idx4 t
    refine ⟨t, flush0_4 t, ?_⟩
    show i ∈ ((View.whole main_v2_0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [hi.1]; omega
    | ⟨1, _⟩ => show win0_4.index t 1 * 2176 ≤ (i 1 : Nat) ∧ (i 1 : Nat) < win0_4.index t 1 * 2176 + 2176
                rw [hi.2]; omega

theorem final5 (c : Dev nD) : (dats m 0 c).arrAt 5 cfg0.N = G5 m c :=
  (dats m 0 c).arrAt_eq_of_cover 5 (G5 m c) (flushed5_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx5 t
    refine ⟨t, flush0_5 t, ?_⟩
    show i ∈ ((View.whole main_v2_1).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

/-- The run, read: both result arrays in closed form, the arguments unchanged. -/
theorem run : θ_run defs (onTc (τ := τ) (main (F := Ideal))) ⟨m, fun _ => 0, ρ⟩ fun r => ∀ c : Dev nD,
      r.2.mem ((c : Thread nD τ).loc main_v2_0) = G4 m c
      ∧ r.2.mem ((c : Thread nD τ).loc main_v2_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩) (run_blocks m ρ)

end Cert.InIdeal.Closed

namespace Cert.Proof.InClaims

open Idealize.ShloMosaic Idealize.ShloMosaic.TcCoe Idealize.SL.Sem

theorem frame_k : Cert.quiescent_In := fun m ρ _ => Cert.In.Gen.frame m ρ
theorem frame_i : Cert.quiescent_InIdeal := fun m ρ _ => Cert.InIdeal.Gen.frame m ρ
theorem frame_r : Cert.quiescent_InRefIdeal := fun m ρ _ =>
  (θ_run Cert.InRefIdeal.defs _ _).mono (fun r h => ⟨fun c => (h c).2.2, Idealize.ShloMosaic.sem_eq_zero_of_no_sems (by decide) r.2⟩)
    (Cert.InRefIdeal.Value.run (F := Ideal) m ρ)

section Ref
open Cert.InRefIdeal Cert.InRefIdeal.Read Cert.InIdeal.Closed

/-- The plain formula's scaled and shifted rows. -/
theorem ref_v3 (x0 : S16384x1024.Idx → EReal) (x1 x2 : S1x1024.Idx → EReal) (i : S16384x1024.Idx) :
    val_main_v3 (F := Ideal) x0 x1 x2 i = xrow x0 x1 x2 (i 0) (i 1) := by
  rw [val_main_v3_apply, val_main_v1_apply, val_main_v0_apply, val_main_v2_apply]
  refine congrArg₂ (· + ·) (congrArg₂ (· * ·) (congrArg x0 ?_) (congrArg x1 ?_)) (congrArg x2 ?_) <;>
  · funext a
    match a with
    | ⟨0, _⟩ => rfl
    | ⟨1, _⟩ => rfl

theorem ref_v6 (x0 : S16384x1024.Idx → EReal) (x1 x2 : S1x1024.Idx → EReal) (i : S16384x1024.Idx) :
    val_main_v6 (F := Ideal) x0 x1 x2 i = xrow x0 x1 x2 (i 0) (i 1) := by
  rw [val_main_v6_apply]
  exact ref_v3 x0 x1 x2 i

/-- The plain formula's product. -/
theorem ref_v5 (x0 : S16384x1024.Idx → EReal) (x1 x2 : S1x1024.Idx → EReal) (x3 : S1024x2176.Idx → EReal) (i : S16384x2176.Idx) :
    val_main_v5 (F := Ideal) x0 x1 x2 x3 i = arow x0 x1 x2 x3 (i 0) (i 1) := by
  rw [val_main_v5_apply]
  show val_main_v4 (F := Ideal) x0 x1 x2 x3 i = _
  rw [val_main_v4_apply]
  unfold arow af
  refine Finset.sum_congr rfl fun k _ => congrArg₂ (· * ·) ((ref_v3 x0 x1 x2 _).trans rfl) (congrArg x3 ?_)
  funext a
  match a with
  | ⟨0, _⟩ => rfl
  | ⟨1, _⟩ => rfl
end Ref

theorem algebraic : Cert.algebraic_InIdeal_InRefIdeal := by
  intro m ρ m' ρ' _ hagree
  refine ⟨fun c => Cert.InIdeal.Closed.G4 m c, fun c => Cert.InIdeal.Closed.G5 m c, Cert.InIdeal.Closed.run m ρ, ?_⟩
  refine (θ_run Cert.InRefIdeal.defs _ _).mono (fun _ h c => ⟨(h c).1.trans ?_, (h c).2.1.trans ?_, (h c).2.2⟩) (Cert.InRefIdeal.Value.run (F := Ideal) m' ρ')
  · rw [Cert.InRefIdeal.Read.val_main_v5_eq, (hagree c).1, (hagree c).2.1, (hagree c).2.2.1, (hagree c).2.2.2]
    exact funext fun i => ref_v5 _ _ _ _ i
  · rw [Cert.InRefIdeal.Read.val_main_v6_eq, (hagree c).1, (hagree c).2.1, (hagree c).2.2.1]
    exact funext fun i => ref_v6 _ _ _ i

end Cert.Proof.InClaims

end
-- ==== Proof.OutClaim.lean ====
/-
  The mixer's output projection, the residual and the normalisation of a row, computed 256 rows at a time: the kernel's
  two result arrays at the extended reals, against those of the plain formula.
-/
module

public import proofs.«01_k».proof.Defs
public import proofs.«01_k».proof.Proof.RowCore
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pointwise.Contract
public import Idealize.ShloMosaic.Lib.Pointwise.Reduce
public import Idealize.ShloMosaic.Lib.Pointwise.Reshape
public import Idealize.ShloMosaic.Lib.Quiescent
public import Idealize.ShloMosaic.Lib.IdealHost

@[expose] public section

set_option maxRecDepth 16384

noncomputable section

namespace Cert.OutIdeal.Closed

open Cert.OutIdeal Cert.OutIdeal.Gen Cert.OutIdeal.Value Cert.Rows Idealize.ShloMosaic Idealize.ShloMosaic.TcCoe Idealize.SL.Sem
open Idealize.ShloMosaic.Pipeline (Dat)

/-! ## One row -/

/-- The residual sum of a row: `α · (x · g + b) + 1 · (h W)`. -/
def zf (h : Fin 1024 → EReal) (W : S1024x1024.Idx → EReal) (x : Fin 1024 → EReal) (g b : S1x1024.Idx → EReal) (q : Fin 1024) : EReal :=
  Ideal.ofBits .f32 0x3FD744FD#32 * (x q * g (ix2 0 q) + b (ix2 0 q)) + Ideal.ofBits .f32 0x3F800000#32 * ∑ k : Fin 1024, h k * W (ix2 k q)

/-! ## One piece of 256 rows -/

/-- Row `p` of a piece's residual sum. -/
abbrev zp (v0 : Vec Ideal S256x1024 .bf16) (v2 : Vec Ideal S1024x1024 .bf16) (v5 : Vec Ideal S256x1024 .f32) (v6 v9 : Vec Ideal S1x1024 .f32) (p : Fin 256) : Fin 1024 → EReal :=
  zf (fun k => v0 (ix2 p k)) v2 (fun k => v5 (ix2 p k)) v6 v9

theorem pay1_apply (v0 : Vec Ideal S256x1024 .bf16) (v2 : Vec Ideal S1024x1024 .bf16) (v5 : Vec Ideal S256x1024 .f32) (v6 v9 : Vec Ideal S1x1024 .f32) (y : S256x1024.Idx) :
    k0_pay1 (F := Ideal) v0 v2 v5 v6 v9 y = cf (zp v0 v2 v5 v6 v9 (y 0)) (y 1) := by
  unfold k0_pay1 cf zp zf
  simp only [shapeCast_self]
  pointwise

theorem pay2_apply (v0 : Vec Ideal S256x1024 .bf16) (v2 : Vec Ideal S1024x1024 .bf16) (v5 : Vec Ideal S256x1024 .f32) (v6 v9 : Vec Ideal S1x1024 .f32) (y : S256x1.Idx) :
    k0_pay2 (F := Ideal) v0 v2 v5 v6 v9 y = sf (zp v0 v2 v5 v6 v9 (y 0)) := by
  unfold k0_pay2 sf
  have h : ∀ k : Fin 1024, k0_pay1 (F := Ideal) v0 v2 v5 v6 v9 (ix2 (y 0) k) = cf (zp v0 v2 v5 v6 v9 (y 0)) k := fun k => pay1_apply v0 v2 v5 v6 v9 (ix2 (y 0) k)
  generalize k0_pay1 (F := Ideal) v0 v2 v5 v6 v9 = X at h ⊢
  simp only [← h]
  pointwise

theorem pay3_apply (v0 : Vec Ideal S256x1024 .bf16) (v2 : Vec Ideal S1024x1024 .bf16) (v5 : Vec Ideal S256x1024 .f32) (v6 v9 : Vec Ideal S1x1024 .f32) (y : S256x1024.Idx) :
    k0_pay3 (F := Ideal) v0 v2 v5 v6 v9 y = nf (zp v0 v2 v5 v6 v9 (y 0)) (y 1) := by
  unfold k0_pay3 nf
  have h := pay1_apply v0 v2 v5 v6 v9 y
  have h2 : k0_pay2 (F := Ideal) v0 v2 v5 v6 v9 (ix2 (y 0) 0) = sf (zp v0 v2 v5 v6 v9 (y 0)) := pay2_apply v0 v2 v5 v6 v9 (ix2 (y 0) 0)
  generalize k0_pay1 (F := Ideal) v0 v2 v5 v6 v9 = X at h ⊢
  generalize k0_pay2 (F := Ideal) v0 v2 v5 v6 v9 = Y at h2 ⊢
  rw [← h, ← h2]
  pointwise

/-! ## One block of each result -/

theorem zp_ld (x0 : Vec Ideal S1024x1024 .bf16) (x1 : Vec Ideal S1024x1024 .bf16) (x2 : Vec Ideal S1024x1024 .f32) (x3 x4 : Vec Ideal S1x1024 .f32) (o : Nat)
    (h0 : ∀ a, (![o, 0] : Fin 2 → Nat) a + S256x1024.size a ≤ S1024x1024.size a)
    (h2 : ∀ a, (![o, 0] : Fin 2 → Nat) a + S256x1024.size a ≤ S1024x1024.size a)
    (p : Fin 256) (r : Fin 1024) (hr : o + p.val = r.val) :
    zp (View.ld x0 (Rect.unit (s := S1024x1024) ![o, 0] S256x1024.size h0)) (View.ld x1 r0_1) (View.ld x2 (Rect.unit (s := S1024x1024) ![o, 0] S256x1024.size h2)) (View.ld x3 r0_2) (View.ld x4 r0_2) p
      = zf (fun k => x0 (ix2 r k)) x1 (fun k => x2 (ix2 r k)) x3 x4 := by
  have e1 : View.ld x1 r0_1 = x1 := View.ld_unit_zero (S := S1024x1024) hz _ _
  have e3 : View.ld x3 r0_2 = x3 := View.ld_unit_zero (S := S1x1024) hz _ _
  have e4 : View.ld x4 r0_2 = x4 := View.ld_unit_zero (S := S1x1024) hz _ _
  have e0 := funext fun k : Fin 1024 => ld_row x0 o h0 p k r hr
  have e2 := funext fun k : Fin 1024 => ld_row x2 o h2 p k r hr
  unfold zp
  rw [e1, e3, e4, e0, e2]

theorem piece5 (x0 : Vec Ideal S1024x1024 .bf16) (x1 : Vec Ideal S1024x1024 .bf16) (x2 : Vec Ideal S1024x1024 .f32) (x3 x4 : Vec Ideal S1x1024 .f32) (o : Nat)
    (h0 : ∀ a, (![o, 0] : Fin 2 → Nat) a + S256x1024.size a ≤ S1024x1024.size a)
    (h2 : ∀ a, (![o, 0] : Fin 2 → Nat) a + S256x1024.size a ≤ S1024x1024.size a) (x : S256x1024.Idx) :
    k0_pay3 (View.ld x0 (Rect.unit (s := S1024x1024) ![o, 0] S256x1024.size h0)) (View.ld x1 r0_1) (View.ld x2 (Rect.unit (s := S1024x1024) ![o, 0] S256x1024.size h2)) (View.ld x3 r0_2) (View.ld x4 r0_2) x
      = nf (zf (fun k => x0 (ix2 (((Rect.unit (s := S1024x1024) ![o, 0] S256x1024.size h2).emb x 0)) k)) x1 (fun k => x2 (ix2 (((Rect.unit (s := S1024x1024) ![o, 0] S256x1024.size h2).emb x 0)) k)) x3 x4) ((Rect.unit (s := S1024x1024) ![o, 0] S256x1024.size h2).emb x 1) := by
  rw [pay3_apply, zp_ld x0 x1 x2 x3 x4 o h0 h2 (x 0) ((Rect.unit (s := S1024x1024) ![o, 0] S256x1024.size h2).emb x 0) (by show o + (x 0).val = o + 1 * (x 0).val; omega)]
  refine congrArg _ (Fin.ext ?_)
  show (x 1).val = 0 + 1 * (x 1).val
  omega

theorem piece6 (x0 : Vec Ideal S1024x1024 .bf16) (x1 : Vec Ideal S1024x1024 .bf16) (x2 : Vec Ideal S1024x1024 .f32) (x3 x4 : Vec Ideal S1x1024 .f32) (o : Nat)
    (h0 : ∀ a, (![o, 0] : Fin 2 → Nat) a + S256x1024.size a ≤ S1024x1024.size a)
    (h2 : ∀ a, (![o, 0] : Fin 2 → Nat) a + S256x1024.size a ≤ S1024x1024.size a)
    (h3 : ∀ a, (![o, 0] : Fin 2 → Nat) a + S256x1.size a ≤ S1024x1.size a) (x : S256x1.Idx) :
    k0_pay2 (View.ld x0 (Rect.unit (s := S1024x1024) ![o, 0] S256x1024.size h0)) (View.ld x1 r0_1) (View.ld x2 (Rect.unit (s := S1024x1024) ![o, 0] S256x1024.size h2)) (View.ld x3 r0_2) (View.ld x4 r0_2) x
      = sf (zf (fun k => x0 (ix2 (((Rect.unit (s := S1024x1) ![o, 0] S256x1.size h3).emb x 0)) k)) x1 (fun k => x2 (ix2 (((Rect.unit (s := S1024x1) ![o, 0] S256x1.size h3).emb x 0)) k)) x3 x4) := by
  rw [pay2_apply, zp_ld x0 x1 x2 x3 x4 o h0 h2 (x 0) ((Rect.unit (s := S1024x1) ![o, 0] S256x1.size h3).emb x 0) (by show o + (x 0).val = o + 1 * (x 0).val; omega)]

theorem out5_apply (x0 : Vec Ideal S1024x1024 .bf16) (x1 : Vec Ideal S1024x1024 .bf16) (x2 : Vec Ideal S1024x1024 .f32) (x3 x4 : Vec Ideal S1x1024 .f32) (y : S1024x1024.Idx) :
    out0_5 (F := Ideal) x0 x1 x2 x3 x4 y = nf (zf (fun k => x0 (ix2 (y 0) k)) x1 (fun k => x2 (ix2 (y 0) k)) x3 x4) (y 1) := by
  unfold out0_5
  refine View.canon_apply_of_pieces (Val := Elt Ideal) (fun y : S1024x1024.Idx => nf (zf (fun k => x0 (ix2 (y 0) k)) x1 (fun k => x2 (ix2 (y 0) k)) x3 x4) (y 1)) _ ?_ y (cover0_5 _ _ _ _ y)
  intro p hp
  simp only [List.mem_cons, List.mem_singleton, List.not_mem_nil, or_false] at hp
  rcases hp with rfl | rfl | rfl | rfl
  all_goals intro (x : S256x1024.Idx)
  · exact piece5 x0 x1 x2 x3 x4 768 inb_S1024x1024_S256x1024_768_0 inb_S1024x1024_S256x1024_768_0 x
  · exact piece5 x0 x1 x2 x3 x4 512 inb_S1024x1024_S256x1024_512_0 inb_S1024x1024_S256x1024_512_0 x
  · exact piece5 x0 x1 x2 x3 x4 256 inb_S1024x1024_S256x1024_256_0 inb_S1024x1024_S256x1024_256_0 x
  · exact piece5 x0 x1 x2 x3 x4 0 inb_S1024x1024_S256x1024_0_0 inb_S1024x1024_S256x1024_0_0 x

theorem out6_apply (x0 : Vec Ideal S1024x1024 .bf16) (x1 : Vec Ideal S1024x1024 .bf16) (x2 : Vec Ideal S1024x1024 .f32) (x3 x4 : Vec Ideal S1x1024 .f32) (y : S1024x1.Idx) :
    out0_6 (F := Ideal) x0 x1 x2 x3 x4 y = sf (zf (fun k => x0 (ix2 (y 0) k)) x1 (fun k => x2 (ix2 (y 0) k)) x3 x4) := by
  unfold out0_6
  refine View.canon_apply_of_pieces (Val := Elt Ideal) (fun y : S1024x1.Idx => sf (zf (fun k => x0 (ix2 (y 0) k)) x1 (fun k => x2 (ix2 (y 0) k)) x3 x4)) _ ?_ y (cover0_6 _ _ _ _ y)
  intro p hp
  simp only [List.mem_cons, List.mem_singleton, List.not_mem_nil, or_false] at hp
  rcases hp with rfl | rfl | rfl | rfl
  all_goals intro (x : S256x1.Idx)
  · exact piece6 x0 x1 x2 x3 x4 768 inb_S1024x1024_S256x1024_768_0 inb_S1024x1024_S256x1024_768_0 inb_S1024x1_S256x1_768_0 x
  · exact piece6 x0 x1 x2 x3 x4 512 inb_S1024x1024_S256x1024_512_0 inb_S1024x1024_S256x1024_512_0 inb_S1024x1_S256x1_512_0 x
  · exact piece6 x0 x1 x2 x3 x4 256 inb_S1024x1024_S256x1024_256_0 inb_S1024x1024_S256x1024_256_0 inb_S1024x1_S256x1_256_0 x
  · exact piece6 x0 x1 x2 x3 x4 0 inb_S1024x1024_S256x1024_0_0 inb_S1024x1024_S256x1024_0_0 inb_S1024x1_S256x1_0_0 x

/-! ## The operands' blocks -/

variable (m : (ℓ : Loc nD τ sig) → Buf (Elt Ideal) ℓ) (ρ : Dev nD → PrngReg)

theorem V_v0 (c : Dev nD) : V m c main_v0 = (m ((c : Thread nD τ).loc main_arg0) : S16384x1024.Idx → EReal) := by
  show StableHlo.after hostOps0 _ _ = _
  unfold hostOps0
  after_results
  rfl

theorem V_v1 (c : Dev nD) : V m c main_v1 = (m ((c : Thread nD τ).loc main_arg1) : S1024x1024.Idx → EReal) := by
  show StableHlo.after hostOps0 _ _ = _
  unfold hostOps0
  after_results
  rfl

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx1 : ∀ t : Fin grid0.N, win0_1.index t 0 = 0 ∧ win0_1.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel

theorem iblk0 (c : Dev nD) (t : Fin cfg0.N) (p : Fin 1024) (k : Fin 1024) (h : 1024 * t.val + p.val < 16384) :
    (iblk m c 0 t : Vec Ideal S1024x1024 .bf16) (ix2 p k) = (m ((c : Thread nD τ).loc main_arg0) : S16384x1024.Idx → EReal) (ix2 ⟨1024 * t.val + p.val, h⟩ k) := by
  have hi := idx0 t
  have hv := V_v0 m c
  rw [← hv]
  unfold iblk
  rw [View.read_apply]
  show V m c main_v0 _ = V m c main_v0 _
  congr 1
  funext a
  apply Fin.ext
  match a with
  | ⟨0, _⟩ => show win0_0.index t 0 * 1024 + 1 * p.val = 1024 * t.val + p.val; rw [hi.1]; omega
  | ⟨1, _⟩ => show win0_0.index t 1 * 1024 + 1 * k.val = k.val; rw [hi.2]; omega

theorem iblk2 (c : Dev nD) (t : Fin cfg0.N) (p : Fin 1024) (k : Fin 1024) (h : 1024 * t.val + p.val < 16384) :
    (iblk m c 2 t : Vec Ideal S1024x1024 .f32) (ix2 p k) = (m ((c : Thread nD τ).loc main_arg2) : S16384x1024.Idx → EReal) (ix2 ⟨1024 * t.val + p.val, h⟩ k) := by
  have hi := idx2 t
  have hv := V_main_arg2 m c
  rw [← hv]
  unfold iblk
  rw [View.read_apply]
  show V m c main_arg2 _ = V m c main_arg2 _
  congr 1
  funext a
  apply Fin.ext
  match a with
  | ⟨0, _⟩ => show win0_2.index t 0 * 1024 + 1 * p.val = 1024 * t.val + p.val; rw [hi.1]; omega
  | ⟨1, _⟩ => show win0_2.index t 1 * 1024 + 1 * k.val = k.val; rw [hi.2]; omega

theorem iblk1 (c : Dev nD) (t : Fin cfg0.N) :
    (iblk m c 1 t : Vec Ideal S1024x1024 .bf16) = (m ((c : Thread nD τ).loc main_arg1) : S1024x1024.Idx → EReal) := by
  have hi := idx1 t
  have hv := V_v1 m c
  rw [← hv]
  unfold iblk
  funext y
  rw [View.read_apply]
  show V m c main_v1 _ = V m c main_v1 _
  congr 1
  funext a
  apply Fin.ext
  match a with
  | ⟨0, _⟩ => show win0_1.index t 0 * 1024 + 1 * (y 0).val = (y 0).val; rw [hi.1]; omega
  | ⟨1, _⟩ => show win0_1.index t 1 * 1024 + 1 * (y 1).val = (y 1).val; rw [hi.2]; omega

theorem iblk3 (c : Dev nD) (t : Fin cfg0.N) :
    (iblk m c 3 t : Vec Ideal S1x1024 .f32) = (m ((c : Thread nD τ).loc main_arg3) : S1x1024.Idx → EReal) := by
  have hi := idx3 t
  have hv := V_main_arg3 m c
  rw [← hv]
  unfold iblk
  funext y
  rw [View.read_apply]
  show V m c main_arg3 _ = V m c main_arg3 _
  congr 1
  funext a
  apply Fin.ext
  match a with
  | ⟨0, _⟩ => show win0_3.index t 0 * 1 + 1 * (y 0).val = (y 0).val; rw [hi.1]; omega
  | ⟨1, _⟩ => show win0_3.index t 1 * 1024 + 1 * (y 1).val = (y 1).val; rw [hi.2]; omega

theorem iblk4 (c : Dev nD) (t : Fin cfg0.N) :
    (iblk m c 4 t : Vec Ideal S1x1024 .f32) = (m ((c : Thread nD τ).loc main_arg4) : S1x1024.Idx → EReal) := by
  have hi := idx4 t
  have hv := V_main_arg4 m c
  rw [← hv]
  unfold iblk
  funext y
  rw [View.read_apply]
  show V m c main_arg4 _ = V m c main_arg4 _
  congr 1
  funext a
  apply Fin.ext
  match a with
  | ⟨0, _⟩ => show win0_4.index t 0 * 1 + 1 * (y 0).val = (y 0).val; rw [hi.1]; omega
  | ⟨1, _⟩ => show win0_4.index t 1 * 1024 + 1 * (y 1).val = (y 1).val; rw [hi.2]; omega

/-! ## The result arrays -/

/-- Row `r` of the residual sum. -/
def zrow (H : S16384x1024.Idx → EReal) (W : S1024x1024.Idx → EReal) (A : S16384x1024.Idx → EReal) (g b : S1x1024.Idx → EReal) (r : Fin 16384) : Fin 1024 → EReal := zf (fun k => H (ix2 r k)) W (fun k => A (ix2 r k)) g b

/-- The normalised rows. -/
def nrow (H : S16384x1024.Idx → EReal) (W : S1024x1024.Idx → EReal) (A : S16384x1024.Idx → EReal) (g b : S1x1024.Idx → EReal) (r : Fin 16384) (q : Fin 1024) : EReal := nf (zrow H W A g b r) q

/-- The reciprocals of their standard deviations. -/
def srow (H : S16384x1024.Idx → EReal) (W : S1024x1024.Idx → EReal) (A : S16384x1024.Idx → EReal) (g b : S1x1024.Idx → EReal) (r : Fin 16384) (q : Fin 1) : EReal := sf (zrow H W A g b r)

def G5 (c : Dev nD) : Buf (Elt Ideal) ((c : Thread nD τ).loc main_v2_0) := fun i : S16384x1024.Idx => nrow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
def G6 (c : Dev nD) : Buf (Elt Ideal) ((c : Thread nD τ).loc main_v2_1) := fun i : S16384x1.Idx => srow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

theorem z_eq (c : Dev nD) (t : Fin cfg0.N) (p : Fin 1024) (h : 1024 * t.val + p.val < 16384) :
    zf (fun k => (iblk m c 0 t : Vec Ideal S1024x1024 .bf16) (ix2 p k)) (iblk m c 1 t) (fun k => (iblk m c 2 t : Vec Ideal S1024x1024 .f32) (ix2 p k)) (iblk m c 3 t) (iblk m c 4 t)
      = zrow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ := by
  have e0 := funext fun k : Fin 1024 => iblk0 m c t p k h
  have e2 := funext fun k : Fin 1024 => iblk2 m c t p k h
  unfold zrow
  rw [iblk1 m c t, iblk3 m c t, iblk4 m c t, e0, e2]

theorem n_eq (c : Dev nD) (t : Fin cfg0.N) (p : Fin 1024) (q : Fin 1024) (h : 1024 * t.val + p.val < 16384) :
    nf (zf (fun k => (iblk m c 0 t : Vec Ideal S1024x1024 .bf16) (ix2 p k)) (iblk m c 1 t) (fun k => (iblk m c 2 t : Vec Ideal S1024x1024 .f32) (ix2 p k)) (iblk m c 3 t) (iblk m c 4 t)) q
      = nrow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ q := by
  rw [z_eq m c t p h]; rfl

theorem s_eq (c : Dev nD) (t : Fin cfg0.N) (p : Fin 1024) (q : Fin 1) (h : 1024 * t.val + p.val < 16384) :
    sf (zf (fun k => (iblk m c 0 t : Vec Ideal S1024x1024 .bf16) (ix2 p k)) (iblk m c 1 t) (fun k => (iblk m c 2 t : Vec Ideal S1024x1024 .f32) (ix2 p k)) (iblk m c 3 t) (iblk m c 4 t))
      = srow (m ((c : Thread nD τ).loc main_arg0)) (m ((c : Thread nD τ).loc main_arg1)) (m ((c : Thread nD τ).loc main_arg2)) (m ((c : Thread nD τ).loc main_arg3)) (m ((c : Thread nD τ).loc main_arg4)) ⟨1024 * t.val + p.val, h⟩ q := by
  rw [z_eq m c t p h]; rfl

theorem flushed5_eq (c : Dev nD) (t : Fin cfg0.N) (hf : (cfg0.win 5).flush t = true) :
    (dats m 0 c).flushed 5 t = ((cfg0.win 5).blk t).view.read (Elt Ideal) (G5 m c) := by
  have hN : cfg0.N = 16 := N_0
  have hlt : t.val < 16 := hN ▸ t.isLt
  have hi := idx5 t
  rw [flushed5]
  funext (y : S1024x1024.Idx)
  have hy0 : (y 0).val < 1024 := (y 0).isLt
  have hr : 1024 * t.val + (y 0).val < 16384 := by omega
  rw [View.read_apply]
  show out0_5 _ _ _ _ _ y = _
  rw [out5_apply]
  refine (n_eq m c t (y 0) (y 1) hr).trans ?_
  unfold G5
  congr 1
  · apply Fin.ext
    show 1024 * t.val + (y 0).val = win0_5.index t 0 * 1024 + 1 * (y 0).val
    rw [hi.1]; omega
  · apply Fin.ext
    show (y 1).val = win0_5.index t 1 * 1024 + 1 * (y 1).val
    rw [hi.2]; omega

theorem final5 (c : Dev nD) : (dats m 0 c).arrAt 5 cfg0.N = G5 m c :=
  (dats m 0 c).arrAt_eq_of_cover 5 (G5 m c) (flushed5_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx5 t
    refine ⟨t, flush0_5 t, ?_⟩
    show i ∈ ((View.whole main_v2_0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

theorem flushed6_eq (c : Dev nD) (t : Fin cfg0.N) (hf : (cfg0.win 6).flush t = true) :
    (dats m 0 c).flushed 6 t = ((cfg0.win 6).blk t).view.read (Elt Ideal) (G6 m c) := by
  have hN : cfg0.N = 16 := N_0
  have hlt : t.val < 16 := hN ▸ t.isLt
  have hi := idx6 t
  rw [flushed6]
  funext (y : S1024x1.Idx)
  have hy0 : (y 0).val < 1024 := (y 0).isLt
  have hr : 1024 * t.val + (y 0).val < 16384 := by omega
  rw [View.read_apply]
  show out0_6 _ _ _ _ _ y = _
  rw [out6_apply]
  refine (s_eq m c t (y 0) (y 1) hr).trans ?_
  unfold G6
  congr 1
  · apply Fin.ext
    show 1024 * t.val + (y 0).val = win0_6.index t 0 * 1024 + 1 * (y 0).val
    rw [hi.1]; omega
  · exact Subsingleton.elim (α := Fin 1) _ _

theorem final6 (c : Dev nD) : (dats m 0 c).arrAt 6 cfg0.N = G6 m c :=
  (dats m 0 c).arrAt_eq_of_cover 6 (G6 m c) (flushed6_eq m c) fun (i : S16384x1.Idx) => by
    have h0 : (i 0 : Nat) < 16384 := (i 0).isLt
    have h1 : (i 1 : Nat) < 1 := (i 1).isLt
    have hN : cfg0.N = 16 := N_0
    obtain ⟨t, ht⟩ : ∃ t : Fin cfg0.N, t.val = (i 0).val / 1024 := ⟨⟨(i 0).val / 1024, by omega⟩, rfl⟩
    have hi := idx6 t
    refine ⟨t, flush0_6 t, ?_⟩
    show i ∈ ((View.whole main_v2_1).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024
                rw [hi.1]; omega
    | ⟨1, _⟩ => show win0_6.index t 1 * 1 ≤ (i 1 : Nat) ∧ (i 1 : Nat) < win0_6.index t 1 * 1 + 1
                rw [hi.2]; omega

/-- The run, read: the two result arrays in closed form, the arguments unchanged. -/
theorem run : θ_run defs (onTc (τ := τ) (main (F := Ideal))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨a, b, f⟩ := h c
    exact ⟨a.trans (final5 m c), b.trans (final6 m c), f⟩) (run_blocks m ρ)

end Cert.OutIdeal.Closed

namespace Cert.Proof.OutClaims

open Idealize.ShloMosaic Idealize.ShloMosaic.TcCoe Idealize.SL.Sem

theorem frame_k : Cert.quiescent_Out := fun m ρ _ => Cert.Out.Gen.frame m ρ
theorem frame_i : Cert.quiescent_OutIdeal := fun m ρ _ => Cert.OutIdeal.Gen.frame m ρ
theorem frame_r : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

section Ref
open Cert.OutRefIdeal Cert.OutRefIdeal.Read Cert.OutIdeal.Closed Cert.Rows

/-- The reference's residual sum: it has the product itself, the kernel the product times one. -/
theorem ref_v7 (x0 : S16384x1024.Idx → EReal) (x1 : S1024x1024.Idx → EReal) (x2 : S16384x1024.Idx → EReal) (x3 x4 : S1x1024.Idx → EReal) (i : S16384x1024.Idx) :
    val_main_v7 (F := Ideal) x0 x1 x2 x3 x4 i = zrow x0 x1 x2 x3 x4 (i 0) (i 1) := by
  rw [val_main_v7_apply, val_main_v5_apply, val_main_v4_apply, val_main_cst_apply, val_main_v3_apply, val_main_v1_apply, val_main_v0_apply,
    val_main_v2_apply, val_main_v6_apply]
  unfold zrow zf
  rw [Ideal.ofBits_one_f32, one_mul]
  refine congrArg₂ (· + ·) (congrArg (_ * ·) (congrArg₂ (· + ·) (congrArg₂ (· * ·) (congrArg x2 ?_) (congrArg x3 ?_)) (congrArg x4 ?_)))
    (Finset.sum_congr rfl fun k _ => congrArg₂ (· * ·) (congrArg x0 ?_) (congrArg x1 ?_)) <;>
  · funext a
    match a with
    | ⟨0, _⟩ => rfl
    | ⟨1, _⟩ => rfl

/-- Its mean of a row. -/
theorem ref_v11 (x0 : S16384x1024.Idx → EReal) (x1 : S1024x1024.Idx → EReal) (x2 : S16384x1024.Idx → EReal) (x3 x4 : S1x1024.Idx → EReal) (i : S16384x1.Idx) :
    val_main_v11 (F := Ideal) x0 x1 x2 x3 x4 i = Ideal.div (∑ k : Fin 1024, zrow x0 x1 x2 x3 x4 (i 0) k) (Ideal.ofBits .f32 0x44800000#32) := by
  rw [val_main_v11_apply, val_main_v9_apply, val_main_v10_apply, val_main_cst_1_apply, val_main_v8_apply, val_main_cst_0_apply]
  show Ideal.div (Ideal.ofBits .f32 0x00000000#32 + _) _ = _
  rw [Ideal.ofBits_zero_f32, zero_add]
  exact congrArg (Ideal.div · _) (Finset.sum_congr rfl fun k _ => ref_v7 x0 x1 x2 x3 x4 _)

theorem ref_v13 (x0 : S16384x1024.Idx → EReal) (x1 : S1024x1024.Idx → EReal) (x2 : S16384x1024.Idx → EReal) (x3 x4 : S1x1024.Idx → EReal) (i : S16384x1024.Idx) :
    val_main_v13 (F := Ideal) x0 x1 x2 x3 x4 i = cf (zrow x0 x1 x2 x3 x4 (i 0)) (i 1) := by
  rw [val_main_v13_apply, val_main_v12_apply, ref_v11, ref_v7]
  rfl

theorem ref_v21 (x0 : S16384x1024.Idx → EReal) (x1 : S1024x1024.Idx → EReal) (x2 : S16384x1024.Idx → EReal) (x3 x4 : S1x1024.Idx → EReal) (i : S16384x1.Idx) :
    val_main_v21 (F := Ideal) x0 x1 x2 x3 x4 i = srow x0 x1 x2 x3 x4 (i 0) (i 1) := by
  rw [val_main_v21_apply, val_main_v20_apply, val_main_v18_apply, val_main_v16_apply, val_main_v17_apply, val_main_cst_3_apply, val_main_v19_apply,
    val_main_cst_4_apply, val_main_v15_apply, val_main_cst_2_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [val_main_v14_apply, ref_v13]
  rfl

theorem ref_v25 (x0 : S16384x1024.Idx → EReal) (x1 : S1024x1024.Idx → EReal) (x2 : S16384x1024.Idx → EReal) (x3 x4 : S1x1024.Idx → EReal) (i : S16384x1024.Idx) :
    val_main_v25 (F := Ideal) x0 x1 x2 x3 x4 i = nrow x0 x1 x2 x3 x4 (i 0) (i 1) := by
  rw [val_main_v25_apply, val_main_v23_apply, val_main_v22_apply, val_main_v24_apply, ref_v21, ref_v11, ref_v7]
  rfl
end Ref

theorem algebraic : Cert.algebraic_OutIdeal_OutRefIdeal := by
  intro m ρ m' ρ' _ hagree
  refine ⟨fun c => Cert.OutIdeal.Closed.G5 m c, fun c => Cert.OutIdeal.Closed.G6 m c, Cert.OutIdeal.Closed.run m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · rw [Cert.OutRefIdeal.Read.val_main_v25_eq, (hagree c).1, (hagree c).2.1, (hagree c).2.2.1, (hagree c).2.2.2.1, (hagree c).2.2.2.2]
    exact funext fun i => ref_v25 _ _ _ _ _ i
  · rw [Cert.OutRefIdeal.Read.val_main_v21_eq, (hagree c).1, (hagree c).2.1, (hagree c).2.2.1, (hagree c).2.2.2.1, (hagree c).2.2.2.2]
    exact funext fun i => ref_v21 _ _ _ _ _ i

end Cert.Proof.OutClaims

end
-- ==== Proof.BackOutCases.lean ====
/-
  The backward of the normalisation and of the mixer's output projection, 256 rows at a time in blocks of 1024 rows: what
  one grid point stores, at the extended reals. The two running sums (the scale's and the shift's gradients) are carried
  from point to point.
-/
module

public import proofs.«01_k».proof.Proof.RowCore
public import proofs.«01_k».proof.Proof.FfnReal
public import proofs.«01_k».proof.Proof.Gen.BackOutIdeal.Value
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.BackOutIdeal.Closed

open Cert.BackOutIdeal Cert.BackOutIdeal.Gen Cert.BackOutIdeal.Value Cert.Rows Idealize.ShloMosaic Idealize.ShloMosaic.TcCoe Idealize.SL.Sem
open Idealize.ShloMosaic.Pipeline (Dat)
open Cert.KernelIdeal.Closed (dzf)

/-! ## One piece of 256 rows -/

/-- The rows' gradients before the normalisation. -/
def dzV (d h : Vec Ideal S256x1024 .f32) (r : Vec Ideal S256x1 .f32) (g : Vec Ideal S1x1024 .f32) : FVec Ideal S256x1024 .f32 :=
  k0_pay14 (k0_pay6 h) (k0_pay9 r) (k0_pay10 d g) (k0_pay11 d g) (k0_pay12 d h g) k0_pay13

/-- The same, rounded. -/
def dzbV (d h : Vec Ideal S256x1024 .f32) (r : Vec Ideal S256x1 .f32) (g : Vec Ideal S1x1024 .f32) : FVec Ideal S256x1024 .bf16 :=
  k0_pay15 (k0_pay6 h) (k0_pay9 r) (k0_pay10 d g) (k0_pay11 d g) (k0_pay12 d h g) k0_pay13

/-- Through the projection's transpose. -/
def daV (d h : Vec Ideal S256x1024 .f32) (r : Vec Ideal S256x1 .f32) (g : Vec Ideal S1x1024 .f32) (w : Vec Ideal S1024x1024 .bf16) : FVec Ideal S256x1024 .bf16 :=
  k0_pay16 (k0_pay6 h) (k0_pay9 r) (k0_pay10 d g) (k0_pay11 d g) (k0_pay12 d h g) k0_pay13 w

theorem dz_apply (d h : Vec Ideal S256x1024 .f32) (r : Vec Ideal S256x1 .f32) (g : Vec Ideal S1x1024 .f32) (y : S256x1024.Idx) :
    dzV d h r g y = dzf (fun k => d (ix2 (y 0) k)) (fun k => h (ix2 (y 0) k)) (r (ix2 (y 0) 0)) (fun k => g (ix2 0 k)) (y 1) := by
  have e10 : ∀ k, k0_pay10 (F := Ideal) d g (ix2 (y 0) k) = d (ix2 (y 0) k) * g (ix2 0 k) := fun k => by
    unfold k0_pay10; pointwise
  have e10y : k0_pay10 (F := Ideal) d g y = d (ix2 (y 0) (y 1)) * g (ix2 0 (y 1)) := by
    conv_lhs => rw [eq_ix2 y]
    exact e10 (y 1)
  have e11 : k0_pay11 (F := Ideal) d g (ix2 (y 0) 0) = Ideal.div (∑ k : Fin 1024, d (ix2 (y 0) k) * g (ix2 0 k)) (Ideal.ofBits .f32 0x44800000#32) := by
    unfold k0_pay11
    generalize k0_pay10 (F := Ideal) d g = X at e10 ⊢
    simp only [← e10]
    pointwise
  have e12 : k0_pay12 (F := Ideal) d h g (ix2 (y 0) 0) = ∑ k : Fin 1024, d (ix2 (y 0) k) * g (ix2 0 k) * h (ix2 (y 0) k) := by
    unfold k0_pay12 k0_pay6
    generalize k0_pay10 (F := Ideal) d g = X at e10 ⊢
    simp only [← e10, shapeCast_self]
    pointwise
  unfold dzV dzf k0_pay14 k0_pay6 k0_pay9 k0_pay13
  generalize k0_pay10 (F := Ideal) d g = X at e10y ⊢
  generalize k0_pay11 (F := Ideal) d g = X11 at e11 ⊢
  generalize k0_pay12 (F := Ideal) d h g = X12 at e12 ⊢
  simp only [shapeCast_self, ← e10y, ← e11, ← e12]
  pointwise

theorem dzb_apply (d h : Vec Ideal S256x1024 .f32) (r : Vec Ideal S256x1 .f32) (g : Vec Ideal S1x1024 .f32) (y : S256x1024.Idx) :
    dzbV d h r g y = dzV d h r g y := by
  unfold dzbV dzV k0_pay15
  pointwise

theorem da_apply (d h : Vec Ideal S256x1024 .f32) (r : Vec Ideal S256x1 .f32) (g : Vec Ideal S1x1024 .f32) (w : Vec Ideal S1024x1024 .bf16) (y : S256x1024.Idx) :
    daV d h r g w y = ∑ k : Fin 1024, dzV d h r g (ix2 (y 0) k) * w (ix2 (y 1) k) := by
  simp only [← dzb_apply]
  unfold daV dzbV k0_pay16
  generalize k0_pay15 (F := Ideal) (k0_pay6 h) (k0_pay9 r) (k0_pay10 d g) (k0_pay11 d g) (k0_pay12 d h g) k0_pay13 = X
  simp only [shapeCast_self]
  pointwise

theorem gam_apply (d h : Vec Ideal S256x1024 .f32) (a : Vec Ideal S1x1024 .f32) (q : Fin 1024) :
    k0_pay7 (F := Ideal) d h a (ix2 0 q) = a (ix2 0 q) + ∑ p : Fin 256, d (ix2 p q) * h (ix2 p q) := by
  unfold k0_pay7 k0_pay6
  simp only [shapeCast_self]
  pointwise

theorem bet_apply (d : Vec Ideal S256x1024 .f32) (a : Vec Ideal S1x1024 .f32) (q : Fin 1024) :
    k0_pay8 (F := Ideal) d a (ix2 0 q) = a (ix2 0 q) + ∑ p : Fin 256, d (ix2 p q) := by
  unfold k0_pay8
  simp only [shapeCast_self]
  pointwise

theorem pay4_apply (y : S1x1024.Idx) : k0_pay4 (F := Ideal) y = 0 := by
  unfold k0_pay4; pointwise

theorem pay5_apply (y : S1x1024.Idx) : k0_pay5 (F := Ideal) y = 0 := by
  unfold k0_pay5; pointwise

/-! ## One block of 1024 rows, from its four pieces -/

/-- 256 rows from row `o` on lie in the block. -/
abbrev InB (o : Nat) : Prop := ∀ a, (![o, 0] : Fin 2 → Nat) a + S256x1024.size a ≤ S1024x1024.size a

theorem InB.one {o : Nat} (h : InB o) : ∀ a, (![o, 0] : Fin 2 → Nat) a + S256x1.size a ≤ S1024x1.size a := fun a => match a with
  | ⟨0, _⟩ => h 0
  | ⟨1, _⟩ => Nat.le_refl 1

/-- The rows from row `o` on: of a block, of a column. -/
abbrev lr {e : EltTy} (x : Vec Ideal S1024x1024 e) (o : Nat) (h : InB o) : Vec Ideal S256x1024 e := View.ld x (Rect.unit (s := S1024x1024) ![o, 0] S256x1024.size h)
abbrev lc {e : EltTy} (x : Vec Ideal S1024x1 e) (o : Nat) (h : InB o) : Vec Ideal S256x1 e := View.ld x (Rect.unit (s := S1024x1) ![o, 0] S256x1.size h.one)

/-- Four pieces, stored one after another. -/
def rows4 {e : EltTy} (f : (o : Nat) → InB o → Vec Ideal S256x1024 e) : List (View.Piece (Elt Ideal) S1024x1024 e) :=
  [⟨Rect.unit ![768, 0] ![256, 1024] inb_S1024x1024_S256x1024_768_0, f 768 inb_S1024x1024_S256x1024_768_0⟩,
   ⟨Rect.unit ![512, 0] ![256, 1024] inb_S1024x1024_S256x1024_512_0, f 512 inb_S1024x1024_S256x1024_512_0⟩,
   ⟨Rect.unit ![256, 0] ![256, 1024] inb_S1024x1024_S256x1024_256_0, f 256 inb_S1024x1024_S256x1024_256_0⟩,
   ⟨Rect.unit ![0, 0] ![256, 1024] inb_S1024x1024_S256x1024_0_0, f 0 inb_S1024x1024_S256x1024_0_0⟩]

theorem rows4_canon {e : EltTy} (f : (o : Nat) → InB o → Vec Ideal S256x1024 e) (G : Vec Ideal S1024x1024 e)
    (hG : ∀ o h (x : S256x1024.Idx), f o h x = G ((Rect.unit (s := S1024x1024) ![o, 0] S256x1024.size h).emb x)) : View.canon (rows4 f) = G := by
  funext y
  have h0 : (y 0).val < 1024 := (y 0).isLt
  have h1 : (y 1).val < 1024 := (y 1).isLt
  have key : ∀ (o : Nat) (h : InB o), o ≤ (y 0).val → (y 0).val < o + 256 → y ∈ (Rect.unit (s := S1024x1024) ![o, 0] S256x1024.size h).set := fun o h ha hb => by
    rw [Rect.mem_set_unit]
    intro a
    match a with
    | ⟨0, _⟩ => show o ≤ (y 0).val ∧ (y 0).val < o + 256; omega
    | ⟨1, _⟩ => show 0 ≤ (y 1).val ∧ (y 1).val < 0 + 1024; omega
  refine View.canon_apply_of_pieces (Val := Elt Ideal) G _ ?_ y ?_
  · intro p hp
    simp only [rows4, List.mem_cons, List.not_mem_nil, or_false] at hp
    rcases hp with rfl | rfl | rfl | rfl
    all_goals intro (x : S256x1024.Idx)
    all_goals exact hG _ _ x
  · simp only [rows4, List.mem_cons, List.not_mem_nil, or_false, exists_eq_or_imp, exists_eq_left]
    by_cases c3 : 768 ≤ (y 0).val
    · exact Or.inl (key 768 _ c3 (by omega))
    by_cases c2 : 512 ≤ (y 0).val
    · exact Or.inr (Or.inl (key 512 _ c2 (by omega)))
    by_cases c1 : 256 ≤ (y 0).val
    · exact Or.inr (Or.inr (Or.inl (key 256 _ c1 (by omega))))
    · exact Or.inr (Or.inr (Or.inr (key 0 _ (by omega) (by omega))))

section Block

variable (x0 x1 : Vec Ideal S1024x1024 .f32) (x2 : Vec Ideal S1024x1 .f32) (x3 : Vec Ideal S1x1024 .f32) (x4 : Vec Ideal S1024x1024 .bf16)

/-- The block's gradients before the normalisation; through the projection's transpose. -/
def dzB (y : S1024x1024.Idx) : EReal := dzf (fun k => x0 (ix2 (y 0) k)) (fun k => x1 (ix2 (y 0) k)) (x2 (ix2 (y 0) 0)) (fun k => x3 (ix2 0 k)) (y 1)
def daB (y : S1024x1024.Idx) : EReal := ∑ k : Fin 1024, dzB x0 x1 x2 x3 (ix2 (y 0) k) * x4 (ix2 (y 1) k)

theorem dz_row (o : Nat) (h : InB o) (p : Fin 256) (q : Fin 1024) (r : Fin 1024) (hr : o + p.val = r.val) :
    dzV (lr x0 o h) (lr x1 o h) (lc x2 o h) x3 (ix2 p q) = dzB x0 x1 x2 x3 (ix2 r q) := by
  refine (dz_apply _ _ _ _ _).trans ?_
  have e0 := funext fun k : Fin 1024 => ld_row x0 o h p k r hr
  have e1 := funext fun k : Fin 1024 => ld_row x1 o h p k r hr
  have e2 := ld_row x2 o h.one p 0 r hr
  exact congrArg₂ (fun a b => dzf a b _ _ q) e0 e1 |>.trans (congrArg (fun a => dzf _ _ a _ q) e2)

theorem piece_dz (o : Nat) (h : InB o) (x : S256x1024.Idx) : dzV (lr x0 o h) (lr x1 o h) (lc x2 o h) x3 x
    = dzB x0 x1 x2 x3 ((Rect.unit (s := S1024x1024) ![o, 0] S256x1024.size h).emb x) := by
  obtain ⟨p, q, rfl⟩ : ∃ p q, x = ix2 p q := ⟨x 0, x 1, eq_ix2 x⟩
  have hp : o + p.val < 1024 := Nat.lt_of_lt_of_le (Nat.add_lt_add_left p.isLt o) (h 0)
  rw [dz_row x0 x1 x2 x3 o h p q ⟨o + p.val, hp⟩ rfl]
  exact congrArg (dzB x0 x1 x2 x3) (emb_row o h p q ⟨o + p.val, hp⟩ rfl).symm

theorem piece_dzb (o : Nat) (h : InB o) (x : S256x1024.Idx) : dzbV (lr x0 o h) (lr x1 o h) (lc x2 o h) x3 x
    = dzB x0 x1 x2 x3 ((Rect.unit (s := S1024x1024) ![o, 0] S256x1024.size h).emb x) :=
  (dzb_apply _ _ _ _ x).trans (piece_dz x0 x1 x2 x3 o h x)

theorem piece_da (o : Nat) (h : InB o) (x : S256x1024.Idx) : daV (lr x0 o h) (lr x1 o h) (lc x2 o h) x3 x4 x
    = daB x0 x1 x2 x3 x4 ((Rect.unit (s := S1024x1024) ![o, 0] S256x1024.size h).emb x) := by
  obtain ⟨p, q, rfl⟩ : ∃ p q, x = ix2 p q := ⟨x 0, x 1, eq_ix2 x⟩
  have hp : o + p.val < 1024 := Nat.lt_of_lt_of_le (Nat.add_lt_add_left p.isLt o) (h 0)
  rw [emb_row o h p q ⟨o + p.val, hp⟩ rfl, da_apply]
  exact Finset.sum_congr rfl fun k _ => congrArg (· * _) (dz_row x0 x1 x2 x3 o h p k ⟨o + p.val, hp⟩ rfl)

/-- The running sums after the block's four pieces. -/
def gam4 (a : Vec Ideal S1x1024 .f32) : Vec Ideal S1x1024 .f32 :=
  k0_pay7 (F := Ideal) (lr x0 768 inb_S1024x1024_S256x1024_768_0) (lr x1 768 inb_S1024x1024_S256x1024_768_0)
    (k0_pay7 (F := Ideal) (lr x0 512 inb_S1024x1024_S256x1024_512_0) (lr x1 512 inb_S1024x1024_S256x1024_512_0)
      (k0_pay7 (F := Ideal) (lr x0 256 inb_S1024x1024_S256x1024_256_0) (lr x1 256 inb_S1024x1024_S256x1024_256_0)
        (k0_pay7 (F := Ideal) (lr x0 0 inb_S1024x1024_S256x1024_0_0) (lr x1 0 inb_S1024x1024_S256x1024_0_0) a)))
def bet4 (a : Vec Ideal S1x1024 .f32) : Vec Ideal S1x1024 .f32 :=
  k0_pay8 (F := Ideal) (lr x0 768 inb_S1024x1024_S256x1024_768_0) (k0_pay8 (F := Ideal) (lr x0 512 inb_S1024x1024_S256x1024_512_0)
    (k0_pay8 (F := Ideal) (lr x0 256 inb_S1024x1024_S256x1024_256_0) (k0_pay8 (F := Ideal) (lr x0 0 inb_S1024x1024_S256x1024_0_0) a)))

/-- A sum over 1024 rows in four parts. -/
theorem sum4 (a : EReal) (f : ℕ → EReal) : a + (∑ k ∈ Finset.range 256, f (0 + k)) + (∑ k ∈ Finset.range 256, f (256 + k))
    + (∑ k ∈ Finset.range 256, f (512 + k)) + (∑ k ∈ Finset.range 256, f (768 + k)) = a + ∑ k ∈ Finset.range 1024, f k := by
  rw [show (1024 : ℕ) = 768 + 256 from rfl, Finset.sum_range_add, show (768 : ℕ) = 512 + 256 from rfl, Finset.sum_range_add,
    show (512 : ℕ) = 256 + 256 from rfl, Finset.sum_range_add]
  simp only [zero_add, add_assoc]

/-- A function of a row of the block, by the row's number. -/
def atRow (f : Fin 1024 → EReal) (k : ℕ) : EReal := if h : k < 1024 then f ⟨k, h⟩ else 0

theorem part_sum (f : Fin 1024 → EReal) (o : Nat) (ho : o + 256 ≤ 1024) (u : Fin 256 → EReal)
    (hu : ∀ p : Fin 256, u p = f ⟨o + p.val, by have := p.isLt; omega⟩) : ∑ p, u p = ∑ k ∈ Finset.range 256, atRow f (o + k) := by
  rw [Finset.sum_range]
  refine Finset.sum_congr rfl fun p _ => ?_
  rw [hu, atRow, dif_pos (show o + p.val < 1024 by have := p.isLt; omega)]

theorem all_sum (f : Fin 1024 → EReal) : ∑ k ∈ Finset.range 1024, atRow f k = ∑ p, f p := by
  rw [Finset.sum_range]
  exact Finset.sum_congr rfl fun p _ => by rw [atRow, dif_pos p.isLt]

theorem gam4_apply (a : Vec Ideal S1x1024 .f32) (q : Fin 1024) :
    gam4 x0 x1 a (ix2 0 q) = a (ix2 0 q) + ∑ p : Fin 1024, x0 (ix2 p q) * x1 (ix2 p q) := by
  have h : ∀ o (hb : InB o) (ho : o + 256 ≤ 1024), ∑ p : Fin 256, lr x0 o hb (ix2 p q) * lr x1 o hb (ix2 p q)
      = ∑ k ∈ Finset.range 256, atRow (fun p => x0 (ix2 p q) * x1 (ix2 p q)) (o + k) := fun o hb ho =>
    part_sum (fun p => x0 (ix2 p q) * x1 (ix2 p q)) o ho _ fun p => congrArg₂ (· * ·) (ld_row x0 o hb p q _ rfl) (ld_row x1 o hb p q _ rfl)
  unfold gam4
  rw [gam_apply, gam_apply, gam_apply, gam_apply, h 0 _ (by omega), h 256 _ (by omega), h 512 _ (by omega), h 768 _ (by omega), sum4, all_sum]

theorem bet4_apply (a : Vec Ideal S1x1024 .f32) (q : Fin 1024) : bet4 x0 a (ix2 0 q) = a (ix2 0 q) + ∑ p : Fin 1024, x0 (ix2 p q) := by
  have h : ∀ o (hb : InB o) (ho : o + 256 ≤ 1024), ∑ p : Fin 256, lr x0 o hb (ix2 p q)
      = ∑ k ∈ Finset.range 256, atRow (fun p => x0 (ix2 p q)) (o + k) := fun o hb ho =>
    part_sum (fun p => x0 (ix2 p q)) o ho _ fun p => ld_row x0 o hb p q _ rfl
  unfold bet4
  rw [bet_apply, bet_apply, bet_apply, bet_apply, h 0 _ (by omega), h 256 _ (by omega), h 512 _ (by omega), h 768 _ (by omega), sum4, all_sum]

end Block

/-- A whole load of what a whole store left. -/
theorem readCov0 {sig : RefSig} {κ : Kind} {sp : Space} (v : View sig κ sp S1x1024 .f32) (inb inb' : ∀ a, (![0, 0] : Fin 2 → Nat) a + S1x1024.size a ≤ S1x1024.size a)
    (w : Vec Ideal S1x1024 .f32) (L : List (View.Piece (Elt Ideal) S1x1024 .f32)) :
    v.readCov ((⟨Rect.unit ![0, 0] S1x1024.size inb, w⟩ : View.Piece (Elt Ideal) S1x1024 .f32) :: L) (Rect.unit ![0, 0] S1x1024.size inb').toLoadRect = w := by
  rw [View.readCov_eq_canon_ld _ _ _ (fun y => ⟨_, List.mem_cons_self, View.mem_set_unit_zero hz inb y⟩), View.canon_cons_unit_zero (S := S1x1024) hz,
    View.ld_unit_zero (S := S1x1024) hz]

/-! ## What each case leaves -/

section Cases

variable (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1x1024 .f32) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .bf16) (h7 : a7.IsWhole) (a8 : Memref sig .tc .vmem S1024x1024 .bf16) (h8 : a8.IsWhole) (a9 : Memref sig .tc .vmem S1x1024 .f32) (h9 : a9.IsWhole) (a10 : Memref sig .tc .vmem S1x1024 .f32) (h10 : a10.IsWhole)
  (x0 x1 : Vec Ideal S1024x1024 .f32) (x2 : Vec Ideal S1024x1 .f32) (x3 : Vec Ideal S1x1024 .f32) (x4 : Vec Ideal S1024x1024 .bf16)
  (xo8 xo9 : Vec Ideal S1x1024 .f32)

set_option maxHeartbeats 2000000 in
theorem out5_A (hc0 : cond0_0 i) : out0_A_5 (F := Ideal) c i a1 h1 a2 h2 a3 h3 a4 h4 a5 h5 a6 h6 a7 h7 a8 h8 a9 h9 a10 h10 hc0 x0 x1 x2 x3 x4 = dzB x0 x1 x2 x3 := by
  unfold out0_A_5
  rw [View.read_writes_eq_canon _ _ _ (cover0_A_5 c i a1 h1 a2 h2 a3 h3 a4 h4 a5 h5 a6 h6 a7 h7 a8 h8 a9 h9 a10 h10 hc0 x0 x1 x2 x3 x4)]
  unfold kernelRun0_A
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .f32) (fun o h => dzV (lr x0 o h) (lr x1 o h) (lc x2 o h) x3) (dzB x0 x1 x2 x3) (piece_dz x0 x1 x2 x3)

set_option maxHeartbeats 2000000 in
theorem out6_A (hc0 : cond0_0 i) : out0_A_6 (F := Ideal) c i a1 h1 a2 h2 a3 h3 a4 h4 a5 h5 a6 h6 a7 h7 a8 h8 a9 h9 a10 h10 hc0 x0 x1 x2 x3 x4 = dzB x0 x1 x2 x3 := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4)]
  unfold kernelRun0_A
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .bf16) (fun o h => dzbV (lr x0 o h) (lr x1 o h) (lc x2 o h) x3) (dzB x0 x1 x2 x3) (piece_dzb x0 x1 x2 x3)

set_option maxHeartbeats 2000000 in
theorem out7_A (hc0 : cond0_0 i) : out0_A_7 (F := Ideal) c i a1 h1 a2 h2 a3 h3 a4 h4 a5 h5 a6 h6 a7 h7 a8 h8 a9 h9 a10 h10 hc0 x0 x1 x2 x3 x4 = daB x0 x1 x2 x3 x4 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4)]
  unfold kernelRun0_A
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .bf16) (fun o h => daV (lr x0 o h) (lr x1 o h) (lc x2 o h) x3 x4) (daB x0 x1 x2 x3 x4) (piece_da x0 x1 x2 x3 x4)

set_option maxHeartbeats 2000000 in
theorem out8_A (hc0 : cond0_0 i) : out0_A_8 (F := Ideal) c i a1 h1 a2 h2 a3 h3 a4 h4 a5 h5 a6 h6 a7 h7 a8 h8 a9 h9 a10 h10 hc0 x0 x1 x2 x3 x4 = gam4 x0 x1 (k0_pay4 (F := Ideal)) := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4)]
  unfold kernelRun0_A
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  rw [View.canon_cons_unit_zero (S := S1x1024) hz]
  repeat rw [readCov0]
  rfl

set_option maxHeartbeats 2000000 in
theorem out9_A (hc0 : cond0_0 i) : out0_A_9 (F := Ideal) c i a1 h1 a2 h2 a3 h3 a4 h4 a5 h5 a6 h6 a7 h7 a8 h8 a9 h9 a10 h10 hc0 x0 x1 x2 x3 x4 = bet4 x0 (k0_pay5 (F := Ideal)) := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4)]
  unfold kernelRun0_A
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  rw [View.canon_cons_unit_zero (S := S1x1024) hz]
  repeat rw [readCov0]
  rfl

set_option maxHeartbeats 2000000 in
theorem out5_B (hc0 : ¬cond0_0 i) : out0_B_5 (F := Ideal) c i a1 h1 a2 h2 a3 h3 a4 h4 a5 h5 a6 h6 a7 h7 a8 h8 a9 h9 a10 h10 hc0 x0 x1 x2 x3 x4 xo8 xo9 = dzB x0 x1 x2 x3 := by
  unfold out0_B_5
  rw [View.read_writes_eq_canon _ _ _ (cover0_B_5 c i a1 h1 a2 h2 a3 h3 a4 h4 a5 h5 a6 h6 a7 h7 a8 h8 a9 h9 a10 h10 hc0 x0 x1 x2 x3 x4 xo8 xo9)]
  unfold kernelRun0_B
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .f32) (fun o h => dzV (lr x0 o h) (lr x1 o h) (lc x2 o h) x3) (dzB x0 x1 x2 x3) (piece_dz x0 x1 x2 x3)

set_option maxHeartbeats 2000000 in
theorem out6_B (hc0 : ¬cond0_0 i) : out0_B_6 (F := Ideal) c i a1 h1 a2 h2 a3 h3 a4 h4 a5 h5 a6 h6 a7 h7 a8 h8 a9 h9 a10 h10 hc0 x0 x1 x2 x3 x4 xo8 xo9 = dzB x0 x1 x2 x3 := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 xo8 xo9)]
  unfold kernelRun0_B
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .bf16) (fun o h => dzbV (lr x0 o h) (lr x1 o h) (lc x2 o h) x3) (dzB x0 x1 x2 x3) (piece_dzb x0 x1 x2 x3)

set_option maxHeartbeats 2000000 in
theorem out7_B (hc0 : ¬cond0_0 i) : out0_B_7 (F := Ideal) c i a1 h1 a2 h2 a3 h3 a4 h4 a5 h5 a6 h6 a7 h7 a8 h8 a9 h9 a10 h10 hc0 x0 x1 x2 x3 x4 xo8 xo9 = daB x0 x1 x2 x3 x4 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 xo8 xo9)]
  unfold kernelRun0_B
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  exact rows4_canon (e := .bf16) (fun o h => daV (lr x0 o h) (lr x1 o h) (lc x2 o h) x3 x4) (daB x0 x1 x2 x3 x4) (piece_da x0 x1 x2 x3 x4)

set_option maxHeartbeats 2000000 in
theorem out8_B (hc0 : ¬cond0_0 i) : out0_B_8 (F := Ideal) c i a1 h1 a2 h2 a3 h3 a4 h4 a5 h5 a6 h6 a7 h7 a8 h8 a9 h9 a10 h10 hc0 x0 x1 x2 x3 x4 xo8 xo9 = gam4 x0 x1 xo8 := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 xo8 xo9)]
  unfold kernelRun0_B
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  rw [View.canon_cons_unit_zero (S := S1x1024) hz]
  repeat rw [readCov0]
  rfl

set_option maxHeartbeats 2000000 in
theorem out9_B (hc0 : ¬cond0_0 i) : out0_B_9 (F := Ideal) c i a1 h1 a2 h2 a3 h3 a4 h4 a5 h5 a6 h6 a7 h7 a8 h8 a9 h9 a10 h10 hc0 x0 x1 x2 x3 x4 xo8 xo9 = bet4 x0 xo9 := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 xo8 xo9)]
  unfold kernelRun0_B
  dsimp only
  sl_unfold_words
  simp only [View.readAt_eq_ld, h1.read_unread, h2.read_unread, h3.read_unread, h4.read_unread, h5.read_unread, h9.read_unread, h10.read_unread, View.ld_unit_zero (S := S1024x1024) hz, View.ld_unit_zero (S := S1x1024) hz]
  rw [View.canon_cons_unit_zero (S := S1x1024) hz]
  repeat rw [readCov0]
  rfl

end Cases

end Cert.BackOutIdeal.Closed

end
-- ==== Proof.RunningSum.lean ====
/-
  A sum over 16384 rows, met a tile of rows at a time.
-/
module

public import Idealize.ShloMosaic.Lib.Pipeline.Value
public import Idealize.ShloMosaic.Lib.Pointwise.Tactic
public import Idealize.ShloMosaic.Lib.IdealHost

@[expose] public section

set_option maxRecDepth 16384

noncomputable section

namespace Cert.Rows

open Idealize.ShloMosaic

/-- A sum over all the rows, met `B` rows at a time. -/
theorem running {N B : ℕ} (o : (n : ℕ) → n < N → EReal) (s : ℕ → EReal) (hA : ∀ h, o 0 h = ∑ k ∈ Finset.range B, s (B * 0 + k))
    (hB : ∀ n h, o (n + 1) h = o n (Nat.lt_of_succ_lt h) + ∑ k ∈ Finset.range B, s (B * (n + 1) + k)) :
    ∀ n h, o n h = ∑ k ∈ Finset.range (B * (n + 1)), s k
  | 0, h => by rw [hA]; simp
  | n + 1, h => by rw [hB, running o s hA hB n, Nat.mul_succ B (n + 1), Finset.sum_range_add]

/-- A function of a row, by the row's number. -/
def nat (f : Fin 16384 → EReal) (k : ℕ) : EReal := if h : k < 16384 then f ⟨k, h⟩ else 0

theorem nat_all (f : Fin 16384 → EReal) : ∑ k ∈ Finset.range 16384, nat f k = ∑ n, f n := by
  rw [Finset.sum_range]
  exact Finset.sum_congr rfl fun k _ => by rw [nat, dif_pos k.isLt]

/-- The sum over tile `t` of `B` rows. -/
theorem nat_part {B : ℕ} (f : Fin 16384 → EReal) (t : ℕ) (ht : B * t + B ≤ 16384) (u : Fin B → EReal)
    (hu : ∀ p (h : B * t + p.val < 16384), u p = f ⟨B * t + p.val, h⟩) :
    ∑ p, u p = ∑ k ∈ Finset.range B, nat f (B * t + k) := by
  rw [Finset.sum_range]
  refine Finset.sum_congr rfl fun k _ => ?_
  have h0 : B * t + k.val < 16384 := by have := k.isLt; omega
  rw [nat, dif_pos h0]
  exact hu k h0

end Cert.Rows

end
-- ==== Proof.BackOutValue.lean ====
/-
  The backward of the normalisation and of the mixer's output projection: its five result arrays at the extended reals, in
  closed form. Three are written block by block (1024 rows a grid point); the gradients of the scale and of the shift are
  summed over the 16 points.
-/
module

public import proofs.«01_k».proof.Proof.BackOutCases
public import proofs.«01_k».proof.Proof.RunningSum
public import proofs.«01_k».proof.Proof.Gen.BackOutRefIdeal.Read
public import Idealize.ShloMosaic.Lib.Pointwise.Tactic

@[expose] public section

set_option maxRecDepth 16384

noncomputable section

namespace Cert.BackOutIdeal.Closed

open Cert.BackOutIdeal Cert.BackOutIdeal.Gen Cert.BackOutIdeal.Value Idealize.ShloMosaic Idealize.ShloMosaic.TcCoe Idealize.SL.Sem
open Idealize.ShloMosaic.Pipeline (Dat)
open Cert.BackOutRefIdeal.Read
open Cert.KernelIdeal.Closed (dzf)
open Cert.Rows (running nat nat_all nat_part)

variable (m : (ℓ : Loc nD τ sig) → Buf (Elt Ideal) ℓ) (ρ : Dev nD → PrngReg)

/-! ## The operands -/

/-- The rows before the normalisation, the projection's weight, the scale, the incoming gradient. -/
abbrev aZ (c : Dev nD) : S16384x1024.Idx → EReal := m ((c : Thread nD τ).loc main_arg0)
abbrev aW (c : Dev nD) : S1024x1024.Idx → EReal := m ((c : Thread nD τ).loc main_arg1)
abbrev aL (c : Dev nD) : S1x1024.Idx → EReal := m ((c : Thread nD τ).loc main_arg2)
abbrev aC (c : Dev nD) : S16384x1024.Idx → EReal := m ((c : Thread nD τ).loc main_arg3)

/-- The normalised rows and the reciprocals of their deviations, as the derivative's own forward lines hold them. -/
def aH (c : Dev nD) : S16384x1024.Idx → EReal := val_main_v23 (F := Ideal) (aZ m c)
def aR (c : Dev nD) : S16384x1.Idx → EReal := val_main_v18 (F := Ideal) (aZ m c)

theorem W_ct (c : Dev nD) : V m c main_arg3 = (aC m c : S16384x1024.Idx → EReal) := V_main_arg3 m c
theorem W_ln (c : Dev nD) : V m c main_arg2 = (aL m c : S1x1024.Idx → EReal) := V_main_arg2 m c

theorem W_wt (c : Dev nD) : V m c main_v18 = (aW m c : S1024x1024.Idx → EReal) := by
  show StableHlo.after hostOps0 _ _ = _
  unfold hostOps0
  after_results
  rfl

set_option maxHeartbeats 2000000 in
theorem W_rs (c : Dev nD) : V m c main_v13 = (aR m c : S16384x1.Idx → EReal) := by
  show StableHlo.after hostOps0 _ _ = _
  unfold hostOps0
  after_results
  rfl

set_option maxHeartbeats 2000000 in
theorem W_xh (c : Dev nD) : V m c main_v17 = (aH m c : S16384x1024.Idx → EReal) := by
  show StableHlo.after hostOps0 _ _ = _
  unfold hostOps0
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel

/-- The operands' blocks at point `t`. -/
abbrev b0 (c : Dev nD) (t : Fin cfg0.N) : Vec Ideal S1024x1024 .f32 := iblk m c 0 t
abbrev b1 (c : Dev nD) (t : Fin cfg0.N) : Vec Ideal S1024x1024 .f32 := iblk m c 1 t
abbrev b2 (c : Dev nD) (t : Fin cfg0.N) : Vec Ideal S1024x1 .f32 := iblk m c 2 t
abbrev b3 (c : Dev nD) (t : Fin cfg0.N) : Vec Ideal S1x1024 .f32 := iblk m c 3 t
abbrev b4 (c : Dev nD) (t : Fin cfg0.N) : Vec Ideal S1024x1024 .bf16 := iblk m c 4 t

theorem iblk0 (c : Dev nD) (t : Fin cfg0.N) (p : Fin 1024) (k : Fin 1024) (h : 1024 * t.val + p.val < 16384) :
    b0 m c t (ix2 p k) = aC m c (ix2 ⟨1024 * t.val + p.val, h⟩ k) := by
  have hi := idx0 t
  rw [← W_ct m c]
  unfold b0 iblk
  rw [View.read_apply]
  show V m c main_arg3 _ = V m c main_arg3 _
  congr 1
  funext a
  apply Fin.ext
  match a with
  | ⟨0, _⟩ => show win0_0.index t 0 * 1024 + 1 * p.val = 1024 * t.val + p.val; rw [hi.1]; omega
  | ⟨1, _⟩ => show win0_0.index t 1 * 1024 + 1 * k.val = k.val; rw [hi.2]; omega

theorem iblk1 (c : Dev nD) (t : Fin cfg0.N) (p : Fin 1024) (k : Fin 1024) (h : 1024 * t.val + p.val < 16384) :
    b1 m c t (ix2 p k) = aH m c (ix2 ⟨1024 * t.val + p.val, h⟩ k) := by
  have hi := idx1 t
  rw [← W_xh m c]
  unfold b1 iblk
  rw [View.read_apply]
  show V m c main_v17 _ = V m c main_v17 _
  congr 1
  funext a
  apply Fin.ext
  match a with
  | ⟨0, _⟩ => show win0_1.index t 0 * 1024 + 1 * p.val = 1024 * t.val + p.val; rw [hi.1]; omega
  | ⟨1, _⟩ => show win0_1.index t 1 * 1024 + 1 * k.val = k.val; rw [hi.2]; omega

theorem iblk2 (c : Dev nD) (t : Fin cfg0.N) (p : Fin 1024) (k : Fin 1) (h : 1024 * t.val + p.val < 16384) :
    b2 m c t (ix2 p k) = aR m c (ix2 ⟨1024 * t.val + p.val, h⟩ k) := by
  have hi := idx2 t
  rw [← W_rs m c]
  unfold b2 iblk
  rw [View.read_apply]
  show V m c main_v13 _ = V m c main_v13 _
  congr 1
  funext a
  apply Fin.ext
  match a with
  | ⟨0, _⟩ => show win0_2.index t 0 * 1024 + 1 * p.val = 1024 * t.val + p.val; rw [hi.1]; omega
  | ⟨1, _⟩ => show win0_2.index t 1 * 1 + 1 * k.val = k.val; rw [hi.2]; omega

theorem iblk3 (c : Dev nD) (t : Fin cfg0.N) : b3 m c t = aL m c := by
  have hi := idx3 t
  rw [← W_ln m c]
  unfold b3 iblk
  funext y
  rw [View.read_apply]
  show V m c main_arg2 _ = V m c main_arg2 _
  congr 1
  funext a
  apply Fin.ext
  match a with
  | ⟨0, _⟩ => show win0_3.index t 0 * 1 + 1 * (y 0).val = (y 0).val; rw [hi.1]; omega
  | ⟨1, _⟩ => show win0_3.index t 1 * 1024 + 1 * (y 1).val = (y 1).val; rw [hi.2]; omega

theorem iblk4 (c : Dev nD) (t : Fin cfg0.N) : b4 m c t = aW m c := by
  have hi := idx4 t
  rw [← W_wt m c]
  unfold b4 iblk
  funext y
  rw [View.read_apply]
  show V m c main_v18 _ = V m c main_v18 _
  congr 1
  funext a
  apply Fin.ext
  match a with
  | ⟨0, _⟩ => show win0_4.index t 0 * 1024 + 1 * (y 0).val = (y 0).val; rw [hi.1]; omega
  | ⟨1, _⟩ => show win0_4.index t 1 * 1024 + 1 * (y 1).val = (y 1).val; rw [hi.2]; omega

/-! ## The results written block by block -/

/-- The gradient before the normalisation; through the projection's transpose. -/
def rDZ (c : Dev nD) (n : Fin 16384) (q : Fin 1024) : EReal :=
  dzf (fun k => aC m c (ix2 n k)) (fun k => aH m c (ix2 n k)) (aR m c (ix2 n 0)) (fun k => aL m c (ix2 0 k)) q
def rDA (c : Dev nD) (n : Fin 16384) (q : Fin 1024) : EReal := ∑ k : Fin 1024, rDZ m c n k * aW m c (ix2 q k)

section Point

variable (c : Dev nD) (t : Fin cfg0.N) (p : Fin 1024) (h : 1024 * t.val + p.val < 16384) (q : Fin 1024)

theorem blk_dz : dzB (b0 m c t) (b1 m c t) (b2 m c t) (b3 m c t) (ix2 p q) = rDZ m c ⟨1024 * t.val + p.val, h⟩ q := by
  have e0 := funext fun k : Fin 1024 => iblk0 m c t p k h
  have e1 := funext fun k : Fin 1024 => iblk1 m c t p k h
  unfold rDZ
  rw [← e0, ← e1, ← iblk2 m c t p 0 h, ← iblk3 m c t]
  rfl

theorem blk_da : daB (b0 m c t) (b1 m c t) (b2 m c t) (b3 m c t) (b4 m c t) (ix2 p q) = rDA m c ⟨1024 * t.val + p.val, h⟩ q :=
  Finset.sum_congr rfl fun k _ => congrArg₂ (· * ·) (blk_dz m c t p h k) (congrFun (iblk4 m c t) (ix2 q k))

end Point

theorem outs5 (c : Dev nD) (t : Fin cfg0.N) : (outsAt0 m c t.val t.isLt).1 = dzB (b0 m c t) (b1 m c t) (b2 m c t) (b3 m c t) := by
  by_cases h0 : t.val % 16 = 0
  · rw [outsAt0_A m c t h0]
    dsimp only
    rw [out5_A]
  · rw [outsAt0_B m c t h0]
    dsimp only
    rw [out5_B]

def G5 (c : Dev nD) : Buf (Elt Ideal) ((c : Thread nD τ).loc main_v19_0) := fun i : S16384x1024.Idx => rDZ m c (i 0) (i 1)

theorem flushed5_eq (c : Dev nD) (t : Fin cfg0.N) (hf : (cfg0.win 5).flush t = true) :
    (dats m 0 c).flushed 5 t = ((cfg0.win 5).blk t).view.read (Elt Ideal) (G5 m c) := by
  have hN : cfg0.N = 16 := N_0
  have hlt : t.val < 16 := hN ▸ t.isLt
  have hi := idx5 t
  rw [flushed5]
  funext y
  have hy0 : (y 0).val < 1024 := (y 0).isLt
  rw [View.read_apply]
  show (outsAt0 m c t.val t.isLt).1 y = _
  rw [outs5, eq_ix2 y]
  refine (blk_dz m c t (y 0) (by omega) (y 1)).trans ?_
  unfold G5
  congr 1
  · apply Fin.ext
    show 1024 * t.val + (y 0).val = win0_5.index t 0 * 1024 + 1 * (y 0).val
    rw [hi.1]; omega
  · apply Fin.ext
    show (y 1).val = win0_5.index t 1 * 1024 + 1 * (y 1).val
    rw [hi.2]; omega

theorem final5 (c : Dev nD) : (dats m 0 c).arrAt 5 cfg0.N = G5 m c :=
  (dats m 0 c).arrAt_eq_of_cover 5 (G5 m c) (flushed5_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx5 t
    refine ⟨t, flush0_5 t, ?_⟩
    show i ∈ ((View.whole main_v19_0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

theorem outs6 (c : Dev nD) (t : Fin cfg0.N) : (outsAt0 m c t.val t.isLt).2.1 = dzB (b0 m c t) (b1 m c t) (b2 m c t) (b3 m c t) := by
  by_cases h0 : t.val % 16 = 0
  · rw [outsAt0_A m c t h0]
    dsimp only
    rw [out6_A]
  · rw [outsAt0_B m c t h0]
    dsimp only
    rw [out6_B]

def G6 (c : Dev nD) : Buf (Elt Ideal) ((c : Thread nD τ).loc main_v19_1) := fun i : S16384x1024.Idx => rDZ m c (i 0) (i 1)

theorem flushed6_eq (c : Dev nD) (t : Fin cfg0.N) (hf : (cfg0.win 6).flush t = true) :
    (dats m 0 c).flushed 6 t = ((cfg0.win 6).blk t).view.read (Elt Ideal) (G6 m c) := by
  have hN : cfg0.N = 16 := N_0
  have hlt : t.val < 16 := hN ▸ t.isLt
  have hi := idx6 t
  rw [flushed6]
  funext y
  have hy0 : (y 0).val < 1024 := (y 0).isLt
  rw [View.read_apply]
  show (outsAt0 m c t.val t.isLt).2.1 y = _
  rw [outs6, eq_ix2 y]
  refine (blk_dz m c t (y 0) (by omega) (y 1)).trans ?_
  unfold G6
  congr 1
  · apply Fin.ext
    show 1024 * t.val + (y 0).val = win0_6.index t 0 * 1024 + 1 * (y 0).val
    rw [hi.1]; omega
  · apply Fin.ext
    show (y 1).val = win0_6.index t 1 * 1024 + 1 * (y 1).val
    rw [hi.2]; omega

theorem final6 (c : Dev nD) : (dats m 0 c).arrAt 6 cfg0.N = G6 m c :=
  (dats m 0 c).arrAt_eq_of_cover 6 (G6 m c) (flushed6_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx6 t
    refine ⟨t, flush0_6 t, ?_⟩
    show i ∈ ((View.whole main_v19_1).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024
                rw [hi.1]; omega
    | ⟨1, _⟩ => show win0_6.index t 1 * 1024 ≤ (i 1 : Nat) ∧ (i 1 : Nat) < win0_6.index t 1 * 1024 + 1024
                rw [hi.2]; omega

theorem outs7 (c : Dev nD) (t : Fin cfg0.N) : (outsAt0 m c t.val t.isLt).2.2.1 = daB (b0 m c t) (b1 m c t) (b2 m c t) (b3 m c t) (b4 m c t) := by
  by_cases h0 : t.val % 16 = 0
  · rw [outsAt0_A m c t h0]
    dsimp only
    rw [out7_A]
  · rw [outsAt0_B m c t h0]
    dsimp only
    rw [out7_B]

def G7 (c : Dev nD) : Buf (Elt Ideal) ((c : Thread nD τ).loc main_v19_2) := fun i : S16384x1024.Idx => rDA m c (i 0) (i 1)

theorem flushed7_eq (c : Dev nD) (t : Fin cfg0.N) (hf : (cfg0.win 7).flush t = true) :
    (dats m 0 c).flushed 7 t = ((cfg0.win 7).blk t).view.read (Elt Ideal) (G7 m c) := by
  have hN : cfg0.N = 16 := N_0
  have hlt : t.val < 16 := hN ▸ t.isLt
  have hi := idx7 t
  rw [flushed7]
  funext y
  have hy0 : (y 0).val < 1024 := (y 0).isLt
  rw [View.read_apply]
  show (outsAt0 m c t.val t.isLt).2.2.1 y = _
  rw [outs7, eq_ix2 y]
  refine (blk_da m c t (y 0) (by omega) (y 1)).trans ?_
  unfold G7
  congr 1
  · apply Fin.ext
    show 1024 * t.val + (y 0).val = win0_7.index t 0 * 1024 + 1 * (y 0).val
    rw [hi.1]; omega
  · apply Fin.ext
    show (y 1).val = win0_7.index t 1 * 1024 + 1 * (y 1).val
    rw [hi.2]; omega

theorem final7 (c : Dev nD) : (dats m 0 c).arrAt 7 cfg0.N = G7 m c :=
  (dats m 0 c).arrAt_eq_of_cover 7 (G7 m c) (flushed7_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx7 t
    refine ⟨t, flush0_7 t, ?_⟩
    show i ∈ ((View.whole main_v19_2).slice (win0_7.rect t)).set
    rw [View.set_slice_whole, Rect.mem_set_unit]
    intro a
    match a with
    | ⟨0, _⟩ => show win0_7.index t 0 * 1024 ≤ (i 0 : Nat) ∧ (i 0 : Nat) < win0_7.index t 0 * 1024 + 1024
                rw [hi.1]; omega
    | ⟨1, _⟩ => show win0_7.index t 1 * 1024 ≤ (i 1 : Nat) ∧ (i 1 : Nat) < win0_7.index t 1 * 1024 + 1024
                rw [hi.2]; omega

/-! ## The running sums -/

theorem nat_tile (f : Fin 16384 → EReal) (t : Fin cfg0.N) (u : Fin 1024 → EReal) (hu : ∀ p (h : 1024 * t.val + p.val < 16384), u p = f ⟨1024 * t.val + p.val, h⟩) :
    ∑ p, u p = ∑ k ∈ Finset.range 1024, nat f (1024 * t.val + k) :=
  nat_part f t.val (by have hN : cfg0.N = 16 := N_0; have := t.isLt; omega) u hu

/-- A summand of the scale's gradient and of the shift's. -/
def sGam (c : Dev nD) (q : Fin 1024) (n : Fin 16384) : EReal := aC m c (ix2 n q) * aH m c (ix2 n q)
def sBet (c : Dev nD) (q : Fin 1024) (n : Fin 16384) : EReal := aC m c (ix2 n q)

theorem tile8 (c : Dev nD) (t : Fin cfg0.N) (q : Fin 1024) : ∑ p : Fin 1024, b0 m c t (ix2 p q) * b1 m c t (ix2 p q) = ∑ k ∈ Finset.range 1024, nat (sGam m c q) (1024 * t.val + k) :=
  nat_tile (sGam m c q) t _ fun p h => congrArg₂ (· * ·) (iblk0 m c t p q h) (iblk1 m c t p q h)

theorem step8_A (c : Dev nD) (t : Fin cfg0.N) (h0 : t.val % 16 = 0) (q : Fin 1024) :
    (outsAt0 m c t.val t.isLt).2.2.2.1 (ix2 0 q) = ∑ k ∈ Finset.range 1024, nat (sGam m c q) (1024 * t.val + k) := by
  rw [← tile8, outsAt0_A m c t h0]
  dsimp only
  rw [out8_A, gam4_apply, pay4_apply, zero_add]

theorem step8_B (c : Dev nD) (t : Fin cfg0.N) (h0 : ¬t.val % 16 = 0) (q : Fin 1024) :
    (outsAt0 m c t.val t.isLt).2.2.2.1 (ix2 0 q) = (outsAt0 m c (t.val - 1) (Nat.lt_of_le_of_lt (Nat.sub_le _ _) t.isLt)).2.2.2.1 (ix2 0 q)
      + ∑ k ∈ Finset.range 1024, nat (sGam m c q) (1024 * t.val + k) := by
  rw [← tile8, outsAt0_B m c t h0]
  dsimp only
  rw [out8_B, gam4_apply]

theorem outs8_eq (c : Dev nD) (n : ℕ) (h : n < cfg0.N) (q : Fin 1024) :
    (outsAt0 m c n h).2.2.2.1 (ix2 0 q) = ∑ k ∈ Finset.range (1024 * (n + 1)), nat (sGam m c q) k := by
  have hN : cfg0.N = 16 := N_0
  exact running (fun n h => (outsAt0 m c n h).2.2.2.1 (ix2 0 q)) (nat (sGam m c q)) (fun h => step8_A m c ⟨0, h⟩ rfl q)
    (fun n h => step8_B m c ⟨n + 1, h⟩ (by show ¬(n + 1) % 16 = 0; omega) q) n h

def all8 (c : Dev nD) (q : Fin 1024) : EReal := ∑ n, sGam m c q n
theorem all8_eq (c : Dev nD) (q : Fin 1024) : ∑ k ∈ Finset.range 16384, nat (sGam m c q) k = all8 m c q := nat_all _
def G8 (c : Dev nD) : Buf (Elt Ideal) ((c : Thread nD τ).loc main_v19_3) := fun i : S1x1024.Idx => all8 m c (i 1)

theorem flushed8_eq (c : Dev nD) (t : Fin cfg0.N) (hf : (cfg0.win 8).flush t = true) :
    (dats m 0 c).flushed 8 t = ((cfg0.win 8).blk t).view.read (Elt Ideal) (G8 m c) := by
  have h15 : t.val % 16 = 15 := (flush0_8 t).mp hf
  have hN : cfg0.N = 16 := N_0
  have hlt : t.val < 16 := hN ▸ t.isLt
  have hi := idx8 t
  rw [flushed8]
  funext y
  rw [View.read_apply]
  show (outsAt0 m c t.val t.isLt).2.2.2.1 y = _
  have hy : y = ix2 0 (y 1) := by
    conv_lhs => rw [eq_ix2 y]
    exact congrArg (fun a : Fin 1 => ix2 a (y 1)) (Subsingleton.elim _ _)
  rw [hy]
  refine (outs8_eq m c t.val t.isLt (y 1)).trans ?_
  rw [show 1024 * (t.val + 1) = 16384 from by omega]
  refine (all8_eq m c (y 1)).trans ?_
  unfold G8
  congr 1
  apply Fin.ext
  show (y 1).val = win0_8.index t 1 * 1024 + 1 * (y 1).val
  rw [hi.2]; omega

theorem final8 (c : Dev nD) : (dats m 0 c).arrAt 8 cfg0.N = G8 m c :=
  (dats m 0 c).arrAt_eq_of_cover 8 (G8 m c) (flushed8_eq m c) fun (i : S1x1024.Idx) => by
    have h0 : (i 0 : Nat) < 1 := (i 0).isLt
    have h1 : (i 1 : Nat) < 1024 := (i 1).isLt
    have hN : cfg0.N = 16 := N_0
    obtain ⟨t, ht⟩ : ∃ t : Fin cfg0.N, t.val = 15 := ⟨⟨15, by omega⟩, rfl⟩
    have hi := idx8 t
    refine ⟨t, (flush0_8 t).mpr (by omega), ?_⟩
    show i ∈ ((View.whole main_v19_3).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [hi.1]; omega
    | ⟨1, _⟩ => show win0_8.index t 1 * 1024 ≤ (i 1 : Nat) ∧ (i 1 : Nat) < win0_8.index t 1 * 1024 + 1024
                rw [hi.2]; omega

theorem tile9 (c : Dev nD) (t : Fin cfg0.N) (q : Fin 1024) : ∑ p : Fin 1024, b0 m c t (ix2 p q) = ∑ k ∈ Finset.range 1024, nat (sBet m c q) (1024 * t.val + k) :=
  nat_tile (sBet m c q) t _ fun p h => iblk0 m c t p q h

theorem step9_A (c : Dev nD) (t : Fin cfg0.N) (h0 : t.val % 16 = 0) (q : Fin 1024) :
    (outsAt0 m c t.val t.isLt).2.2.2.2 (ix2 0 q) = ∑ k ∈ Finset.range 1024, nat (sBet m c q) (1024 * t.val + k) := by
  rw [← tile9, outsAt0_A m c t h0]
  dsimp only
  rw [out9_A, bet4_apply, pay5_apply, zero_add]

theorem step9_B (c : Dev nD) (t : Fin cfg0.N) (h0 : ¬t.val % 16 = 0) (q : Fin 1024) :
    (outsAt0 m c t.val t.isLt).2.2.2.2 (ix2 0 q) = (outsAt0 m c (t.val - 1) (Nat.lt_of_le_of_lt (Nat.sub_le _ _) t.isLt)).2.2.2.2 (ix2 0 q)
      + ∑ k ∈ Finset.range 1024, nat (sBet m c q) (1024 * t.val + k) := by
  rw [← tile9, outsAt0_B m c t h0]
  dsimp only
  rw [out9_B, bet4_apply]

theorem outs9_eq (c : Dev nD) (n : ℕ) (h : n < cfg0.N) (q : Fin 1024) :
    (outsAt0 m c n h).2.2.2.2 (ix2 0 q) = ∑ k ∈ Finset.range (1024 * (n + 1)), nat (sBet m c q) k := by
  have hN : cfg0.N = 16 := N_0
  exact running (fun n h => (outsAt0 m c n h).2.2.2.2 (ix2 0 q)) (nat (sBet m c q)) (fun h => step9_A m c ⟨0, h⟩ rfl q)
    (fun n h => step9_B m c ⟨n + 1, h⟩ (by show ¬(n + 1) % 16 = 0; omega) q) n h

def all9 (c : Dev nD) (q : Fin 1024) : EReal := ∑ n, sBet m c q n
theorem all9_eq (c : Dev nD) (q : Fin 1024) : ∑ k ∈ Finset.range 16384, nat (sBet m c q) k = all9 m c q := nat_all _
def G9 (c : Dev nD) : Buf (Elt Ideal) ((c : Thread nD τ).loc main_v19_4) := fun i : S1x1024.Idx => all9 m c (i 1)

theorem flushed9_eq (c : Dev nD) (t : Fin cfg0.N) (hf : (cfg0.win 9).flush t = true) :
    (dats m 0 c).flushed 9 t = ((cfg0.win 9).blk t).view.read (Elt Ideal) (G9 m c) := by
  have h15 : t.val % 16 = 15 := (flush0_9 t).mp hf
  have hN : cfg0.N = 16 := N_0
  have hlt : t.val < 16 := hN ▸ t.isLt
  have hi := idx9 t
  rw [flushed9]
  funext y
  rw [View.read_apply]
  show (outsAt0 m c t.val t.isLt).2.2.2.2 y = _
  have hy : y = ix2 0 (y 1) := by
    conv_lhs => rw [eq_ix2 y]
    exact congrArg (fun a : Fin 1 => ix2 a (y 1)) (Subsingleton.elim _ _)
  rw [hy]
  refine (outs9_eq m c t.val t.isLt (y 1)).trans ?_
  rw [show 1024 * (t.val + 1) = 16384 from by omega]
  refine (all9_eq m c (y 1)).trans ?_
  unfold G9
  congr 1
  apply Fin.ext
  show (y 1).val = win0_9.index t 1 * 1024 + 1 * (y 1).val
  rw [hi.2]; omega

theorem final9 (c : Dev nD) : (dats m 0 c).arrAt 9 cfg0.N = G9 m c :=
  (dats m 0 c).arrAt_eq_of_cover 9 (G9 m c) (flushed9_eq m c) fun (i : S1x1024.Idx) => by
    have h0 : (i 0 : Nat) < 1 := (i 0).isLt
    have h1 : (i 1 : Nat) < 1024 := (i 1).isLt
    have hN : cfg0.N = 16 := N_0
    obtain ⟨t, ht⟩ : ∃ t : Fin cfg0.N, t.val = 15 := ⟨⟨15, by omega⟩, rfl⟩
    have hi := idx9 t
    refine ⟨t, (flush0_9 t).mpr (by omega), ?_⟩
    show i ∈ ((View.whole main_v19_4).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [hi.1]; omega
    | ⟨1, _⟩ => show win0_9.index t 1 * 1024 ≤ (i 1 : Nat) ∧ (i 1 : Nat) < win0_9.index t 1 * 1024 + 1024
                rw [hi.2]; omega

/-- The run, read: the five result arrays in closed form, the arguments unchanged. -/
theorem run : θ_run defs (onTc (τ := τ) (main (F := Ideal))) ⟨m, fun _ => 0, ρ⟩ fun r => ∀ c : Dev nD,
      r.2.mem ((c : Thread nD τ).loc main_v19_0) = G5 m c
      ∧ r.2.mem ((c : Thread nD τ).loc main_v19_1) = G6 m c
      ∧ r.2.mem ((c : Thread nD τ).loc main_v19_2) = G7 m c
      ∧ r.2.mem ((c : Thread nD τ).loc main_v19_3) = G8 m c
      ∧ r.2.mem ((c : Thread nD τ).loc main_v19_4) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a0, a1, a2, a3, a4, d⟩ := h c
    exact ⟨a0.trans (final5 m c), a1.trans (final6 m c), a2.trans (final7 m c), a3.trans (final8 m c), a4.trans (final9 m c), d⟩) (run_blocks m ρ)

end Cert.BackOutIdeal.Closed

end
-- ==== Proof.BackOutRef.lean ====
/-
  The derivative of the normalisation and of the output projection, read element by element: its five results are the
  kernel's expressions, wherever the arguments are finite.
-/
module

public import proofs.«01_k».proof.Proof.FfnRef
public import proofs.«01_k».proof.Proof.Gen.BackOutRefIdeal.Read

@[expose] public section

set_option maxRecDepth 16384

noncomputable section

namespace Cert.BackOutRefIdeal.Closed

open Cert.BackOutRefIdeal Cert.BackOutRefIdeal.Read Idealize.ShloMosaic
open Cert.KernelIdeal.Closed (muf cf vf rsf pf wf tf mf zf zf_eq dzf Fin')
open Cert.ReferenceIdeal.Closed (ix_eq)

variable (x0 : S16384x1024.Idx → EReal) (x1 : S1024x1024.Idx → EReal) (x2 : S1x1024.Idx → EReal) (x3 : S16384x1024.Idx → EReal)

/-- A row before the normalisation, of the incoming gradient, and the scale. -/
def zr (n : Fin 16384) : Fin 1024 → EReal := fun k => x0 (ix2 n k)
def dr (n : Fin 16384) : Fin 1024 → EReal := fun k => x3 (ix2 n k)
def gr : Fin 1024 → EReal := fun k => x2 (ix2 0 k)

theorem r4 (n : Fin 16384) :
    val_main_v4 (F := Ideal) x0 (ix2 n 0) = muf (zr x0 n) := by
  rw [val_main_v4_apply, val_main_v2_apply, val_main_v1_apply, val_main_v3_apply]
  have h : ∀ k : Fin 1024, x0 (idx_main_v1 (idx_main_v2 (ix2 n 0)) k) = (zr x0 n) k := fun k => by
    rw [show idx_main_v1 (idx_main_v2 (ix2 n 0)) k = ix2 n k from ix_eq _ _ rfl rfl]
    rfl
  rw [Finset.sum_congr rfl fun k _ => h k]
  rfl

theorem r6 (n : Fin 16384) (q : Fin 1024) :
    val_main_v6 (F := Ideal) x0 (ix2 n q) = cf (zr x0 n) q := by
  rw [val_main_v6_apply, val_main_v5_apply, show idx_main_v5 (ix2 n q) = ix2 n 0 from ix_eq _ _ rfl rfl, r4]
  rfl

theorem r15 (n : Fin 16384) (q : Fin 1024) :
    val_main_v15 (F := Ideal) x0 (ix2 n q) = cf (zr x0 n) q := by
  rw [val_main_v15_apply, val_main_v14_apply, show idx_main_v14 (ix2 n q) = ix2 n 0 from ix_eq _ _ rfl rfl, r4]
  rfl

theorem r17 (n : Fin 16384) :
    val_main_v17 (F := Ideal) x0 (ix2 n 0) = vf (zr x0 n) := by
  rw [val_main_v17_apply, val_main_v13_apply, val_main_v11_apply, val_main_v10_apply, val_main_v12_apply, val_main_v16_apply]
  have h : ∀ k : Fin 1024, val_main_v7 (F := Ideal) x0 (idx_main_v10 (idx_main_v11 (ix2 n 0)) k) = cf (zr x0 n) k * cf (zr x0 n) k := fun k => by
    rw [show idx_main_v10 (idx_main_v11 (ix2 n 0)) k = ix2 n k from ix_eq _ _ rfl rfl, val_main_v7_apply, r6 x0 n k]
    rfl
  rw [Finset.sum_congr rfl fun k _ => h k]
  rfl

theorem r18 (n : Fin 16384) :
    val_main_v18 (F := Ideal) x0 (ix2 n 0) = rsf (zr x0 n) := by
  rw [val_main_v18_apply, r17]
  rfl

theorem r23 (n : Fin 16384) (q : Fin 1024) :
    val_main_v23 (F := Ideal) x0 (ix2 n q) = cf (zr x0 n) q * rsf (zr x0 n) := by
  rw [val_main_v23_apply, val_main_v22_apply, r15, show idx_main_v22 (ix2 n q) = ix2 n 0 from ix_eq _ _ rfl rfl, r18]
  rfl

theorem r28 (n : Fin 16384) (q : Fin 1024) :
    val_main_v28 (F := Ideal) x3 (ix2 n q) = (dr x3 n) q := by
  rw [val_main_v28_apply]
  refine congrArg x3 (ix_eq _ _ ?_ ?_)
  · show (n.val * 1024 + q.val) / 1024 = n.val
    have := q.isLt; omega
  · show (n.val * 1024 + q.val) % 1024 = q.val
    have := q.isLt; omega

theorem r35 (n : Fin 16384) (q : Fin 1024) :
    val_main_v35 (F := Ideal) x2 x3 (ix2 n q) = (dr x3 n) q * (gr x2) q := by
  rw [val_main_v35_apply, r28, val_main_v34_apply, show idx_main_v34 (ix2 n q) = ix2 0 q from ix_eq _ _ rfl rfl]
  rfl

theorem r40 (n : Fin 16384) (q : Fin 1024) :
    val_main_v40 (F := Ideal) x0 x2 x3 (ix2 n q) = pf (zr x0 n) (dr x3 n) (gr x2) q := by
  rw [val_main_v40_apply, val_main_v39_apply, r35, show idx_main_v39 (ix2 n q) = ix2 n 0 from ix_eq _ _ rfl rfl, r18]
  rfl

theorem r46 (n : Fin 16384) :
    val_main_v46 (F := Ideal) x0 x2 x3 (ix2 n 0) = wf (zr x0 n) (dr x3 n) (gr x2) := by
  rw [val_main_v46_apply, val_main_v41_apply, val_main_v38_apply, val_main_v37_apply, val_main_v21_apply, val_main_v19_apply, val_main_v20_apply, val_main_v45_apply, r18, r17]
  have h : ∀ k : Fin 1024, val_main_v36 (F := Ideal) x0 x2 x3 (idx_main_v37 (idx_main_v38 (ix2 n 0)) k) = cf (zr x0 n) k * ((dr x3 n) k * (gr x2) k) := fun k => by
    rw [show idx_main_v37 (idx_main_v38 (ix2 n 0)) k = ix2 n k from ix_eq _ _ (by show n.val * 1 + 0 = n.val; omega) rfl, val_main_v36_apply, r15, r35]
    rfl
  rw [Finset.sum_congr rfl fun k _ => h k]
  rfl

theorem r49 (n : Fin 16384) (q : Fin 1024) :
    val_main_v49 (F := Ideal) x0 x2 x3 (ix2 n q) = tf (zr x0 n) (dr x3 n) (gr x2) q := by
  rw [val_main_v49_apply, val_main_v48_apply, val_main_v47_apply, val_main_v9_apply, val_main_v8_apply, r6]
  have h : ∀ k : Fin 1, val_main_v46 (F := Ideal) x0 x2 x3 (idx_main_v47 (idx_main_v48 (ix2 n q)) k) = wf (zr x0 n) (dr x3 n) (gr x2) := fun k => by
    rw [show idx_main_v47 (idx_main_v48 (ix2 n q)) k = ix2 n 0 from ix_eq _ _ rfl (by have := k.isLt; show k.val = 0; omega), r46]
  rw [Finset.sum_congr rfl fun k _ => h k]
  rfl

theorem r56 (n : Fin 16384) :
    val_main_v56 (F := Ideal) x0 x2 x3 (ix2 n 0) = mf (zr x0 n) (dr x3 n) (gr x2) := by
  rw [val_main_v56_apply, val_main_v54_apply, val_main_v44_apply, val_main_v52_apply, val_main_v43_apply, val_main_v51_apply, val_main_v55_apply]
  have h1 : ∀ k : Fin 1024, val_main_v42 (F := Ideal) x0 x2 x3 (idx_main_v43 (idx_main_v44 (ix2 n 0)) k) = -pf (zr x0 n) (dr x3 n) (gr x2) k := fun k => by
    rw [show idx_main_v43 (idx_main_v44 (ix2 n 0)) k = ix2 n k from ix_eq _ _ (by show n.val * 1 + 0 = n.val; omega) rfl, val_main_v42_apply, r40]
    rfl
  have h2 : ∀ k : Fin 1024, val_main_v50 (F := Ideal) x0 x2 x3 (idx_main_v51 (idx_main_v52 (ix2 n 0)) k) = -tf (zr x0 n) (dr x3 n) (gr x2) k := fun k => by
    rw [show idx_main_v51 (idx_main_v52 (ix2 n 0)) k = ix2 n k from ix_eq _ _ (by show n.val * 1 + 0 = n.val; omega) rfl, val_main_v50_apply, r49]
    rfl
  rw [Finset.sum_congr rfl fun k _ => h1 k, Finset.sum_congr rfl fun k _ => h2 k]
  rfl

theorem r59 (n : Fin 16384) (q : Fin 1024) :
    val_main_v59 (F := Ideal) x0 x2 x3 (ix2 n q) = zf (zr x0 n) (dr x3 n) (gr x2) q := by
  rw [val_main_v59_apply, val_main_v53_apply, val_main_v58_apply, val_main_v57_apply, r40, r49]
  have h : ∀ k : Fin 1, val_main_v56 (F := Ideal) x0 x2 x3 (idx_main_v57 (idx_main_v58 (ix2 n q)) k) = mf (zr x0 n) (dr x3 n) (gr x2) := fun k => by
    rw [show idx_main_v57 (idx_main_v58 (ix2 n q)) k = ix2 n 0 from ix_eq _ _ rfl (by have := k.isLt; show k.val = 0; omega), r56]
  rw [Finset.sum_congr rfl fun k _ => h k]
  rfl

/-! ## The two sums over the rows -/

theorem r30 (q : Fin 1024) : val_main_v30 (F := Ideal) x3 (ix2 0 q) = ∑ n : Fin 16384, x3 (ix2 n q) := by
  rw [val_main_v30_apply, val_main_v29_apply]
  show Ideal.ofBits .f32 0x00000000#32 + _ = _
  rw [Ideal.ofBits_zero_f32, zero_add]
  exact Finset.sum_congr rfl fun n _ => congrArg x3 (ix_eq _ _ rfl (by show 0 * 1024 + q.val = q.val; omega))

theorem r33 (q : Fin 1024) : val_main_v33 (F := Ideal) x0 x3 (ix2 0 q)
    = ∑ n : Fin 16384, x3 (ix2 n q) * val_main_v23 (F := Ideal) x0 (ix2 n q) := by
  rw [val_main_v33_apply, val_main_v32_apply]
  show Ideal.ofBits .f32 0x00000000#32 + _ = _
  rw [Ideal.ofBits_zero_f32, zero_add]
  refine Finset.sum_congr rfl fun n _ => ?_
  rw [show idx_main_v32 (idx_main_v33 (ix2 0 q)) n = ix2 n q from ix_eq _ _ rfl (by show 0 * 1024 + q.val = q.val; omega), val_main_v31_apply, r28]
  exact mul_comm (G := EReal) _ _

/-! ## Finite arguments -/

variable (h0 : ∀ i, Fin' (x0 i)) (h2 : ∀ i, Fin' (x2 i)) (h3 : ∀ i, Fin' (x3 i))

/-! ## The row's operands as the kernel takes them -/

abbrev kd (n : Fin 16384) : Fin 1024 → EReal := fun k => x3 (ix2 n k)
abbrev kh (n : Fin 16384) : Fin 1024 → EReal := fun k => val_main_v23 (F := Ideal) x0 (ix2 n k)
abbrev kr (n : Fin 16384) : EReal := val_main_v18 (F := Ideal) x0 (ix2 n 0)
abbrev kg : Fin 1024 → EReal := fun k => x2 (ix2 0 k)

include h0 h2 h3 in
theorem dz_all (n : Fin 16384) (q : Fin 1024) : val_main_v59 (F := Ideal) x0 x2 x3 (ix2 n q)
      = dzf (kd x3 n) (kh x0 n) (kr x0 n) (kg x2) q
    ∧ Fin' (dzf (kd x3 n) (kh x0 n) (kr x0 n) (kg x2) q) := by
  have hh : kh x0 n = fun k => cf (zr x0 n) k * rsf (zr x0 n) := funext fun k => r23 x0 n k
  have hr : kr x0 n = rsf (zr x0 n) := r18 x0 n
  rw [r59, hh, hr]
  exact zf_eq (zr x0 n) (dr x3 n) (gr x2) (fun k => h0 _) (fun k => h3 _) (fun k => h2 _) q

include h0 h2 h3 in
theorem r62 (n : Fin 16384) (q : Fin 1024) : val_main_v62 (F := Ideal) x0 x1 x2 x3 (ix2 n q)
    = ∑ k : Fin 1024, dzf (kd x3 n) (kh x0 n) (kr x0 n) (kg x2) k * x1 (ix2 q k) := by
  rw [val_main_v62_apply]
  refine Finset.sum_congr rfl fun k _ => ?_
  rw [show lidx_main_v62 (ix2 n q) k = ix2 n k from ix_eq _ _ rfl rfl, show ridx_main_v62 (ix2 n q) k = ix2 q k from ix_eq _ _ rfl rfl,
    (dz_all x0 x2 x3 h0 h2 h3 n k).1]

end Cert.BackOutRefIdeal.Closed

end
-- ==== Proof.BackOutClaim.lean ====
/-
  The backward of the normalisation and of the mixer's output projection: it ends, leaves its arguments unchanged, and its
  five results are the derivative of the forward lines.
-/
module

public import proofs.«01_k».proof.Defs
public import proofs.«01_k».proof.Proof.BackOutValue
public import proofs.«01_k».proof.Proof.BackOutRef
public import proofs.«01_k».proof.Proof.FfnClaim
public import proofs.«01_k».proof.Proof.Gen.BackOutRefIdeal.Run
public import proofs.«01_k».proof.Proof.Gen.BackOut.Frame
public import proofs.«01_k».proof.Proof.Gen.BackOutIdeal.Frame
public import proofs.«01_k».proof.Proof.Gen.Pre_finite_back_out

@[expose] public section

set_option maxRecDepth 16384

noncomputable section

namespace Cert.Proof.BackOutClaims

open Idealize.ShloMosaic Idealize.ShloMosaic.TcCoe Idealize.SL.Sem

theorem frame_k : Cert.quiescent_BackOut := fun m ρ _ => Cert.BackOut.Gen.frame m ρ
theorem frame_i : Cert.quiescent_BackOutIdeal := fun m ρ _ => Cert.BackOutIdeal.Gen.frame m ρ
theorem frame_ip : Cert.quiescent_BackOutIdeal_pre_finite_back_out := fun m ρ _ => Cert.BackOutIdeal.Gen.frame m ρ
theorem frame_r : Cert.quiescent_BackOutRefIdeal := fun m ρ _ =>
  (θ_run Cert.BackOutRefIdeal.defs _ _).mono (fun r h => ⟨fun c => (h c).2.2.2.2.2, Idealize.ShloMosaic.sem_eq_zero_of_no_sems (by decide) r.2⟩)
    (Cert.BackOutRefIdeal.Value.run (F := Ideal) m ρ)
theorem frame_rp : Cert.quiescent_BackOutRefIdeal_pre_finite_back_out := fun m ρ _ => frame_r m ρ trivial

section Results

open Cert.BackOutIdeal.Closed Cert.BackOutRefIdeal.Read Cert.BackOutRefIdeal.Closed
open Cert.KernelIdeal.Closed (Fin')
open Cert.ReferenceIdeal.Closed (ix_eq)
open Cert.Proof.FfnClaims (fin_one)

variable (m : (ℓ : Loc Cert.BackOutIdeal.nD Cert.BackOutIdeal.τ Cert.BackOutIdeal.sig) → Buf (Elt Ideal) ℓ) (c : Dev Cert.BackOutIdeal.nD)

/-- The rows, the scale and the incoming gradient are finite. -/
def RowsFin : Prop := (∀ i, Fin' (aZ m c i)) ∧ (∀ i, Fin' (aL m c i)) ∧ ∀ i, Fin' (aC m c i)

theorem rowsFin (h : Cert.Pre_BackOutIdeal_finite_back_out m) : RowsFin m c :=
  ⟨fun i => fin_one (congrFun (h c).1 i), fun i => fin_one (congrFun (h c).2.2.1 i), fun i => fin_one (congrFun (h c).2.2.2 i)⟩

variable (hf : RowsFin m c)

include hf in
theorem res0 : val_main_v59 (F := Ideal) (aZ m c) (aL m c) (aC m c) = G5 m c := by
  funext i
  obtain ⟨n, q, rfl⟩ : ∃ n q, i = ix2 n q := ⟨i 0, i 1, eq_ix2 i⟩
  exact (dz_all (aZ m c) (aL m c) (aC m c) hf.1 hf.2.1 hf.2.2 n q).1

include hf in
theorem res1 : val_main_v63 (F := Ideal) (aZ m c) (aL m c) (aC m c) = G6 m c := by
  refine Eq.trans (funext fun i => ?_) (res0 m c hf)
  rw [val_main_v63_apply]
  rfl

include hf in
theorem res2 : val_main_v64 (F := Ideal) (aZ m c) (aW m c) (aL m c) (aC m c) = G7 m c := by
  funext i
  obtain ⟨n, q, rfl⟩ : ∃ n q, i = ix2 n q := ⟨i 0, i 1, eq_ix2 i⟩
  rw [val_main_v64_apply]
  exact r62 (aZ m c) (aW m c) (aL m c) (aC m c) hf.1 hf.2.1 hf.2.2 n q

theorem res3 : val_main_v33 (F := Ideal) (aZ m c) (aC m c) = G8 m c := by
  funext i
  have hi : i = ix2 0 (i 1) := ix_eq _ _ (by have : (i 0).val < 1 := (i 0).isLt; show (i 0).val = 0; omega) rfl
  rw [hi]
  exact r33 (aZ m c) (aC m c) (i 1)

theorem res4 : val_main_v30 (F := Ideal) (aC m c) = G9 m c := by
  funext i
  have hi : i = ix2 0 (i 1) := ix_eq _ _ (by have : (i 0).val < 1 := (i 0).isLt; show (i 0).val = 0; omega) rfl
  rw [hi]
  exact r30 (aC m c) (i 1)

end Results

theorem algebraic : Cert.algebraic_BackOutIdeal_BackOutRefIdeal_pre_finite_back_out := by
  intro m ρ m' ρ' hpre hagree
  refine ⟨fun c => Cert.BackOutIdeal.Closed.G5 m c, fun c => Cert.BackOutIdeal.Closed.G6 m c, fun c => Cert.BackOutIdeal.Closed.G7 m c, fun c => Cert.BackOutIdeal.Closed.G8 m c, fun c => Cert.BackOutIdeal.Closed.G9 m c, Cert.BackOutIdeal.Closed.run m ρ, ?_⟩
  refine (θ_run Cert.BackOutRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.BackOutRefIdeal.Value.run (F := Ideal) m' ρ')
  · rw [Cert.BackOutRefIdeal.Read.val_main_v59_eq]
    show Cert.BackOutRefIdeal.Read.val_main_v59 (F := Ideal) (m' ((c.tc : Thread Cert.BackOutRefIdeal.nD Cert.BackOutRefIdeal.τ).loc Cert.BackOutRefIdeal.main_arg0)) (m' ((c.tc : Thread Cert.BackOutRefIdeal.nD Cert.BackOutRefIdeal.τ).loc Cert.BackOutRefIdeal.main_arg2)) (m' ((c.tc : Thread Cert.BackOutRefIdeal.nD Cert.BackOutRefIdeal.τ).loc Cert.BackOutRefIdeal.main_arg3)) = _
    rw [(hagree c).1, (hagree c).2.2.1, (hagree c).2.2.2]
    exact res0 m c (rowsFin m c hpre)
  · rw [Cert.BackOutRefIdeal.Read.val_main_v63_eq]
    show Cert.BackOutRefIdeal.Read.val_main_v63 (F := Ideal) (m' ((c.tc : Thread Cert.BackOutRefIdeal.nD Cert.BackOutRefIdeal.τ).loc Cert.BackOutRefIdeal.main_arg0)) (m' ((c.tc : Thread Cert.BackOutRefIdeal.nD Cert.BackOutRefIdeal.τ).loc Cert.BackOutRefIdeal.main_arg2)) (m' ((c.tc : Thread Cert.BackOutRefIdeal.nD Cert.BackOutRefIdeal.τ).loc Cert.BackOutRefIdeal.main_arg3)) = _
    rw [(hagree c).1, (hagree c).2.2.1, (hagree c).2.2.2]
    exact res1 m c (rowsFin m c hpre)
  · rw [Cert.BackOutRefIdeal.Read.val_main_v64_eq]
    show Cert.BackOutRefIdeal.Read.val_main_v64 (F := Ideal) (m' ((c.tc : Thread Cert.BackOutRefIdeal.nD Cert.BackOutRefIdeal.τ).loc Cert.BackOutRefIdeal.main_arg0)) (m' ((c.tc : Thread Cert.BackOutRefIdeal.nD Cert.BackOutRefIdeal.τ).loc Cert.BackOutRefIdeal.main_arg1)) (m' ((c.tc : Thread Cert.BackOutRefIdeal.nD Cert.BackOutRefIdeal.τ).loc Cert.BackOutRefIdeal.main_arg2)) (m' ((c.tc : Thread Cert.BackOutRefIdeal.nD Cert.BackOutRefIdeal.τ).loc Cert.BackOutRefIdeal.main_arg3)) = _
    rw [(hagree c).1, (hagree c).2.1, (hagree c).2.2.1, (hagree c).2.2.2]
    exact res2 m c (rowsFin m c hpre)
  · refine (Cert.BackOutRefIdeal.Read.val_main_v33_eq _ _).trans ?_
    show Cert.BackOutRefIdeal.Read.val_main_v33 (F := Ideal) (m' ((c.tc : Thread Cert.BackOutRefIdeal.nD Cert.BackOutRefIdeal.τ).loc Cert.BackOutRefIdeal.main_arg0)) (m' ((c.tc : Thread Cert.BackOutRefIdeal.nD Cert.BackOutRefIdeal.τ).loc Cert.BackOutRefIdeal.main_arg3)) = _
    rw [(hagree c).1, (hagree c).2.2.2]
    exact res3 m c
  · refine (Cert.BackOutRefIdeal.Read.val_main_v30_eq _).trans ?_
    exact (congrArg (fun x => Cert.BackOutRefIdeal.Read.val_main_v30 (F := Ideal) x) (hagree c).2.2.2).trans (res4 m c)

end Cert.Proof.BackOutClaims

end
-- ==== Proof.BackInClaim.lean ====
/-
  The gradient that goes back through the mixer's input projection, `(dproj) Wᵀ + α · dz`, computed 256 rows at a time:
  the kernel's result array at the extended reals, against that of the plain derivative.
-/
module

public import proofs.«01_k».proof.Defs
public import proofs.«01_k».proof.Proof.RowCore
public import proofs.«01_k».proof.Proof.Gen.BackIn.Frame
public import proofs.«01_k».proof.Proof.Gen.BackInIdeal.Value
public import proofs.«01_k».proof.Proof.Gen.BackInRefIdeal.Run
public import proofs.«01_k».proof.Proof.Gen.BackInRefIdeal.Read
public import Idealize.ShloMosaic.Lib.Pointwise.Contract
public import Idealize.ShloMosaic.Lib.Pointwise.Reshape
public import Idealize.ShloMosaic.Lib.Quiescent
public import Idealize.ShloMosaic.Lib.IdealHost

@[expose] public section

set_option maxRecDepth 16384

noncomputable section

namespace Cert.BackInIdeal.Closed

open Cert.BackInIdeal Cert.BackInIdeal.Gen Cert.BackInIdeal.Value Cert.Rows Idealize.ShloMosaic Idealize.ShloMosaic.TcCoe Idealize.SL.Sem
open Idealize.ShloMosaic.Pipeline (Dat)

/-- One element: a row of the product's gradient against the weight, and `α` times the residual's element. -/
def bf (P : Fin 2176 → EReal) (W : S2176x1024.Idx → EReal) (z : EReal) (q : Fin 1024) : EReal :=
  (∑ k : Fin 2176, P k * W (ix2 k q)) + Ideal.ofBits .f32 0x3FD744FD#32 * z

/-- Row `p` of the result of a block. -/
abbrev bb (x0 : Vec Ideal S1024x2176 .bf16) (x1 : Vec Ideal S2176x1024 .bf16) (x2 : Vec Ideal S1024x1024 .f32) (p q : Fin 1024) : EReal :=
  bf (fun k => x0 (ix2 p k)) x1 (x2 (ix2 p q)) q

/-- Row `r` of the result, from the arrays. -/
def brow (P : S16384x2176.Idx → EReal) (W : S1024x2176.Idx → EReal) (Z : S16384x1024.Idx → EReal) (r : Fin 16384) (q : Fin 1024) : EReal :=
  bf (fun k => P (ix2 r k)) (fun i => W (ix2 (i 1) (i 0))) (Z (ix2 r q)) q

theorem pay_apply (v0 : Vec Ideal S256x2176 .bf16) (v2 : Vec Ideal S2176x1024 .bf16) (v5 : Vec Ideal S256x1024 .f32) (y : S256x1024.Idx) :
    k0_pay1 (F := Ideal) v0 v2 v5 y = bf (fun k => v0 (ix2 (y 0) k)) v2 (v5 (ix2 (y 0) (y 1))) (y 1) := by
  unfold k0_pay1 bf
  simp only [shapeCast_self]
  pointwise

/-- The piece of 256 rows from row `o` on. -/
theorem piece (x0 : Vec Ideal S1024x2176 .bf16) (x1 : Vec Ideal S2176x1024 .bf16) (x2 : Vec Ideal S1024x1024 .f32) (o : Nat)
    (h0 : ∀ a, (![o, 0] : Fin 2 → Nat) a + S256x2176.size a ≤ S1024x2176.size a)
    (h2 : ∀ a, (![o, 0] : Fin 2 → Nat) a + S256x1024.size a ≤ S1024x1024.size a) (x : S256x1024.Idx) :
    k0_pay1 (View.ld x0 (Rect.unit (s := S1024x2176) ![o, 0] S256x2176.size h0)) (View.ld x1 r0_1) (View.ld x2 (Rect.unit (s := S1024x1024) ![o, 0] S256x1024.size h2)) x
      = (fun y : S1024x1024.Idx => bb x0 x1 x2 (y 0) (y 1)) ((Rect.unit (s := S1024x1024) ![o, 0] S256x1024.size h2).emb x) := by
  have e1 : View.ld x1 r0_1 = x1 := View.ld_unit_zero (S := S2176x1024) hz _ _
  have hx : (x 0).val < 256 := (x 0).isLt
  have ho : o + 256 ≤ 1024 := h0 0
  rw [pay_apply, e1, eq_ix2 x, emb_row o h2 (x 0) (x 1) ⟨o + (x 0).val, by omega⟩ rfl]
  have hr : o + (x 0).val < 1024 := by omega
  have a0 := fun k : Fin 2176 => ld_row x0 o h0 (x 0) k ⟨o + (x 0).val, hr⟩ rfl
  have a2 := ld_row x2 o h2 (x 0) (x 1) ⟨o + (x 0).val, hr⟩ rfl
  exact congrArg₂ (fun P z => bf P x1 z (x 1)) (funext a0) a2

theorem out3_apply (x0 : Vec Ideal S1024x2176 .bf16) (x1 : Vec Ideal S2176x1024 .bf16) (x2 : Vec Ideal S1024x1024 .f32) (y : S1024x1024.Idx) :
    out0_3 (F := Ideal) x0 x1 x2 y = bb x0 x1 x2 (y 0) (y 1) := by
  unfold out0_3
  refine View.canon_apply_of_pieces (Val := Elt Ideal) (fun y : S1024x1024.Idx => bb x0 x1 x2 (y 0) (y 1)) _ ?_ y (cover0_3 _ _ _ _ y)
  intro p hp
  simp only [List.mem_cons, List.mem_singleton, List.not_mem_nil, or_false] at hp
  rcases hp with rfl | rfl | rfl | rfl
  all_goals intro (x : S256x1024.Idx)
  · exact piece x0 x1 x2 768 inb_S1024x2176_S256x2176_768_0 inb_S1024x1024_S256x1024_768_0 x
  · exact piece x0 x1 x2 512 inb_S1024x2176_S256x2176_512_0 inb_S1024x1024_S256x1024_512_0 x
  · exact piece x0 x1 x2 256 inb_S1024x2176_S256x2176_256_0 inb_S1024x1024_S256x1024_256_0 x
  · exact piece x0 x1 x2 0 inb_S1024x2176_S256x2176_0_0 inb_S1024x1024_S256x1024_0_0 x

variable (m : (ℓ : Loc nD τ sig) → Buf (Elt Ideal) ℓ) (ρ : Dev nD → PrngReg)

theorem V_v0 (c : Dev nD) : V m c main_v0 = (m ((c : Thread nD τ).loc main_arg0) : S16384x2176.Idx → EReal) := by
  show StableHlo.after hostOps0 _ _ = _
  unfold hostOps0
  after_results
  rfl

theorem V_v2 (c : Dev nD) : V m c main_v2 = (fun i => (m ((c : Thread nD τ).loc main_arg1) : S1024x2176.Idx → EReal) (ix2 (i 1) (i 0)) : S2176x1024.Idx → EReal) := by
  show StableHlo.after hostOps0 _ _ = _
  unfold hostOps0
  after_results
  funext i
  exact transpose_apply (s := S1024x2176) [1, 0] (m ((c : Thread nD τ).loc main_arg1) : S1024x2176.Idx → EReal) transposes_S1024x2176_S2176x1024_1_0 i (ix2 (i 1) (i 0)) (fun b => match b with
    | ⟨0, _⟩ => rfl
    | ⟨1, _⟩ => rfl)

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx1 : ∀ t : Fin grid0.N, win0_1.index t 0 = 0 ∧ win0_1.index t 1 = 0 := by decide +kernel

theorem iblk0 (c : Dev nD) (t : Fin cfg0.N) (p : Fin 1024) (k : Fin 2176) (h : 1024 * t.val + p.val < 16384) :
    (iblk m c 0 t : Vec Ideal S1024x2176 .bf16) (ix2 p k) = (m ((c : Thread nD τ).loc main_arg0) : S16384x2176.Idx → EReal) (ix2 ⟨1024 * t.val + p.val, h⟩ k) := by
  have hi := idx0 t
  have hv := V_v0 m c
  rw [← hv]
  unfold iblk
  rw [View.read_apply]
  show V m c main_v0 _ = V m c main_v0 _
  congr 1
  funext a
  apply Fin.ext
  match a with
  | ⟨0, _⟩ => show win0_0.index t 0 * 1024 + 1 * p.val = 1024 * t.val + p.val; rw [hi.1]; omega
  | ⟨1, _⟩ => show win0_0.index t 1 * 2176 + 1 * k.val = k.val; rw [hi.2]; omega

theorem iblk2 (c : Dev nD) (t : Fin cfg0.N) (p : Fin 1024) (k : Fin 1024) (h : 1024 * t.val + p.val < 16384) :
    (iblk m c 2 t : Vec Ideal S1024x1024 .f32) (ix2 p k) = (m ((c : Thread nD τ).loc main_arg2) : S16384x1024.Idx → EReal) (ix2 ⟨1024 * t.val + p.val, h⟩ k) := by
  have hi := idx2 t
  have hv := V_main_arg2 m c
  rw [← hv]
  unfold iblk
  rw [View.read_apply]
  show V m c main_arg2 _ = V m c main_arg2 _
  congr 1
  funext a
  apply Fin.ext
  match a with
  | ⟨0, _⟩ => show win0_2.index t 0 * 1024 + 1 * p.val = 1024 * t.val + p.val; rw [hi.1]; omega
  | ⟨1, _⟩ => show win0_2.index t 1 * 1024 + 1 * k.val = k.val; rw [hi.2]; omega

theorem iblk1 (c : Dev nD) (t : Fin cfg0.N) :
    (iblk m c 1 t : Vec Ideal S2176x1024 .bf16) = (fun i => (m ((c : Thread nD τ).loc main_arg1) : S1024x2176.Idx → EReal) (ix2 (i 1) (i 0)) : S2176x1024.Idx → EReal) := by
  have hi := idx1 t
  have hv := V_v2 m c
  rw [← hv]
  unfold iblk
  funext y
  rw [View.read_apply]
  show V m c main_v2 _ = V m c main_v2 _
  congr 1
  funext a
  apply Fin.ext
  match a with
  | ⟨0, _⟩ => show win0_1.index t 0 * 2176 + 1 * (y 0).val = (y 0).val; rw [hi.1]; omega
  | ⟨1, _⟩ => show win0_1.index t 1 * 1024 + 1 * (y 1).val = (y 1).val; rw [hi.2]; omega

/-- The result: the gradient, element by element. -/
def G3 (c : Dev nD) : Buf (Elt Ideal) ((c : Thread nD τ).loc main_v3) := fun i : S16384x1024.Idx =>
  brow (m ((c : Thread nD τ).loc main_arg0)) (m ((c : Thread nD τ).loc main_arg1)) (m ((c : Thread nD τ).loc main_arg2)) (i 0) (i 1)

theorem b_eq (c : Dev nD) (t : Fin cfg0.N) (p q : Fin 1024) (h : 1024 * t.val + p.val < 16384) :
    bb (iblk m c 0 t) (iblk m c 1 t) (iblk m c 2 t) p q
      = brow (m ((c : Thread nD τ).loc main_arg0)) (m ((c : Thread nD τ).loc main_arg1)) (m ((c : Thread nD τ).loc main_arg2)) ⟨1024 * t.val + p.val, h⟩ q := by
  have e0 := funext fun k : Fin 2176 => iblk0 m c t p k h
  have e2 := iblk2 m c t p q h
  unfold bb brow
  rw [iblk1 m c t, e0, e2]

theorem flushed3_eq (c : Dev nD) (t : Fin cfg0.N) (hf : (cfg0.win 3).flush t = true) :
    (dats m 0 c).flushed 3 t = ((cfg0.win 3).blk t).view.read (Elt Ideal) (G3 m c) := by
  have hN : cfg0.N = 16 := N_0
  have hlt : t.val < 16 := hN ▸ t.isLt
  have hi := idx3 t
  rw [flushed3]
  funext (y : S1024x1024.Idx)
  have hy0 : (y 0).val < 1024 := (y 0).isLt
  have hr : 1024 * t.val + (y 0).val < 16384 := by omega
  rw [View.read_apply]
  show out0_3 _ _ _ y = _
  rw [out3_apply]
  refine (b_eq m c t (y 0) (y 1) hr).trans ?_
  unfold G3
  congr 1
  · apply Fin.ext
    show 1024 * t.val + (y 0).val = win0_3.index t 0 * 1024 + 1 * (y 0).val
    rw [hi.1]; omega
  · apply Fin.ext
    show (y 1).val = win0_3.index t 1 * 1024 + 1 * (y 1).val
    rw [hi.2]; omega

theorem final3 (c : Dev nD) : (dats m 0 c).arrAt 3 cfg0.N = G3 m c :=
  (dats m 0 c).arrAt_eq_of_cover 3 (G3 m c) (flushed3_eq m c) fun (i : S16384x1024.Idx) => by
    have h0 : (i 0 : Nat) < 16384 := (i 0).isLt
    have h1 : (i 1 : Nat) < 1024 := (i 1).isLt
    have hN : cfg0.N = 16 := N_0
    obtain ⟨t, ht⟩ : ∃ t : Fin cfg0.N, t.val = (i 0).val / 1024 := ⟨⟨(i 0).val / 1024, by omega⟩, rfl⟩
    have hi := idx3 t
    refine ⟨t, flush0_3 t, ?_⟩
    show i ∈ ((View.whole main_v3).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hi.1]; omega
    | ⟨1, _⟩ => show win0_3.index t 1 * 1024 ≤ (i 1 : Nat) ∧ (i 1 : Nat) < win0_3.index t 1 * 1024 + 1024
                rw [hi.2]; omega

/-- The run, read: the result array in closed form, the arguments unchanged. -/
theorem run : θ_run defs (onTc (τ := τ) (main (F := Ideal))) ⟨m, fun _ => 0, ρ⟩ fun r => ∀ c : Dev nD,
      r.2.mem ((c : Thread nD τ).loc main_v3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.BackInIdeal.Closed

namespace Cert.Proof.BackInClaims

open Idealize.ShloMosaic Idealize.ShloMosaic.TcCoe Idealize.SL.Sem

theorem frame_k : Cert.quiescent_BackIn := fun m ρ _ => Cert.BackIn.Gen.frame m ρ
theorem frame_i : Cert.quiescent_BackInIdeal := fun m ρ _ => Cert.BackInIdeal.Gen.frame m ρ
theorem frame_r : Cert.quiescent_BackInRefIdeal := fun m ρ _ =>
  (θ_run Cert.BackInRefIdeal.defs _ _).mono (fun r h => ⟨fun c => (h c).2, Idealize.ShloMosaic.sem_eq_zero_of_no_sems (by decide) r.2⟩)
    (Cert.BackInRefIdeal.Value.run (F := Ideal) m ρ)

open Cert.BackInRefIdeal Cert.BackInRefIdeal.Read Cert.BackInIdeal.Closed in
/-- The derivative, element by element. -/
theorem ref_v7 (x0 : S16384x2176.Idx → EReal) (x1 : S1024x2176.Idx → EReal) (x2 : S16384x1024.Idx → EReal) (i : S16384x1024.Idx) :
    val_main_v7 (F := Ideal) x0 x1 x2 i = brow x0 x1 x2 (i 0) (i 1) := by
  rw [val_main_v7_apply, val_main_v4_apply, val_main_v6_apply, val_main_v5_apply, val_main_cst_1_apply]
  refine congrArg₂ (· + ·) (Finset.sum_congr rfl fun k _ => congrArg₂ (· * ·) (congrArg x0 ?_) (congrArg x1 ?_)) (congrArg (_ * ·) (congrArg x2 ?_)) <;>
  · funext a
    match a with
    | ⟨0, _⟩ => rfl
    | ⟨1, _⟩ => rfl

theorem algebraic : Cert.algebraic_BackInIdeal_BackInRefIdeal := by
  intro m ρ m' ρ' _ hagree
  refine ⟨fun c => Cert.BackInIdeal.Closed.G3 m c, Cert.BackInIdeal.Closed.run m ρ, ?_⟩
  refine (θ_run Cert.BackInRefIdeal.defs _ _).mono (fun _ h c => ⟨(h c).1.trans ?_, (h c).2⟩) (Cert.BackInRefIdeal.Value.run (F := Ideal) m' ρ')
  rw [Cert.BackInRefIdeal.Read.val_main_v7_eq, (hagree c).1, (hagree c).2.1, (hagree c).2.2]
  exact funext fun i => ref_v7 _ _ _ i

end Cert.Proof.BackInClaims

end
-- ==== Proof.TnCore.lean ====
/-
  The product of a transposed array of 16384 rows with another, its rows summed 2048 at a time; a load after one store of the whole block.
-/
module

public import Idealize.ShloMosaic.Lib.Pipeline.Value
public import Idealize.ShloMosaic.Lib.Pointwise.Tactic

@[expose] public section

set_option maxRecDepth 16384

noncomputable section

namespace Cert.Tn

open Idealize.ShloMosaic Idealize.SL.Sem

/-- The product `Aᵀ B` at row `r` and column `l`. -/
def prod {n : Nat} (A : (⟨2, ![16384, n]⟩ : Shape).Idx → EReal) (B : (⟨2, ![16384, 1024]⟩ : Shape).Idx → EReal) (r : Fin n) (l : Fin 1024) : EReal :=
  ∑ k : Fin 16384, A (ix2 k r) * B (ix2 k l)

/-- Its term of row `k`, for any natural number `k`. -/
def term {n : Nat} (A : (⟨2, ![16384, n]⟩ : Shape).Idx → EReal) (B : (⟨2, ![16384, 1024]⟩ : Shape).Idx → EReal) (r : Fin n) (l : Fin 1024) (k : ℕ) : EReal :=
  if h : k < 16384 then A (ix2 ⟨k, h⟩ r) * B (ix2 ⟨k, h⟩ l) else 0

theorem sum_term {n : Nat} (A : (⟨2, ![16384, n]⟩ : Shape).Idx → EReal) (B : (⟨2, ![16384, 1024]⟩ : Shape).Idx → EReal) (r : Fin n) (l : Fin 1024) :
    ∑ k ∈ Finset.range 16384, term A B r l k = prod A B r l := by
  rw [Finset.sum_range]
  exact Finset.sum_congr rfl fun k _ => by rw [term, dif_pos k.isLt]

/-- The products one tile adds are the next 2048 terms of the whole sum. -/
theorem tile {n : Nat} (A : (⟨2, ![16384, n]⟩ : Shape).Idx → EReal) (B : (⟨2, ![16384, 1024]⟩ : Shape).Idx → EReal) (r : Fin n) (l : Fin 1024)
    (j : ℕ) (hj : j < 8) (a b : Fin 2048 → EReal) (ha : ∀ k, ∀ h, a k = A (ix2 ⟨2048 * j + k.val, h⟩ r)) (hb : ∀ k, ∀ h, b k = B (ix2 ⟨2048 * j + k.val, h⟩ l)) :
    ∑ k : Fin 2048, a k * b k = ∑ k ∈ Finset.range 2048, term A B r l (2048 * j + k) := by
  rw [Finset.sum_range]
  refine Finset.sum_congr rfl fun k _ => ?_
  have h0 : 2048 * j + k.val < 16384 := by have := k.isLt; omega
  rw [ha k h0, hb k h0, term, dif_pos h0]

/-- A sum that starts with the first tile and takes up a tile a step holds, after step `n`, all terms met so far. -/
theorem running (N : ℕ) (f : (n : ℕ) → n < N → EReal) (T : ℕ → EReal) (h0 : ∀ h, f 0 h = ∑ k ∈ Finset.range 2048, T (2048 * 0 + k))
    (hs : ∀ n h, f (n + 1) h = f n (Nat.lt_of_succ_lt h) + ∑ k ∈ Finset.range 2048, T (2048 * (n + 1) + k)) :
    ∀ (n : ℕ) (h : n < N), f n h = ∑ k ∈ Finset.range (2048 * (n + 1)), T k := by
  intro n
  induction n with
  | zero => intro h; rw [h0]; simp
  | succ n ih => intro h; rw [hs, ih, show 2048 * (n + 1 + 1) = 2048 * (n + 1) + 2048 from by omega, Finset.sum_range_add]

/-- A load of a part of a block, after one store of all of it, reads that part of what was stored. -/
theorem cov_ld {sig : RefSig} {S : Shape} {e : EltTy} (v : View sig .tc .vmem S e) (P : View.Piece (Elt Ideal) S e) (Y : Vec Ideal S e)
    (hc : View.canon [P] = Y) (hm : ∀ y, y ∈ P.1.set) (R : Rect S) :
    v.readCov (Val := Elt Ideal) [P] R.toLoadRect = View.ld Y R := by
  rw [View.readCov_eq_canon_ld v [P] R (fun y => ⟨P, List.mem_singleton.mpr rfl, hm y⟩), hc]

end Cert.Tn

end
-- ==== Proof.WgradInClaim.lean ====
/-
  The weight gradient of the mixer's input projection, accumulated over eight tiles of 2048 rows, and the same rounded in eight groups of rows:
  the kernel's two result arrays at the extended reals, against those of the derivative of the plain product.
-/
module

public import proofs.«01_k».proof.Defs
public import proofs.«01_k».proof.Proof.RowCore
public import proofs.«01_k».proof.Proof.TnCore
public import proofs.«01_k».proof.Proof.Gen.WgradIn.Frame
public import proofs.«01_k».proof.Proof.Gen.WgradInIdeal.Value
public import proofs.«01_k».proof.Proof.Gen.WgradInRefIdeal.Run
public import proofs.«01_k».proof.Proof.Gen.WgradInRefIdeal.Read
public import Idealize.ShloMosaic.Lib.Pointwise.Contract
public import Idealize.ShloMosaic.Lib.Quiescent

@[expose] public section

set_option maxRecDepth 16384

noncomputable section

namespace Cert.WgradInIdeal.Closed

open Cert.WgradInIdeal Cert.WgradInIdeal.Gen Cert.WgradInIdeal.Value Cert.Rows Idealize.ShloMosaic Idealize.ShloMosaic.TcCoe Idealize.SL.Sem
open Idealize.ShloMosaic.Pipeline (Dat)

section Cases
variable {F : FTy → Type} [FloatOps F]

/-- The first tile: the block is zeroed, then the tile's product is added. -/
theorem out_A (c : Dev nD) (i : grid0.Coords) (a2 : Memref sig .tc .vmem S2048x2176 .bf16) (h2 : a2.IsWhole)
    (a3 : Memref sig .tc .vmem S2048x1024 .bf16) (h3 : a3.IsWhole) (a5 : Memref sig .tc .vmem S2176x1024 .f32) (h5 : a5.IsWhole)
    (a6 : Memref sig .tc .vmem S8x272x1024 .bf16) (h6 : a6.IsWhole) (hc0 : cond0_0 i) (hc1 : ¬cond0_1 i)
    (x0 : Vec F S2048x2176 .bf16) (x1 : Vec F S2048x1024 .bf16) :
    out0_A_2 c i a2 h2 a3 h3 a5 h5 a6 h6 hc0 hc1 x0 x1 = k0_pay2 k0_pay1 x0 x1 := by
  unfold out0_A_2
  rw [View.read_writes_eq_canon _ _ _ (cover0_A_2 c i a2 h2 a3 h3 a5 h5 a6 h6 hc0 hc1 x0 x1)]
  unfold kernelRun0_A
  dsimp only
  sl_unfold_words
  rw [View.canon_cons_unit_zero (S := S2176x1024) hz, View.readCov_unit_zero (S := S2176x1024) _ hz]
  simp only [View.readAt_eq_ld, h2.read_unread, h3.read_unread, h5.read_unread, View.ld_unit_zero (S := S2048x2176) hz,
    View.ld_unit_zero (S := S2048x1024) hz, View.ld_unit_zero (S := S2176x1024) hz]

/-- A middle tile: the tile's product is added to what the block held. -/
theorem out_B (c : Dev nD) (i : grid0.Coords) (a2 : Memref sig .tc .vmem S2048x2176 .bf16) (h2 : a2.IsWhole)
    (a3 : Memref sig .tc .vmem S2048x1024 .bf16) (h3 : a3.IsWhole) (a5 : Memref sig .tc .vmem S2176x1024 .f32) (h5 : a5.IsWhole)
    (a6 : Memref sig .tc .vmem S8x272x1024 .bf16) (h6 : a6.IsWhole) (hc0 : ¬cond0_0 i) (hc1 : ¬cond0_1 i)
    (x0 : Vec F S2048x2176 .bf16) (x1 : Vec F S2048x1024 .bf16) (xo : Vec F S2176x1024 .f32) :
    out0_B_2 c i a2 h2 a3 h3 a5 h5 a6 h6 hc0 hc1 x0 x1 xo = k0_pay2 xo x0 x1 := by
  unfold out0_B_2
  rw [View.read_writes_eq_canon _ _ _ (cover0_B_2 c i a2 h2 a3 h3 a5 h5 a6 h6 hc0 hc1 x0 x1 xo)]
  unfold kernelRun0_B
  dsimp only
  sl_unfold_words
  rw [View.canon_cons_unit_zero (S := S2176x1024) hz]
  simp only [View.readAt_eq_ld, h2.read_unread, h3.read_unread, h5.read_unread, View.ld_unit_zero (S := S2048x2176) hz,
    View.ld_unit_zero (S := S2048x1024) hz, View.ld_unit_zero (S := S2176x1024) hz]

/-- The last tile: as a middle one. -/
theorem out_C (c : Dev nD) (i : grid0.Coords) (a2 : Memref sig .tc .vmem S2048x2176 .bf16) (h2 : a2.IsWhole)
    (a3 : Memref sig .tc .vmem S2048x1024 .bf16) (h3 : a3.IsWhole) (a5 : Memref sig .tc .vmem S2176x1024 .f32) (h5 : a5.IsWhole)
    (a6 : Memref sig .tc .vmem S8x272x1024 .bf16) (h6 : a6.IsWhole) (hc0 : ¬cond0_0 i) (hc1 : cond0_1 i)
    (x0 : Vec F S2048x2176 .bf16) (x1 : Vec F S2048x1024 .bf16) (xo : Vec F S2176x1024 .f32) :
    out0_C_2 c i a2 h2 a3 h3 a5 h5 a6 h6 hc0 hc1 x0 x1 xo = k0_pay2 xo x0 x1 := by
  unfold out0_C_2
  rw [View.read_writes_eq_canon _ _ _ (cover0_C_2 c i a2 h2 a3 h3 a5 h5 a6 h6 hc0 hc1 x0 x1 xo)]
  unfold kernelRun0_C
  dsimp only
  sl_unfold_words
  rw [View.canon_cons_unit_zero (S := S2176x1024) hz]
  simp only [View.readAt_eq_ld, h2.read_unread, h3.read_unread, h5.read_unread, View.ld_unit_zero (S := S2048x2176) hz,
    View.ld_unit_zero (S := S2048x1024) hz, View.ld_unit_zero (S := S2176x1024) hz]

end Cases

/-- Row `p` of group `q`, of eight groups of 272 rows. -/
abbrev row8 (y : S8x272x1024.Idx) : S2176x1024.Idx :=
  ix2 ⟨272 * (y 0).val + (y 1).val, by have h0 : (y 0).val < 8 := (y 0).isLt; have h1 : (y 1).val < 272 := (y 1).isLt; omega⟩ (y 2)

theorem pay3_apply (Y : Vec Ideal S272x1024 .f32) (x : S1x272x1024.Idx) : k0_pay3 (F := Ideal) Y x = Y (ix2 (x 1) (x 2)) := by
  unfold k0_pay3
  simp only [shapeCast_self]
  rw [shapeCast_addUnit_apply]
  pointwise
  exact congrArg Y (funext fun a => match a with
    | ⟨0, _⟩ => rfl
    | ⟨1, _⟩ => rfl)

/-- Group `q`: the rows from `272 q` on, rounded. -/
theorem group (Y : Vec Ideal S2176x1024 .f32) (q : Nat) (h : ∀ a, (![272 * q, 0] : Fin 2 → Nat) a + S272x1024.size a ≤ S2176x1024.size a)
    (h' : ∀ a, (![q, 0, 0] : Fin 3 → Nat) a + S1x272x1024.size a ≤ S8x272x1024.size a) (x : S1x272x1024.Idx) :
    k0_pay3 (F := Ideal) (View.ld Y (Rect.unit (s := S2176x1024) ![272 * q, 0] S272x1024.size h)) x
      = (fun y : S8x272x1024.Idx => Y (row8 y)) ((Rect.unit (s := S8x272x1024) ![q, 0, 0] S1x272x1024.size h').emb x) := by
  rw [pay3_apply]
  refine congrArg Y (funext fun a => Fin.ext ?_)
  have h0 : (x 0).val < 1 := (x 0).isLt
  match a with
  | ⟨0, _⟩ => show 272 * q + 1 * (x 1).val = 272 * (q + 1 * (x 0).val) + (0 + 1 * (x 1).val); omega
  | ⟨1, _⟩ => show 0 + 1 * (x 2).val = 0 + 1 * (x 2).val; rfl

set_option maxHeartbeats 1000000 in
/-- The last tile also rounds the finished block into its eight groups of 272 rows. -/
theorem out_C3 (c : Dev nD) (i : grid0.Coords) (a2 : Memref sig .tc .vmem S2048x2176 .bf16) (h2 : a2.IsWhole)
    (a3 : Memref sig .tc .vmem S2048x1024 .bf16) (h3 : a3.IsWhole) (a5 : Memref sig .tc .vmem S2176x1024 .f32) (h5 : a5.IsWhole)
    (a6 : Memref sig .tc .vmem S8x272x1024 .bf16) (h6 : a6.IsWhole) (hc0 : ¬cond0_0 i) (hc1 : cond0_1 i)
    (x0 : Vec Ideal S2048x2176 .bf16) (x1 : Vec Ideal S2048x1024 .bf16) (xo : Vec Ideal S2176x1024 .f32) (y : S8x272x1024.Idx) :
    out0_C_3 c i a2 h2 a3 h3 a5 h5 a6 h6 hc0 hc1 x0 x1 xo y = k0_pay2 (F := Ideal) xo x0 x1 (row8 y) := by
  unfold out0_C_3
  rw [View.read_writes_eq_canon _ _ _ (cover0_C_3 c i a2 h2 a3 h3 a5 h5 a6 h6 hc0 hc1 x0 x1 xo)]
  refine View.canon_apply_of_pieces (fun y => k0_pay2 (F := Ideal) xo x0 x1 (row8 y)) _ ?_ y
    (cover0_C_3 c i a2 h2 a3 h3 a5 h5 a6 h6 hc0 hc1 x0 x1 xo y)
  unfold kernelRun0_C
  dsimp only
  sl_unfold_words
  simp only [View.readAt_eq_ld, h2.read_unread, h3.read_unread, h5.read_unread, View.ld_unit_zero (S := S2048x2176) hz,
    View.ld_unit_zero (S := S2048x1024) hz, View.ld_unit_zero (S := S2176x1024) hz]
  intro p hp
  simp only [List.mem_cons, List.mem_singleton, List.not_mem_nil, or_false] at hp
  rcases hp with rfl | rfl | rfl | rfl | rfl | rfl | rfl | rfl
  all_goals
    intro (x : S1x272x1024.Idx)
    dsimp only
    rw [Cert.Tn.cov_ld _ _ _ (View.canon_unit_zero (S := S2176x1024) hz inb_S2176x1024_S2176x1024_0_0 _) (View.mem_set_unit_zero (S := S2176x1024) hz inb_S2176x1024_S2176x1024_0_0)]
    generalize k0_pay2 (F := Ideal) xo x0 x1 = Y
  · exact group Y 7 inb_S2176x1024_S272x1024_1904_0 inb_S8x272x1024_S1x272x1024_7_0_0 x
  · exact group Y 6 inb_S2176x1024_S272x1024_1632_0 inb_S8x272x1024_S1x272x1024_6_0_0 x
  · exact group Y 5 inb_S2176x1024_S272x1024_1360_0 inb_S8x272x1024_S1x272x1024_5_0_0 x
  · exact group Y 4 inb_S2176x1024_S272x1024_1088_0 inb_S8x272x1024_S1x272x1024_4_0_0 x
  · exact group Y 3 inb_S2176x1024_S272x1024_816_0 inb_S8x272x1024_S1x272x1024_3_0_0 x
  · exact group Y 2 inb_S2176x1024_S272x1024_544_0 inb_S8x272x1024_S1x272x1024_2_0_0 x
  · exact group Y 1 inb_S2176x1024_S272x1024_272_0 inb_S8x272x1024_S1x272x1024_1_0_0 x
  · exact group Y 0 inb_S2176x1024_S272x1024_0_0 inb_S8x272x1024_S1x272x1024_0_0_0 x

theorem pay1_apply (y : S2176x1024.Idx) : k0_pay1 (F := Ideal) y = 0 := by
  unfold k0_pay1; pointwise

theorem pay2_apply (a : Vec Ideal S2176x1024 .f32) (x0 : Vec Ideal S2048x2176 .bf16) (x1 : Vec Ideal S2048x1024 .bf16) (y : S2176x1024.Idx) :
    k0_pay2 (F := Ideal) a x0 x1 y = a y + ∑ k : Fin 2048, x0 (ix2 k (y 0)) * x1 (ix2 k (y 1)) := by
  unfold k0_pay2
  simp only [shapeCast_self]
  pointwise

variable (m : (ℓ : Loc nD τ sig) → Buf (Elt Ideal) ℓ) (ρ : Dev nD → PrngReg)

theorem V_v0 (c : Dev nD) : V m c main_v0 = (m ((c : Thread nD τ).loc main_arg1) : S16384x2176.Idx → EReal) := by
  show StableHlo.after hostOps0 _ _ = _
  unfold hostOps0
  after_results
  rfl

theorem V_v1 (c : Dev nD) : V m c main_v1 = (m ((c : Thread nD τ).loc main_arg0) : S16384x1024.Idx → EReal) := by
  show StableHlo.after hostOps0 _ _ = _
  unfold hostOps0
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 ∧ win0_3.index t 2 = 0 := by decide +kernel

theorem iblk0 (c : Dev nD) (t : Fin cfg0.N) (p : Fin 2048) (k : Fin 2176) (h : 2048 * t.val + p.val < 16384) :
    (iblk m c 0 t : Vec Ideal S2048x2176 .bf16) (ix2 p k) = (m ((c : Thread nD τ).loc main_arg1) : S16384x2176.Idx → EReal) (ix2 ⟨2048 * t.val + p.val, h⟩ k) := by
  have hi := idx0 t
  have hv := V_v0 m c
  rw [← hv]
  unfold iblk
  rw [View.read_apply]
  show V m c main_v0 _ = V m c main_v0 _
  congr 1
  funext a
  apply Fin.ext
  match a with
  | ⟨0, _⟩ => show win0_0.index t 0 * 2048 + 1 * p.val = 2048 * t.val + p.val; rw [hi.1]; omega
  | ⟨1, _⟩ => show win0_0.index t 1 * 2176 + 1 * k.val = k.val; rw [hi.2]; omega

theorem iblk1 (c : Dev nD) (t : Fin cfg0.N) (p : Fin 2048) (k : Fin 1024) (h : 2048 * t.val + p.val < 16384) :
    (iblk m c 1 t : Vec Ideal S2048x1024 .bf16) (ix2 p k) = (m ((c : Thread nD τ).loc main_arg0) : S16384x1024.Idx → EReal) (ix2 ⟨2048 * t.val + p.val, h⟩ k) := by
  have hi := idx1 t
  have hv := V_v1 m c
  rw [← hv]
  unfold iblk
  rw [View.read_apply]
  show V m c main_v1 _ = V m c main_v1 _
  congr 1
  funext a
  apply Fin.ext
  match a with
  | ⟨0, _⟩ => show win0_1.index t 0 * 2048 + 1 * p.val = 2048 * t.val + p.val; rw [hi.1]; omega
  | ⟨1, _⟩ => show win0_1.index t 1 * 1024 + 1 * k.val = k.val; rw [hi.2]; omega

/-- The product at row `r` and column `l`, from the arguments. -/
abbrev res (c : Dev nD) (r : Fin 2176) (l : Fin 1024) : EReal :=
  Cert.Tn.prod (n := 2176) (m ((c : Thread nD τ).loc main_arg1)) (m ((c : Thread nD τ).loc main_arg0)) r l

theorem tile_sum (c : Dev nD) (t : Fin cfg0.N) (p : Fin 2176) (l : Fin 1024) (a : Vec Ideal S2048x2176 .bf16) (b : Vec Ideal S2048x1024 .bf16)
    (ha : a = iblk m c 0 t) (hb : b = iblk m c 1 t) :
    ∑ k : Fin 2048, a (ix2 k p) * b (ix2 k l)
      = ∑ k ∈ Finset.range 2048, Cert.Tn.term (n := 2176) (m ((c : Thread nD τ).loc main_arg1)) (m ((c : Thread nD τ).loc main_arg0)) p l (2048 * t.val + k) := by
  subst ha hb
  exact Cert.Tn.tile _ _ p l t.val (N_0 ▸ t.isLt) _ _ (fun k h => iblk0 m c t k p h) (fun k h => iblk1 m c t k l h)

theorem step_A (c : Dev nD) (h : 0 < cfg0.N) (p : Fin 2176) (l : Fin 1024) :
    (outsAt0 m c 0 h).1 (ix2 p l)
      = ∑ k ∈ Finset.range 2048, Cert.Tn.term (n := 2176) (m ((c : Thread nD τ).loc main_arg1)) (m ((c : Thread nD τ).loc main_arg0)) p l (2048 * 0 + k) := by
  rw [outsAt0_A m c ⟨0, h⟩ rfl (by dsimp only; omega)]
  dsimp only
  rw [out_A, pay2_apply, pay1_apply, zero_add]
  exact tile_sum m c ⟨0, h⟩ p l _ _ rfl rfl

theorem step_B (c : Dev nD) (n : ℕ) (h : n + 1 < cfg0.N) (p : Fin 2176) (l : Fin 1024) :
    (outsAt0 m c (n + 1) h).1 (ix2 p l) = (outsAt0 m c n (Nat.lt_of_succ_lt h)).1 (ix2 p l)
      + ∑ k ∈ Finset.range 2048, Cert.Tn.term (n := 2176) (m ((c : Thread nD τ).loc main_arg1)) (m ((c : Thread nD τ).loc main_arg0)) p l (2048 * (n + 1) + k) := by
  have hN : cfg0.N = 8 := N_0
  have h0 : ¬(n + 1) % 8 = 0 := by omega
  by_cases h7 : (n + 1) % 8 = 7
  · rw [outsAt0_C m c ⟨n + 1, h⟩ h0 h7]
    dsimp only
    rw [out_C, pay2_apply]
    exact congrArg _ (tile_sum m c ⟨n + 1, h⟩ p l _ _ rfl rfl)
  · rw [outsAt0_B m c ⟨n + 1, h⟩ h0 h7]
    dsimp only
    rw [out_B, pay2_apply]
    exact congrArg _ (tile_sum m c ⟨n + 1, h⟩ p l _ _ rfl rfl)

/-- After the last tile, the output block holds the whole product. -/
theorem last_eq (c : Dev nD) (t : Fin cfg0.N) (h7 : t.val % 8 = 7) (p : Fin 2176) (l : Fin 1024) :
    (outsAt0 m c t.val t.isLt).1 (ix2 p l) = res m c p l := by
  have hN : cfg0.N = 8 := N_0
  have ht : t.val = 7 := by have := t.isLt; omega
  refine (Cert.Tn.running cfg0.N (fun n h => (outsAt0 m c n h).1 (ix2 p l)) _ (fun h => step_A m c h p l) (fun n h => step_B m c n h p l) t.val t.isLt).trans ?_
  rw [ht]
  exact Cert.Tn.sum_term _ _ p l

/-- The last tile's groups are the finished block of the same point, rounded. -/
theorem outs3_eq (c : Dev nD) (t : Fin cfg0.N) (h7 : t.val % 8 = 7) (y : S8x272x1024.Idx) :
    (outsAt0 m c t.val t.isLt).2 y = (outsAt0 m c t.val t.isLt).1 (row8 y) := by
  rw [outsAt0_C m c t (by omega) h7]
  dsimp only
  rw [out_C3, out_C]

/-- The first result. -/
def G2 (c : Dev nD) : Buf (Elt Ideal) ((c : Thread nD τ).loc main_v2_0) := fun i : S2176x1024.Idx => res m c (i 0) (i 1)

/-- The second: the first, rounded, in eight groups of rows. -/
def G3 (c : Dev nD) : Buf (Elt Ideal) ((c : Thread nD τ).loc main_v2_1) := fun i : S8x272x1024.Idx => res m c (row8 i 0) (row8 i 1)

theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hi := idx2 t
  rw [flushed2]
  funext (y : S2176x1024.Idx)
  rw [View.read_apply]
  show (outsAt0 m c t.val t.isLt).1 y = _
  rw [eq_ix2 y]
  refine (last_eq m c t h7 (y 0) (y 1)).trans ?_
  unfold G2
  congr 1
  · apply Fin.ext
    show (y 0).val = win0_2.index t 0 * 2176 + 1 * (y 0).val
    rw [hi.1]; omega
  · apply Fin.ext
    show (y 1).val = win0_2.index t 1 * 1024 + 1 * (y 1).val
    rw [hi.2]; omega

theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hi := idx3 t
  rw [flushed3]
  funext (y : S8x272x1024.Idx)
  rw [View.read_apply]
  show (outsAt0 m c t.val t.isLt).2 y = _
  refine (outs3_eq m c t h7 y).trans ((last_eq m c t h7 _ _).trans ?_)
  unfold G3
  congr 1
  · apply Fin.ext
    show 272 * (y 0).val + (y 1).val = 272 * (win0_3.index t 0 * 8 + 1 * (y 0).val) + (win0_3.index t 1 * 272 + 1 * (y 1).val)
    rw [hi.1, hi.2.1]; omega
  · apply Fin.ext
    show (y 2).val = win0_3.index t 2 * 1024 + 1 * (y 2).val
    rw [hi.2.2]; omega

theorem final2 (c : Dev nD) : (dats m 0 c).arrAt 2 cfg0.N = G2 m c :=
  (dats m 0 c).arrAt_eq_of_cover 2 (G2 m c) (flushed2_eq m c) fun (i : S2176x1024.Idx) => by
    have h0 : (i 0 : Nat) < 2176 := (i 0).isLt
    have h1 : (i 1 : Nat) < 1024 := (i 1).isLt
    have hN : cfg0.N = 8 := N_0
    obtain ⟨t, ht⟩ : ∃ t : Fin cfg0.N, t.val = 7 := ⟨⟨7, by omega⟩, rfl⟩
    have hi := idx2 t
    refine ⟨t, (flush0_2 t).mpr (by omega), ?_⟩
    show i ∈ ((View.whole main_v2_0).slice (win0_2.rect t)).set
    rw [View.set_slice_whole, Rect.mem_set_unit]
    intro a
    match a with
    | ⟨0, _⟩ => show win0_2.index t 0 * 2176 ≤ (i 0 : Nat) ∧ (i 0 : Nat) < win0_2.index t 0 * 2176 + 2176
                rw [hi.1]; omega
    | ⟨1, _⟩ => show win0_2.index t 1 * 1024 ≤ (i 1 : Nat) ∧ (i 1 : Nat) < win0_2.index t 1 * 1024 + 1024
                rw [hi.2]; omega

theorem final3 (c : Dev nD) : (dats m 0 c).arrAt 3 cfg0.N = G3 m c :=
  (dats m 0 c).arrAt_eq_of_cover 3 (G3 m c) (flushed3_eq m c) fun (i : S8x272x1024.Idx) => by
    have h0 : (i 0 : Nat) < 8 := (i 0).isLt
    have h1 : (i 1 : Nat) < 272 := (i 1).isLt
    have h2 : (i 2 : Nat) < 1024 := (i 2).isLt
    have hN : cfg0.N = 8 := N_0
    obtain ⟨t, ht⟩ : ∃ t : Fin cfg0.N, t.val = 7 := ⟨⟨7, by omega⟩, rfl⟩
    have hi := idx3 t
    refine ⟨t, (flush0_3 t).mpr (by omega), ?_⟩
    show i ∈ ((View.whole main_v2_1).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8
                rw [hi.1]; omega
    | ⟨1, _⟩ => show win0_3.index t 1 * 272 ≤ (i 1 : Nat) ∧ (i 1 : Nat) < win0_3.index t 1 * 272 + 272
                rw [hi.2.1]; omega
    | ⟨2, _⟩ => show win0_3.index t 2 * 1024 ≤ (i 2 : Nat) ∧ (i 2 : Nat) < win0_3.index t 2 * 1024 + 1024
                rw [hi.2.2]; omega

/-- The run, read: both result arrays in closed form, the arguments unchanged. -/
theorem run : θ_run defs (onTc (τ := τ) (main (F := Ideal))) ⟨m, fun _ => 0, ρ⟩ fun r => ∀ c : Dev nD,
      r.2.mem ((c : Thread nD τ).loc main_v2_0) = G2 m c
      ∧ r.2.mem ((c : Thread nD τ).loc main_v2_1) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨a, b, d⟩ := h c
    exact ⟨a.trans (final2 m c), b.trans (final3 m c), d⟩) (run_blocks m ρ)

end Cert.WgradInIdeal.Closed

namespace Cert.Proof.WgradInClaims

open Idealize.ShloMosaic Idealize.ShloMosaic.TcCoe Idealize.SL.Sem

theorem frame_k : Cert.quiescent_WgradIn := fun m ρ _ => Cert.WgradIn.Gen.frame m ρ
theorem frame_i : Cert.quiescent_WgradInIdeal := fun m ρ _ => Cert.WgradInIdeal.Gen.frame m ρ
theorem frame_r : Cert.quiescent_WgradInRefIdeal := fun m ρ _ =>
  (θ_run Cert.WgradInRefIdeal.defs _ _).mono (fun r h => ⟨fun c => (h c).2.2, Idealize.ShloMosaic.sem_eq_zero_of_no_sems (by decide) r.2⟩)
    (Cert.WgradInRefIdeal.Value.run (F := Ideal) m ρ)

section Ref
open Cert.WgradInRefIdeal Cert.WgradInRefIdeal.Read Cert.WgradInIdeal.Closed

/-- The derivative's array, transposed back, is the sum over all rows of the products. -/
theorem ref_v (x0 : S16384x1024.Idx → EReal) (x1 : S16384x2176.Idx → EReal) (i : S2176x1024.Idx) :
    val_main_v4 (F := Ideal) x0 x1 i = Cert.Tn.prod (n := 2176) x1 x0 (i 0) (i 1) := by
  rw [val_main_v4_apply, val_main_v3_apply, val_main_v2_apply]
  refine Finset.sum_congr rfl fun k _ => congrArg₂ (· * ·) (congrArg x1 ?_) (congrArg x0 ?_) <;>
  · funext a
    match a with
    | ⟨0, _⟩ => rfl
    | ⟨1, _⟩ => rfl

theorem ref_g (x0 : S16384x1024.Idx → EReal) (x1 : S16384x2176.Idx → EReal) (i : S8x272x1024.Idx) :
    val_main_v6 (F := Ideal) x0 x1 i = Cert.Tn.prod (n := 2176) x1 x0 (row8 i 0) (row8 i 1) := by
  rw [val_main_v6_apply]
  show val_main_v5 (F := Ideal) x0 x1 i = _
  rw [val_main_v5_apply, ref_v]
  have h2 : (i 2).val < 1024 := (i 2).isLt
  congr 1
  · apply Fin.ext
    show (((i 0).val * 272 + (i 1).val) * 1024 + (i 2).val) / 1024 = 272 * (i 0).val + (i 1).val
    omega
  · apply Fin.ext
    show (((i 0).val * 272 + (i 1).val) * 1024 + (i 2).val) % 1024 = (i 2).val
    omega
end Ref

theorem algebraic : Cert.algebraic_WgradInIdeal_WgradInRefIdeal := by
  intro m ρ m' ρ' _ hagree
  refine ⟨fun c => Cert.WgradInIdeal.Closed.G2 m c, fun c => Cert.WgradInIdeal.Closed.G3 m c, Cert.WgradInIdeal.Closed.run m ρ, ?_⟩
  refine (θ_run Cert.WgradInRefIdeal.defs _ _).mono (fun _ h c => ⟨(h c).1.trans ?_, (h c).2.1.trans ?_, (h c).2.2⟩)
    (Cert.WgradInRefIdeal.Value.run (F := Ideal) m' ρ')
  · rw [Cert.WgradInRefIdeal.Read.val_main_v4_eq, (hagree c).1, (hagree c).2.1]
    exact funext fun i => ref_v _ _ i
  · rw [Cert.WgradInRefIdeal.Read.val_main_v6_eq, (hagree c).1, (hagree c).2.1]
    exact funext fun i => ref_g _ _ i

end Cert.Proof.WgradInClaims

end
-- ==== Proof.WgradOutClaim.lean ====
/-
  The weight gradient of the mixer's output projection, accumulated over eight tiles of 2048 rows, and the same rounded in eight groups of rows:
  the kernel's two result arrays at the extended reals, against those of the derivative of the plain product.
-/
module

public import proofs.«01_k».proof.Defs
public import proofs.«01_k».proof.Proof.RowCore
public import proofs.«01_k».proof.Proof.TnCore
public import proofs.«01_k».proof.Proof.Gen.WgradOut.Frame
public import proofs.«01_k».proof.Proof.Gen.WgradOutIdeal.Value
public import proofs.«01_k».proof.Proof.Gen.WgradOutRefIdeal.Run
public import proofs.«01_k».proof.Proof.Gen.WgradOutRefIdeal.Read
public import Idealize.ShloMosaic.Lib.Pointwise.Contract
public import Idealize.ShloMosaic.Lib.Quiescent

@[expose] public section

set_option maxRecDepth 16384

noncomputable section

namespace Cert.WgradOutIdeal.Closed

open Cert.WgradOutIdeal Cert.WgradOutIdeal.Gen Cert.WgradOutIdeal.Value Cert.Rows Idealize.ShloMosaic Idealize.ShloMosaic.TcCoe Idealize.SL.Sem
open Idealize.ShloMosaic.Pipeline (Dat)

section Cases
variable {F : FTy → Type} [FloatOps F]

/-- The first tile: the block is zeroed, then the tile's product is added. -/
theorem out_A (c : Dev nD) (i : grid0.Coords) (a2 : Memref sig .tc .vmem S2048x1024 .bf16) (h2 : a2.IsWhole)
    (a3 : Memref sig .tc .vmem S2048x1024 .bf16) (h3 : a3.IsWhole) (a5 : Memref sig .tc .vmem S1024x1024 .f32) (h5 : a5.IsWhole)
    (a6 : Memref sig .tc .vmem S8x128x1024 .bf16) (h6 : a6.IsWhole) (hc0 : cond0_0 i) (hc1 : ¬cond0_1 i)
    (x0 : Vec F S2048x1024 .bf16) (x1 : Vec F S2048x1024 .bf16) :
    out0_A_2 c i a2 h2 a3 h3 a5 h5 a6 h6 hc0 hc1 x0 x1 = k0_pay2 k0_pay1 x0 x1 := by
  unfold out0_A_2
  rw [View.read_writes_eq_canon _ _ _ (cover0_A_2 c i a2 h2 a3 h3 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, h5.read_unread, View.ld_unit_zero (S := S2048x1024) hz,
    View.ld_unit_zero (S := S2048x1024) hz, View.ld_unit_zero (S := S1024x1024) hz]

/-- A middle tile: the tile's product is added to what the block held. -/
theorem out_B (c : Dev nD) (i : grid0.Coords) (a2 : Memref sig .tc .vmem S2048x1024 .bf16) (h2 : a2.IsWhole)
    (a3 : Memref sig .tc .vmem S2048x1024 .bf16) (h3 : a3.IsWhole) (a5 : Memref sig .tc .vmem S1024x1024 .f32) (h5 : a5.IsWhole)
    (a6 : Memref sig .tc .vmem S8x128x1024 .bf16) (h6 : a6.IsWhole) (hc0 : ¬cond0_0 i) (hc1 : ¬cond0_1 i)
    (x0 : Vec F S2048x1024 .bf16) (x1 : Vec F S2048x1024 .bf16) (xo : Vec F S1024x1024 .f32) :
    out0_B_2 c i a2 h2 a3 h3 a5 h5 a6 h6 hc0 hc1 x0 x1 xo = k0_pay2 xo x0 x1 := by
  unfold out0_B_2
  rw [View.read_writes_eq_canon _ _ _ (cover0_B_2 c i a2 h2 a3 h3 a5 h5 a6 h6 hc0 hc1 x0 x1 xo)]
  unfold kernelRun0_B
  dsimp only
  sl_unfold_words
  rw [View.canon_cons_unit_zero (S := S1024x1024) hz]
  simp only [View.readAt_eq_ld, h2.read_unread, h3.read_unread, h5.read_unread, View.ld_unit_zero (S := S2048x1024) hz,
    View.ld_unit_zero (S := S2048x1024) hz, View.ld_unit_zero (S := S1024x1024) hz]

/-- The last tile: as a middle one. -/
theorem out_C (c : Dev nD) (i : grid0.Coords) (a2 : Memref sig .tc .vmem S2048x1024 .bf16) (h2 : a2.IsWhole)
    (a3 : Memref sig .tc .vmem S2048x1024 .bf16) (h3 : a3.IsWhole) (a5 : Memref sig .tc .vmem S1024x1024 .f32) (h5 : a5.IsWhole)
    (a6 : Memref sig .tc .vmem S8x128x1024 .bf16) (h6 : a6.IsWhole) (hc0 : ¬cond0_0 i) (hc1 : cond0_1 i)
    (x0 : Vec F S2048x1024 .bf16) (x1 : Vec F S2048x1024 .bf16) (xo : Vec F S1024x1024 .f32) :
    out0_C_2 c i a2 h2 a3 h3 a5 h5 a6 h6 hc0 hc1 x0 x1 xo = k0_pay2 xo x0 x1 := by
  unfold out0_C_2
  rw [View.read_writes_eq_canon _ _ _ (cover0_C_2 c i a2 h2 a3 h3 a5 h5 a6 h6 hc0 hc1 x0 x1 xo)]
  unfold kernelRun0_C
  dsimp only
  sl_unfold_words
  rw [View.canon_cons_unit_zero (S := S1024x1024) hz]
  simp only [View.readAt_eq_ld, h2.read_unread, h3.read_unread, h5.read_unread, View.ld_unit_zero (S := S2048x1024) hz,
    View.ld_unit_zero (S := S2048x1024) hz, View.ld_unit_zero (S := S1024x1024) hz]

end Cases

/-- Row `p` of group `q`, of eight groups of 128 rows. -/
abbrev row8 (y : S8x128x1024.Idx) : S1024x1024.Idx :=
  ix2 ⟨128 * (y 0).val + (y 1).val, by have h0 : (y 0).val < 8 := (y 0).isLt; have h1 : (y 1).val < 128 := (y 1).isLt; omega⟩ (y 2)

theorem pay3_apply (Y : Vec Ideal S128x1024 .f32) (x : S1x128x1024.Idx) : k0_pay3 (F := Ideal) Y x = Y (ix2 (x 1) (x 2)) := by
  unfold k0_pay3
  simp only [shapeCast_self]
  rw [shapeCast_addUnit_apply]
  pointwise
  exact congrArg Y (funext fun a => match a with
    | ⟨0, _⟩ => rfl
    | ⟨1, _⟩ => rfl)

/-- Group `q`: the rows from `128 q` on, rounded. -/
theorem group (Y : Vec Ideal S1024x1024 .f32) (q : Nat) (h : ∀ a, (![128 * q, 0] : Fin 2 → Nat) a + S128x1024.size a ≤ S1024x1024.size a)
    (h' : ∀ a, (![q, 0, 0] : Fin 3 → Nat) a + S1x128x1024.size a ≤ S8x128x1024.size a) (x : S1x128x1024.Idx) :
    k0_pay3 (F := Ideal) (View.ld Y (Rect.unit (s := S1024x1024) ![128 * q, 0] S128x1024.size h)) x
      = (fun y : S8x128x1024.Idx => Y (row8 y)) ((Rect.unit (s := S8x128x1024) ![q, 0, 0] S1x128x1024.size h').emb x) := by
  rw [pay3_apply]
  refine congrArg Y (funext fun a => Fin.ext ?_)
  have h0 : (x 0).val < 1 := (x 0).isLt
  match a with
  | ⟨0, _⟩ => show 128 * q + 1 * (x 1).val = 128 * (q + 1 * (x 0).val) + (0 + 1 * (x 1).val); omega
  | ⟨1, _⟩ => show 0 + 1 * (x 2).val = 0 + 1 * (x 2).val; rfl

set_option maxHeartbeats 1000000 in
/-- The last tile also rounds the finished block into its eight groups of 128 rows. -/
theorem out_C3 (c : Dev nD) (i : grid0.Coords) (a2 : Memref sig .tc .vmem S2048x1024 .bf16) (h2 : a2.IsWhole)
    (a3 : Memref sig .tc .vmem S2048x1024 .bf16) (h3 : a3.IsWhole) (a5 : Memref sig .tc .vmem S1024x1024 .f32) (h5 : a5.IsWhole)
    (a6 : Memref sig .tc .vmem S8x128x1024 .bf16) (h6 : a6.IsWhole) (hc0 : ¬cond0_0 i) (hc1 : cond0_1 i)
    (x0 : Vec Ideal S2048x1024 .bf16) (x1 : Vec Ideal S2048x1024 .bf16) (xo : Vec Ideal S1024x1024 .f32) (y : S8x128x1024.Idx) :
    out0_C_3 c i a2 h2 a3 h3 a5 h5 a6 h6 hc0 hc1 x0 x1 xo y = k0_pay2 (F := Ideal) xo x0 x1 (row8 y) := by
  unfold out0_C_3
  rw [View.read_writes_eq_canon _ _ _ (cover0_C_3 c i a2 h2 a3 h3 a5 h5 a6 h6 hc0 hc1 x0 x1 xo)]
  refine View.canon_apply_of_pieces (fun y => k0_pay2 (F := Ideal) xo x0 x1 (row8 y)) _ ?_ y
    (cover0_C_3 c i a2 h2 a3 h3 a5 h5 a6 h6 hc0 hc1 x0 x1 xo y)
  unfold kernelRun0_C
  dsimp only
  sl_unfold_words
  simp only [View.readAt_eq_ld, h2.read_unread, h3.read_unread, h5.read_unread, View.ld_unit_zero (S := S2048x1024) hz,
    View.ld_unit_zero (S := S2048x1024) hz, View.ld_unit_zero (S := S1024x1024) hz]
  intro p hp
  simp only [List.mem_cons, List.mem_singleton, List.not_mem_nil, or_false] at hp
  rcases hp with rfl | rfl | rfl | rfl | rfl | rfl | rfl | rfl
  all_goals
    intro (x : S1x128x1024.Idx)
    dsimp only
    rw [Cert.Tn.cov_ld _ _ _ (View.canon_unit_zero (S := S1024x1024) hz inb_S1024x1024_S1024x1024_0_0 _) (View.mem_set_unit_zero (S := S1024x1024) hz inb_S1024x1024_S1024x1024_0_0)]
    generalize k0_pay2 (F := Ideal) xo x0 x1 = Y
  · exact group Y 7 inb_S1024x1024_S128x1024_896_0 inb_S8x128x1024_S1x128x1024_7_0_0 x
  · exact group Y 6 inb_S1024x1024_S128x1024_768_0 inb_S8x128x1024_S1x128x1024_6_0_0 x
  · exact group Y 5 inb_S1024x1024_S128x1024_640_0 inb_S8x128x1024_S1x128x1024_5_0_0 x
  · exact group Y 4 inb_S1024x1024_S128x1024_512_0 inb_S8x128x1024_S1x128x1024_4_0_0 x
  · exact group Y 3 inb_S1024x1024_S128x1024_384_0 inb_S8x128x1024_S1x128x1024_3_0_0 x
  · exact group Y 2 inb_S1024x1024_S128x1024_256_0 inb_S8x128x1024_S1x128x1024_2_0_0 x
  · exact group Y 1 inb_S1024x1024_S128x1024_128_0 inb_S8x128x1024_S1x128x1024_1_0_0 x
  · exact group Y 0 inb_S1024x1024_S128x1024_0_0 inb_S8x128x1024_S1x128x1024_0_0_0 x

theorem pay1_apply (y : S1024x1024.Idx) : k0_pay1 (F := Ideal) y = 0 := by
  unfold k0_pay1; pointwise

theorem pay2_apply (a : Vec Ideal S1024x1024 .f32) (x0 : Vec Ideal S2048x1024 .bf16) (x1 : Vec Ideal S2048x1024 .bf16) (y : S1024x1024.Idx) :
    k0_pay2 (F := Ideal) a x0 x1 y = a y + ∑ k : Fin 2048, x0 (ix2 k (y 0)) * x1 (ix2 k (y 1)) := by
  unfold k0_pay2
  simp only [shapeCast_self]
  pointwise

variable (m : (ℓ : Loc nD τ sig) → Buf (Elt Ideal) ℓ) (ρ : Dev nD → PrngReg)

theorem V_v0 (c : Dev nD) : V m c main_v0 = (m ((c : Thread nD τ).loc main_arg0) : S16384x1024.Idx → EReal) := by
  show StableHlo.after hostOps0 _ _ = _
  unfold hostOps0
  after_results
  rfl

theorem V_v1 (c : Dev nD) : V m c main_v1 = (m ((c : Thread nD τ).loc main_arg1) : S16384x1024.Idx → EReal) := by
  show StableHlo.after hostOps0 _ _ = _
  unfold hostOps0
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 ∧ win0_3.index t 2 = 0 := by decide +kernel

theorem iblk0 (c : Dev nD) (t : Fin cfg0.N) (p : Fin 2048) (k : Fin 1024) (h : 2048 * t.val + p.val < 16384) :
    (iblk m c 0 t : Vec Ideal S2048x1024 .bf16) (ix2 p k) = (m ((c : Thread nD τ).loc main_arg0) : S16384x1024.Idx → EReal) (ix2 ⟨2048 * t.val + p.val, h⟩ k) := by
  have hi := idx0 t
  have hv := V_v0 m c
  rw [← hv]
  unfold iblk
  rw [View.read_apply]
  show V m c main_v0 _ = V m c main_v0 _
  congr 1
  funext a
  apply Fin.ext
  match a with
  | ⟨0, _⟩ => show win0_0.index t 0 * 2048 + 1 * p.val = 2048 * t.val + p.val; rw [hi.1]; omega
  | ⟨1, _⟩ => show win0_0.index t 1 * 1024 + 1 * k.val = k.val; rw [hi.2]; omega

theorem iblk1 (c : Dev nD) (t : Fin cfg0.N) (p : Fin 2048) (k : Fin 1024) (h : 2048 * t.val + p.val < 16384) :
    (iblk m c 1 t : Vec Ideal S2048x1024 .bf16) (ix2 p k) = (m ((c : Thread nD τ).loc main_arg1) : S16384x1024.Idx → EReal) (ix2 ⟨2048 * t.val + p.val, h⟩ k) := by
  have hi := idx1 t
  have hv := V_v1 m c
  rw [← hv]
  unfold iblk
  rw [View.read_apply]
  show V m c main_v1 _ = V m c main_v1 _
  congr 1
  funext a
  apply Fin.ext
  match a with
  | ⟨0, _⟩ => show win0_1.index t 0 * 2048 + 1 * p.val = 2048 * t.val + p.val; rw [hi.1]; omega
  | ⟨1, _⟩ => show win0_1.index t 1 * 1024 + 1 * k.val = k.val; rw [hi.2]; omega

/-- The product at row `r` and column `l`, from the arguments. -/
abbrev res (c : Dev nD) (r : Fin 1024) (l : Fin 1024) : EReal :=
  Cert.Tn.prod (n := 1024) (m ((c : Thread nD τ).loc main_arg0)) (m ((c : Thread nD τ).loc main_arg1)) r l

theorem tile_sum (c : Dev nD) (t : Fin cfg0.N) (p : Fin 1024) (l : Fin 1024) (a : Vec Ideal S2048x1024 .bf16) (b : Vec Ideal S2048x1024 .bf16)
    (ha : a = iblk m c 0 t) (hb : b = iblk m c 1 t) :
    ∑ k : Fin 2048, a (ix2 k p) * b (ix2 k l)
      = ∑ k ∈ Finset.range 2048, Cert.Tn.term (n := 1024) (m ((c : Thread nD τ).loc main_arg0)) (m ((c : Thread nD τ).loc main_arg1)) p l (2048 * t.val + k) := by
  subst ha hb
  exact Cert.Tn.tile _ _ p l t.val (N_0 ▸ t.isLt) _ _ (fun k h => iblk0 m c t k p h) (fun k h => iblk1 m c t k l h)

theorem step_A (c : Dev nD) (h : 0 < cfg0.N) (p : Fin 1024) (l : Fin 1024) :
    (outsAt0 m c 0 h).1 (ix2 p l)
      = ∑ k ∈ Finset.range 2048, Cert.Tn.term (n := 1024) (m ((c : Thread nD τ).loc main_arg0)) (m ((c : Thread nD τ).loc main_arg1)) p l (2048 * 0 + k) := by
  rw [outsAt0_A m c ⟨0, h⟩ rfl (by dsimp only; omega)]
  dsimp only
  rw [out_A, pay2_apply, pay1_apply, zero_add]
  exact tile_sum m c ⟨0, h⟩ p l _ _ rfl rfl

theorem step_B (c : Dev nD) (n : ℕ) (h : n + 1 < cfg0.N) (p : Fin 1024) (l : Fin 1024) :
    (outsAt0 m c (n + 1) h).1 (ix2 p l) = (outsAt0 m c n (Nat.lt_of_succ_lt h)).1 (ix2 p l)
      + ∑ k ∈ Finset.range 2048, Cert.Tn.term (n := 1024) (m ((c : Thread nD τ).loc main_arg0)) (m ((c : Thread nD τ).loc main_arg1)) p l (2048 * (n + 1) + k) := by
  have hN : cfg0.N = 8 := N_0
  have h0 : ¬(n + 1) % 8 = 0 := by omega
  by_cases h7 : (n + 1) % 8 = 7
  · rw [outsAt0_C m c ⟨n + 1, h⟩ h0 h7]
    dsimp only
    rw [out_C, pay2_apply]
    exact congrArg _ (tile_sum m c ⟨n + 1, h⟩ p l _ _ rfl rfl)
  · rw [outsAt0_B m c ⟨n + 1, h⟩ h0 h7]
    dsimp only
    rw [out_B, pay2_apply]
    exact congrArg _ (tile_sum m c ⟨n + 1, h⟩ p l _ _ rfl rfl)

/-- After the last tile, the output block holds the whole product. -/
theorem last_eq (c : Dev nD) (t : Fin cfg0.N) (h7 : t.val % 8 = 7) (p : Fin 1024) (l : Fin 1024) :
    (outsAt0 m c t.val t.isLt).1 (ix2 p l) = res m c p l := by
  have hN : cfg0.N = 8 := N_0
  have ht : t.val = 7 := by have := t.isLt; omega
  refine (Cert.Tn.running cfg0.N (fun n h => (outsAt0 m c n h).1 (ix2 p l)) _ (fun h => step_A m c h p l) (fun n h => step_B m c n h p l) t.val t.isLt).trans ?_
  rw [ht]
  exact Cert.Tn.sum_term _ _ p l

/-- The last tile's groups are the finished block of the same point, rounded. -/
theorem outs3_eq (c : Dev nD) (t : Fin cfg0.N) (h7 : t.val % 8 = 7) (y : S8x128x1024.Idx) :
    (outsAt0 m c t.val t.isLt).2 y = (outsAt0 m c t.val t.isLt).1 (row8 y) := by
  rw [outsAt0_C m c t (by omega) h7]
  dsimp only
  rw [out_C3, out_C]

/-- The first result. -/
def G2 (c : Dev nD) : Buf (Elt Ideal) ((c : Thread nD τ).loc main_v2_0) := fun i : S1024x1024.Idx => res m c (i 0) (i 1)

/-- The second: the first, rounded, in eight groups of rows. -/
def G3 (c : Dev nD) : Buf (Elt Ideal) ((c : Thread nD τ).loc main_v2_1) := fun i : S8x128x1024.Idx => res m c (row8 i 0) (row8 i 1)

theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hi := idx2 t
  rw [flushed2]
  funext (y : S1024x1024.Idx)
  rw [View.read_apply]
  show (outsAt0 m c t.val t.isLt).1 y = _
  rw [eq_ix2 y]
  refine (last_eq m c t h7 (y 0) (y 1)).trans ?_
  unfold G2
  congr 1
  · apply Fin.ext
    show (y 0).val = win0_2.index t 0 * 1024 + 1 * (y 0).val
    rw [hi.1]; omega
  · apply Fin.ext
    show (y 1).val = win0_2.index t 1 * 1024 + 1 * (y 1).val
    rw [hi.2]; omega

theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hi := idx3 t
  rw [flushed3]
  funext (y : S8x128x1024.Idx)
  rw [View.read_apply]
  show (outsAt0 m c t.val t.isLt).2 y = _
  refine (outs3_eq m c t h7 y).trans ((last_eq m c t h7 _ _).trans ?_)
  unfold G3
  congr 1
  · apply Fin.ext
    show 128 * (y 0).val + (y 1).val = 128 * (win0_3.index t 0 * 8 + 1 * (y 0).val) + (win0_3.index t 1 * 128 + 1 * (y 1).val)
    rw [hi.1, hi.2.1]; omega
  · apply Fin.ext
    show (y 2).val = win0_3.index t 2 * 1024 + 1 * (y 2).val
    rw [hi.2.2]; omega

theorem final2 (c : Dev nD) : (dats m 0 c).arrAt 2 cfg0.N = G2 m c :=
  (dats m 0 c).arrAt_eq_of_cover 2 (G2 m c) (flushed2_eq m c) fun (i : S1024x1024.Idx) => by
    have h0 : (i 0 : Nat) < 1024 := (i 0).isLt
    have h1 : (i 1 : Nat) < 1024 := (i 1).isLt
    have hN : cfg0.N = 8 := N_0
    obtain ⟨t, ht⟩ : ∃ t : Fin cfg0.N, t.val = 7 := ⟨⟨7, by omega⟩, rfl⟩
    have hi := idx2 t
    refine ⟨t, (flush0_2 t).mpr (by omega), ?_⟩
    show i ∈ ((View.whole main_v2_0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; omega
    | ⟨1, _⟩ => show win0_2.index t 1 * 1024 ≤ (i 1 : Nat) ∧ (i 1 : Nat) < win0_2.index t 1 * 1024 + 1024
                rw [hi.2]; omega

theorem final3 (c : Dev nD) : (dats m 0 c).arrAt 3 cfg0.N = G3 m c :=
  (dats m 0 c).arrAt_eq_of_cover 3 (G3 m c) (flushed3_eq m c) fun (i : S8x128x1024.Idx) => by
    have h0 : (i 0 : Nat) < 8 := (i 0).isLt
    have h1 : (i 1 : Nat) < 128 := (i 1).isLt
    have h2 : (i 2 : Nat) < 1024 := (i 2).isLt
    have hN : cfg0.N = 8 := N_0
    obtain ⟨t, ht⟩ : ∃ t : Fin cfg0.N, t.val = 7 := ⟨⟨7, by omega⟩, rfl⟩
    have hi := idx3 t
    refine ⟨t, (flush0_3 t).mpr (by omega), ?_⟩
    show i ∈ ((View.whole main_v2_1).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8
                rw [hi.1]; omega
    | ⟨1, _⟩ => show win0_3.index t 1 * 128 ≤ (i 1 : Nat) ∧ (i 1 : Nat) < win0_3.index t 1 * 128 + 128
                rw [hi.2.1]; omega
    | ⟨2, _⟩ => show win0_3.index t 2 * 1024 ≤ (i 2 : Nat) ∧ (i 2 : Nat) < win0_3.index t 2 * 1024 + 1024
                rw [hi.2.2]; omega

/-- The run, read: both result arrays in closed form, the arguments unchanged. -/
theorem run : θ_run defs (onTc (τ := τ) (main (F := Ideal))) ⟨m, fun _ => 0, ρ⟩ fun r => ∀ c : Dev nD,
      r.2.mem ((c : Thread nD τ).loc main_v2_0) = G2 m c
      ∧ r.2.mem ((c : Thread nD τ).loc main_v2_1) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨a, b, d⟩ := h c
    exact ⟨a.trans (final2 m c), b.trans (final3 m c), d⟩) (run_blocks m ρ)

end Cert.WgradOutIdeal.Closed

namespace Cert.Proof.WgradOutClaims

open Idealize.ShloMosaic Idealize.ShloMosaic.TcCoe Idealize.SL.Sem

theorem frame_k : Cert.quiescent_WgradOut := fun m ρ _ => Cert.WgradOut.Gen.frame m ρ
theorem frame_i : Cert.quiescent_WgradOutIdeal := fun m ρ _ => Cert.WgradOutIdeal.Gen.frame m ρ
theorem frame_r : Cert.quiescent_WgradOutRefIdeal := fun m ρ _ =>
  (θ_run Cert.WgradOutRefIdeal.defs _ _).mono (fun r h => ⟨fun c => (h c).2.2, Idealize.ShloMosaic.sem_eq_zero_of_no_sems (by decide) r.2⟩)
    (Cert.WgradOutRefIdeal.Value.run (F := Ideal) m ρ)

section Ref
open Cert.WgradOutRefIdeal Cert.WgradOutRefIdeal.Read Cert.WgradOutIdeal.Closed

/-- The derivative's array is the sum over all rows of the products. -/
theorem ref_v (x0 : S16384x1024.Idx → EReal) (x1 : S16384x1024.Idx → EReal) (i : S1024x1024.Idx) :
    val_main_v3 (F := Ideal) x0 x1 i = Cert.Tn.prod (n := 1024) x0 x1 (i 0) (i 1) := by
  rw [val_main_v3_apply, val_main_v2_apply]
  refine Finset.sum_congr rfl fun k _ => (mul_comm _ _).trans (congrArg₂ (· * ·) (congrArg x0 ?_) (congrArg x1 ?_)) <;>
  · funext a
    match a with
    | ⟨0, _⟩ => rfl
    | ⟨1, _⟩ => rfl

theorem ref_g (x0 : S16384x1024.Idx → EReal) (x1 : S16384x1024.Idx → EReal) (i : S8x128x1024.Idx) :
    val_main_v5 (F := Ideal) x0 x1 i = Cert.Tn.prod (n := 1024) x0 x1 (row8 i 0) (row8 i 1) := by
  rw [val_main_v5_apply]
  show val_main_v4 (F := Ideal) x0 x1 i = _
  rw [val_main_v4_apply, ref_v]
  have h2 : (i 2).val < 1024 := (i 2).isLt
  congr 1
  · apply Fin.ext
    show (((i 0).val * 128 + (i 1).val) * 1024 + (i 2).val) / 1024 = 128 * (i 0).val + (i 1).val
    omega
  · apply Fin.ext
    show (((i 0).val * 128 + (i 1).val) * 1024 + (i 2).val) % 1024 = (i 2).val
    omega
end Ref

theorem algebraic : Cert.algebraic_WgradOutIdeal_WgradOutRefIdeal := by
  intro m ρ m' ρ' _ hagree
  refine ⟨fun c => Cert.WgradOutIdeal.Closed.G2 m c, fun c => Cert.WgradOutIdeal.Closed.G3 m c, Cert.WgradOutIdeal.Closed.run m ρ, ?_⟩
  refine (θ_run Cert.WgradOutRefIdeal.defs _ _).mono (fun _ h c => ⟨(h c).1.trans ?_, (h c).2.1.trans ?_, (h c).2.2⟩)
    (Cert.WgradOutRefIdeal.Value.run (F := Ideal) m' ρ')
  · rw [Cert.WgradOutRefIdeal.Read.val_main_v3_eq, (hagree c).1, (hagree c).2.1]
    exact funext fun i => ref_v _ _ i
  · rw [Cert.WgradOutRefIdeal.Read.val_main_v5_eq, (hagree c).1, (hagree c).2.1]
    exact funext fun i => ref_g _ _ i

end Cert.Proof.WgradOutClaims

end
-- ==== Proof.AdamCore.lean ====
/-
  One element of the optimiser's step: the new moments and the weight's change as functions of the weight, its gradient
  and the old moments.
-/
module

public import Idealize.ShloMosaic.Lib.Pointwise.Tactic
public import Idealize.ShloMosaic.Lib.Pointwise.Reshape
public import Idealize.ShloMosaic.Lib.Quiescent
public import Idealize.ShloMosaic.Lib.IdealHost

@[expose] public section

set_option maxRecDepth 16384

noncomputable section

namespace Cert.Adam

open Idealize.ShloMosaic Idealize.SL.Sem

theorem hz : (![0, 0] : Fin 2 → Nat) = fun _ => 0 := funext fun a => by fin_cases a <;> rfl

/-- The new first moment, from the gradient and the old one: `0.9 m + 0.1 g`. -/
def mf (g m : EReal) : EReal := Ideal.ofBits .f32 0x3F666666#32 * m + Ideal.ofBits .f32 0x3DCCCCCD#32 * g

/-- The new second moment: `0.999 v + 0.001 g²`. -/
def vf (g v : EReal) : EReal := Ideal.ofBits .f32 0x3F7FBE77#32 * v + Ideal.ofBits .f32 0x3A83126F#32 * (g * g)

/-- The weight's change: `-0.001 (m̂ / (√v̂ + ε) + 0.01 w)`, with the moments' bias taken out. -/
def df (w g m v : EReal) : EReal :=
  Ideal.ofBits .f32 0xBA83126F#32 * (Ideal.div (Ideal.div (mf g m) (Ideal.ofBits .f32 0x3F26BD02#32))
    (Ideal.sqrt (Ideal.div (vf g v) (Ideal.ofBits .f32 0x3C231ACC#32)) + Ideal.ofBits .f32 0x322BCC77#32) + Ideal.ofBits .f32 0x3C23D70A#32 * w)

end Cert.Adam

end
-- ==== Proof.AdamUpClaim.lean ====
/-
  The optimiser's step for the FFN gate and up weights: the kernel's three result arrays at the extended reals, element by element, against
  those of the plain formula.
-/
module

public import proofs.«01_k».proof.Defs
public import proofs.«01_k».proof.Proof.AdamCore
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read

@[expose] public section

set_option maxRecDepth 16384

noncomputable section

namespace Cert.AdamUpIdeal.Closed

open Cert.AdamUpIdeal Cert.AdamUpIdeal.Gen Cert.AdamUpIdeal.Value Cert.Adam Idealize.ShloMosaic Idealize.ShloMosaic.TcCoe Idealize.SL.Sem
open Idealize.ShloMosaic.Pipeline (Dat)

theorem out4_apply (x0 x1 x2 x3 : Vec Ideal S512x352 .f32) (y : S512x352.Idx) :
    out0_4 (F := Ideal) x0 x1 x2 x3 y = df (x0 y) (x1 y) (x2 y) (x3 y) := by
  unfold out0_4
  rw [View.canon_unit_zero (S := S512x352) hz]
  simp only [View.ld_unit_zero (S := S512x352) hz, k0_pay1, k0_pay2, k0_pay3, k0_pay4, shapeCast_self]
  rfl

theorem out5_apply (x0 x1 x2 x3 : Vec Ideal S512x352 .f32) (y : S512x352.Idx) :
    out0_5 (F := Ideal) x0 x1 x2 x3 y = mf (x1 y) (x2 y) := by
  unfold out0_5
  rw [View.canon_unit_zero (S := S512x352) hz]
  simp only [View.ld_unit_zero (S := S512x352) hz, k0_pay1, k0_pay2, k0_pay3, k0_pay4, shapeCast_self]
  rfl

theorem out6_apply (x0 x1 x2 x3 : Vec Ideal S512x352 .f32) (y : S512x352.Idx) :
    out0_6 (F := Ideal) x0 x1 x2 x3 y = vf (x1 y) (x3 y) := by
  unfold out0_6
  rw [View.canon_unit_zero (S := S512x352) hz]
  simp only [View.ld_unit_zero (S := S512x352) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S4096x352.Idx =>
  df ((V m c main_v0 : S4096x352.Idx → EReal) i) ((V m c main_v1 : S4096x352.Idx → EReal) i) ((V m c main_v2 : S4096x352.Idx → EReal) i) ((V m c main_v3 : S4096x352.Idx → EReal) i)

/-- The new first moment. -/
def G5 (c : Dev nD) : Buf (Elt Ideal) ((c : Thread nD τ).loc main_v4_1) := fun i : S4096x352.Idx =>
  mf ((V m c main_v1 : S4096x352.Idx → EReal) i) ((V m c main_v2 : S4096x352.Idx → EReal) i)

/-- The new second moment. -/
def G6 (c : Dev nD) : Buf (Elt Ideal) ((c : Thread nD τ).loc main_v4_2) := fun i : S4096x352.Idx =>
  vf ((V m c main_v1 : S4096x352.Idx → EReal) i) ((V m c main_v3 : S4096x352.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S512x352.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S512x352.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S512x352.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S4096x352.Idx) : ∃ t : Fin cfg0.N, i ∈ ((cfg0.win 4).blk t).view.set := by
  have h0 : (i 0 : Nat) < 4096 := (i 0).isLt
  have h1 : (i 1 : Nat) < 352 := (i 1).isLt
  have hN : cfg0.N = 8 := N_0
  obtain ⟨t, ht⟩ : ∃ t : Fin cfg0.N, t.val = (i 0).val / 512 := ⟨⟨(i 0).val / 512, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [hi.1]; omega
  | ⟨1, _⟩ => show win0_4.index t 1 * 352 ≤ (i 1 : Nat) ∧ (i 1 : Nat) < win0_4.index t 1 * 352 + 352
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S4096x352.Idx → EReal)
    = shapeCast S4096x352 (m ((c : Thread nD τ).loc main_arg0) : S4x1024x352.Idx → EReal) shapeCasts_S4x1024x352_S4096x352 := by
  show StableHlo.after hostOps0 _ _ = _
  unfold hostOps0
  after_results
  rfl

theorem V_v1 (c : Dev nD) : (V m c main_v1 : S4096x352.Idx → EReal)
    = shapeCast S4096x352 (m ((c : Thread nD τ).loc main_arg1) : S4x1024x352.Idx → EReal) shapeCasts_S4x1024x352_S4096x352 := by
  show StableHlo.after hostOps0 _ _ = _
  unfold hostOps0
  after_results
  rfl

theorem V_v2 (c : Dev nD) : (V m c main_v2 : S4096x352.Idx → EReal)
    = shapeCast S4096x352 (m ((c : Thread nD τ).loc main_arg2) : S4x1024x352.Idx → EReal) shapeCasts_S4x1024x352_S4096x352 := by
  show StableHlo.after hostOps0 _ _ = _
  unfold hostOps0
  after_results
  rfl

theorem V_v3 (c : Dev nD) : (V m c main_v3 : S4096x352.Idx → EReal)
    = shapeCast S4096x352 (m ((c : Thread nD τ).loc main_arg3) : S4x1024x352.Idx → EReal) shapeCasts_S4x1024x352_S4096x352 := by
  show StableHlo.after hostOps0 _ _ = _
  unfold hostOps0
  after_results
  rfl

end Cert.AdamUpIdeal.Closed

namespace Cert.Proof.AdamUpClaims

open Idealize.ShloMosaic Idealize.ShloMosaic.TcCoe Idealize.SL.Sem

theorem frame_k : Cert.quiescent_AdamUp := fun m ρ _ => Cert.AdamUp.Gen.frame m ρ
theorem frame_i : Cert.quiescent_AdamUpIdeal := fun m ρ _ => Cert.AdamUpIdeal.Gen.frame m ρ
theorem frame_r : Cert.quiescent_AdamUpRefIdeal := fun m ρ _ =>
  (θ_run Cert.AdamUpRefIdeal.defs _ _).mono (fun r h => ⟨fun c => (h c).2.2.2, Idealize.ShloMosaic.sem_eq_zero_of_no_sems (by decide) r.2⟩)
    (Cert.AdamUpRefIdeal.Value.run (F := Ideal) m ρ)

section Ref
open Cert.AdamUpRefIdeal Cert.AdamUpRefIdeal.Read Cert.Adam

/-- The plain formula, element by element, is the same functions of the element. -/
theorem ref_m (x1 x2 : S4x1024x352.Idx → EReal) (i : S4x1024x352.Idx) : val_main_v4 (F := Ideal) x1 x2 i = mf (x1 i) (x2 i) := rfl
theorem ref_v (x1 x3 : S4x1024x352.Idx → EReal) (i : S4x1024x352.Idx) : val_main_v10 (F := Ideal) x1 x3 i = vf (x1 i) (x3 i) := rfl
theorem ref_d (x0 x1 x2 x3 : S4x1024x352.Idx → EReal) (i : S4x1024x352.Idx) :
    val_main_v23 (F := Ideal) x0 x1 x2 x3 i = df (x0 i) (x1 i) (x2 i) (x3 i) := rfl
end Ref

open Cert.AdamUpIdeal.Closed in
theorem algebraic : Cert.algebraic_AdamUpIdeal_AdamUpRefIdeal := by
  intro m ρ m' ρ' _ hagree
  refine ⟨fun c => G4 m c, fun c => G5 m c, fun c => G6 m c, run m ρ, ?_⟩
  refine (θ_run Cert.AdamUpRefIdeal.defs _ _).mono (fun _ h c => ⟨(h c).1.trans ?_, (h c).2.1.trans ?_, (h c).2.2.1.trans ?_, (h c).2.2.2⟩)
    (Cert.AdamUpRefIdeal.Value.run (F := Ideal) m' ρ')
  · rw [Cert.AdamUpRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamUpRefIdeal.Read.val_main_v25_eq, (hagree c).2.1, (hagree c).2.2.1]
    show _ = G5 m c
    unfold G5
    rw [V_v1, V_v2]
    exact funext fun i => ref_m _ _ _
  · rw [Cert.AdamUpRefIdeal.Read.val_main_v26_eq, (hagree c).2.1, (hagree c).2.2.2]
    show _ = G6 m c
    unfold G6
    rw [V_v1, V_v3]
    exact funext fun i => ref_v _ _ _

end Cert.Proof.AdamUpClaims

end
-- ==== Proof.AdamDownClaim.lean ====
/-
  The optimiser's step for the FFN down weights: the kernel's three result arrays at the extended reals, element by element, against
  those of the plain formula.
-/
module

public import proofs.«01_k».proof.Defs
public import proofs.«01_k».proof.Proof.AdamCore
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read

@[expose] public section

set_option maxRecDepth 16384

noncomputable section

namespace Cert.AdamDownIdeal.Closed

open Cert.AdamDownIdeal Cert.AdamDownIdeal.Gen Cert.AdamDownIdeal.Value Cert.Adam Idealize.ShloMosaic Idealize.ShloMosaic.TcCoe Idealize.SL.Sem
open Idealize.ShloMosaic.Pipeline (Dat)

theorem out4_apply (x0 x1 x2 x3 : Vec Ideal S352x1024 .f32) (y : S352x1024.Idx) :
    out0_4 (F := Ideal) x0 x1 x2 x3 y = df (x0 y) (x1 y) (x2 y) (x3 y) := by
  unfold out0_4
  rw [View.canon_unit_zero (S := S352x1024) hz]
  simp only [View.ld_unit_zero (S := S352x1024) hz, k0_pay1, k0_pay2, k0_pay3, k0_pay4, shapeCast_self]
  rfl

theorem out5_apply (x0 x1 x2 x3 : Vec Ideal S352x1024 .f32) (y : S352x1024.Idx) :
    out0_5 (F := Ideal) x0 x1 x2 x3 y = mf (x1 y) (x2 y) := by
  unfold out0_5
  rw [View.canon_unit_zero (S := S352x1024) hz]
  simp only [View.ld_unit_zero (S := S352x1024) hz, k0_pay1, k0_pay2, k0_pay3, k0_pay4, shapeCast_self]
  rfl

theorem out6_apply (x0 x1 x2 x3 : Vec Ideal S352x1024 .f32) (y : S352x1024.Idx) :
    out0_6 (F := Ideal) x0 x1 x2 x3 y = vf (x1 y) (x3 y) := by
  unfold out0_6
  rw [View.canon_unit_zero (S := S352x1024) hz]
  simp only [View.ld_unit_zero (S := S352x1024) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S1408x1024.Idx =>
  df ((V m c main_v0 : S1408x1024.Idx → EReal) i) ((V m c main_v1 : S1408x1024.Idx → EReal) i) ((V m c main_v2 : S1408x1024.Idx → EReal) i) ((V m c main_v3 : S1408x1024.Idx → EReal) i)

/-- The new first moment. -/
def G5 (c : Dev nD) : Buf (Elt Ideal) ((c : Thread nD τ).loc main_v4_1) := fun i : S1408x1024.Idx =>
  mf ((V m c main_v1 : S1408x1024.Idx → EReal) i) ((V m c main_v2 : S1408x1024.Idx → EReal) i)

/-- The new second moment. -/
def G6 (c : Dev nD) : Buf (Elt Ideal) ((c : Thread nD τ).loc main_v4_2) := fun i : S1408x1024.Idx =>
  vf ((V m c main_v1 : S1408x1024.Idx → EReal) i) ((V m c main_v3 : S1408x1024.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S352x1024.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S352x1024.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S352x1024.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S1408x1024.Idx) : ∃ t : Fin cfg0.N, i ∈ ((cfg0.win 4).blk t).view.set := by
  have h0 : (i 0 : Nat) < 1408 := (i 0).isLt
  have h1 : (i 1 : Nat) < 1024 := (i 1).isLt
  have hN : cfg0.N = 4 := N_0
  obtain ⟨t, ht⟩ : ∃ t : Fin cfg0.N, t.val = (i 0).val / 352 := ⟨⟨(i 0).val / 352, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 352 ≤ (i 0 : Nat) ∧ (i 0 : Nat) < win0_4.index t 0 * 352 + 352
              rw [hi.1]; omega
  | ⟨1, _⟩ => show win0_4.index t 1 * 1024 ≤ (i 1 : Nat) ∧ (i 1 : Nat) < win0_4.index t 1 * 1024 + 1024
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S1408x1024.Idx → EReal)
    = shapeCast S1408x1024 (m ((c : Thread nD τ).loc main_arg0) : S4x352x1024.Idx → EReal) shapeCasts_S4x352x1024_S1408x1024 := by
  show StableHlo.after hostOps0 _ _ = _
  unfold hostOps0
  after_results
  rfl

theorem V_v1 (c : Dev nD) : (V m c main_v1 : S1408x1024.Idx → EReal)
    = shapeCast S1408x1024 (m ((c : Thread nD τ).loc main_arg1) : S4x352x1024.Idx → EReal) shapeCasts_S4x352x1024_S1408x1024 := by
  show StableHlo.after hostOps0 _ _ = _
  unfold hostOps0
  after_results
  rfl

theorem V_v2 (c : Dev nD) : (V m c main_v2 : S1408x1024.Idx → EReal)
    = shapeCast S1408x1024 (m ((c : Thread nD τ).loc main_arg2) : S4x352x1024.Idx → EReal) shapeCasts_S4x352x1024_S1408x1024 := by
  show StableHlo.after hostOps0 _ _ = _
  unfold hostOps0
  after_results
  rfl

theorem V_v3 (c : Dev nD) : (V m c main_v3 : S1408x1024.Idx → EReal)
    = shapeCast S1408x1024 (m ((c : Thread nD τ).loc main_arg3) : S4x352x1024.Idx → EReal) shapeCasts_S4x352x1024_S1408x1024 := by
  show StableHlo.after hostOps0 _ _ = _
  unfold hostOps0
  after_results
  rfl

end Cert.AdamDownIdeal.Closed

namespace Cert.Proof.AdamDownClaims

open Idealize.ShloMosaic Idealize.ShloMosaic.TcCoe Idealize.SL.Sem

theorem frame_k : Cert.quiescent_AdamDown := fun m ρ _ => Cert.AdamDown.Gen.frame m ρ
theorem frame_i : Cert.quiescent_AdamDownIdeal := fun m ρ _ => Cert.AdamDownIdeal.Gen.frame m ρ
theorem frame_r : Cert.quiescent_AdamDownRefIdeal := fun m ρ _ =>
  (θ_run Cert.AdamDownRefIdeal.defs _ _).mono (fun r h => ⟨fun c => (h c).2.2.2, Idealize.ShloMosaic.sem_eq_zero_of_no_sems (by decide) r.2⟩)
    (Cert.AdamDownRefIdeal.Value.run (F := Ideal) m ρ)

section Ref
open Cert.AdamDownRefIdeal Cert.AdamDownRefIdeal.Read Cert.Adam

/-- The plain formula, element by element, is the same functions of the element. -/
theorem ref_m (x1 x2 : S4x352x1024.Idx → EReal) (i : S4x352x1024.Idx) : val_main_v4 (F := Ideal) x1 x2 i = mf (x1 i) (x2 i) := rfl
theorem ref_v (x1 x3 : S4x352x1024.Idx → EReal) (i : S4x352x1024.Idx) : val_main_v10 (F := Ideal) x1 x3 i = vf (x1 i) (x3 i) := rfl
theorem ref_d (x0 x1 x2 x3 : S4x352x1024.Idx → EReal) (i : S4x352x1024.Idx) :
    val_main_v23 (F := Ideal) x0 x1 x2 x3 i = df (x0 i) (x1 i) (x2 i) (x3 i) := rfl
end Ref

open Cert.AdamDownIdeal.Closed in
theorem algebraic : Cert.algebraic_AdamDownIdeal_AdamDownRefIdeal := by
  intro m ρ m' ρ' _ hagree
  refine ⟨fun c => G4 m c, fun c => G5 m c, fun c => G6 m c, run m ρ, ?_⟩
  refine (θ_run Cert.AdamDownRefIdeal.defs _ _).mono (fun _ h c => ⟨(h c).1.trans ?_, (h c).2.1.trans ?_, (h c).2.2.1.trans ?_, (h c).2.2.2⟩)
    (Cert.AdamDownRefIdeal.Value.run (F := Ideal) m' ρ')
  · rw [Cert.AdamDownRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamDownRefIdeal.Read.val_main_v25_eq, (hagree c).2.1, (hagree c).2.2.1]
    show _ = G5 m c
    unfold G5
    rw [V_v1, V_v2]
    exact funext fun i => ref_m _ _ _
  · rw [Cert.AdamDownRefIdeal.Read.val_main_v26_eq, (hagree c).2.1, (hagree c).2.2.2]
    show _ = G6 m c
    unfold G6
    rw [V_v1, V_v3]
    exact funext fun i => ref_v _ _ _

end Cert.Proof.AdamDownClaims

end
-- ==== Proof.AdamInClaim.lean ====
/-
  The optimiser's step for the mixer's input projection: the kernel's three result arrays at the extended reals, element by element, against
  those of the plain formula.
-/
module

public import proofs.«01_k».proof.Defs
public import proofs.«01_k».proof.Proof.AdamCore
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read

@[expose] public section

set_option maxRecDepth 16384

noncomputable section

namespace Cert.AdamInIdeal.Closed

open Cert.AdamInIdeal Cert.AdamInIdeal.Gen Cert.AdamInIdeal.Value Cert.Adam Idealize.ShloMosaic Idealize.ShloMosaic.TcCoe Idealize.SL.Sem
open Idealize.ShloMosaic.Pipeline (Dat)

theorem out4_apply (x0 x1 x2 x3 : Vec Ideal S512x272 .f32) (y : S512x272.Idx) :
    out0_4 (F := Ideal) x0 x1 x2 x3 y = df (x0 y) (x1 y) (x2 y) (x3 y) := by
  unfold out0_4
  rw [View.canon_unit_zero (S := S512x272) hz]
  simp only [View.ld_unit_zero (S := S512x272) hz, k0_pay1, k0_pay2, k0_pay3, k0_pay4, shapeCast_self]
  rfl

theorem out5_apply (x0 x1 x2 x3 : Vec Ideal S512x272 .f32) (y : S512x272.Idx) :
    out0_5 (F := Ideal) x0 x1 x2 x3 y = mf (x1 y) (x2 y) := by
  unfold out0_5
  rw [View.canon_unit_zero (S := S512x272) hz]
  simp only [View.ld_unit_zero (S := S512x272) hz, k0_pay1, k0_pay2, k0_pay3, k0_pay4, shapeCast_self]
  rfl

theorem out6_apply (x0 x1 x2 x3 : Vec Ideal S512x272 .f32) (y : S512x272.Idx) :
    out0_6 (F := Ideal) x0 x1 x2 x3 y = vf (x1 y) (x3 y) := by
  unfold out0_6
  rw [View.canon_unit_zero (S := S512x272) hz]
  simp only [View.ld_unit_zero (S := S512x272) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S4096x272.Idx =>
  df ((V m c main_v0 : S4096x272.Idx → EReal) i) ((V m c main_v1 : S4096x272.Idx → EReal) i) ((V m c main_v2 : S4096x272.Idx → EReal) i) ((V m c main_v3 : S4096x272.Idx → EReal) i)

/-- The new first moment. -/
def G5 (c : Dev nD) : Buf (Elt Ideal) ((c : Thread nD τ).loc main_v4_1) := fun i : S4096x272.Idx =>
  mf ((V m c main_v1 : S4096x272.Idx → EReal) i) ((V m c main_v2 : S4096x272.Idx → EReal) i)

/-- The new second moment. -/
def G6 (c : Dev nD) : Buf (Elt Ideal) ((c : Thread nD τ).loc main_v4_2) := fun i : S4096x272.Idx =>
  vf ((V m c main_v1 : S4096x272.Idx → EReal) i) ((V m c main_v3 : S4096x272.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S512x272.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S512x272.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S512x272.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S4096x272.Idx) : ∃ t : Fin cfg0.N, i ∈ ((cfg0.win 4).blk t).view.set := by
  have h0 : (i 0 : Nat) < 4096 := (i 0).isLt
  have h1 : (i 1 : Nat) < 272 := (i 1).isLt
  have hN : cfg0.N = 8 := N_0
  obtain ⟨t, ht⟩ : ∃ t : Fin cfg0.N, t.val = (i 0).val / 512 := ⟨⟨(i 0).val / 512, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [hi.1]; omega
  | ⟨1, _⟩ => show win0_4.index t 1 * 272 ≤ (i 1 : Nat) ∧ (i 1 : Nat) < win0_4.index t 1 * 272 + 272
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S4096x272.Idx → EReal)
    = shapeCast S4096x272 (m ((c : Thread nD τ).loc main_arg0) : S4x1024x272.Idx → EReal) shapeCasts_S4x1024x272_S4096x272 := by
  show StableHlo.after hostOps0 _ _ = _
  unfold hostOps0
  after_results
  rfl

theorem V_v1 (c : Dev nD) : (V m c main_v1 : S4096x272.Idx → EReal)
    = shapeCast S4096x272 (m ((c : Thread nD τ).loc main_arg1) : S4x1024x272.Idx → EReal) shapeCasts_S4x1024x272_S4096x272 := by
  show StableHlo.after hostOps0 _ _ = _
  unfold hostOps0
  after_results
  rfl

theorem V_v2 (c : Dev nD) : (V m c main_v2 : S4096x272.Idx → EReal)
    = shapeCast S4096x272 (m ((c : Thread nD τ).loc main_arg2) : S4x1024x272.Idx → EReal) shapeCasts_S4x1024x272_S4096x272 := by
  show StableHlo.after hostOps0 _ _ = _
  unfold hostOps0
  after_results
  rfl

theorem V_v3 (c : Dev nD) : (V m c main_v3 : S4096x272.Idx → EReal)
    = shapeCast S4096x272 (m ((c : Thread nD τ).loc main_arg3) : S4x1024x272.Idx → EReal) shapeCasts_S4x1024x272_S4096x272 := by
  show StableHlo.after hostOps0 _ _ = _
  unfold hostOps0
  after_results
  rfl

end Cert.AdamInIdeal.Closed

namespace Cert.Proof.AdamInClaims

open Idealize.ShloMosaic Idealize.ShloMosaic.TcCoe Idealize.SL.Sem

theorem frame_k : Cert.quiescent_AdamIn := fun m ρ _ => Cert.AdamIn.Gen.frame m ρ
theorem frame_i : Cert.quiescent_AdamInIdeal := fun m ρ _ => Cert.AdamInIdeal.Gen.frame m ρ
theorem frame_r : Cert.quiescent_AdamInRefIdeal := fun m ρ _ =>
  (θ_run Cert.AdamInRefIdeal.defs _ _).mono (fun r h => ⟨fun c => (h c).2.2.2, Idealize.ShloMosaic.sem_eq_zero_of_no_sems (by decide) r.2⟩)
    (Cert.AdamInRefIdeal.Value.run (F := Ideal) m ρ)

section Ref
open Cert.AdamInRefIdeal Cert.AdamInRefIdeal.Read Cert.Adam

/-- The plain formula, element by element, is the same functions of the element. -/
theorem ref_m (x1 x2 : S4x1024x272.Idx → EReal) (i : S4x1024x272.Idx) : val_main_v4 (F := Ideal) x1 x2 i = mf (x1 i) (x2 i) := rfl
theorem ref_v (x1 x3 : S4x1024x272.Idx → EReal) (i : S4x1024x272.Idx) : val_main_v10 (F := Ideal) x1 x3 i = vf (x1 i) (x3 i) := rfl
theorem ref_d (x0 x1 x2 x3 : S4x1024x272.Idx → EReal) (i : S4x1024x272.Idx) :
    val_main_v23 (F := Ideal) x0 x1 x2 x3 i = df (x0 i) (x1 i) (x2 i) (x3 i) := rfl
end Ref

open Cert.AdamInIdeal.Closed in
theorem algebraic : Cert.algebraic_AdamInIdeal_AdamInRefIdeal := by
  intro m ρ m' ρ' _ hagree
  refine ⟨fun c => G4 m c, fun c => G5 m c, fun c => G6 m c, run m ρ, ?_⟩
  refine (θ_run Cert.AdamInRefIdeal.defs _ _).mono (fun _ h c => ⟨(h c).1.trans ?_, (h c).2.1.trans ?_, (h c).2.2.1.trans ?_, (h c).2.2.2⟩)
    (Cert.AdamInRefIdeal.Value.run (F := Ideal) m' ρ')
  · rw [Cert.AdamInRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamInRefIdeal.Read.val_main_v25_eq, (hagree c).2.1, (hagree c).2.2.1]
    show _ = G5 m c
    unfold G5
    rw [V_v1, V_v2]
    exact funext fun i => ref_m _ _ _
  · rw [Cert.AdamInRefIdeal.Read.val_main_v26_eq, (hagree c).2.1, (hagree c).2.2.2]
    show _ = G6 m c
    unfold G6
    rw [V_v1, V_v3]
    exact funext fun i => ref_v _ _ _

end Cert.Proof.AdamInClaims

end
-- ==== Proof.AdamOutClaim.lean ====
/-
  The optimiser's step for the mixer's output projection: the kernel's three result arrays at the extended reals, element by element, against
  those of the plain formula.
-/
module

public import proofs.«01_k».proof.Defs
public import proofs.«01_k».proof.Proof.AdamCore
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read

@[expose] public section

set_option maxRecDepth 16384

noncomputable section

namespace Cert.AdamOutIdeal.Closed

open Cert.AdamOutIdeal Cert.AdamOutIdeal.Gen Cert.AdamOutIdeal.Value Cert.Adam Idealize.ShloMosaic Idealize.ShloMosaic.TcCoe Idealize.SL.Sem
open Idealize.ShloMosaic.Pipeline (Dat)

theorem out4_apply (x0 x1 x2 x3 : Vec Ideal S512x1024 .f32) (y : S512x1024.Idx) :
    out0_4 (F := Ideal) x0 x1 x2 x3 y = df (x0 y) (x1 y) (x2 y) (x3 y) := by
  unfold out0_4
  rw [View.canon_unit_zero (S := S512x1024) hz]
  simp only [View.ld_unit_zero (S := S512x1024) hz, k0_pay1, k0_pay2, k0_pay3, k0_pay4, shapeCast_self]
  rfl

theorem out5_apply (x0 x1 x2 x3 : Vec Ideal S512x1024 .f32) (y : S512x1024.Idx) :
    out0_5 (F := Ideal) x0 x1 x2 x3 y = mf (x1 y) (x2 y) := by
  unfold out0_5
  rw [View.canon_unit_zero (S := S512x1024) hz]
  simp only [View.ld_unit_zero (S := S512x1024) hz, k0_pay1, k0_pay2, k0_pay3, k0_pay4, shapeCast_self]
  rfl

theorem out6_apply (x0 x1 x2 x3 : Vec Ideal S512x1024 .f32) (y : S512x1024.Idx) :
    out0_6 (F := Ideal) x0 x1 x2 x3 y = vf (x1 y) (x3 y) := by
  unfold out0_6
  rw [View.canon_unit_zero (S := S512x1024) hz]
  simp only [View.ld_unit_zero (S := S512x1024) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S512x1024.Idx =>
  df ((V m c main_v0 : S512x1024.Idx → EReal) i) ((V m c main_v1 : S512x1024.Idx → EReal) i) ((V m c main_v2 : S512x1024.Idx → EReal) i) ((V m c main_v3 : S512x1024.Idx → EReal) i)

/-- The new first moment. -/
def G5 (c : Dev nD) : Buf (Elt Ideal) ((c : Thread nD τ).loc main_v4_1) := fun i : S512x1024.Idx =>
  mf ((V m c main_v1 : S512x1024.Idx → EReal) i) ((V m c main_v2 : S512x1024.Idx → EReal) i)

/-- The new second moment. -/
def G6 (c : Dev nD) : Buf (Elt Ideal) ((c : Thread nD τ).loc main_v4_2) := fun i : S512x1024.Idx =>
  vf ((V m c main_v1 : S512x1024.Idx → EReal) i) ((V m c main_v3 : S512x1024.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S512x1024.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S512x1024.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S512x1024.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S512x1024.Idx) : ∃ t : Fin cfg0.N, i ∈ ((cfg0.win 4).blk t).view.set := by
  have h0 : (i 0 : Nat) < 512 := (i 0).isLt
  have h1 : (i 1 : Nat) < 1024 := (i 1).isLt
  have hN : cfg0.N = 1 := N_0
  obtain ⟨t, ht⟩ : ∃ t : Fin cfg0.N, t.val = (i 0).val / 512 := ⟨⟨(i 0).val / 512, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [hi.1]; omega
  | ⟨1, _⟩ => show win0_4.index t 1 * 1024 ≤ (i 1 : Nat) ∧ (i 1 : Nat) < win0_4.index t 1 * 1024 + 1024
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S512x1024.Idx → EReal)
    = shapeCast S512x1024 (m ((c : Thread nD τ).loc main_arg0) : S4x128x1024.Idx → EReal) shapeCasts_S4x128x1024_S512x1024 := by
  show StableHlo.after hostOps0 _ _ = _
  unfold hostOps0
  after_results
  rfl

theorem V_v1 (c : Dev nD) : (V m c main_v1 : S512x1024.Idx → EReal)
    = shapeCast S512x1024 (m ((c : Thread nD τ).loc main_arg1) : S4x128x1024.Idx → EReal) shapeCasts_S4x128x1024_S512x1024 := by
  show StableHlo.after hostOps0 _ _ = _
  unfold hostOps0
  after_results
  rfl

theorem V_v2 (c : Dev nD) : (V m c main_v2 : S512x1024.Idx → EReal)
    = shapeCast S512x1024 (m ((c : Thread nD τ).loc main_arg2) : S4x128x1024.Idx → EReal) shapeCasts_S4x128x1024_S512x1024 := by
  show StableHlo.after hostOps0 _ _ = _
  unfold hostOps0
  after_results
  rfl

theorem V_v3 (c : Dev nD) : (V m c main_v3 : S512x1024.Idx → EReal)
    = shapeCast S512x1024 (m ((c : Thread nD τ).loc main_arg3) : S4x128x1024.Idx → EReal) shapeCasts_S4x128x1024_S512x1024 := by
  show StableHlo.after hostOps0 _ _ = _
  unfold hostOps0
  after_results
  rfl

end Cert.AdamOutIdeal.Closed

namespace Cert.Proof.AdamOutClaims

open Idealize.ShloMosaic Idealize.ShloMosaic.TcCoe Idealize.SL.Sem

theorem frame_k : Cert.quiescent_AdamOut := fun m ρ _ => Cert.AdamOut.Gen.frame m ρ
theorem frame_i : Cert.quiescent_AdamOutIdeal := fun m ρ _ => Cert.AdamOutIdeal.Gen.frame m ρ
theorem frame_r : Cert.quiescent_AdamOutRefIdeal := fun m ρ _ =>
  (θ_run Cert.AdamOutRefIdeal.defs _ _).mono (fun r h => ⟨fun c => (h c).2.2.2, Idealize.ShloMosaic.sem_eq_zero_of_no_sems (by decide) r.2⟩)
    (Cert.AdamOutRefIdeal.Value.run (F := Ideal) m ρ)

section Ref
open Cert.AdamOutRefIdeal Cert.AdamOutRefIdeal.Read Cert.Adam

/-- The plain formula, element by element, is the same functions of the element. -/
theorem ref_m (x1 x2 : S4x128x1024.Idx → EReal) (i : S4x128x1024.Idx) : val_main_v4 (F := Ideal) x1 x2 i = mf (x1 i) (x2 i) := rfl
theorem ref_v (x1 x3 : S4x128x1024.Idx → EReal) (i : S4x128x1024.Idx) : val_main_v10 (F := Ideal) x1 x3 i = vf (x1 i) (x3 i) := rfl
theorem ref_d (x0 x1 x2 x3 : S4x128x1024.Idx → EReal) (i : S4x128x1024.Idx) :
    val_main_v23 (F := Ideal) x0 x1 x2 x3 i = df (x0 i) (x1 i) (x2 i) (x3 i) := rfl
end Ref

open Cert.AdamOutIdeal.Closed in
theorem algebraic : Cert.algebraic_AdamOutIdeal_AdamOutRefIdeal := by
  intro m ρ m' ρ' _ hagree
  refine ⟨fun c => G4 m c, fun c => G5 m c, fun c => G6 m c, run m ρ, ?_⟩
  refine (θ_run Cert.AdamOutRefIdeal.defs _ _).mono (fun _ h c => ⟨(h c).1.trans ?_, (h c).2.1.trans ?_, (h c).2.2.1.trans ?_, (h c).2.2.2⟩)
    (Cert.AdamOutRefIdeal.Value.run (F := Ideal) m' ρ')
  · rw [Cert.AdamOutRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamOutRefIdeal.Read.val_main_v25_eq, (hagree c).2.1, (hagree c).2.2.1]
    show _ = G5 m c
    unfold G5
    rw [V_v1, V_v2]
    exact funext fun i => ref_m _ _ _
  · rw [Cert.AdamOutRefIdeal.Read.val_main_v26_eq, (hagree c).2.1, (hagree c).2.2.2]
    show _ = G6 m c
    unfold G6
    rw [V_v1, V_v3]
    exact funext fun i => ref_v _ _ _

end Cert.Proof.AdamOutClaims

end
-- ==== Proof.AdamNormClaim.lean ====
/-
  The optimiser's step for the layer norms' scales and shifts: the kernel's three result arrays at the extended reals, element by element, against
  those of the plain formula.
-/
module

public import proofs.«01_k».proof.Defs
public import proofs.«01_k».proof.Proof.AdamCore
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamNormRefIdeal.Read

@[expose] public section

set_option maxRecDepth 16384

noncomputable section

namespace Cert.AdamNormIdeal.Closed

open Cert.AdamNormIdeal Cert.AdamNormIdeal.Gen Cert.AdamNormIdeal.Value Cert.Adam Idealize.ShloMosaic Idealize.ShloMosaic.TcCoe Idealize.SL.Sem
open Idealize.ShloMosaic.Pipeline (Dat)

theorem out4_apply (x0 x1 x2 x3 : Vec Ideal S4x1024 .f32) (y : S4x1024.Idx) :
    out0_4 (F := Ideal) x0 x1 x2 x3 y = df (x0 y) (x1 y) (x2 y) (x3 y) := by
  unfold out0_4
  rw [View.canon_unit_zero (S := S4x1024) hz]
  simp only [View.ld_unit_zero (S := S4x1024) hz, k0_pay1, k0_pay2, k0_pay3, shapeCast_self]
  rfl

theorem out5_apply (x0 x1 x2 x3 : Vec Ideal S4x1024 .f32) (y : S4x1024.Idx) :
    out0_5 (F := Ideal) x0 x1 x2 x3 y = mf (x1 y) (x2 y) := by
  unfold out0_5
  rw [View.canon_unit_zero (S := S4x1024) hz]
  simp only [View.ld_unit_zero (S := S4x1024) hz, k0_pay1, k0_pay2, k0_pay3, shapeCast_self]
  rfl

theorem out6_apply (x0 x1 x2 x3 : Vec Ideal S4x1024 .f32) (y : S4x1024.Idx) :
    out0_6 (F := Ideal) x0 x1 x2 x3 y = vf (x1 y) (x3 y) := by
  unfold out0_6
  rw [View.canon_unit_zero (S := S4x1024) hz]
  simp only [View.ld_unit_zero (S := S4x1024) hz, k0_pay1, k0_pay2, k0_pay3, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v0_0) := fun i : S4x1024.Idx =>
  df ((V m c main_arg0 : S4x1024.Idx → EReal) i) ((V m c main_arg1 : S4x1024.Idx → EReal) i) ((V m c main_arg2 : S4x1024.Idx → EReal) i) ((V m c main_arg3 : S4x1024.Idx → EReal) i)

/-- The new first moment. -/
def G5 (c : Dev nD) : Buf (Elt Ideal) ((c : Thread nD τ).loc main_v0_1) := fun i : S4x1024.Idx =>
  mf ((V m c main_arg1 : S4x1024.Idx → EReal) i) ((V m c main_arg2 : S4x1024.Idx → EReal) i)

/-- The new second moment. -/
def G6 (c : Dev nD) : Buf (Elt Ideal) ((c : Thread nD τ).loc main_v0_2) := fun i : S4x1024.Idx =>
  vf ((V m c main_arg1 : S4x1024.Idx → EReal) i) ((V m c main_arg3 : S4x1024.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S4x1024.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S4x1024.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S4x1024.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S4x1024.Idx) : ∃ t : Fin cfg0.N, i ∈ ((cfg0.win 4).blk t).view.set := by
  have h0 : (i 0 : Nat) < 4 := (i 0).isLt
  have h1 : (i 1 : Nat) < 1024 := (i 1).isLt
  have hN : cfg0.N = 1 := N_0
  obtain ⟨t, ht⟩ : ∃ t : Fin cfg0.N, t.val = (i 0).val / 4 := ⟨⟨(i 0).val / 4, by omega⟩, rfl⟩
  have hi := index4 t
  refine ⟨t, ?_⟩
  show i ∈ ((View.whole main_v0_0).slice (win0_4.rect t)).set
  rw [View.set_slice_whole, Rect.mem_set_unit]
  intro a
  match a with
  | ⟨0, _⟩ => show win0_4.index t 0 * 4 ≤ (i 0 : Nat) ∧ (i 0 : Nat) < win0_4.index t 0 * 4 + 4
              rw [hi.1]; omega
  | ⟨1, _⟩ => show win0_4.index t 1 * 1024 ≤ (i 1 : Nat) ∧ (i 1 : Nat) < win0_4.index t 1 * 1024 + 1024
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

end Cert.AdamNormIdeal.Closed

namespace Cert.Proof.AdamNormClaims

open Idealize.ShloMosaic Idealize.ShloMosaic.TcCoe Idealize.SL.Sem

theorem frame_k : Cert.quiescent_AdamNorm := fun m ρ _ => Cert.AdamNorm.Gen.frame m ρ
theorem frame_i : Cert.quiescent_AdamNormIdeal := fun m ρ _ => Cert.AdamNormIdeal.Gen.frame m ρ
theorem frame_r : Cert.quiescent_AdamNormRefIdeal := fun m ρ _ =>
  (θ_run Cert.AdamNormRefIdeal.defs _ _).mono (fun r h => ⟨fun c => (h c).2.2.2, Idealize.ShloMosaic.sem_eq_zero_of_no_sems (by decide) r.2⟩)
    (Cert.AdamNormRefIdeal.Value.run (F := Ideal) m ρ)

section Ref
open Cert.AdamNormRefIdeal Cert.AdamNormRefIdeal.Read Cert.Adam

/-- The plain formula, element by element, is the same functions of the element. -/
theorem ref_m (x1 x2 : S4x1024.Idx → EReal) (i : S4x1024.Idx) : val_main_v4 (F := Ideal) x1 x2 i = mf (x1 i) (x2 i) := rfl
theorem ref_v (x1 x3 : S4x1024.Idx → EReal) (i : S4x1024.Idx) : val_main_v10 (F := Ideal) x1 x3 i = vf (x1 i) (x3 i) := rfl
theorem ref_d (x0 x1 x2 x3 : S4x1024.Idx → EReal) (i : S4x1024.Idx) :
    val_main_v23 (F := Ideal) x0 x1 x2 x3 i = df (x0 i) (x1 i) (x2 i) (x3 i) := rfl
end Ref

open Cert.AdamNormIdeal.Closed in
theorem algebraic : Cert.algebraic_AdamNormIdeal_AdamNormRefIdeal := by
  intro m ρ m' ρ' _ hagree
  refine ⟨fun c => G4 m c, fun c => G5 m c, fun c => G6 m c, run m ρ, ?_⟩
  refine (θ_run Cert.AdamNormRefIdeal.defs _ _).mono (fun _ h c => ⟨(h c).1.trans ?_, (h c).2.1.trans ?_, (h c).2.2.1.trans ?_, (h c).2.2.2⟩)
    (Cert.AdamNormRefIdeal.Value.run (F := Ideal) m' ρ')
  · rw [Cert.AdamNormRefIdeal.Read.val_main_v23_eq, (hagree c).1, (hagree c).2.1, (hagree c).2.2.1, (hagree c).2.2.2]
    show _ = G4 m c
    unfold G4
    rw [Cert.AdamNormIdeal.Gen.V_main_arg0, Cert.AdamNormIdeal.Gen.V_main_arg1, Cert.AdamNormIdeal.Gen.V_main_arg2, Cert.AdamNormIdeal.Gen.V_main_arg3]
    exact funext fun i => ref_d _ _ _ _ i
  · rw [Cert.AdamNormRefIdeal.Read.val_main_v4_eq, (hagree c).2.1, (hagree c).2.2.1]
    show _ = G5 m c
    unfold G5
    rw [Cert.AdamNormIdeal.Gen.V_main_arg1, Cert.AdamNormIdeal.Gen.V_main_arg2]
    exact funext fun i => ref_m _ _ i
  · rw [Cert.AdamNormRefIdeal.Read.val_main_v10_eq, (hagree c).2.1, (hagree c).2.2.2]
    show _ = G6 m c
    unfold G6
    rw [Cert.AdamNormIdeal.Gen.V_main_arg1, Cert.AdamNormIdeal.Gen.V_main_arg3]
    exact funext fun i => ref_v _ _ i

end Cert.Proof.AdamNormClaims

end
-- ==== Proof.AdamPoolClaim.lean ====
/-
  The optimiser's step for the pooling weights: the kernel's three result arrays at the extended reals, element by element, against
  those of the plain formula.
-/
module

public import proofs.«01_k».proof.Defs
public import proofs.«01_k».proof.Proof.AdamCore
public import proofs.«01_k».proof.Proof.Gen.AdamPool.Frame
public import proofs.«01_k».proof.Proof.Gen.AdamPoolIdeal.Value
public import proofs.«01_k».proof.Proof.Gen.AdamPoolRefIdeal.Run
public import proofs.«01_k».proof.Proof.Gen.AdamPoolRefIdeal.Read

@[expose] public section

set_option maxRecDepth 16384

noncomputable section

namespace Cert.AdamPoolIdeal.Closed

open Cert.AdamPoolIdeal Cert.AdamPoolIdeal.Gen Cert.AdamPoolIdeal.Value Cert.Adam Idealize.ShloMosaic Idealize.ShloMosaic.TcCoe Idealize.SL.Sem
open Idealize.ShloMosaic.Pipeline (Dat)

theorem out4_apply (x0 x1 x2 x3 : Vec Ideal S512x64 .f32) (y : S512x64.Idx) :
    out0_4 (F := Ideal) x0 x1 x2 x3 y = df (x0 y) (x1 y) (x2 y) (x3 y) := by
  unfold out0_4
  rw [View.canon_unit_zero (S := S512x64) hz]
  simp only [View.ld_unit_zero (S := S512x64) hz, k0_pay1, k0_pay2, k0_pay3, k0_pay4, shapeCast_self]
  rfl

theorem out5_apply (x0 x1 x2 x3 : Vec Ideal S512x64 .f32) (y : S512x64.Idx) :
    out0_5 (F := Ideal) x0 x1 x2 x3 y = mf (x1 y) (x2 y) := by
  unfold out0_5
  rw [View.canon_unit_zero (S := S512x64) hz]
  simp only [View.ld_unit_zero (S := S512x64) hz, k0_pay1, k0_pay2, k0_pay3, k0_pay4, shapeCast_self]
  rfl

theorem out6_apply (x0 x1 x2 x3 : Vec Ideal S512x64 .f32) (y : S512x64.Idx) :
    out0_6 (F := Ideal) x0 x1 x2 x3 y = vf (x1 y) (x3 y) := by
  unfold out0_6
  rw [View.canon_unit_zero (S := S512x64) hz]
  simp only [View.ld_unit_zero (S := S512x64) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S1024x64.Idx =>
  df ((V m c main_v0 : S1024x64.Idx → EReal) i) ((V m c main_v1 : S1024x64.Idx → EReal) i) ((V m c main_v2 : S1024x64.Idx → EReal) i) ((V m c main_v3 : S1024x64.Idx → EReal) i)

/-- The new first moment. -/
def G5 (c : Dev nD) : Buf (Elt Ideal) ((c : Thread nD τ).loc main_v4_1) := fun i : S1024x64.Idx =>
  mf ((V m c main_v1 : S1024x64.Idx → EReal) i) ((V m c main_v2 : S1024x64.Idx → EReal) i)

/-- The new second moment. -/
def G6 (c : Dev nD) : Buf (Elt Ideal) ((c : Thread nD τ).loc main_v4_2) := fun i : S1024x64.Idx =>
  vf ((V m c main_v1 : S1024x64.Idx → EReal) i) ((V m c main_v3 : S1024x64.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S512x64.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S512x64.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S512x64.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S1024x64.Idx) : ∃ t : Fin cfg0.N, i ∈ ((cfg0.win 4).blk t).view.set := by
  have h0 : (i 0 : Nat) < 1024 := (i 0).isLt
  have h1 : (i 1 : Nat) < 64 := (i 1).isLt
  have hN : cfg0.N = 2 := N_0
  obtain ⟨t, ht⟩ : ∃ t : Fin cfg0.N, t.val = (i 0).val / 512 := ⟨⟨(i 0).val / 512, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [hi.1]; omega
  | ⟨1, _⟩ => show win0_4.index t 1 * 64 ≤ (i 1 : Nat) ∧ (i 1 : Nat) < win0_4.index t 1 * 64 + 64
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S1024x64.Idx → EReal)
    = shapeCast S1024x64 (m ((c : Thread nD τ).loc main_arg0) : S4x4x64x64.Idx → EReal) shapeCasts_S4x4x64x64_S1024x64 := by
  show StableHlo.after hostOps0 _ _ = _
  unfold hostOps0
  after_results
  rfl

theorem V_v1 (c : Dev nD) : (V m c main_v1 : S1024x64.Idx → EReal)
    = shapeCast S1024x64 (m ((c : Thread nD τ).loc main_arg1) : S4x4x64x64.Idx → EReal) shapeCasts_S4x4x64x64_S1024x64 := by
  show StableHlo.after hostOps0 _ _ = _
  unfold hostOps0
  after_results
  rfl

theorem V_v2 (c : Dev nD) : (V m c main_v2 : S1024x64.Idx → EReal)
    = shapeCast S1024x64 (m ((c : Thread nD τ).loc main_arg2) : S4x4x64x64.Idx → EReal) shapeCasts_S4x4x64x64_S1024x64 := by
  show StableHlo.after hostOps0 _ _ = _
  unfold hostOps0
  after_results
  rfl

theorem V_v3 (c : Dev nD) : (V m c main_v3 : S1024x64.Idx → EReal)
    = shapeCast S1024x64 (m ((c : Thread nD τ).loc main_arg3) : S4x4x64x64.Idx → EReal) shapeCasts_S4x4x64x64_S1024x64 := by
  show StableHlo.after hostOps0 _ _ = _
  unfold hostOps0
  after_results
  rfl

end Cert.AdamPoolIdeal.Closed

namespace Cert.Proof.AdamPoolClaims

open Idealize.ShloMosaic Idealize.ShloMosaic.TcCoe Idealize.SL.Sem

theorem frame_k : Cert.quiescent_AdamPool := fun m ρ _ => Cert.AdamPool.Gen.frame m ρ
theorem frame_i : Cert.quiescent_AdamPoolIdeal := fun m ρ _ => Cert.AdamPoolIdeal.Gen.frame m ρ
theorem frame_r : Cert.quiescent_AdamPoolRefIdeal := fun m ρ _ =>
  (θ_run Cert.AdamPoolRefIdeal.defs _ _).mono (fun r h => ⟨fun c => (h c).2.2.2, Idealize.ShloMosaic.sem_eq_zero_of_no_sems (by decide) r.2⟩)
    (Cert.AdamPoolRefIdeal.Value.run (F := Ideal) m ρ)

section Ref
open Cert.AdamPoolRefIdeal Cert.AdamPoolRefIdeal.Read Cert.Adam

/-- The plain formula, element by element, is the same functions of the element. -/
theorem ref_m (x1 x2 : S4x4x64x64.Idx → EReal) (i : S4x4x64x64.Idx) : val_main_v4 (F := Ideal) x1 x2 i = mf (x1 i) (x2 i) := rfl
theorem ref_v (x1 x3 : S4x4x64x64.Idx → EReal) (i : S4x4x64x64.Idx) : val_main_v10 (F := Ideal) x1 x3 i = vf (x1 i) (x3 i) := rfl
theorem ref_d (x0 x1 x2 x3 : S4x4x64x64.Idx → EReal) (i : S4x4x64x64.Idx) :
    val_main_v23 (F := Ideal) x0 x1 x2 x3 i = df (x0 i) (x1 i) (x2 i) (x3 i) := rfl
end Ref

open Cert.AdamPoolIdeal.Closed in
theorem algebraic : Cert.algebraic_AdamPoolIdeal_AdamPoolRefIdeal := by
  intro m ρ m' ρ' _ hagree
  refine ⟨fun c => G4 m c, fun c => G5 m c, fun c => G6 m c, run m ρ, ?_⟩
  refine (θ_run Cert.AdamPoolRefIdeal.defs _ _).mono (fun _ h c => ⟨(h c).1.trans ?_, (h c).2.1.trans ?_, (h c).2.2.1.trans ?_, (h c).2.2.2⟩)
    (Cert.AdamPoolRefIdeal.Value.run (F := Ideal) m' ρ')
  · rw [Cert.AdamPoolRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamPoolRefIdeal.Read.val_main_v25_eq, (hagree c).2.1, (hagree c).2.2.1]
    show _ = G5 m c
    unfold G5
    rw [V_v1, V_v2]
    exact funext fun i => ref_m _ _ _
  · rw [Cert.AdamPoolRefIdeal.Read.val_main_v26_eq, (hagree c).2.1, (hagree c).2.2.2]
    show _ = G6 m c
    unfold G6
    rw [V_v1, V_v3]
    exact funext fun i => ref_v _ _ _

end Cert.Proof.AdamPoolClaims

end
-- ==== Proof.AdamScaleClaim.lean ====
/-
  The optimiser's step for the pooling scale: the kernel's three result arrays at the extended reals, element by element, against
  those of the plain formula.
-/
module

public import proofs.«01_k».proof.Defs
public import proofs.«01_k».proof.Proof.AdamCore
public import proofs.«01_k».proof.Proof.Gen.AdamScale.Frame
public import proofs.«01_k».proof.Proof.Gen.AdamScaleIdeal.Value
public import proofs.«01_k».proof.Proof.Gen.AdamScaleRefIdeal.Run
public import proofs.«01_k».proof.Proof.Gen.AdamScaleRefIdeal.Read

@[expose] public section

set_option maxRecDepth 16384

noncomputable section

namespace Cert.AdamScaleIdeal.Closed

open Cert.AdamScaleIdeal Cert.AdamScaleIdeal.Gen Cert.AdamScaleIdeal.Value Cert.Adam Idealize.ShloMosaic Idealize.ShloMosaic.TcCoe Idealize.SL.Sem
open Idealize.ShloMosaic.Pipeline (Dat)

theorem out4_apply (x0 x1 x2 x3 : Vec Ideal S4x256 .f32) (y : S4x256.Idx) :
    out0_4 (F := Ideal) x0 x1 x2 x3 y = df (x0 y) (x1 y) (x2 y) (x3 y) := by
  unfold out0_4
  rw [View.canon_unit_zero (S := S4x256) hz]
  simp only [View.ld_unit_zero (S := S4x256) hz, k0_pay1, k0_pay2, k0_pay3, shapeCast_self]
  rfl

theorem out5_apply (x0 x1 x2 x3 : Vec Ideal S4x256 .f32) (y : S4x256.Idx) :
    out0_5 (F := Ideal) x0 x1 x2 x3 y = mf (x1 y) (x2 y) := by
  unfold out0_5
  rw [View.canon_unit_zero (S := S4x256) hz]
  simp only [View.ld_unit_zero (S := S4x256) hz, k0_pay1, k0_pay2, k0_pay3, shapeCast_self]
  rfl

theorem out6_apply (x0 x1 x2 x3 : Vec Ideal S4x256 .f32) (y : S4x256.Idx) :
    out0_6 (F := Ideal) x0 x1 x2 x3 y = vf (x1 y) (x3 y) := by
  unfold out0_6
  rw [View.canon_unit_zero (S := S4x256) hz]
  simp only [View.ld_unit_zero (S := S4x256) hz, k0_pay1, k0_pay2, k0_pay3, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v0_0) := fun i : S4x256.Idx =>
  df ((V m c main_arg0 : S4x256.Idx → EReal) i) ((V m c main_arg1 : S4x256.Idx → EReal) i) ((V m c main_arg2 : S4x256.Idx → EReal) i) ((V m c main_arg3 : S4x256.Idx → EReal) i)

/-- The new first moment. -/
def G5 (c : Dev nD) : Buf (Elt Ideal) ((c : Thread nD τ).loc main_v0_1) := fun i : S4x256.Idx =>
  mf ((V m c main_arg1 : S4x256.Idx → EReal) i) ((V m c main_arg2 : S4x256.Idx → EReal) i)

/-- The new second moment. -/
def G6 (c : Dev nD) : Buf (Elt Ideal) ((c : Thread nD τ).loc main_v0_2) := fun i : S4x256.Idx =>
  vf ((V m c main_arg1 : S4x256.Idx → EReal) i) ((V m c main_arg3 : S4x256.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S4x256.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S4x256.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S4x256.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S4x256.Idx) : ∃ t : Fin cfg0.N, i ∈ ((cfg0.win 4).blk t).view.set := by
  have h0 : (i 0 : Nat) < 4 := (i 0).isLt
  have h1 : (i 1 : Nat) < 256 := (i 1).isLt
  have hN : cfg0.N = 1 := N_0
  obtain ⟨t, ht⟩ : ∃ t : Fin cfg0.N, t.val = (i 0).val / 4 := ⟨⟨(i 0).val / 4, by omega⟩, rfl⟩
  have hi := index4 t
  refine ⟨t, ?_⟩
  show i ∈ ((View.whole main_v0_0).slice (win0_4.rect t)).set
  rw [View.set_slice_whole, Rect.mem_set_unit]
  intro a
  match a with
  | ⟨0, _⟩ => show win0_4.index t 0 * 4 ≤ (i 0 : Nat) ∧ (i 0 : Nat) < win0_4.index t 0 * 4 + 4
              rw [hi.1]; omega
  | ⟨1, _⟩ => show win0_4.index t 1 * 256 ≤ (i 1 : Nat) ∧ (i 1 : Nat) < win0_4.index t 1 * 256 + 256
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

end Cert.AdamScaleIdeal.Closed

namespace Cert.Proof.AdamScaleClaims

open Idealize.ShloMosaic Idealize.ShloMosaic.TcCoe Idealize.SL.Sem

theorem frame_k : Cert.quiescent_AdamScale := fun m ρ _ => Cert.AdamScale.Gen.frame m ρ
theorem frame_i : Cert.quiescent_AdamScaleIdeal := fun m ρ _ => Cert.AdamScaleIdeal.Gen.frame m ρ
theorem frame_r : Cert.quiescent_AdamScaleRefIdeal := fun m ρ _ =>
  (θ_run Cert.AdamScaleRefIdeal.defs _ _).mono (fun r h => ⟨fun c => (h c).2.2.2, Idealize.ShloMosaic.sem_eq_zero_of_no_sems (by decide) r.2⟩)
    (Cert.AdamScaleRefIdeal.Value.run (F := Ideal) m ρ)

section Ref
open Cert.AdamScaleRefIdeal Cert.AdamScaleRefIdeal.Read Cert.Adam

/-- The plain formula, element by element, is the same functions of the element. -/
theorem ref_m (x1 x2 : S4x256.Idx → EReal) (i : S4x256.Idx) : val_main_v4 (F := Ideal) x1 x2 i = mf (x1 i) (x2 i) := rfl
theorem ref_v (x1 x3 : S4x256.Idx → EReal) (i : S4x256.Idx) : val_main_v10 (F := Ideal) x1 x3 i = vf (x1 i) (x3 i) := rfl
theorem ref_d (x0 x1 x2 x3 : S4x256.Idx → EReal) (i : S4x256.Idx) :
    val_main_v23 (F := Ideal) x0 x1 x2 x3 i = df (x0 i) (x1 i) (x2 i) (x3 i) := rfl
end Ref

open Cert.AdamScaleIdeal.Closed in
theorem algebraic : Cert.algebraic_AdamScaleIdeal_AdamScaleRefIdeal := by
  intro m ρ m' ρ' _ hagree
  refine ⟨fun c => G4 m c, fun c => G5 m c, fun c => G6 m c, run m ρ, ?_⟩
  refine (θ_run Cert.AdamScaleRefIdeal.defs _ _).mono (fun _ h c => ⟨(h c).1.trans ?_, (h c).2.1.trans ?_, (h c).2.2.1.trans ?_, (h c).2.2.2⟩)
    (Cert.AdamScaleRefIdeal.Value.run (F := Ideal) m' ρ')
  · rw [Cert.AdamScaleRefIdeal.Read.val_main_v23_eq, (hagree c).1, (hagree c).2.1, (hagree c).2.2.1, (hagree c).2.2.2]
    show _ = G4 m c
    unfold G4
    rw [Cert.AdamScaleIdeal.Gen.V_main_arg0, Cert.AdamScaleIdeal.Gen.V_main_arg1, Cert.AdamScaleIdeal.Gen.V_main_arg2, Cert.AdamScaleIdeal.Gen.V_main_arg3]
    exact funext fun i => ref_d _ _ _ _ i
  · rw [Cert.AdamScaleRefIdeal.Read.val_main_v4_eq, (hagree c).2.1, (hagree c).2.2.1]
    show _ = G5 m c
    unfold G5
    rw [Cert.AdamScaleIdeal.Gen.V_main_arg1, Cert.AdamScaleIdeal.Gen.V_main_arg2]
    exact funext fun i => ref_m _ _ i
  · rw [Cert.AdamScaleRefIdeal.Read.val_main_v10_eq, (hagree c).2.1, (hagree c).2.2.2]
    show _ = G6 m c
    unfold G6
    rw [Cert.AdamScaleIdeal.Gen.V_main_arg1, Cert.AdamScaleIdeal.Gen.V_main_arg3]
    exact funext fun i => ref_v _ _ i

end Cert.Proof.AdamScaleClaims

end
-- ==== Proof.AdamConfClaim.lean ====
/-
  The optimiser's step for the channel vectors of the long convolution's branch: the kernel's three result arrays at the extended reals, element by element, against
  those of the plain formula.
-/
module

public import proofs.«01_k».proof.Defs
public import proofs.«01_k».proof.Proof.AdamCore
public import proofs.«01_k».proof.Proof.Gen.AdamConf.Frame
public import proofs.«01_k».proof.Proof.Gen.AdamConfIdeal.Value
public import proofs.«01_k».proof.Proof.Gen.AdamConfRefIdeal.Run
public import proofs.«01_k».proof.Proof.Gen.AdamConfRefIdeal.Read

@[expose] public section

set_option maxRecDepth 16384

noncomputable section

namespace Cert.AdamConfIdeal.Closed

open Cert.AdamConfIdeal Cert.AdamConfIdeal.Gen Cert.AdamConfIdeal.Value Cert.Adam Idealize.ShloMosaic Idealize.ShloMosaic.TcCoe Idealize.SL.Sem
open Idealize.ShloMosaic.Pipeline (Dat)

theorem out4_apply (x0 x1 x2 x3 : Vec Ideal S4x384 .f32) (y : S4x384.Idx) :
    out0_4 (F := Ideal) x0 x1 x2 x3 y = df (x0 y) (x1 y) (x2 y) (x3 y) := by
  unfold out0_4
  rw [View.canon_unit_zero (S := S4x384) hz]
  simp only [View.ld_unit_zero (S := S4x384) hz, k0_pay1, k0_pay2, k0_pay3, shapeCast_self]
  rfl

theorem out5_apply (x0 x1 x2 x3 : Vec Ideal S4x384 .f32) (y : S4x384.Idx) :
    out0_5 (F := Ideal) x0 x1 x2 x3 y = mf (x1 y) (x2 y) := by
  unfold out0_5
  rw [View.canon_unit_zero (S := S4x384) hz]
  simp only [View.ld_unit_zero (S := S4x384) hz, k0_pay1, k0_pay2, k0_pay3, shapeCast_self]
  rfl

theorem out6_apply (x0 x1 x2 x3 : Vec Ideal S4x384 .f32) (y : S4x384.Idx) :
    out0_6 (F := Ideal) x0 x1 x2 x3 y = vf (x1 y) (x3 y) := by
  unfold out0_6
  rw [View.canon_unit_zero (S := S4x384) hz]
  simp only [View.ld_unit_zero (S := S4x384) hz, k0_pay1, k0_pay2, k0_pay3, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v0_0) := fun i : S4x384.Idx =>
  df ((V m c main_arg0 : S4x384.Idx → EReal) i) ((V m c main_arg1 : S4x384.Idx → EReal) i) ((V m c main_arg2 : S4x384.Idx → EReal) i) ((V m c main_arg3 : S4x384.Idx → EReal) i)

/-- The new first moment. -/
def G5 (c : Dev nD) : Buf (Elt Ideal) ((c : Thread nD τ).loc main_v0_1) := fun i : S4x384.Idx =>
  mf ((V m c main_arg1 : S4x384.Idx → EReal) i) ((V m c main_arg2 : S4x384.Idx → EReal) i)

/-- The new second moment. -/
def G6 (c : Dev nD) : Buf (Elt Ideal) ((c : Thread nD τ).loc main_v0_2) := fun i : S4x384.Idx =>
  vf ((V m c main_arg1 : S4x384.Idx → EReal) i) ((V m c main_arg3 : S4x384.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S4x384.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S4x384.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S4x384.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S4x384.Idx) : ∃ t : Fin cfg0.N, i ∈ ((cfg0.win 4).blk t).view.set := by
  have h0 : (i 0 : Nat) < 4 := (i 0).isLt
  have h1 : (i 1 : Nat) < 384 := (i 1).isLt
  have hN : cfg0.N = 1 := N_0
  obtain ⟨t, ht⟩ : ∃ t : Fin cfg0.N, t.val = (i 0).val / 4 := ⟨⟨(i 0).val / 4, by omega⟩, rfl⟩
  have hi := index4 t
  refine ⟨t, ?_⟩
  show i ∈ ((View.whole main_v0_0).slice (win0_4.rect t)).set
  rw [View.set_slice_whole, Rect.mem_set_unit]
  intro a
  match a with
  | ⟨0, _⟩ => show win0_4.index t 0 * 4 ≤ (i 0 : Nat) ∧ (i 0 : Nat) < win0_4.index t 0 * 4 + 4
              rw [hi.1]; omega
  | ⟨1, _⟩ => show win0_4.index t 1 * 384 ≤ (i 1 : Nat) ∧ (i 1 : Nat) < win0_4.index t 1 * 384 + 384
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

end Cert.AdamConfIdeal.Closed

namespace Cert.Proof.AdamConfClaims

open Idealize.ShloMosaic Idealize.ShloMosaic.TcCoe Idealize.SL.Sem

theorem frame_k : Cert.quiescent_AdamConf := fun m ρ _ => Cert.AdamConf.Gen.frame m ρ
theorem frame_i : Cert.quiescent_AdamConfIdeal := fun m ρ _ => Cert.AdamConfIdeal.Gen.frame m ρ
theorem frame_r : Cert.quiescent_AdamConfRefIdeal := fun m ρ _ =>
  (θ_run Cert.AdamConfRefIdeal.defs _ _).mono (fun r h => ⟨fun c => (h c).2.2.2, Idealize.ShloMosaic.sem_eq_zero_of_no_sems (by decide) r.2⟩)
    (Cert.AdamConfRefIdeal.Value.run (F := Ideal) m ρ)

section Ref
open Cert.AdamConfRefIdeal Cert.AdamConfRefIdeal.Read Cert.Adam

/-- The plain formula, element by element, is the same functions of the element. -/
theorem ref_m (x1 x2 : S4x384.Idx → EReal) (i : S4x384.Idx) : val_main_v4 (F := Ideal) x1 x2 i = mf (x1 i) (x2 i) := rfl
theorem ref_v (x1 x3 : S4x384.Idx → EReal) (i : S4x384.Idx) : val_main_v10 (F := Ideal) x1 x3 i = vf (x1 i) (x3 i) := rfl
theorem ref_d (x0 x1 x2 x3 : S4x384.Idx → EReal) (i : S4x384.Idx) :
    val_main_v23 (F := Ideal) x0 x1 x2 x3 i = df (x0 i) (x1 i) (x2 i) (x3 i) := rfl
end Ref

open Cert.AdamConfIdeal.Closed in
theorem algebraic : Cert.algebraic_AdamConfIdeal_AdamConfRefIdeal := by
  intro m ρ m' ρ' _ hagree
  refine ⟨fun c => G4 m c, fun c => G5 m c, fun c => G6 m c, run m ρ, ?_⟩
  refine (θ_run Cert.AdamConfRefIdeal.defs _ _).mono (fun _ h c => ⟨(h c).1.trans ?_, (h c).2.1.trans ?_, (h c).2.2.1.trans ?_, (h c).2.2.2⟩)
    (Cert.AdamConfRefIdeal.Value.run (F := Ideal) m' ρ')
  · rw [Cert.AdamConfRefIdeal.Read.val_main_v23_eq, (hagree c).1, (hagree c).2.1, (hagree c).2.2.1, (hagree c).2.2.2]
    show _ = G4 m c
    unfold G4
    rw [Cert.AdamConfIdeal.Gen.V_main_arg0, Cert.AdamConfIdeal.Gen.V_main_arg1, Cert.AdamConfIdeal.Gen.V_main_arg2, Cert.AdamConfIdeal.Gen.V_main_arg3]
    exact funext fun i => ref_d _ _ _ _ i
  · rw [Cert.AdamConfRefIdeal.Read.val_main_v4_eq, (hagree c).2.1, (hagree c).2.2.1]
    show _ = G5 m c
    unfold G5
    rw [Cert.AdamConfIdeal.Gen.V_main_arg1, Cert.AdamConfIdeal.Gen.V_main_arg2]
    exact funext fun i => ref_m _ _ i
  · rw [Cert.AdamConfRefIdeal.Read.val_main_v10_eq, (hagree c).2.1, (hagree c).2.2.2]
    show _ = G6 m c
    unfold G6
    rw [Cert.AdamConfIdeal.Gen.V_main_arg1, Cert.AdamConfIdeal.Gen.V_main_arg3]
    exact funext fun i => ref_v _ _ i

end Cert.Proof.AdamConfClaims

end
-- ==== Proof.AdamShortClaim.lean ====
/-
  The optimiser's step for the short convolution's filters: the kernel's three result arrays at the extended reals, element by element, against
  those of the plain formula.
-/
module

public import proofs.«01_k».proof.Defs
public import proofs.«01_k».proof.Proof.AdamCore
public import proofs.«01_k».proof.Proof.Gen.AdamShort.Frame
public import proofs.«01_k».proof.Proof.Gen.AdamShortIdeal.Value
public import proofs.«01_k».proof.Proof.Gen.AdamShortRefIdeal.Run
public import proofs.«01_k».proof.Proof.Gen.AdamShortRefIdeal.Read

@[expose] public section

set_option maxRecDepth 16384

noncomputable section

namespace Cert.AdamShortIdeal.Closed

open Cert.AdamShortIdeal Cert.AdamShortIdeal.Gen Cert.AdamShortIdeal.Value Cert.Adam Idealize.ShloMosaic Idealize.ShloMosaic.TcCoe Idealize.SL.Sem
open Idealize.ShloMosaic.Pipeline (Dat)

theorem out4_apply (x0 x1 x2 x3 : Vec Ideal S12x48 .f32) (y : S12x48.Idx) :
    out0_4 (F := Ideal) x0 x1 x2 x3 y = df (x0 y) (x1 y) (x2 y) (x3 y) := by
  unfold out0_4
  rw [View.canon_unit_zero (S := S12x48) hz]
  simp only [View.ld_unit_zero (S := S12x48) hz, k0_pay1, k0_pay2, k0_pay3, k0_pay4, shapeCast_self]
  rfl

theorem out5_apply (x0 x1 x2 x3 : Vec Ideal S12x48 .f32) (y : S12x48.Idx) :
    out0_5 (F := Ideal) x0 x1 x2 x3 y = mf (x1 y) (x2 y) := by
  unfold out0_5
  rw [View.canon_unit_zero (S := S12x48) hz]
  simp only [View.ld_unit_zero (S := S12x48) hz, k0_pay1, k0_pay2, k0_pay3, k0_pay4, shapeCast_self]
  rfl

theorem out6_apply (x0 x1 x2 x3 : Vec Ideal S12x48 .f32) (y : S12x48.Idx) :
    out0_6 (F := Ideal) x0 x1 x2 x3 y = vf (x1 y) (x3 y) := by
  unfold out0_6
  rw [View.canon_unit_zero (S := S12x48) hz]
  simp only [View.ld_unit_zero (S := S12x48) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S12x48.Idx =>
  df ((V m c main_v0 : S12x48.Idx → EReal) i) ((V m c main_v1 : S12x48.Idx → EReal) i) ((V m c main_v2 : S12x48.Idx → EReal) i) ((V m c main_v3 : S12x48.Idx → EReal) i)

/-- The new first moment. -/
def G5 (c : Dev nD) : Buf (Elt Ideal) ((c : Thread nD τ).loc main_v4_1) := fun i : S12x48.Idx =>
  mf ((V m c main_v1 : S12x48.Idx → EReal) i) ((V m c main_v2 : S12x48.Idx → EReal) i)

/-- The new second moment. -/
def G6 (c : Dev nD) : Buf (Elt Ideal) ((c : Thread nD τ).loc main_v4_2) := fun i : S12x48.Idx =>
  vf ((V m c main_v1 : S12x48.Idx → EReal) i) ((V m c main_v3 : S12x48.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S12x48.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S12x48.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S12x48.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S12x48.Idx) : ∃ t : Fin cfg0.N, i ∈ ((cfg0.win 4).blk t).view.set := by
  have h0 : (i 0 : Nat) < 12 := (i 0).isLt
  have h1 : (i 1 : Nat) < 48 := (i 1).isLt
  have hN : cfg0.N = 1 := N_0
  obtain ⟨t, ht⟩ : ∃ t : Fin cfg0.N, t.val = (i 0).val / 12 := ⟨⟨(i 0).val / 12, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 12 ≤ (i 0 : Nat) ∧ (i 0 : Nat) < win0_4.index t 0 * 12 + 12
              rw [hi.1]; omega
  | ⟨1, _⟩ => show win0_4.index t 1 * 48 ≤ (i 1 : Nat) ∧ (i 1 : Nat) < win0_4.index t 1 * 48 + 48
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S12x48.Idx → EReal)
    = shapeCast S12x48 (m ((c : Thread nD τ).loc main_arg0) : S4x3x48.Idx → EReal) shapeCasts_S4x3x48_S12x48 := by
  show StableHlo.after hostOps0 _ _ = _
  unfold hostOps0
  after_results
  rfl

theorem V_v1 (c : Dev nD) : (V m c main_v1 : S12x48.Idx → EReal)
    = shapeCast S12x48 (m ((c : Thread nD τ).loc main_arg1) : S4x3x48.Idx → EReal) shapeCasts_S4x3x48_S12x48 := by
  show StableHlo.after hostOps0 _ _ = _
  unfold hostOps0
  after_results
  rfl

theorem V_v2 (c : Dev nD) : (V m c main_v2 : S12x48.Idx → EReal)
    = shapeCast S12x48 (m ((c : Thread nD τ).loc main_arg2) : S4x3x48.Idx → EReal) shapeCasts_S4x3x48_S12x48 := by
  show StableHlo.after hostOps0 _ _ = _
  unfold hostOps0
  after_results
  rfl

theorem V_v3 (c : Dev nD) : (V m c main_v3 : S12x48.Idx → EReal)
    = shapeCast S12x48 (m ((c : Thread nD τ).loc main_arg3) : S4x3x48.Idx → EReal) shapeCasts_S4x3x48_S12x48 := by
  show StableHlo.after hostOps0 _ _ = _
  unfold hostOps0
  after_results
  rfl

end Cert.AdamShortIdeal.Closed

namespace Cert.Proof.AdamShortClaims

open Idealize.ShloMosaic Idealize.ShloMosaic.TcCoe Idealize.SL.Sem

theorem frame_k : Cert.quiescent_AdamShort := fun m ρ _ => Cert.AdamShort.Gen.frame m ρ
theorem frame_i : Cert.quiescent_AdamShortIdeal := fun m ρ _ => Cert.AdamShortIdeal.Gen.frame m ρ
theorem frame_r : Cert.quiescent_AdamShortRefIdeal := fun m ρ _ =>
  (θ_run Cert.AdamShortRefIdeal.defs _ _).mono (fun r h => ⟨fun c => (h c).2.2.2, Idealize.ShloMosaic.sem_eq_zero_of_no_sems (by decide) r.2⟩)
    (Cert.AdamShortRefIdeal.Value.run (F := Ideal) m ρ)

section Ref
open Cert.AdamShortRefIdeal Cert.AdamShortRefIdeal.Read Cert.Adam

/-- The plain formula, element by element, is the same functions of the element. -/
theorem ref_m (x1 x2 : S4x3x48.Idx → EReal) (i : S4x3x48.Idx) : val_main_v4 (F := Ideal) x1 x2 i = mf (x1 i) (x2 i) := rfl
theorem ref_v (x1 x3 : S4x3x48.Idx → EReal) (i : S4x3x48.Idx) : val_main_v10 (F := Ideal) x1 x3 i = vf (x1 i) (x3 i) := rfl
theorem ref_d (x0 x1 x2 x3 : S4x3x48.Idx → EReal) (i : S4x3x48.Idx) :
    val_main_v23 (F := Ideal) x0 x1 x2 x3 i = df (x0 i) (x1 i) (x2 i) (x3 i) := rfl
end Ref

open Cert.AdamShortIdeal.Closed in
theorem algebraic : Cert.algebraic_AdamShortIdeal_AdamShortRefIdeal := by
  intro m ρ m' ρ' _ hagree
  refine ⟨fun c => G4 m c, fun c => G5 m c, fun c => G6 m c, run m ρ, ?_⟩
  refine (θ_run Cert.AdamShortRefIdeal.defs _ _).mono (fun _ h c => ⟨(h c).1.trans ?_, (h c).2.1.trans ?_, (h c).2.2.1.trans ?_, (h c).2.2.2⟩)
    (Cert.AdamShortRefIdeal.Value.run (F := Ideal) m' ρ')
  · rw [Cert.AdamShortRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamShortRefIdeal.Read.val_main_v25_eq, (hagree c).2.1, (hagree c).2.2.1]
    show _ = G5 m c
    unfold G5
    rw [V_v1, V_v2]
    exact funext fun i => ref_m _ _ _
  · rw [Cert.AdamShortRefIdeal.Read.val_main_v26_eq, (hagree c).2.1, (hagree c).2.2.2]
    show _ = G6 m c
    unfold G6
    rw [V_v1, V_v3]
    exact funext fun i => ref_v _ _ _

end Cert.Proof.AdamShortClaims

end
-- ==== Proof.AdamConvClaim.lean ====
/-
  The optimiser's step for the long convolution's filters: the kernel's three result arrays at the extended reals, element by element, against
  those of the plain formula.
-/
module

public import proofs.«01_k».proof.Defs
public import proofs.«01_k».proof.Proof.AdamCore
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read

@[expose] public section

set_option maxRecDepth 16384

noncomputable section

namespace Cert.AdamConvIdeal.Closed

open Cert.AdamConvIdeal Cert.AdamConvIdeal.Gen Cert.AdamConvIdeal.Value Cert.Adam Idealize.ShloMosaic Idealize.ShloMosaic.TcCoe Idealize.SL.Sem
open Idealize.ShloMosaic.Pipeline (Dat)

theorem out4_apply (x0 x1 x2 x3 : Vec Ideal S124x48 .f32) (y : S124x48.Idx) :
    out0_4 (F := Ideal) x0 x1 x2 x3 y = df (x0 y) (x1 y) (x2 y) (x3 y) := by
  unfold out0_4
  rw [View.canon_unit_zero (S := S124x48) hz]
  simp only [View.ld_unit_zero (S := S124x48) hz, k0_pay1, k0_pay2, k0_pay3, k0_pay4, shapeCast_self]
  rfl

theorem out5_apply (x0 x1 x2 x3 : Vec Ideal S124x48 .f32) (y : S124x48.Idx) :
    out0_5 (F := Ideal) x0 x1 x2 x3 y = mf (x1 y) (x2 y) := by
  unfold out0_5
  rw [View.canon_unit_zero (S := S124x48) hz]
  simp only [View.ld_unit_zero (S := S124x48) hz, k0_pay1, k0_pay2, k0_pay3, k0_pay4, shapeCast_self]
  rfl

theorem out6_apply (x0 x1 x2 x3 : Vec Ideal S124x48 .f32) (y : S124x48.Idx) :
    out0_6 (F := Ideal) x0 x1 x2 x3 y = vf (x1 y) (x3 y) := by
  unfold out0_6
  rw [View.canon_unit_zero (S := S124x48) hz]
  simp only [View.ld_unit_zero (S := S124x48) hz, k0_pay1, k0_pay2, k0_pay3, k0_pay4, shapeCast_self]
  rfl

variable (m : (ℓ : Loc nD τ sig) → Buf (Elt Ideal) ℓ) (ρ : Dev nD → PrngReg)

/-- The weight's change. -/
def G4 (c : Dev nD) : Buf (Elt Ideal) ((c : Thread nD τ).loc main_v4_0) := fun i : S124x48.Idx =>
  df ((V m c main_v0 : S124x48.Idx → EReal) i) ((V m c main_v1 : S124x48.Idx → EReal) i) ((V m c main_v2 : S124x48.Idx → EReal) i) ((V m c main_v3 : S124x48.Idx → EReal) i)

/-- The new first moment. -/
def G5 (c : Dev nD) : Buf (Elt Ideal) ((c : Thread nD τ).loc main_v4_1) := fun i : S124x48.Idx =>
  mf ((V m c main_v1 : S124x48.Idx → EReal) i) ((V m c main_v2 : S124x48.Idx → EReal) i)

/-- The new second moment. -/
def G6 (c : Dev nD) : Buf (Elt Ideal) ((c : Thread nD τ).loc main_v4_2) := fun i : S124x48.Idx =>
  vf ((V m c main_v1 : S124x48.Idx → EReal) i) ((V m c main_v3 : S124x48.Idx → EReal) i)

theorem flushed4_eq (c : Dev nD) (t : Fin cfg0.N) (hf : (cfg0.win 4).flush t = true) :
    (dats m 0 c).flushed 4 t = ((cfg0.win 4).blk t).view.read (Elt Ideal) (G4 m c) := by
  rw [flushed4]
  funext (y : S124x48.Idx)
  rw [View.read_apply]
  exact out4_apply _ _ _ _ y

theorem flushed5_eq (c : Dev nD) (t : Fin cfg0.N) (hf : (cfg0.win 5).flush t = true) :
    (dats m 0 c).flushed 5 t = ((cfg0.win 5).blk t).view.read (Elt Ideal) (G5 m c) := by
  rw [flushed5]
  funext (y : S124x48.Idx)
  rw [View.read_apply]
  exact out5_apply _ _ _ _ y

theorem flushed6_eq (c : Dev nD) (t : Fin cfg0.N) (hf : (cfg0.win 6).flush t = true) :
    (dats m 0 c).flushed 6 t = ((cfg0.win 6).blk t).view.read (Elt Ideal) (G6 m c) := by
  rw [flushed6]
  funext (y : S124x48.Idx)
  rw [View.read_apply]
  exact out6_apply _ _ _ _ y

theorem index4 : ∀ t : Fin grid0.N, win0_4.index t 0 = t.val ∧ win0_4.index t 1 = 0 := by decide +kernel

/-- Every index of a result lies in some point's block. -/
theorem cover (i : S124x48.Idx) : ∃ t : Fin cfg0.N, i ∈ ((cfg0.win 4).blk t).view.set := by
  have h0 : (i 0 : Nat) < 124 := (i 0).isLt
  have h1 : (i 1 : Nat) < 48 := (i 1).isLt
  have hN : cfg0.N = 1 := N_0
  obtain ⟨t, ht⟩ : ∃ t : Fin cfg0.N, t.val = (i 0).val / 124 := ⟨⟨(i 0).val / 124, by omega⟩, rfl⟩
  have hi := index4 t
  refine ⟨t, ?_⟩
  show i ∈ ((View.whole main_v4_0).slice (win0_4.rect t)).set
  rw [View.set_slice_whole, Rect.mem_set_unit]
  intro a
  match a with
  | ⟨0, _⟩ => show win0_4.index t 0 * 124 ≤ (i 0 : Nat) ∧ (i 0 : Nat) < win0_4.index t 0 * 124 + 124
              rw [hi.1]; omega
  | ⟨1, _⟩ => show win0_4.index t 1 * 48 ≤ (i 1 : Nat) ∧ (i 1 : Nat) < win0_4.index t 1 * 48 + 48
              rw [hi.2]; omega

theorem final4 (c : Dev nD) : (dats m 0 c).arrAt 4 cfg0.N = G4 m c :=
  (dats m 0 c).arrAt_eq_of_cover 4 (G4 m c) (flushed4_eq m c) fun i => (cover i).imp fun t h => ⟨flush0_4 t, h⟩

theorem final5 (c : Dev nD) : (dats m 0 c).arrAt 5 cfg0.N = G5 m c :=
  (dats m 0 c).arrAt_eq_of_cover 5 (G5 m c) (flushed5_eq m c) fun i => (cover i).imp fun t h => ⟨flush0_5 t, h⟩

theorem final6 (c : Dev nD) : (dats m 0 c).arrAt 6 cfg0.N = G6 m c :=
  (dats m 0 c).arrAt_eq_of_cover 6 (G6 m c) (flushed6_eq m c) fun i => (cover i).imp fun t h => ⟨flush0_6 t, h⟩

/-- The run, read: the three result arrays element by element, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨a, b, d, f⟩ := h c
    exact ⟨a.trans (final4 m c), b.trans (final5 m c), d.trans (final6 m c), f⟩) (run_blocks m ρ)

theorem V_v0 (c : Dev nD) : (V m c main_v0 : S124x48.Idx → EReal)
    = shapeCast S124x48 (m ((c : Thread nD τ).loc main_arg0) : S4x31x48.Idx → EReal) shapeCasts_S4x31x48_S124x48 := by
  show StableHlo.after hostOps0 _ _ = _
  unfold hostOps0
  after_results
  rfl

theorem V_v1 (c : Dev nD) : (V m c main_v1 : S124x48.Idx → EReal)
    = shapeCast S124x48 (m ((c : Thread nD τ).loc main_arg1) : S4x31x48.Idx → EReal) shapeCasts_S4x31x48_S124x48 := by
  show StableHlo.after hostOps0 _ _ = _
  unfold hostOps0
  after_results
  rfl

theorem V_v2 (c : Dev nD) : (V m c main_v2 : S124x48.Idx → EReal)
    = shapeCast S124x48 (m ((c : Thread nD τ).loc main_arg2) : S4x31x48.Idx → EReal) shapeCasts_S4x31x48_S124x48 := by
  show StableHlo.after hostOps0 _ _ = _
  unfold hostOps0
  after_results
  rfl

theorem V_v3 (c : Dev nD) : (V m c main_v3 : S124x48.Idx → EReal)
    = shapeCast S124x48 (m ((c : Thread nD τ).loc main_arg3) : S4x31x48.Idx → EReal) shapeCasts_S4x31x48_S124x48 := by
  show StableHlo.after hostOps0 _ _ = _
  unfold hostOps0
  after_results
  rfl

end Cert.AdamConvIdeal.Closed

namespace Cert.Proof.AdamConvClaims

open Idealize.ShloMosaic Idealize.ShloMosaic.TcCoe Idealize.SL.Sem

theorem frame_k : Cert.quiescent_AdamConv := fun m ρ _ => Cert.AdamConv.Gen.frame m ρ
theorem frame_i : Cert.quiescent_AdamConvIdeal := fun m ρ _ => Cert.AdamConvIdeal.Gen.frame m ρ
theorem frame_r : Cert.quiescent_AdamConvRefIdeal := fun m ρ _ =>
  (θ_run Cert.AdamConvRefIdeal.defs _ _).mono (fun r h => ⟨fun c => (h c).2.2.2, Idealize.ShloMosaic.sem_eq_zero_of_no_sems (by decide) r.2⟩)
    (Cert.AdamConvRefIdeal.Value.run (F := Ideal) m ρ)

section Ref
open Cert.AdamConvRefIdeal Cert.AdamConvRefIdeal.Read Cert.Adam

/-- The plain formula, element by element, is the same functions of the element. -/
theorem ref_m (x1 x2 : S4x31x48.Idx → EReal) (i : S4x31x48.Idx) : val_main_v4 (F := Ideal) x1 x2 i = mf (x1 i) (x2 i) := rfl
theorem ref_v (x1 x3 : S4x31x48.Idx → EReal) (i : S4x31x48.Idx) : val_main_v10 (F := Ideal) x1 x3 i = vf (x1 i) (x3 i) := rfl
theorem ref_d (x0 x1 x2 x3 : S4x31x48.Idx → EReal) (i : S4x31x48.Idx) :
    val_main_v23 (F := Ideal) x0 x1 x2 x3 i = df (x0 i) (x1 i) (x2 i) (x3 i) := rfl
end Ref

open Cert.AdamConvIdeal.Closed in
theorem algebraic : Cert.algebraic_AdamConvIdeal_AdamConvRefIdeal := by
  intro m ρ m' ρ' _ hagree
  refine ⟨fun c => G4 m c, fun c => G5 m c, fun c => G6 m c, run m ρ, ?_⟩
  refine (θ_run Cert.AdamConvRefIdeal.defs _ _).mono (fun _ h c => ⟨(h c).1.trans ?_, (h c).2.1.trans ?_, (h c).2.2.1.trans ?_, (h c).2.2.2⟩)
    (Cert.AdamConvRefIdeal.Value.run (F := Ideal) m' ρ')
  · rw [Cert.AdamConvRefIdeal.Read.val_main_v24_eq, (hagree c).1, (hagree c).2.1, (hagree c).2.2.1, (hagree c).2.2.2]
    show _ = G4 m c
    unfold G4
    rw [V_v0, V_v1, V_v2, V_v3]
    exact funext fun i => ref_d _ _ _ _ _
  · rw [Cert.AdamConvRefIdeal.Read.val_main_v25_eq, (hagree c).2.1, (hagree c).2.2.1]
    show _ = G5 m c
    unfold G5
    rw [V_v1, V_v2]
    exact funext fun i => ref_m _ _ _
  · rw [Cert.AdamConvRefIdeal.Read.val_main_v26_eq, (hagree c).2.1, (hagree c).2.2.2]
    show _ = G6 m c
    unfold G6
    rw [V_v1, V_v3]
    exact funext fun i => ref_v _ _ _

end Cert.Proof.AdamConvClaims

end
-- ==== Proof.LossClaim.lean ====
/-
  The loss head: half the mean squared distance of the rows to their targets, summed over the rows, and its gradient. The
  kernel meets 512 rows a grid point and carries the running loss from point to point; the reference is the loss as it is
  written and its derivative. The two agree at the extended reals without any condition: a finite factor that is not
  negative goes into every sum.
-/
module

public import proofs.«01_k».proof.Defs
public import proofs.«01_k».proof.Proof.RowCore
public import proofs.«01_k».proof.Proof.RunningSum
public import proofs.«01_k».proof.Proof.FfnReal
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Quiescent
public import Idealize.ShloMosaic.Lib.IdealHost
public import Idealize.ShloMosaic.Lib.Pointwise.Reduce
public import Idealize.ShloMosaic.Lib.Pointwise.Reshape
public import Idealize.ShloMosaic.Lib.Pointwise.Tactic

@[expose] public section

set_option maxRecDepth 16384

noncomputable section

namespace Cert.LossIdeal.Closed

open Cert.LossIdeal Cert.LossIdeal.Gen Cert.LossIdeal.Value Cert.Rows Idealize.ShloMosaic Idealize.ShloMosaic.TcCoe Idealize.SL.Sem
open Idealize.ShloMosaic.Pipeline (Dat)
open Cert.KernelIdeal.Closed (c1024 cHalf cTwo)

/-! ## Constants and sums -/

theorem cInv : Ideal.ofBits .f32 0x3A800000#32 = ((1 / 1024 : ℝ) : EReal) := by
  simp [Ideal.ofBits, Ideal.ieee, -EReal.coe_mul]; norm_num

theorem cInvHalf : Ideal.ofBits .f32 0x3A000000#32 = ((1 / 2048 : ℝ) : EReal) := by
  simp [Ideal.ofBits, Ideal.ieee, -EReal.coe_mul]; norm_num

theorem cOne : Ideal.ofBits .f32 0x3F800000#32 = ((1 : ℝ) : EReal) := by
  simp [Ideal.ofBits, Ideal.ieee, -EReal.coe_mul]; norm_num

/-- A sum over the indices of a one-axis array. -/
theorem sum_ix1 {N : ℕ} (f : (⟨1, ![N]⟩ : Shape).Idx → EReal) : ∑ j, f j = ∑ n : Fin N, f (ix1 n) :=
  Fintype.sum_equiv ⟨fun j => j 0, fun n => ix1 n, fun j => (eq_ix1 j).symm, fun n => rfl⟩ _ _ fun j => congrArg f (eq_ix1 j)

/-- A real factor that is not negative goes into a sum. -/
theorem sum_scale {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-! ## The payloads -/

/-- The distance of one element to its target. -/
def errB (x0 : Vec Ideal S512x1024 .f32) (x1 x2 : Vec Ideal S1x1024 .f32) (x3 : Vec Ideal S512x1024 .f32) (p : Fin 512) (q : Fin 1024) : EReal :=
  x0 (ix2 p q) * x1 (ix2 0 q) + x2 (ix2 0 q) - x3 (ix2 p q)

section Payloads

variable (x0 : Vec Ideal S512x1024 .f32) (x1 x2 : Vec Ideal S1x1024 .f32) (x3 : Vec Ideal S512x1024 .f32)

theorem pay2_apply (p : Fin 512) (q : Fin 1024) : k0_pay2 (F := Ideal) x0 x1 x2 x3 (ix2 p q) = errB x0 x1 x2 x3 p q := by
  unfold k0_pay2 errB; pointwise

theorem pay3_apply (p : Fin 512) (q : Fin 1024) : k0_pay3 (F := Ideal) x0 x1 x2 x3 (ix2 p q) = errB x0 x1 x2 x3 p q * Ideal.ofBits .f32 0x3A800000#32 := by
  rw [← pay2_apply]
  unfold k0_pay3
  generalize k0_pay2 (F := Ideal) x0 x1 x2 x3 = X
  pointwise

theorem pay1_apply : k0_pay1 (F := Ideal) (ix2 0 0) = 0 := by
  unfold k0_pay1; pointwise

theorem pay4_apply (a : Vec Ideal S1x1 .f32) : k0_pay4 (F := Ideal) x0 x1 x2 x3 a (ix2 0 0)
    = a (ix2 0 0) + ∑ p : Fin 512, (∑ q : Fin 1024, errB x0 x1 x2 x3 p q * errB x0 x1 x2 x3 p q) * ((1 / 2048 : ℝ) : EReal) := by
  have h : k0_pay4 (F := Ideal) x0 x1 x2 x3 a (ix2 0 0)
      = a (ix2 0 0) + (∑ q : Fin 1024, ∑ p : Fin 512, errB x0 x1 x2 x3 p q * errB x0 x1 x2 x3 p q) * Ideal.ofBits .f32 0x3A000000#32 := by
    have e := pay2_apply x0 x1 x2 x3
    unfold k0_pay4
    generalize k0_pay2 (F := Ideal) x0 x1 x2 x3 = X at e ⊢
    simp only [← e, shapeCast_self]
    pointwise
  rw [h, cInvHalf, Finset.sum_comm, sum_scale _ _ _ (by norm_num)]

end Payloads

/-! ## What each case leaves -/

/-- A whole load of what a whole store left. -/
theorem readCov0 {sig : RefSig} {κ : Kind} {sp : Space} (v : View sig κ sp S1x1 .f32) (inb inb' : ∀ a, (![0, 0] : Fin 2 → Nat) a + S1x1.size a ≤ S1x1.size a)
    (w : Vec Ideal S1x1 .f32) (L : List (View.Piece (Elt Ideal) S1x1 .f32)) :
    v.readCov ((⟨Rect.unit ![0, 0] S1x1.size inb, w⟩ : View.Piece (Elt Ideal) S1x1 .f32) :: L) (Rect.unit ![0, 0] S1x1.size inb').toLoadRect = w := by
  rw [View.readCov_eq_canon_ld _ _ _ (fun y => ⟨_, List.mem_cons_self, View.mem_set_unit_zero hz inb y⟩), View.canon_cons_unit_zero (S := S1x1) hz,
    View.ld_unit_zero (S := S1x1) hz]

section Cases

variable (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1 .f32) (h6 : a6.IsWhole)
  (x0 : Vec Ideal S512x1024 .f32) (x1 x2 : Vec Ideal S1x1024 .f32) (x3 : Vec Ideal S512x1024 .f32) (xo5 : Vec Ideal S1x1 .f32)

theorem out4_A (hc0 : cond0_0 i) : out0_A_4 (F := Ideal) c i a1 h1 a2 h2 a3 h3 a4 h4 a5 h5 a6 h6 hc0 x0 x1 x2 x3 = k0_pay3 x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  simp only [View.readAt_eq_ld, h1.read_unread, h2.read_unread, h3.read_unread, h4.read_unread, h6.read_unread, View.ld_unit_zero (S := S512x1024) hz, View.ld_unit_zero (S := S1x1024) hz, View.ld_unit_zero (S := S1x1) hz]
  rw [View.canon_cons_unit_zero (S := S512x1024) hz]

theorem out5_A (hc0 : cond0_0 i) : out0_A_5 (F := Ideal) c i a1 h1 a2 h2 a3 h3 a4 h4 a5 h5 a6 h6 hc0 x0 x1 x2 x3 = k0_pay4 x0 x1 x2 x3 (k0_pay1 (F := Ideal)) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  simp only [View.readAt_eq_ld, h1.read_unread, h2.read_unread, h3.read_unread, h4.read_unread, h6.read_unread, View.ld_unit_zero (S := S512x1024) hz, View.ld_unit_zero (S := S1x1024) hz, View.ld_unit_zero (S := S1x1) hz]
  rw [View.canon_cons_unit_zero (S := S1x1) hz]
  repeat rw [readCov0]

theorem out4_B (hc0 : ¬cond0_0 i) : out0_B_4 (F := Ideal) c i a1 h1 a2 h2 a3 h3 a4 h4 a5 h5 a6 h6 hc0 x0 x1 x2 x3 xo5 = k0_pay3 x0 x1 x2 x3 := by
  unfold out0_B_4
  rw [View.read_writes_eq_canon _ _ _ (cover0_B_4 c i a1 h1 a2 h2 a3 h3 a4 h4 a5 h5 a6 h6 hc0 x0 x1 x2 x3 xo5)]
  unfold kernelRun0_B
  dsimp only
  sl_unfold_words
  simp only [View.readAt_eq_ld, h1.read_unread, h2.read_unread, h3.read_unread, h4.read_unread, h6.read_unread, View.ld_unit_zero (S := S512x1024) hz, View.ld_unit_zero (S := S1x1024) hz, View.ld_unit_zero (S := S1x1) hz]
  rw [View.canon_cons_unit_zero (S := S512x1024) hz]

theorem out5_B (hc0 : ¬cond0_0 i) : out0_B_5 (F := Ideal) c i a1 h1 a2 h2 a3 h3 a4 h4 a5 h5 a6 h6 hc0 x0 x1 x2 x3 xo5 = k0_pay4 x0 x1 x2 x3 xo5 := by
  unfold out0_B_5
  rw [View.read_writes_eq_canon _ _ _ (cover0_B_5 c i a1 h1 a2 h2 a3 h3 a4 h4 a5 h5 a6 h6 hc0 x0 x1 x2 x3 xo5)]
  unfold kernelRun0_B
  dsimp only
  sl_unfold_words
  simp only [View.readAt_eq_ld, h1.read_unread, h2.read_unread, h3.read_unread, h4.read_unread, h6.read_unread, View.ld_unit_zero (S := S512x1024) hz, View.ld_unit_zero (S := S1x1024) hz, View.ld_unit_zero (S := S1x1) hz]
  rw [View.canon_cons_unit_zero (S := S1x1) hz]

end Cases

/-! ## The operands -/

variable (m : (ℓ : Loc nD τ sig) → Buf (Elt Ideal) ℓ) (ρ : Dev nD → PrngReg)

/-- The normalised rows, the scale, the shift, the targets. -/
abbrev aX (c : Dev nD) : S16384x1024.Idx → EReal := m ((c : Thread nD τ).loc main_arg0)
abbrev aG (c : Dev nD) : S1x1024.Idx → EReal := m ((c : Thread nD τ).loc main_arg1)
abbrev aB (c : Dev nD) : S1x1024.Idx → EReal := m ((c : Thread nD τ).loc main_arg2)
abbrev aT (c : Dev nD) : S16384x1024.Idx → EReal := m ((c : Thread nD τ).loc main_arg3)

theorem W_0 (c : Dev nD) : V m c main_arg0 = (aX m c : S16384x1024.Idx → EReal) := V_main_arg0 m c
theorem W_1 (c : Dev nD) : V m c main_arg1 = (aG m c : S1x1024.Idx → EReal) := V_main_arg1 m c
theorem W_2 (c : Dev nD) : V m c main_arg2 = (aB m c : S1x1024.Idx → EReal) := V_main_arg2 m c
theorem W_3 (c : Dev nD) : V m c main_arg3 = (aT m c : S16384x1024.Idx → EReal) := V_main_arg3 m c

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel

/-- The operands' blocks at point `t`. -/
abbrev b0 (c : Dev nD) (t : Fin cfg0.N) : Vec Ideal S512x1024 .f32 := iblk m c 0 t
abbrev b1 (c : Dev nD) (t : Fin cfg0.N) : Vec Ideal S1x1024 .f32 := iblk m c 1 t
abbrev b2 (c : Dev nD) (t : Fin cfg0.N) : Vec Ideal S1x1024 .f32 := iblk m c 2 t
abbrev b3 (c : Dev nD) (t : Fin cfg0.N) : Vec Ideal S512x1024 .f32 := iblk m c 3 t

theorem iblk0 (c : Dev nD) (t : Fin cfg0.N) (p : Fin 512) (k : Fin 1024) (h : 512 * t.val + p.val < 16384) :
    b0 m c t (ix2 p k) = aX m c (ix2 ⟨512 * t.val + p.val, h⟩ k) := by
  have hi := idx0 t
  rw [← W_0 m c]
  unfold b0 iblk
  rw [View.read_apply]
  show V m c main_arg0 _ = V m c main_arg0 _
  congr 1
  funext a
  apply Fin.ext
  match a with
  | ⟨0, _⟩ => show win0_0.index t 0 * 512 + 1 * p.val = 512 * t.val + p.val; rw [hi.1]; omega
  | ⟨1, _⟩ => show win0_0.index t 1 * 1024 + 1 * k.val = k.val; rw [hi.2]; omega

theorem iblk1 (c : Dev nD) (t : Fin cfg0.N) (k : Fin 1024) : b1 m c t (ix2 0 k) = aG m c (ix2 0 k) := by
  have hi := idx1 t
  rw [← W_1 m c]
  unfold b1 iblk
  rw [View.read_apply]
  show V m c main_arg1 _ = V m c main_arg1 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem iblk2 (c : Dev nD) (t : Fin cfg0.N) (k : Fin 1024) : b2 m c t (ix2 0 k) = aB m c (ix2 0 k) := by
  have hi := idx2 t
  rw [← W_2 m c]
  unfold b2 iblk
  rw [View.read_apply]
  show V m c main_arg2 _ = V m c main_arg2 _
  congr 1
  funext a
  apply Fin.ext
  match a with
  | ⟨0, _⟩ => show win0_2.index t 0 * 1 + 1 * 0 = 0; rw [hi.1]
  | ⟨1, _⟩ => show win0_2.index t 1 * 1024 + 1 * k.val = k.val; rw [hi.2]; omega

theorem iblk3 (c : Dev nD) (t : Fin cfg0.N) (p : Fin 512) (k : Fin 1024) (h : 512 * t.val + p.val < 16384) :
    b3 m c t (ix2 p k) = aT m c (ix2 ⟨512 * t.val + p.val, h⟩ k) := by
  have hi := idx3 t
  rw [← W_3 m c]
  unfold b3 iblk
  rw [View.read_apply]
  show V m c main_arg3 _ = V m c main_arg3 _
  congr 1
  funext a
  apply Fin.ext
  match a with
  | ⟨0, _⟩ => show win0_3.index t 0 * 512 + 1 * p.val = 512 * t.val + p.val; rw [hi.1]; omega
  | ⟨1, _⟩ => show win0_3.index t 1 * 1024 + 1 * k.val = k.val; rw [hi.2]; omega

/-- The distance of an element to its target. -/
def err (x : S16384x1024.Idx → EReal) (g b : S1x1024.Idx → EReal) (y : S16384x1024.Idx → EReal) (n : Fin 16384) (q : Fin 1024) : EReal :=
  x (ix2 n q) * g (ix2 0 q) + b (ix2 0 q) - y (ix2 n q)

/-- A row's loss. -/
def rowLoss (x : S16384x1024.Idx → EReal) (g b : S1x1024.Idx → EReal) (y : S16384x1024.Idx → EReal) (n : Fin 16384) : EReal :=
  (∑ q : Fin 1024, err x g b y n q * err x g b y n q) * ((1 / 2048 : ℝ) : EReal)

theorem err_blk (c : Dev nD) (t : Fin cfg0.N) (p : Fin 512) (q : Fin 1024) (h : 512 * t.val + p.val < 16384) :
    errB (b0 m c t) (b1 m c t) (b2 m c t) (b3 m c t) p q = err (aX m c) (aG m c) (aB m c) (aT m c) ⟨512 * t.val + p.val, h⟩ q := by
  unfold errB err
  rw [iblk0 m c t p q h, iblk1, iblk2, iblk3 m c t p q h]

/-! ## The gradient -/

theorem outs4 (c : Dev nD) (t : Fin cfg0.N) : (outsAt0 m c t.val t.isLt).1 = k0_pay3 (F := Ideal) (b0 m c t) (b1 m c t) (b2 m c t) (b3 m c t) := by
  by_cases h0 : t.val % 32 = 0
  · rw [outsAt0_A m c t h0]; dsimp only; rw [out4_A]
  · rw [outsAt0_B m c t h0]; dsimp only; rw [out4_B]

def G4 (c : Dev nD) : Buf (Elt Ideal) ((c : Thread nD τ).loc main_v0_0) := fun i : S16384x1024.Idx =>
  err (aX m c) (aG m c) (aB m c) (aT m c) (i 0) (i 1) * Ideal.ofBits .f32 0x3A800000#32

theorem flushed4_eq (c : Dev nD) (t : Fin cfg0.N) (hf : (cfg0.win 4).flush t = true) :
    (dats m 0 c).flushed 4 t = ((cfg0.win 4).blk t).view.read (Elt Ideal) (G4 m c) := by
  have hN : cfg0.N = 32 := N_0
  have hlt : t.val < 32 := hN ▸ t.isLt
  have hi := idx4 t
  rw [flushed4]
  funext (y : S512x1024.Idx)
  have hy0 : (y 0).val < 512 := (y 0).isLt
  rw [View.read_apply]
  show (outsAt0 m c t.val t.isLt).1 y = _
  rw [outs4, eq_ix2 y]
  refine (pay3_apply _ _ _ _ (y 0) (y 1)).trans ?_
  rw [err_blk m c t (y 0) (y 1) (by omega)]
  unfold G4
  congr 2
  · apply Fin.ext
    show 512 * t.val + (y 0).val = win0_4.index t 0 * 512 + 1 * (y 0).val
    rw [hi.1]; omega
  · apply Fin.ext
    show (y 1).val = win0_4.index t 1 * 1024 + 1 * (y 1).val
    rw [hi.2]; omega

theorem final4 (c : Dev nD) : (dats m 0 c).arrAt 4 cfg0.N = G4 m c :=
  (dats m 0 c).arrAt_eq_of_cover 4 (G4 m c) (flushed4_eq m c) fun (i : S16384x1024.Idx) => by
    have h0 : (i 0 : Nat) < 16384 := (i 0).isLt
    have h1 : (i 1 : Nat) < 1024 := (i 1).isLt
    have hN : cfg0.N = 32 := N_0
    obtain ⟨t, ht⟩ : ∃ t : Fin cfg0.N, t.val = (i 0).val / 512 := ⟨⟨(i 0).val / 512, by omega⟩, rfl⟩
    have hi := idx4 t
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [hi.1]; omega
    | ⟨1, _⟩ => show win0_4.index t 1 * 1024 ≤ (i 1 : Nat) ∧ (i 1 : Nat) < win0_4.index t 1 * 1024 + 1024
                rw [hi.2]; omega

/-! ## The loss -/

/-- The rows' losses on a device. -/
def rows (c : Dev nD) : Fin 16384 → EReal := rowLoss (aX m c) (aG m c) (aB m c) (aT m c)

theorem tile5 (c : Dev nD) (t : Fin cfg0.N) :
    ∑ p : Fin 512, (∑ q : Fin 1024, errB (b0 m c t) (b1 m c t) (b2 m c t) (b3 m c t) p q * errB (b0 m c t) (b1 m c t) (b2 m c t) (b3 m c t) p q) * ((1 / 2048 : ℝ) : EReal)
      = ∑ k ∈ Finset.range 512, nat (rows m c) (512 * t.val + k) :=
  nat_part (rows m c) t.val (by have hN : cfg0.N = 32 := N_0; have := t.isLt; omega) _ fun p h => by
    unfold rows rowLoss
    refine congrArg (· * ((1 / 2048 : ℝ) : EReal)) (Finset.sum_congr rfl fun q _ => ?_)
    rw [err_blk m c t p q h]

theorem step5_A (c : Dev nD) (t : Fin cfg0.N) (h0 : t.val % 32 = 0) :
    (outsAt0 m c t.val t.isLt).2 (ix2 0 0) = ∑ k ∈ Finset.range 512, nat (rows m c) (512 * t.val + k) := by
  rw [← tile5, outsAt0_A m c t h0]
  dsimp only
  rw [out5_A, pay4_apply, pay1_apply, zero_add]

theorem step5_B (c : Dev nD) (t : Fin cfg0.N) (h0 : ¬t.val % 32 = 0) :
    (outsAt0 m c t.val t.isLt).2 (ix2 0 0) = (outsAt0 m c (t.val - 1) (Nat.lt_of_le_of_lt (Nat.sub_le _ _) t.isLt)).2 (ix2 0 0)
      + ∑ k ∈ Finset.range 512, nat (rows m c) (512 * t.val + k) := by
  rw [← tile5, outsAt0_B m c t h0]
  dsimp only
  rw [out5_B, pay4_apply]

theorem outs5_eq (c : Dev nD) (n : ℕ) (h : n < cfg0.N) :
    (outsAt0 m c n h).2 (ix2 0 0) = ∑ k ∈ Finset.range (512 * (n + 1)), nat (rows m c) k := by
  have hN : cfg0.N = 32 := N_0
  exact running (fun n h => (outsAt0 m c n h).2 (ix2 0 0)) (nat (rows m c)) (fun h => step5_A m c ⟨0, h⟩ rfl)
    (fun n h => step5_B m c ⟨n + 1, h⟩ (by show ¬(n + 1) % 32 = 0; omega)) n h

/-- The loss: the sum of the rows'. -/
def total (x : S16384x1024.Idx → EReal) (g b : S1x1024.Idx → EReal) (y : S16384x1024.Idx → EReal) : EReal := ∑ n, rowLoss x g b y n

theorem total_eq (c : Dev nD) : ∑ k ∈ Finset.range 16384, nat (rows m c) k = total (aX m c) (aG m c) (aB m c) (aT m c) := nat_all _

def G5 (c : Dev nD) : Buf (Elt Ideal) ((c : Thread nD τ).loc main_v0_1) := fun i : S1x1.Idx => total (aX m c) (aG m c) (aB m c) (aT m c)

/-- The one index of a 1×1 array. -/
theorem one_idx (y : S1x1.Idx) : y = ix2 0 0 := funext fun a => by
  match a with
  | ⟨0, _⟩ => exact Subsingleton.elim (α := Fin 1) _ _
  | ⟨1, _⟩ => exact Subsingleton.elim (α := Fin 1) _ _

theorem flushed5_eq (c : Dev nD) (t : Fin cfg0.N) (hf : (cfg0.win 5).flush t = true) :
    (dats m 0 c).flushed 5 t = ((cfg0.win 5).blk t).view.read (Elt Ideal) (G5 m c) := by
  have h31 : t.val % 32 = 31 := (flush0_5 t).mp hf
  have hN : cfg0.N = 32 := N_0
  have hlt : t.val < 32 := hN ▸ t.isLt
  rw [flushed5]
  funext (y : S1x1.Idx)
  rw [View.read_apply]
  show (outsAt0 m c t.val t.isLt).2 y = _
  rw [one_idx y]
  refine (outs5_eq m c t.val t.isLt).trans ?_
  rw [show 512 * (t.val + 1) = 16384 from by omega]
  refine (total_eq m c).trans ?_
  unfold G5
  generalize total (aX m c) (aG m c) (aB m c) (aT m c) = w
  rfl

theorem final5 (c : Dev nD) : (dats m 0 c).arrAt 5 cfg0.N = G5 m c :=
  (dats m 0 c).arrAt_eq_of_cover 5 (G5 m c) (flushed5_eq m c) fun (i : S1x1.Idx) => by
    have h0 : (i 0 : Nat) < 1 := (i 0).isLt
    have h1 : (i 1 : Nat) < 1 := (i 1).isLt
    have hN : cfg0.N = 32 := N_0
    obtain ⟨t, ht⟩ : ∃ t : Fin cfg0.N, t.val = 31 := ⟨⟨31, by omega⟩, rfl⟩
    have hi := idx5 t
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [hi.1]; omega
    | ⟨1, _⟩ => show win0_5.index t 1 * 1 ≤ (i 1 : Nat) ∧ (i 1 : Nat) < win0_5.index t 1 * 1 + 1
                rw [hi.2]; omega

/-- The run, read: the gradient and the loss in closed form, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩) (run_blocks m ρ)

/-! ## The reference -/

section Reference

open Cert.LossRefIdeal.Read

variable (x : S16384x1024.Idx → EReal) (g b : S1x1024.Idx → EReal) (y : S16384x1024.Idx → EReal)

theorem ref_err (n : Fin 16384) (q : Fin 1024) : val_main_v4 (F := Ideal) x g b y (ix2 n q) = err x g b y n q := by
  rw [val_main_v4_apply, val_main_v3_apply, val_main_v2_apply, val_main_v1_apply, val_main_v0_apply]
  have e0 : idx_main_v0 (ix2 n q) = ix2 0 q := funext fun a => Fin.ext (by match a with | ⟨0, _⟩ => rfl | ⟨1, _⟩ => rfl)
  have e2 : idx_main_v2 (ix2 n q) = ix2 0 q := funext fun a => Fin.ext (by match a with | ⟨0, _⟩ => rfl | ⟨1, _⟩ => rfl)
  rw [e0, e2]
  rfl

theorem ref_grad (n : Fin 16384) (q : Fin 1024) :
    val_main_v18 (F := Ideal) x g b y (ix2 n q) = err x g b y n q * Ideal.ofBits .f32 0x3A800000#32 := by
  rw [val_main_v18_apply, val_main_v17_apply, val_main_v16_apply, val_main_v15_apply, val_main_v14_apply, val_main_v13_apply,
    val_main_v7_apply, val_main_v6_apply, ref_err, val_main_cst_apply, val_main_cst_4_apply, val_main_cst_5_apply, val_main_cst_6_apply]
  show Ideal.div (Ideal.ofBits .f32 0x3F000000#32 * Ideal.ofBits .f32 0x3F800000#32) (Ideal.ofBits .f32 0x44800000#32)
    * (Ideal.ofBits .f32 0x40000000#32 * err x g b y n q) = _
  rw [cHalf, cOne, c1024, cTwo, cInv, Ideal.div_coe (by norm_num), ← EReal.coe_mul, ← EReal.coe_mul, ← mul_assoc, ← EReal.coe_mul, mul_comm]
  congr 2
  norm_num

/-- A row's mean squared distance. -/
theorem ref_row (n : Fin 16384) (i : Cert.LossRefIdeal.S16384.Idx) (hi : (i 0).val = n.val) :
    val_main_v10 (F := Ideal) x g b y i = (∑ q : Fin 1024, err x g b y n q * err x g b y n q) * ((1 / 1024 : ℝ) : EReal) := by
  rw [val_main_v10_apply, val_main_v9_apply, val_main_v8_apply, val_main_cst_1_apply, val_main_cst_0_apply]
  show Ideal.div (Ideal.ofBits .f32 0x00000000#32 + _) (Ideal.ofBits .f32 0x44800000#32) = _
  rw [Ideal.ofBits_zero_f32, zero_add, c1024, Ideal.div_coe (by norm_num)]
  refine congrArg (· * ((1 / 1024 : ℝ) : EReal)) (Finset.sum_congr rfl fun q _ => ?_)
  have e : idx_main_v8 i q = ix2 n q := funext fun a => Fin.ext (by match a with | ⟨0, _⟩ => exact hi | ⟨1, _⟩ => rfl)
  rw [val_main_v5_apply, e, ref_err]
  rfl

theorem ref_sum (i : Cert.LossRefIdeal.S_.Idx) : val_main_v12 (F := Ideal) x g b y i = total x g b y := by
  rw [val_main_v12_apply, val_main_v11_apply, val_main_cst_3_apply, val_main_cst_2_apply]
  show Ideal.ofBits .f32 0x3F000000#32 * (Ideal.ofBits .f32 0x00000000#32 + _) = _
  rw [Ideal.ofBits_zero_f32, zero_add, cHalf, mul_comm, sum_scale _ _ _ (by norm_num)]
  unfold total
  refine (sum_ix1 (N := 16384) _).trans (Finset.sum_congr rfl fun n _ => ?_)
  rw [ref_row x g b y n (ix1 n) rfl]
  unfold rowLoss
  show _ * _ * _ = (∑ q : Fin 1024, err x g b y n q * err x g b y n q) * _
  rw [mul_assoc, ← EReal.coe_mul]
  congr 2
  norm_num

theorem ref_loss (i : S1x1.Idx) : val_main_v19 (F := Ideal) x g b y i = total x g b y := by
  unfold val_main_v19 shapeCast
  exact ref_sum x g b y _

end Reference

theorem res4 (c : Dev nD) : Cert.LossRefIdeal.Read.val_main_v18 (F := Ideal) (aX m c) (aG m c) (aB m c) (aT m c) = G4 m c := by
  funext i
  obtain ⟨n, q, rfl⟩ : ∃ n q, i = ix2 n q := ⟨i 0, i 1, eq_ix2 i⟩
  exact ref_grad (aX m c) (aG m c) (aB m c) (aT m c) n q

theorem res5 (c : Dev nD) : Cert.LossRefIdeal.Read.val_main_v19 (F := Ideal) (aX m c) (aG m c) (aB m c) (aT m c) = G5 m c :=
  funext fun i => ref_loss (aX m c) (aG m c) (aB m c) (aT m c) i

end Cert.LossIdeal.Closed

namespace Cert.Proof.LossClaims

open Idealize.ShloMosaic Idealize.ShloMosaic.TcCoe Idealize.SL.Sem

theorem frame_k : Cert.quiescent_Loss := fun m ρ _ => Cert.Loss.Gen.frame m ρ
theorem frame_i : Cert.quiescent_LossIdeal := fun m ρ _ => Cert.LossIdeal.Gen.frame m ρ
theorem frame_r : Cert.quiescent_LossRefIdeal := fun m ρ _ =>
  (θ_run Cert.LossRefIdeal.defs _ _).mono (fun r h => ⟨fun c => (h c).2.2, Idealize.ShloMosaic.sem_eq_zero_of_no_sems (by decide) r.2⟩)
    (Cert.LossRefIdeal.Value.run (F := Ideal) m ρ)

open Cert.LossIdeal.Closed in
theorem algebraic : Cert.algebraic_LossIdeal_LossRefIdeal := by
  intro m ρ m' ρ' _ hagree
  refine ⟨fun c => G4 m c, fun c => G5 m c, run m ρ, ?_⟩
  refine (θ_run Cert.LossRefIdeal.defs _ _).mono (fun _ h c => ⟨(h c).1.trans ?_, (h c).2.1.trans ?_, (h c).2.2⟩)
    (Cert.LossRefIdeal.Value.run (F := Ideal) m' ρ')
  · rw [Cert.LossRefIdeal.Read.val_main_v18_eq, (hagree c).1, (hagree c).2.1, (hagree c).2.2.1, (hagree c).2.2.2]
    exact res4 m c
  · rw [Cert.LossRefIdeal.Read.val_main_v19_eq, (hagree c).1, (hagree c).2.1, (hagree c).2.2.1, (hagree c).2.2.2]
    exact res5 m c

end Cert.Proof.LossClaims

end
-- ==== Proof.SumBigClaim.lean ====
/-
  The sum of a device's own part of the large weights' gradients and the seven received: the kernel adds them in order,
  a block of 256 rows at each point; the reference adds the own part to the sum over the received ones.
-/
module

public import proofs.«01_k».proof.Defs
public import proofs.«01_k».proof.Proof.Gen.SumBig.Frame
public import proofs.«01_k».proof.Proof.Gen.SumBigIdeal.Value
public import proofs.«01_k».proof.Proof.Gen.SumBigRefIdeal.Run
public import proofs.«01_k».proof.Proof.Gen.SumBigRefIdeal.Read
public import Idealize.ShloMosaic.Lib.Quiescent
public import Idealize.ShloMosaic.Lib.IdealHost

@[expose] public section

set_option maxRecDepth 16384

noncomputable section

namespace Cert.SumBigIdeal.Closed

open Cert.SumBigIdeal Cert.SumBigIdeal.Gen Cert.SumBigIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Element `y` of received part `k`. -/
def at' (y : S2816x1024.Idx) (k : Fin 7) : S7x2816x1024.Idx := fun a => match a with
  | ⟨0, _⟩ => ⟨k.val, k.isLt⟩
  | ⟨1, _⟩ => ⟨(y 0).val, (y 0).isLt⟩
  | ⟨2, _⟩ => ⟨(y 1).val, (y 1).isLt⟩

/-- An index whose coordinates are those of element `y` of part `k`. -/
theorem at_eq (y : S2816x1024.Idx) (k : Fin 7) (j : S7x2816x1024.Idx) (h0 : (j 0).val = k.val) (h1 : (j 1).val = (y 0).val)
    (h2 : (j 2).val = (y 1).val) : j = at' y k := by
  funext a; apply Fin.ext
  match a with
  | ⟨0, _⟩ => exact h0
  | ⟨1, _⟩ => exact h1
  | ⟨2, _⟩ => exact h2

/-- A device's own part and the received ones, added. -/
def total (o : S2816x1024.Idx → EReal) (x : S7x2816x1024.Idx → EReal) (y : S2816x1024.Idx) : EReal :=
  o y + ∑ k : Fin 7, x (at' y k)

/-- The result array. -/
def G (c : Dev nD) : Buf (Elt Ideal) ((c : Thread nD τ).loc main_v0) := fun y : S2816x1024.Idx =>
  total (V m c main_arg0 : S2816x1024.Idx → EReal) (V m c main_arg1 : S7x2816x1024.Idx → EReal) y

theorem index1 : ∀ t : Fin grid0.N, win0_1.index t 0 = 0 ∧ win0_1.index t 1 = win0_2.index t 0 ∧ win0_1.index t 2 = win0_2.index t 1 := by
  decide +kernel
theorem index2 : ∀ t : Fin grid0.N, win0_2.index t 0 = t.val ∧ win0_2.index t 1 = 0 := by decide +kernel

/-- Row `k` of the received block at point `t` is part `k` of the array, at the result's rows. -/
theorem recv_idx (t : Fin cfg0.N) (k : Fin 7) (y : S256x1024.Idx) (j : S7x256x1024.Idx) (h0 : (j 0).val = k.val) (h1 : (j 1).val = (y 0).val)
    (h2 : (j 2).val = (y 1).val) :
    ((cfg0.win 1).blk t).view.emb j = at' (((cfg0.win 2).blk t).view.emb y) k := by
  obtain ⟨e0, e1, e2⟩ := index1 t
  apply at_eq
  · show win0_1.index t 0 * 7 + 1 * (j 0).val = k.val
    omega
  · show win0_1.index t 1 * 256 + 1 * (j 1).val = win0_2.index t 0 * 256 + 1 * (y 0).val
    rw [e1, h1]
  · show win0_1.index t 2 * 1024 + 1 * (j 2).val = win0_2.index t 1 * 1024 + 1 * (y 1).val
    rw [e2, h2]

theorem flushed_eq (c : Dev nD) (t : Fin cfg0.N) (hf : (cfg0.win 2).flush t = true) :
    (dats m 0 c).flushed 2 t = ((cfg0.win 2).blk t).view.read (Elt Ideal) (G m c) := by
  rw [flushed2]
  funext (y : S256x1024.Idx)
  rw [View.read_apply]
  show out0_2 (iblk m c 0 t) (iblk m c 1 t) y = G m c (((cfg0.win 2).blk t).view.emb y)
  unfold out0_2 G total
  rw [canon2_eq, Fin.sum_univ_seven]
  rw [← recv_idx t 0 y (r0_1.idx (ix2_1 y)) (by show 0 + 1 * 0 = 0; rfl) (by show 0 + 1 * (y 0).val = _; omega) (by show 0 + 1 * (y 1).val = _; omega)]
  rw [← recv_idx t 1 y (r0_2.idx (ix2_2 y)) (by show 1 + 1 * 0 = 1; rfl) (by show 0 + 1 * (y 0).val = _; omega) (by show 0 + 1 * (y 1).val = _; omega)]
  rw [← recv_idx t 2 y (r0_3.idx (ix2_3 y)) (by show 2 + 1 * 0 = 2; rfl) (by show 0 + 1 * (y 0).val = _; omega) (by show 0 + 1 * (y 1).val = _; omega)]
  rw [← recv_idx t 3 y (r0_4.idx (ix2_4 y)) (by show 3 + 1 * 0 = 3; rfl) (by show 0 + 1 * (y 0).val = _; omega) (by show 0 + 1 * (y 1).val = _; omega)]
  rw [← recv_idx t 4 y (r0_5.idx (ix2_5 y)) (by show 4 + 1 * 0 = 4; rfl) (by show 0 + 1 * (y 0).val = _; omega) (by show 0 + 1 * (y 1).val = _; omega)]
  rw [← recv_idx t 5 y (r0_6.idx (ix2_6 y)) (by show 5 + 1 * 0 = 5; rfl) (by show 0 + 1 * (y 0).val = _; omega) (by show 0 + 1 * (y 1).val = _; omega)]
  rw [← recv_idx t 6 y (r0_7.idx (ix2_7 y)) (by show 6 + 1 * 0 = 6; rfl) (by show 0 + 1 * (y 0).val = _; omega) (by show 0 + 1 * (y 1).val = _; omega)]
  have e : r0_0.idx (ix2_0 y) = y := by
    funext a; apply Fin.ext
    match a with
    | ⟨0, _⟩ => show 0 + 1 * (y 0).val = (y 0).val; omega
    | ⟨1, _⟩ => show 0 + 1 * (y 1).val = (y 1).val; omega
  have a7 : ∀ o a b c d e f g : EReal, o + (a + b + c + d + e + f + g) = o + a + b + c + d + e + f + g := fun _ _ _ _ _ _ _ _ => by
    simp only [add_assoc]
  rw [a7]
  have h : iblk m c 0 t (r0_0.idx (ix2_0 y)) = (V m c main_arg0 : S2816x1024.Idx → EReal) (((cfg0.win 2).blk t).view.emb y) := by
    rw [e]; rfl
  rw [← h]
  rfl

/-- Every index of the result lies in some point's block. -/
theorem cover (i : S2816x1024.Idx) : ∃ t : Fin cfg0.N, i ∈ ((cfg0.win 2).blk t).view.set := by
  have h0 : (i 0 : Nat) < 2816 := (i 0).isLt
  have h1 : (i 1 : Nat) < 1024 := (i 1).isLt
  have hN : cfg0.N = 11 := N_0
  obtain ⟨t, ht⟩ : ∃ t : Fin cfg0.N, t.val = (i 0).val / 256 := ⟨⟨(i 0).val / 256, by omega⟩, rfl⟩
  have hi := index2 t
  refine ⟨t, ?_⟩
  show i ∈ ((View.whole main_v0).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256
              rw [hi.1]; omega
  | ⟨1, _⟩ => show win0_2.index t 1 * 1024 ≤ (i 1 : Nat) ∧ (i 1 : Nat) < win0_2.index t 1 * 1024 + 1024
              rw [hi.2]; omega

theorem final (c : Dev nD) : (dats m 0 c).arrAt 2 cfg0.N = G m c :=
  (dats m 0 c).arrAt_eq_of_cover 2 (G m c) (flushed_eq m c) fun i => (cover i).imp fun t h => ⟨flush0_2 t, h⟩

/-- The run, read: the result array element by element, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.SumBigIdeal.Closed

namespace Cert.Proof.SumBigClaims

open Idealize.ShloMosaic Idealize.ShloMosaic.TcCoe Idealize.SL.Sem

theorem frame_k : Cert.quiescent_SumBig := fun m ρ _ => Cert.SumBig.Gen.frame m ρ
theorem frame_i : Cert.quiescent_SumBigIdeal := fun m ρ _ => Cert.SumBigIdeal.Gen.frame m ρ
theorem frame_r : Cert.quiescent_SumBigRefIdeal := fun m ρ _ =>
  (θ_run Cert.SumBigRefIdeal.defs _ _).mono (fun r h => ⟨fun c => (h c).2, Idealize.ShloMosaic.sem_eq_zero_of_no_sems (by decide) r.2⟩)
    (Cert.SumBigRefIdeal.Value.run (F := Ideal) m ρ)

open Cert.SumBigIdeal Cert.SumBigIdeal.Closed in
/-- The reference's element is the same total. -/
theorem ref_eq (o : S2816x1024.Idx → EReal) (x : S7x2816x1024.Idx → EReal) (y : S2816x1024.Idx) :
    Cert.SumBigRefIdeal.Read.val_main_v2 (F := Ideal) o x y = total o x y := by
  rw [Cert.SumBigRefIdeal.Read.val_main_v2_apply, Cert.SumBigRefIdeal.Read.val_main_v1_apply]
  show o y + (Ideal.ofBits .f32 0x00000000#32 + _) = total o x y
  rw [Ideal.ofBits_zero_f32, zero_add]
  exact congrArg (o y + ·) (Finset.sum_congr rfl fun k _ => congrArg x (at_eq y k _ rfl rfl rfl))

open Cert.SumBigIdeal.Closed in
theorem algebraic : Cert.algebraic_SumBigIdeal_SumBigRefIdeal := by
  intro m ρ m' ρ' _ hagree
  refine ⟨fun c => G m c, run m ρ, ?_⟩
  refine (θ_run Cert.SumBigRefIdeal.defs _ _).mono (fun _ h c => ⟨(h c).1.trans ?_, (h c).2⟩)
    (Cert.SumBigRefIdeal.Value.run (F := Ideal) m' ρ')
  rw [Cert.SumBigRefIdeal.Read.val_main_v2_eq, (hagree c).1, (hagree c).2]
  show _ = G m c
  funext y
  unfold G
  rw [Cert.SumBigIdeal.Gen.V_main_arg0, Cert.SumBigIdeal.Gen.V_main_arg1]
  exact ref_eq _ _ y

end Cert.Proof.SumBigClaims

end
-- ==== Proof.SumSmallClaim.lean ====
/-
  The sum of the devices' small gradients: the kernel adds the eight parts in order, the reference sums over the first axis.
-/
module

public import proofs.«01_k».proof.Defs
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Quiescent
public import Idealize.ShloMosaic.Lib.IdealHost

@[expose] public section

set_option maxRecDepth 16384

noncomputable section

namespace Cert.SumSmallIdeal.Closed

open Cert.SumSmallIdeal Cert.SumSmallIdeal.Gen Cert.SumSmallIdeal.Value Idealize.ShloMosaic Idealize.ShloMosaic.TcCoe Idealize.SL.Sem

/-- Element `y` of part `k`. -/
def at' (y : S1160x128.Idx) (k : Fin 8) : S8x1160x128.Idx := fun a => match a with
  | ⟨0, _⟩ => ⟨k.val, k.isLt⟩
  | ⟨1, _⟩ => ⟨(y 0).val, (y 0).isLt⟩
  | ⟨2, _⟩ => ⟨(y 1).val, (y 1).isLt⟩

/-- An index whose coordinates are those of element `y` of part `k`. -/
theorem at_eq (y : S1160x128.Idx) (k : Fin 8) (j : S8x1160x128.Idx) (h0 : (j 0).val = k.val) (h1 : (j 1).val = (y 0).val)
    (h2 : (j 2).val = (y 1).val) : j = at' y k := by
  funext a; apply Fin.ext
  match a with
  | ⟨0, _⟩ => exact h0
  | ⟨1, _⟩ => exact h1
  | ⟨2, _⟩ => exact h2

theorem G1_apply (x : Vec Ideal S8x1160x128 .f32) (y : S1160x128.Idx) :
    (G1 (F := Ideal) x y : EReal) = ∑ k : Fin 8, (x (at' y k) : EReal) := by
  rw [← out1_eq]
  unfold out0_1
  rw [canon1_eq, Fin.sum_univ_eight]
  rw [← at_eq y 0 (r0_0.idx (ix1_0 y)) (by show 0 + 1 * 0 = 0; rfl) (by show 0 + 1 * (y 0).val = _; omega) (by show 0 + 1 * (y 1).val = _; omega)]
  rw [← at_eq y 1 (r0_1.idx (ix1_1 y)) (by show 1 + 1 * 0 = 1; rfl) (by show 0 + 1 * (y 0).val = _; omega) (by show 0 + 1 * (y 1).val = _; omega)]
  rw [← at_eq y 2 (r0_2.idx (ix1_2 y)) (by show 2 + 1 * 0 = 2; rfl) (by show 0 + 1 * (y 0).val = _; omega) (by show 0 + 1 * (y 1).val = _; omega)]
  rw [← at_eq y 3 (r0_3.idx (ix1_3 y)) (by show 3 + 1 * 0 = 3; rfl) (by show 0 + 1 * (y 0).val = _; omega) (by show 0 + 1 * (y 1).val = _; omega)]
  rw [← at_eq y 4 (r0_4.idx (ix1_4 y)) (by show 4 + 1 * 0 = 4; rfl) (by show 0 + 1 * (y 0).val = _; omega) (by show 0 + 1 * (y 1).val = _; omega)]
  rw [← at_eq y 5 (r0_5.idx (ix1_5 y)) (by show 5 + 1 * 0 = 5; rfl) (by show 0 + 1 * (y 0).val = _; omega) (by show 0 + 1 * (y 1).val = _; omega)]
  rw [← at_eq y 6 (r0_6.idx (ix1_6 y)) (by show 6 + 1 * 0 = 6; rfl) (by show 0 + 1 * (y 0).val = _; omega) (by show 0 + 1 * (y 1).val = _; omega)]
  rw [← at_eq y 7 (r0_7.idx (ix1_7 y)) (by show 7 + 1 * 0 = 7; rfl) (by show 0 + 1 * (y 0).val = _; omega) (by show 0 + 1 * (y 1).val = _; omega)]
  rfl

end Cert.SumSmallIdeal.Closed

namespace Cert.Proof.SumSmallClaims

open Idealize.ShloMosaic Idealize.ShloMosaic.TcCoe Idealize.SL.Sem

theorem frame_k : Cert.quiescent_SumSmall := fun m ρ _ => Cert.SumSmall.Gen.frame m ρ
theorem frame_i : Cert.quiescent_SumSmallIdeal := fun m ρ _ => Cert.SumSmallIdeal.Gen.frame m ρ
theorem frame_r : Cert.quiescent_SumSmallRefIdeal := fun m ρ _ =>
  (θ_run Cert.SumSmallRefIdeal.defs _ _).mono (fun r h => ⟨fun c => (h c).2, Idealize.ShloMosaic.sem_eq_zero_of_no_sems (by decide) r.2⟩)
    (Cert.SumSmallRefIdeal.Value.run (F := Ideal) m ρ)

open Cert.SumSmallIdeal.Closed in
theorem algebraic : Cert.algebraic_SumSmallIdeal_SumSmallRefIdeal := by
  intro m ρ m' ρ' _ hagree
  refine ⟨fun c => Cert.SumSmallIdeal.Value.G1 (m ((c : Thread Cert.SumSmallIdeal.nD Cert.SumSmallIdeal.τ).loc Cert.SumSmallIdeal.main_arg0)),
    Cert.SumSmallIdeal.Value.run m ρ, ?_⟩
  refine (θ_run Cert.SumSmallRefIdeal.defs _ _).mono (fun _ h c => ⟨(h c).1.trans ?_, (h c).2⟩)
    (Cert.SumSmallRefIdeal.Value.run (F := Ideal) m' ρ')
  rw [Cert.SumSmallRefIdeal.Read.val_main_v0_eq, hagree c]
  funext y
  rw [Cert.SumSmallRefIdeal.Read.val_main_v0_apply]
  refine Eq.trans ?_ (G1_apply _ y).symm
  show Ideal.ofBits .f32 0x00000000#32 + _ = _
  rw [Ideal.ofBits_zero_f32, zero_add]
  exact Finset.sum_congr rfl fun k _ => congrArg _ (at_eq y k _ rfl rfl rfl)

end Cert.Proof.SumSmallClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnClaim
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradIdeal.Value
public import proofs.«01_k».proof.Proof.Gen.WgradRefIdeal.Run
public import proofs.«01_k».proof.Proof.Gen.WgradRefIdeal.Read
public import proofs.«01_k».proof.Proof.WgradClaim
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import proofs.«01_k».proof.Proof.UpClaim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.DownClaim
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InIdeal.Value
public import proofs.«01_k».proof.Proof.Gen.InRefIdeal.Run
public import proofs.«01_k».proof.Proof.Gen.InRefIdeal.Read
public import proofs.«01_k».proof.Proof.InClaim
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.OutClaim
public import proofs.«01_k».proof.Proof.Gen.BackOut
public import proofs.«01_k».proof.Proof.Gen.BackOut.Skeleton
public import proofs.«01_k».proof.Proof.Gen.BackOut.Launch
public import proofs.«01_k».proof.Proof.Gen.BackOut.Points
public import proofs.«01_k».proof.Proof.Gen.BackOut.Frame
public import proofs.«01_k».proof.Proof.Gen.BackOutIdeal
public import proofs.«01_k».proof.Proof.Gen.BackOutIdeal.Skeleton
public import proofs.«01_k».proof.Proof.Gen.BackOutIdeal.Launch
public import proofs.«01_k».proof.Proof.Gen.BackOutIdeal.Points
public import proofs.«01_k».proof.Proof.Gen.BackOutIdeal.Frame
public import proofs.«01_k».proof.Proof.Gen.BackOutRefIdeal
public import proofs.«01_k».proof.Proof.Gen.BackOutIdeal.Value
public import proofs.«01_k».proof.Proof.Gen.BackOutRefIdeal.Run
public import proofs.«01_k».proof.Proof.Gen.BackOutRefIdeal.Read
public import proofs.«01_k».proof.Proof.BackOutClaim
public import proofs.«01_k».proof.Proof.Gen.BackIn
public import proofs.«01_k».proof.Proof.Gen.BackIn.Skeleton
public import proofs.«01_k».proof.Proof.Gen.BackIn.Launch
public import proofs.«01_k».proof.Proof.Gen.BackIn.Points
public import proofs.«01_k».proof.Proof.Gen.BackIn.Frame
public import proofs.«01_k».proof.Proof.Gen.BackInIdeal
public import proofs.«01_k».proof.Proof.Gen.BackInIdeal.Skeleton
public import proofs.«01_k».proof.Proof.Gen.BackInIdeal.Launch
public import proofs.«01_k».proof.Proof.Gen.BackInIdeal.Points
public import proofs.«01_k».proof.Proof.Gen.BackInIdeal.Frame
public import proofs.«01_k».proof.Proof.Gen.BackInRefIdeal
public import proofs.«01_k».proof.Proof.Gen.BackInIdeal.Value
public import proofs.«01_k».proof.Proof.Gen.BackInRefIdeal.Run
public import proofs.«01_k».proof.Proof.Gen.BackInRefIdeal.Read
public import proofs.«01_k».proof.Proof.BackInClaim
public import proofs.«01_k».proof.Proof.Gen.WgradIn
public import proofs.«01_k».proof.Proof.Gen.WgradIn.Skeleton
public import proofs.«01_k».proof.Proof.Gen.WgradIn.Launch
public import proofs.«01_k».proof.Proof.Gen.WgradIn.Points
public import proofs.«01_k».proof.Proof.Gen.WgradIn.Frame
public import proofs.«01_k».proof.Proof.Gen.WgradInIdeal
public import proofs.«01_k».proof.Proof.Gen.WgradInIdeal.Skeleton
public import proofs.«01_k».proof.Proof.Gen.WgradInIdeal.Launch
public import proofs.«01_k».proof.Proof.Gen.WgradInIdeal.Points
public import proofs.«01_k».proof.Proof.Gen.WgradInIdeal.Frame
public import proofs.«01_k».proof.Proof.Gen.WgradInRefIdeal
public import proofs.«01_k».proof.Proof.Gen.WgradInIdeal.Value
public import proofs.«01_k».proof.Proof.Gen.WgradInRefIdeal.Run
public import proofs.«01_k».proof.Proof.Gen.WgradInRefIdeal.Read
public import proofs.«01_k».proof.Proof.WgradInClaim
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutRefIdeal
public import proofs.«01_k».proof.Proof.Gen.WgradOutIdeal.Value
public import proofs.«01_k».proof.Proof.Gen.WgradOutRefIdeal.Run
public import proofs.«01_k».proof.Proof.Gen.WgradOutRefIdeal.Read
public import proofs.«01_k».proof.Proof.WgradOutClaim
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.AdamUpClaim
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.AdamDownClaim
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamInClaim
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamOutClaim
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormRefIdeal
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.AdamNormClaim
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolRefIdeal
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.AdamPoolClaim
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleRefIdeal
public import proofs.«01_k».proof.Proof.Gen.AdamScaleIdeal.Value
public import proofs.«01_k».proof.Proof.Gen.AdamScaleRefIdeal.Run
public import proofs.«01_k».proof.Proof.Gen.AdamScaleRefIdeal.Read
public import proofs.«01_k».proof.Proof.AdamScaleClaim
public import proofs.«01_k».proof.Proof.Gen.AdamConf
public import proofs.«01_k».proof.Proof.Gen.AdamConf.Skeleton
public import proofs.«01_k».proof.Proof.Gen.AdamConf.Launch
public import proofs.«01_k».proof.Proof.Gen.AdamConf.Points
public import proofs.«01_k».proof.Proof.Gen.AdamConf.Frame
public import proofs.«01_k».proof.Proof.Gen.AdamConfIdeal
public import proofs.«01_k».proof.Proof.Gen.AdamConfIdeal.Skeleton
public import proofs.«01_k».proof.Proof.Gen.AdamConfIdeal.Launch
public import proofs.«01_k».proof.Proof.Gen.AdamConfIdeal.Points
public import proofs.«01_k».proof.Proof.Gen.AdamConfIdeal.Frame
public import proofs.«01_k».proof.Proof.Gen.AdamConfRefIdeal
public import proofs.«01_k».proof.Proof.Gen.AdamConfIdeal.Value
public import proofs.«01_k».proof.Proof.Gen.AdamConfRefIdeal.Run
public import proofs.«01_k».proof.Proof.Gen.AdamConfRefIdeal.Read
public import proofs.«01_k».proof.Proof.AdamConfClaim
public import proofs.«01_k».proof.Proof.Gen.AdamShort
public import proofs.«01_k».proof.Proof.Gen.AdamShort.Skeleton
public import proofs.«01_k».proof.Proof.Gen.AdamShort.Launch
public import proofs.«01_k».proof.Proof.Gen.AdamShort.Points
public import proofs.«01_k».proof.Proof.Gen.AdamShort.Frame
public import proofs.«01_k».proof.Proof.Gen.AdamShortIdeal
public import proofs.«01_k».proof.Proof.Gen.AdamShortIdeal.Skeleton
public import proofs.«01_k».proof.Proof.Gen.AdamShortIdeal.Launch
public import proofs.«01_k».proof.Proof.Gen.AdamShortIdeal.Points
public import proofs.«01_k».proof.Proof.Gen.AdamShortIdeal.Frame
public import proofs.«01_k».proof.Proof.Gen.AdamShortRefIdeal
public import proofs.«01_k».proof.Proof.Gen.AdamShortIdeal.Value
public import proofs.«01_k».proof.Proof.Gen.AdamShortRefIdeal.Run
public import proofs.«01_k».proof.Proof.Gen.AdamShortRefIdeal.Read
public import proofs.«01_k».proof.Proof.AdamShortClaim
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvRefIdeal
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.AdamConvClaim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.LossClaim
public import proofs.«01_k».proof.Proof.Gen.SumBig
public import proofs.«01_k».proof.Proof.Gen.SumBig.Skeleton
public import proofs.«01_k».proof.Proof.Gen.SumBig.Launch
public import proofs.«01_k».proof.Proof.Gen.SumBig.Points
public import proofs.«01_k».proof.Proof.Gen.SumBig.Frame
public import proofs.«01_k».proof.Proof.Gen.SumBigIdeal
public import proofs.«01_k».proof.Proof.Gen.SumBigIdeal.Skeleton
public import proofs.«01_k».proof.Proof.Gen.SumBigIdeal.Launch
public import proofs.«01_k».proof.Proof.Gen.SumBigIdeal.Points
public import proofs.«01_k».proof.Proof.Gen.SumBigIdeal.Frame
public import proofs.«01_k».proof.Proof.Gen.SumBigRefIdeal
public import proofs.«01_k».proof.Proof.Gen.SumBigIdeal.Value
public import proofs.«01_k».proof.Proof.Gen.SumBigRefIdeal.Run
public import proofs.«01_k».proof.Proof.Gen.SumBigRefIdeal.Read
public import proofs.«01_k».proof.Proof.SumBigClaim
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.SumSmallClaim
public import proofs.«01_k».proof.Proof.Gen.Pre_finite
public import proofs.«01_k».proof.Proof.Gen.Pre_finite_back_out
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Wgrad.Gen.facts, Cert.WgradIdeal.Gen.facts, Cert.WgradRefIdeal.Gen.facts, Cert.Up.Gen.facts, Cert.UpIdeal.Gen.facts, Cert.UpRefIdeal.Gen.facts, Cert.Down.Gen.facts, Cert.DownIdeal.Gen.facts, Cert.DownRefIdeal.Gen.facts, Cert.In.Gen.facts, Cert.InIdeal.Gen.facts, Cert.InRefIdeal.Gen.facts, Cert.Out.Gen.facts, Cert.OutIdeal.Gen.facts, Cert.OutRefIdeal.Gen.facts, Cert.BackOut.Gen.facts, Cert.BackOutIdeal.Gen.facts, Cert.BackOutRefIdeal.Gen.facts, Cert.BackIn.Gen.facts, Cert.BackInIdeal.Gen.facts, Cert.BackInRefIdeal.Gen.facts, Cert.WgradIn.Gen.facts, Cert.WgradInIdeal.Gen.facts, Cert.WgradInRefIdeal.Gen.facts, Cert.WgradOut.Gen.facts, Cert.WgradOutIdeal.Gen.facts, Cert.WgradOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamNorm.Gen.facts, Cert.AdamNormIdeal.Gen.facts, Cert.AdamNormRefIdeal.Gen.facts, Cert.AdamPool.Gen.facts, Cert.AdamPoolIdeal.Gen.facts, Cert.AdamPoolRefIdeal.Gen.facts, Cert.AdamScale.Gen.facts, Cert.AdamScaleIdeal.Gen.facts, Cert.AdamScaleRefIdeal.Gen.facts, Cert.AdamConf.Gen.facts, Cert.AdamConfIdeal.Gen.facts, Cert.AdamConfRefIdeal.Gen.facts, Cert.AdamShort.Gen.facts, Cert.AdamShortIdeal.Gen.facts, Cert.AdamShortRefIdeal.Gen.facts, Cert.AdamConv.Gen.facts, Cert.AdamConvIdeal.Gen.facts, Cert.AdamConvRefIdeal.Gen.facts, Cert.Loss.Gen.facts, Cert.LossIdeal.Gen.facts, Cert.LossRefIdeal.Gen.facts, Cert.SumBig.Gen.facts, Cert.SumBigIdeal.Gen.facts, Cert.SumBigRefIdeal.Gen.facts, Cert.SumSmall.Gen.facts, Cert.SumSmallIdeal.Gen.facts, Cert.SumSmallRefIdeal.Gen.facts, Cert.Pre_finite.Gen.facts, Cert.Pre_finite_back_out.Gen.facts,
  FfnClaims.frame_k, FfnClaims.frame_i, FfnClaims.frame_ip, FfnClaims.frame_r, FfnClaims.frame_rp, WgradClaims.frame_k, WgradClaims.frame_i, WgradClaims.frame_r, UpClaims.frame_k, UpClaims.frame_i, UpClaims.frame_r, DownClaims.frame_k, DownClaims.frame_i, DownClaims.frame_r, InClaims.frame_k, InClaims.frame_i, InClaims.frame_r, OutClaims.frame_k, OutClaims.frame_i, OutClaims.frame_r, BackOutClaims.frame_k, BackOutClaims.frame_i, BackOutClaims.frame_ip, BackOutClaims.frame_r, BackOutClaims.frame_rp, BackInClaims.frame_k, BackInClaims.frame_i, BackInClaims.frame_r, WgradInClaims.frame_k, WgradInClaims.frame_i, WgradInClaims.frame_r, WgradOutClaims.frame_k, WgradOutClaims.frame_i, WgradOutClaims.frame_r, AdamUpClaims.frame_k, AdamUpClaims.frame_i, AdamUpClaims.frame_r, AdamDownClaims.frame_k, AdamDownClaims.frame_i, AdamDownClaims.frame_r, AdamInClaims.frame_k, AdamInClaims.frame_i, AdamInClaims.frame_r, AdamOutClaims.frame_k, AdamOutClaims.frame_i, AdamOutClaims.frame_r, AdamNormClaims.frame_k, AdamNormClaims.frame_i, AdamNormClaims.frame_r, AdamPoolClaims.frame_k, AdamPoolClaims.frame_i, AdamPoolClaims.frame_r, AdamScaleClaims.frame_k, AdamScaleClaims.frame_i, AdamScaleClaims.frame_r, AdamConfClaims.frame_k, AdamConfClaims.frame_i, AdamConfClaims.frame_r, AdamShortClaims.frame_k, AdamShortClaims.frame_i, AdamShortClaims.frame_r, AdamConvClaims.frame_k, AdamConvClaims.frame_i, AdamConvClaims.frame_r, LossClaims.frame_k, LossClaims.frame_i, LossClaims.frame_r, SumBigClaims.frame_k, SumBigClaims.frame_i, SumBigClaims.frame_r, SumSmallClaims.frame_k, SumSmallClaims.frame_i, SumSmallClaims.frame_r,
  trivial, FfnClaims.algebraic, trivial, WgradClaims.algebraic, trivial, UpClaims.algebraic, trivial, DownClaims.algebraic, trivial, InClaims.algebraic, trivial, OutClaims.algebraic, trivial, BackOutClaims.algebraic, trivial, BackInClaims.algebraic, trivial, WgradInClaims.algebraic, trivial, WgradOutClaims.algebraic, trivial, AdamUpClaims.algebraic, trivial, AdamDownClaims.algebraic, trivial, AdamInClaims.algebraic, trivial, AdamOutClaims.algebraic, trivial, AdamNormClaims.algebraic, trivial, AdamPoolClaims.algebraic, trivial, AdamScaleClaims.algebraic, trivial, AdamConfClaims.algebraic, trivial, AdamShortClaims.algebraic, trivial, AdamConvClaims.algebraic, trivial, LossClaims.algebraic, trivial, SumBigClaims.algebraic, trivial, SumSmallClaims.algebraic⟩

end Cert.Proof

end
